-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_weights_finite [hPre_weights_finite : Cert.Pre_weights_finite.Facts] (m : (ℓ : Loc Cert.DiffIdeal.nD Cert.DiffIdeal.τ Cert.DiffIdeal.sig) → Buf (Elt Ideal) ℓ) : Prop :=
  ∀ c : Dev Cert.DiffIdeal.nD,
    (Cert.Pre_weights_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).1 = (fun _ => 1#1)
    ∧ (Cert.Pre_weights_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.1 = (fun _ => 1#1)
    ∧ (Cert.Pre_weights_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4))).2.2 = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_weights_finite [hPre_weights_finite : Cert.Pre_weights_finite.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_weights_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).1 = (fun _ => 1#1)
    ∧ (Cert.Pre_weights_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.1 = (fun _ => 1#1)
    ∧ (Cert.Pre_weights_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4))).2.2 = (fun _ => 1#1)

def Pre_EvenFfn (m : (ℓ : Loc Cert.EvenFfn.nD Cert.EvenFfn.τ Cert.EvenFfn.sig) → Buf (Elt Bits) ℓ) : Prop :=
  True

def Pre_EvenFfnIdeal (m : (ℓ : Loc Cert.EvenFfnIdeal.nD Cert.EvenFfnIdeal.τ Cert.EvenFfnIdeal.sig) → Buf (Elt Ideal) ℓ) : Prop :=
  True

def Pre_EvenFfnReferenceIdeal (m : (ℓ : Loc Cert.EvenFfnReferenceIdeal.nD Cert.EvenFfnReferenceIdeal.τ Cert.EvenFfnReferenceIdeal.sig) → Buf (Elt Ideal) ℓ) : Prop :=
  True

def Pre_MidFfn (m : (ℓ : Loc Cert.MidFfn.nD Cert.MidFfn.τ Cert.MidFfn.sig) → Buf (Elt Bits) ℓ) : Prop :=
  True

def Pre_MidFfnIdeal (m : (ℓ : Loc Cert.MidFfnIdeal.nD Cert.MidFfnIdeal.τ Cert.MidFfnIdeal.sig) → Buf (Elt Ideal) ℓ) : Prop :=
  True

def Pre_MidFfnReferenceIdeal (m : (ℓ : Loc Cert.MidFfnReferenceIdeal.nD Cert.MidFfnReferenceIdeal.τ Cert.MidFfnReferenceIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjReferenceIdeal (m : (ℓ : Loc Cert.EvenProjReferenceIdeal.nD Cert.EvenProjReferenceIdeal.τ Cert.EvenProjReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffIdeal_pre_weights_finite [hDiffIdeal : Cert.DiffIdeal.Facts] [hPre_weights_finite : Cert.Pre_weights_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_weights_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4))
      ∧ r.2.sem = fun _ => 0)

def quiescent_DiffReferenceIdeal_pre_weights_finite [hDiffReferenceIdeal : Cert.DiffReferenceIdeal.Facts] [hPre_weights_finite : Cert.Pre_weights_finite.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_weights_finite m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4))
      ∧ r.2.sem = fun _ => 0)

def quiescent_EvenFfn [hEvenFfn : Cert.EvenFfn.Facts] : Prop :=
  ∀ (m : (ℓ : Loc Cert.EvenFfn.nD Cert.EvenFfn.τ Cert.EvenFfn.sig) → Buf (Elt Bits) ℓ) (g : Dev Cert.EvenFfn.nD → PrngReg), Pre_EvenFfn m →
    θ_run (Cert.EvenFfn.defs (F := Bits)) (onTc (τ := Cert.EvenFfn.τ) (Cert.EvenFfn.main (F := Bits))) ⟨m, fun _ => 0, g⟩ (fun r => (∀ c : Dev Cert.EvenFfn.nD,
      r.2.mem ((c.tc : Thread Cert.EvenFfn.nD Cert.EvenFfn.τ).loc Cert.EvenFfn.main_arg0) = m ((c.tc : Thread Cert.EvenFfn.nD Cert.EvenFfn.τ).loc Cert.EvenFfn.main_arg0)
      ∧ r.2.mem ((c.tc : Thread Cert.EvenFfn.nD Cert.EvenFfn.τ).loc Cert.EvenFfn.main_arg1) = m ((c.tc : Thread Cert.EvenFfn.nD Cert.EvenFfn.τ).loc Cert.EvenFfn.main_arg1)
      ∧ r.2.mem ((c.tc : Thread Cert.EvenFfn.nD Cert.EvenFfn.τ).loc Cert.EvenFfn.main_arg2) = m ((c.tc : Thread Cert.EvenFfn.nD Cert.EvenFfn.τ).loc Cert.EvenFfn.main_arg2)
      ∧ r.2.mem ((c.tc : Thread Cert.EvenFfn.nD Cert.EvenFfn.τ).loc Cert.EvenFfn.main_arg3) = m ((c.tc : Thread Cert.EvenFfn.nD Cert.EvenFfn.τ).loc Cert.EvenFfn.main_arg3)
      ∧ r.2.mem ((c.tc : Thread Cert.EvenFfn.nD Cert.EvenFfn.τ).loc Cert.EvenFfn.main_arg4) = m ((c.tc : Thread Cert.EvenFfn.nD Cert.EvenFfn.τ).loc Cert.EvenFfn.main_arg4)
      ∧ r.2.mem ((c.tc : Thread Cert.EvenFfn.nD Cert.EvenFfn.τ).loc Cert.EvenFfn.main_arg5) = m ((c.tc : Thread Cert.EvenFfn.nD Cert.EvenFfn.τ).loc Cert.EvenFfn.main_arg5)
      ∧ r.2.mem ((c.tc : Thread Cert.EvenFfn.nD Cert.EvenFfn.τ).loc Cert.EvenFfn.main_arg6) = m ((c.tc : Thread Cert.EvenFfn.nD Cert.EvenFfn.τ).loc Cert.EvenFfn.main_arg6)
      ∧ r.2.mem ((c.tc : Thread Cert.EvenFfn.nD Cert.EvenFfn.τ).loc Cert.EvenFfn.main_arg7) = m ((c.tc : Thread Cert.EvenFfn.nD Cert.EvenFfn.τ).loc Cert.EvenFfn.main_arg7)
      ∧ r.2.mem ((c.tc : Thread Cert.EvenFfn.nD Cert.EvenFfn.τ).loc Cert.EvenFfn.main_arg8) = m ((c.tc : Thread Cert.EvenFfn.nD Cert.EvenFfn.τ).loc Cert.EvenFfn.main_arg8)
      ∧ r.2.mem ((c.tc : Thread Cert.EvenFfn.nD Cert.EvenFfn.τ).loc Cert.EvenFfn.main_arg9) = m ((c.tc : Thread Cert.EvenFfn.nD Cert.EvenFfn.τ).loc Cert.EvenFfn.main_arg9))
      ∧ r.2.sem = fun _ => 0)

def quiescent_EvenFfnIdeal [hEvenFfnIdeal : Cert.EvenFfnIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg), Pre_EvenFfnIdeal m →
    θ_run (Cert.EvenFfnIdeal.defs (F := Ideal)) (onTc (τ := Cert.EvenFfnIdeal.τ) (Cert.EvenFfnIdeal.main (F := Ideal))) ⟨m, fun _ => 0, g⟩ (fun r => (∀ c : Dev Cert.EvenFfnIdeal.nD,
      r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
      ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
      ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
      ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
      ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
      ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
      ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6)
      ∧ r.2.mem ((c.tc : Thread Cert.EvenFfnIdeal.nD Cert.EvenFfnIdeal.τ).loc Cert.EvenFfnIdeal.main_arg7) = m ((c.tc : Thread Cert.EvenFfnIdeal.nD Cert.EvenFfnIdeal.τ).loc Cert.EvenFfnIdeal.main_arg7)
      ∧ r.2.mem ((c.tc : Thread Cert.EvenFfnIdeal.nD Cert.EvenFfnIdeal.τ).loc Cert.EvenFfnIdeal.main_arg8) = m ((c.tc : Thread Cert.EvenFfnIdeal.nD Cert.EvenFfnIdeal.τ).loc Cert.EvenFfnIdeal.main_arg8)
      ∧ r.2.mem ((c.tc : Thread Cert.EvenFfnIdeal.nD Cert.EvenFfnIdeal.τ).loc Cert.EvenFfnIdeal.main_arg9) = m ((c.tc : Thread Cert.EvenFfnIdeal.nD Cert.EvenFfnIdeal.τ).loc Cert.EvenFfnIdeal.main_arg9))
      ∧ r.2.sem = fun _ => 0)

def quiescent_EvenFfnReferenceIdeal [hEvenFfnReferenceIdeal : Cert.EvenFfnReferenceIdeal.Facts] : Prop :=
  ∀ (m : (ℓ : Loc Cert.EvenFfnReferenceIdeal.nD Cert.EvenFfnReferenceIdeal.τ Cert.EvenFfnReferenceIdeal.sig) → Buf (Elt Ideal) ℓ) (g : Dev Cert.EvenFfnReferenceIdeal.nD → PrngReg), Pre_EvenFfnReferenceIdeal m →
    θ_run (Cert.EvenFfnReferenceIdeal.defs (F := Ideal)) (onTc (τ := Cert.EvenFfnReferenceIdeal.τ) (Cert.EvenFfnReferenceIdeal.main (F := Ideal))) ⟨m, fun _ => 0, g⟩ (fun r => (∀ c : Dev Cert.EvenFfnReferenceIdeal.nD,
      r.2.mem ((c.tc : Thread Cert.EvenFfnReferenceIdeal.nD Cert.EvenFfnReferenceIdeal.τ).loc Cert.EvenFfnReferenceIdeal.main_arg0) = m ((c.tc : Thread Cert.EvenFfnReferenceIdeal.nD Cert.EvenFfnReferenceIdeal.τ).loc Cert.EvenFfnReferenceIdeal.main_arg0)
      ∧ r.2.mem ((c.tc : Thread Cert.EvenFfnReferenceIdeal.nD Cert.EvenFfnReferenceIdeal.τ).loc Cert.EvenFfnReferenceIdeal.main_arg1) = m ((c.tc : Thread Cert.EvenFfnReferenceIdeal.nD Cert.EvenFfnReferenceIdeal.τ).loc Cert.EvenFfnReferenceIdeal.main_arg1)
      ∧ r.2.mem ((c.tc : Thread Cert.EvenFfnReferenceIdeal.nD Cert.EvenFfnReferenceIdeal.τ).loc Cert.EvenFfnReferenceIdeal.main_arg2) = m ((c.tc : Thread Cert.EvenFfnReferenceIdeal.nD Cert.EvenFfnReferenceIdeal.τ).loc Cert.EvenFfnReferenceIdeal.main_arg2)
      ∧ r.2.mem ((c.tc : Thread Cert.EvenFfnReferenceIdeal.nD Cert.EvenFfnReferenceIdeal.τ).loc Cert.EvenFfnReferenceIdeal.main_arg3) = m ((c.tc : Thread Cert.EvenFfnReferenceIdeal.nD Cert.EvenFfnReferenceIdeal.τ).loc Cert.EvenFfnReferenceIdeal.main_arg3)
      ∧ r.2.mem ((c.tc : Thread Cert.EvenFfnReferenceIdeal.nD Cert.EvenFfnReferenceIdeal.τ).loc Cert.EvenFfnReferenceIdeal.main_arg4) = m ((c.tc : Thread Cert.EvenFfnReferenceIdeal.nD Cert.EvenFfnReferenceIdeal.τ).loc Cert.EvenFfnReferenceIdeal.main_arg4)
      ∧ r.2.mem ((c.tc : Thread Cert.EvenFfnReferenceIdeal.nD Cert.EvenFfnReferenceIdeal.τ).loc Cert.EvenFfnReferenceIdeal.main_arg5) = m ((c.tc : Thread Cert.EvenFfnReferenceIdeal.nD Cert.EvenFfnReferenceIdeal.τ).loc Cert.EvenFfnReferenceIdeal.main_arg5)
      ∧ r.2.mem ((c.tc : Thread Cert.EvenFfnReferenceIdeal.nD Cert.EvenFfnReferenceIdeal.τ).loc Cert.EvenFfnReferenceIdeal.main_arg6) = m ((c.tc : Thread Cert.EvenFfnReferenceIdeal.nD Cert.EvenFfnReferenceIdeal.τ).loc Cert.EvenFfnReferenceIdeal.main_arg6)
      ∧ r.2.mem ((c.tc : Thread Cert.EvenFfnReferenceIdeal.nD Cert.EvenFfnReferenceIdeal.τ).loc Cert.EvenFfnReferenceIdeal.main_arg7) = m ((c.tc : Thread Cert.EvenFfnReferenceIdeal.nD Cert.EvenFfnReferenceIdeal.τ).loc Cert.EvenFfnReferenceIdeal.main_arg7)
      ∧ r.2.mem ((c.tc : Thread Cert.EvenFfnReferenceIdeal.nD Cert.EvenFfnReferenceIdeal.τ).loc Cert.EvenFfnReferenceIdeal.main_arg8) = m ((c.tc : Thread Cert.EvenFfnReferenceIdeal.nD Cert.EvenFfnReferenceIdeal.τ).loc Cert.EvenFfnReferenceIdeal.main_arg8)
      ∧ r.2.mem ((c.tc : Thread Cert.EvenFfnReferenceIdeal.nD Cert.EvenFfnReferenceIdeal.τ).loc Cert.EvenFfnReferenceIdeal.main_arg9) = m ((c.tc : Thread Cert.EvenFfnReferenceIdeal.nD Cert.EvenFfnReferenceIdeal.τ).loc Cert.EvenFfnReferenceIdeal.main_arg9))
      ∧ r.2.sem = fun _ => 0)

def quiescent_MidFfn [hMidFfn : Cert.MidFfn.Facts] : Prop :=
  ∀ (m : (ℓ : Loc Cert.MidFfn.nD Cert.MidFfn.τ Cert.MidFfn.sig) → Buf (Elt Bits) ℓ) (g : Dev Cert.MidFfn.nD → PrngReg), Pre_MidFfn m →
    θ_run (Cert.MidFfn.defs (F := Bits)) (onTc (τ := Cert.MidFfn.τ) (Cert.MidFfn.main (F := Bits))) ⟨m, fun _ => 0, g⟩ (fun r => (∀ c : Dev Cert.MidFfn.nD,
      r.2.mem ((c.tc : Thread Cert.MidFfn.nD Cert.MidFfn.τ).loc Cert.MidFfn.main_arg0) = m ((c.tc : Thread Cert.MidFfn.nD Cert.MidFfn.τ).loc Cert.MidFfn.main_arg0)
      ∧ r.2.mem ((c.tc : Thread Cert.MidFfn.nD Cert.MidFfn.τ).loc Cert.MidFfn.main_arg1) = m ((c.tc : Thread Cert.MidFfn.nD Cert.MidFfn.τ).loc Cert.MidFfn.main_arg1)
      ∧ r.2.mem ((c.tc : Thread Cert.MidFfn.nD Cert.MidFfn.τ).loc Cert.MidFfn.main_arg2) = m ((c.tc : Thread Cert.MidFfn.nD Cert.MidFfn.τ).loc Cert.MidFfn.main_arg2)
      ∧ r.2.mem ((c.tc : Thread Cert.MidFfn.nD Cert.MidFfn.τ).loc Cert.MidFfn.main_arg3) = m ((c.tc : Thread Cert.MidFfn.nD Cert.MidFfn.τ).loc Cert.MidFfn.main_arg3)
      ∧ r.2.mem ((c.tc : Thread Cert.MidFfn.nD Cert.MidFfn.τ).loc Cert.MidFfn.main_arg4) = m ((c.tc : Thread Cert.MidFfn.nD Cert.MidFfn.τ).loc Cert.MidFfn.main_arg4)
      ∧ r.2.mem ((c.tc : Thread Cert.MidFfn.nD Cert.MidFfn.τ).loc Cert.MidFfn.main_arg5) = m ((c.tc : Thread Cert.MidFfn.nD Cert.MidFfn.τ).loc Cert.MidFfn.main_arg5)
      ∧ r.2.mem ((c.tc : Thread Cert.MidFfn.nD Cert.MidFfn.τ).loc Cert.MidFfn.main_arg6) = m ((c.tc : Thread Cert.MidFfn.nD Cert.MidFfn.τ).loc Cert.MidFfn.main_arg6)
      ∧ r.2.mem ((c.tc : Thread Cert.MidFfn.nD Cert.MidFfn.τ).loc Cert.MidFfn.main_arg7) = m ((c.tc : Thread Cert.MidFfn.nD Cert.MidFfn.τ).loc Cert.MidFfn.main_arg7)
      ∧ r.2.mem ((c.tc : Thread Cert.MidFfn.nD Cert.MidFfn.τ).loc Cert.MidFfn.main_arg8) = m ((c.tc : Thread Cert.MidFfn.nD Cert.MidFfn.τ).loc Cert.MidFfn.main_arg8))
      ∧ r.2.sem = fun _ => 0)

def quiescent_MidFfnIdeal [hMidFfnIdeal : Cert.MidFfnIdeal.Facts] : Prop :=
  ∀ (m : (ℓ : Loc Cert.MidFfnIdeal.nD Cert.MidFfnIdeal.τ Cert.MidFfnIdeal.sig) → Buf (Elt Ideal) ℓ) (g : Dev Cert.MidFfnIdeal.nD → PrngReg), Pre_MidFfnIdeal m →
    θ_run (Cert.MidFfnIdeal.defs (F := Ideal)) (onTc (τ := Cert.MidFfnIdeal.τ) (Cert.MidFfnIdeal.main (F := Ideal))) ⟨m, fun _ => 0, g⟩ (fun r => (∀ c : Dev Cert.MidFfnIdeal.nD,
      r.2.mem ((c.tc : Thread Cert.MidFfnIdeal.nD Cert.MidFfnIdeal.τ).loc Cert.MidFfnIdeal.main_arg0) = m ((c.tc : Thread Cert.MidFfnIdeal.nD Cert.MidFfnIdeal.τ).loc Cert.MidFfnIdeal.main_arg0)
      ∧ r.2.mem ((c.tc : Thread Cert.MidFfnIdeal.nD Cert.MidFfnIdeal.τ).loc Cert.MidFfnIdeal.main_arg1) = m ((c.tc : Thread Cert.MidFfnIdeal.nD Cert.MidFfnIdeal.τ).loc Cert.MidFfnIdeal.main_arg1)
      ∧ r.2.mem ((c.tc : Thread Cert.MidFfnIdeal.nD Cert.MidFfnIdeal.τ).loc Cert.MidFfnIdeal.main_arg2) = m ((c.tc : Thread Cert.MidFfnIdeal.nD Cert.MidFfnIdeal.τ).loc Cert.MidFfnIdeal.main_arg2)
      ∧ r.2.mem ((c.tc : Thread Cert.MidFfnIdeal.nD Cert.MidFfnIdeal.τ).loc Cert.MidFfnIdeal.main_arg3) = m ((c.tc : Thread Cert.MidFfnIdeal.nD Cert.MidFfnIdeal.τ).loc Cert.MidFfnIdeal.main_arg3)
      ∧ r.2.mem ((c.tc : Thread Cert.MidFfnIdeal.nD Cert.MidFfnIdeal.τ).loc Cert.MidFfnIdeal.main_arg4) = m ((c.tc : Thread Cert.MidFfnIdeal.nD Cert.MidFfnIdeal.τ).loc Cert.MidFfnIdeal.main_arg4)
      ∧ r.2.mem ((c.tc : Thread Cert.MidFfnIdeal.nD Cert.MidFfnIdeal.τ).loc Cert.MidFfnIdeal.main_arg5) = m ((c.tc : Thread Cert.MidFfnIdeal.nD Cert.MidFfnIdeal.τ).loc Cert.MidFfnIdeal.main_arg5)
      ∧ r.2.mem ((c.tc : Thread Cert.MidFfnIdeal.nD Cert.MidFfnIdeal.τ).loc Cert.MidFfnIdeal.main_arg6) = m ((c.tc : Thread Cert.MidFfnIdeal.nD Cert.MidFfnIdeal.τ).loc Cert.MidFfnIdeal.main_arg6)
      ∧ r.2.mem ((c.tc : Thread Cert.MidFfnIdeal.nD Cert.MidFfnIdeal.τ).loc Cert.MidFfnIdeal.main_arg7) = m ((c.tc : Thread Cert.MidFfnIdeal.nD Cert.MidFfnIdeal.τ).loc Cert.MidFfnIdeal.main_arg7)
      ∧ r.2.mem ((c.tc : Thread Cert.MidFfnIdeal.nD Cert.MidFfnIdeal.τ).loc Cert.MidFfnIdeal.main_arg8) = m ((c.tc : Thread Cert.MidFfnIdeal.nD Cert.MidFfnIdeal.τ).loc Cert.MidFfnIdeal.main_arg8))
      ∧ r.2.sem = fun _ => 0)

def quiescent_MidFfnReferenceIdeal [hMidFfnReferenceIdeal : Cert.MidFfnReferenceIdeal.Facts] : Prop :=
  ∀ (m : (ℓ : Loc Cert.MidFfnReferenceIdeal.nD Cert.MidFfnReferenceIdeal.τ Cert.MidFfnReferenceIdeal.sig) → Buf (Elt Ideal) ℓ) (g : Dev Cert.MidFfnReferenceIdeal.nD → PrngReg), Pre_MidFfnReferenceIdeal m →
    θ_run (Cert.MidFfnReferenceIdeal.defs (F := Ideal)) (onTc (τ := Cert.MidFfnReferenceIdeal.τ) (Cert.MidFfnReferenceIdeal.main (F := Ideal))) ⟨m, fun _ => 0, g⟩ (fun r => (∀ c : Dev Cert.MidFfnReferenceIdeal.nD,
      r.2.mem ((c.tc : Thread Cert.MidFfnReferenceIdeal.nD Cert.MidFfnReferenceIdeal.τ).loc Cert.MidFfnReferenceIdeal.main_arg0) = m ((c.tc : Thread Cert.MidFfnReferenceIdeal.nD Cert.MidFfnReferenceIdeal.τ).loc Cert.MidFfnReferenceIdeal.main_arg0)
      ∧ r.2.mem ((c.tc : Thread Cert.MidFfnReferenceIdeal.nD Cert.MidFfnReferenceIdeal.τ).loc Cert.MidFfnReferenceIdeal.main_arg1) = m ((c.tc : Thread Cert.MidFfnReferenceIdeal.nD Cert.MidFfnReferenceIdeal.τ).loc Cert.MidFfnReferenceIdeal.main_arg1)
      ∧ r.2.mem ((c.tc : Thread Cert.MidFfnReferenceIdeal.nD Cert.MidFfnReferenceIdeal.τ).loc Cert.MidFfnReferenceIdeal.main_arg2) = m ((c.tc : Thread Cert.MidFfnReferenceIdeal.nD Cert.MidFfnReferenceIdeal.τ).loc Cert.MidFfnReferenceIdeal.main_arg2)
      ∧ r.2.mem ((c.tc : Thread Cert.MidFfnReferenceIdeal.nD Cert.MidFfnReferenceIdeal.τ).loc Cert.MidFfnReferenceIdeal.main_arg3) = m ((c.tc : Thread Cert.MidFfnReferenceIdeal.nD Cert.MidFfnReferenceIdeal.τ).loc Cert.MidFfnReferenceIdeal.main_arg3)
      ∧ r.2.mem ((c.tc : Thread Cert.MidFfnReferenceIdeal.nD Cert.MidFfnReferenceIdeal.τ).loc Cert.MidFfnReferenceIdeal.main_arg4) = m ((c.tc : Thread Cert.MidFfnReferenceIdeal.nD Cert.MidFfnReferenceIdeal.τ).loc Cert.MidFfnReferenceIdeal.main_arg4)
      ∧ r.2.mem ((c.tc : Thread Cert.MidFfnReferenceIdeal.nD Cert.MidFfnReferenceIdeal.τ).loc Cert.MidFfnReferenceIdeal.main_arg5) = m ((c.tc : Thread Cert.MidFfnReferenceIdeal.nD Cert.MidFfnReferenceIdeal.τ).loc Cert.MidFfnReferenceIdeal.main_arg5)
      ∧ r.2.mem ((c.tc : Thread Cert.MidFfnReferenceIdeal.nD Cert.MidFfnReferenceIdeal.τ).loc Cert.MidFfnReferenceIdeal.main_arg6) = m ((c.tc : Thread Cert.MidFfnReferenceIdeal.nD Cert.MidFfnReferenceIdeal.τ).loc Cert.MidFfnReferenceIdeal.main_arg6)
      ∧ r.2.mem ((c.tc : Thread Cert.MidFfnReferenceIdeal.nD Cert.MidFfnReferenceIdeal.τ).loc Cert.MidFfnReferenceIdeal.main_arg7) = m ((c.tc : Thread Cert.MidFfnReferenceIdeal.nD Cert.MidFfnReferenceIdeal.τ).loc Cert.MidFfnReferenceIdeal.main_arg7)
      ∧ r.2.mem ((c.tc : Thread Cert.MidFfnReferenceIdeal.nD Cert.MidFfnReferenceIdeal.τ).loc Cert.MidFfnReferenceIdeal.main_arg8) = m ((c.tc : Thread Cert.MidFfnReferenceIdeal.nD Cert.MidFfnReferenceIdeal.τ).loc Cert.MidFfnReferenceIdeal.main_arg8))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ r.2.sem = fun _ => 0)

def quiescent_EvenProjReferenceIdeal [hEvenProjReferenceIdeal : Cert.EvenProjReferenceIdeal.Facts] : Prop :=
  ∀ (m : (ℓ : Loc Cert.EvenProjReferenceIdeal.nD Cert.EvenProjReferenceIdeal.τ Cert.EvenProjReferenceIdeal.sig) → Buf (Elt Ideal) ℓ) (g : Dev Cert.EvenProjReferenceIdeal.nD → PrngReg), Pre_EvenProjReferenceIdeal m →
    θ_run (Cert.EvenProjReferenceIdeal.defs (F := Ideal)) (onTc (τ := Cert.EvenProjReferenceIdeal.τ) (Cert.EvenProjReferenceIdeal.main (F := Ideal))) ⟨m, fun _ => 0, g⟩ (fun r => (∀ c : Dev Cert.EvenProjReferenceIdeal.nD,
      r.2.mem ((c.tc : Thread Cert.EvenProjReferenceIdeal.nD Cert.EvenProjReferenceIdeal.τ).loc Cert.EvenProjReferenceIdeal.main_arg0) = m ((c.tc : Thread Cert.EvenProjReferenceIdeal.nD Cert.EvenProjReferenceIdeal.τ).loc Cert.EvenProjReferenceIdeal.main_arg0)
      ∧ r.2.mem ((c.tc : Thread Cert.EvenProjReferenceIdeal.nD Cert.EvenProjReferenceIdeal.τ).loc Cert.EvenProjReferenceIdeal.main_arg1) = m ((c.tc : Thread Cert.EvenProjReferenceIdeal.nD Cert.EvenProjReferenceIdeal.τ).loc Cert.EvenProjReferenceIdeal.main_arg1)
      ∧ r.2.mem ((c.tc : Thread Cert.EvenProjReferenceIdeal.nD Cert.EvenProjReferenceIdeal.τ).loc Cert.EvenProjReferenceIdeal.main_arg2) = m ((c.tc : Thread Cert.EvenProjReferenceIdeal.nD Cert.EvenProjReferenceIdeal.τ).loc Cert.EvenProjReferenceIdeal.main_arg2))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v73) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Diff_DiffIdeal : Prop :=
  IdealRules.named_const.Statement Cert.DiffIdeal.κ "q_scale" .f32 0x3E38AA3B#32 (((1 / 8) * (Real.log 2)⁻¹ : ℝ) : EReal)

def algebraic_DiffIdeal_DiffReferenceIdeal_pre_weights_finite [hDiffIdeal : Cert.DiffIdeal.Facts] [hDiffReferenceIdeal : Cert.DiffReferenceIdeal.Facts] [hPre_weights_finite : Cert.Pre_weights_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_weights_finite m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)
      ∧ m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4)) →
    ∃ (v0 : (c : Dev Cert.DiffIdeal.nD) → Buf (Elt Ideal) ((c.tc : Thread Cert.DiffIdeal.nD Cert.DiffIdeal.τ).loc Cert.DiffIdeal.main_v38)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v38) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v161) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4))

def preserves_EvenFfn_EvenFfnIdeal : Prop :=
  True

def algebraic_EvenFfnIdeal_EvenFfnReferenceIdeal [hEvenFfnIdeal : Cert.EvenFfnIdeal.Facts] [hEvenFfnReferenceIdeal : Cert.EvenFfnReferenceIdeal.Facts] : Prop :=
  ∀ (m : (ℓ : Loc Cert.EvenFfnIdeal.nD Cert.EvenFfnIdeal.τ Cert.EvenFfnIdeal.sig) → Buf (Elt Ideal) ℓ) (g : Dev Cert.EvenFfnIdeal.nD → PrngReg)
    (m' : (ℓ : Loc Cert.EvenFfnReferenceIdeal.nD Cert.EvenFfnReferenceIdeal.τ Cert.EvenFfnReferenceIdeal.sig) → Buf (Elt Ideal) ℓ) (g' : Dev Cert.EvenFfnReferenceIdeal.nD → PrngReg), Pre_EvenFfnIdeal m →
    (∀ c : Dev Cert.EvenFfnIdeal.nD,
      m' ((c.tc : Thread Cert.EvenFfnReferenceIdeal.nD Cert.EvenFfnReferenceIdeal.τ).loc Cert.EvenFfnReferenceIdeal.main_arg0) = m ((c.tc : Thread Cert.EvenFfnIdeal.nD Cert.EvenFfnIdeal.τ).loc Cert.EvenFfnIdeal.main_arg0)
      ∧ m' ((c.tc : Thread Cert.EvenFfnReferenceIdeal.nD Cert.EvenFfnReferenceIdeal.τ).loc Cert.EvenFfnReferenceIdeal.main_arg1) = m ((c.tc : Thread Cert.EvenFfnIdeal.nD Cert.EvenFfnIdeal.τ).loc Cert.EvenFfnIdeal.main_arg1)
      ∧ m' ((c.tc : Thread Cert.EvenFfnReferenceIdeal.nD Cert.EvenFfnReferenceIdeal.τ).loc Cert.EvenFfnReferenceIdeal.main_arg2) = m ((c.tc : Thread Cert.EvenFfnIdeal.nD Cert.EvenFfnIdeal.τ).loc Cert.EvenFfnIdeal.main_arg2)
      ∧ m' ((c.tc : Thread Cert.EvenFfnReferenceIdeal.nD Cert.EvenFfnReferenceIdeal.τ).loc Cert.EvenFfnReferenceIdeal.main_arg3) = m ((c.tc : Thread Cert.EvenFfnIdeal.nD Cert.EvenFfnIdeal.τ).loc Cert.EvenFfnIdeal.main_arg3)
      ∧ m' ((c.tc : Thread Cert.EvenFfnReferenceIdeal.nD Cert.EvenFfnReferenceIdeal.τ).loc Cert.EvenFfnReferenceIdeal.main_arg4) = m ((c.tc : Thread Cert.EvenFfnIdeal.nD Cert.EvenFfnIdeal.τ).loc Cert.EvenFfnIdeal.main_arg4)
      ∧ m' ((c.tc : Thread Cert.EvenFfnReferenceIdeal.nD Cert.EvenFfnReferenceIdeal.τ).loc Cert.EvenFfnReferenceIdeal.main_arg5) = m ((c.tc : Thread Cert.EvenFfnIdeal.nD Cert.EvenFfnIdeal.τ).loc Cert.EvenFfnIdeal.main_arg5)
      ∧ m' ((c.tc : Thread Cert.EvenFfnReferenceIdeal.nD Cert.EvenFfnReferenceIdeal.τ).loc Cert.EvenFfnReferenceIdeal.main_arg6) = m ((c.tc : Thread Cert.EvenFfnIdeal.nD Cert.EvenFfnIdeal.τ).loc Cert.EvenFfnIdeal.main_arg6)
      ∧ m' ((c.tc : Thread Cert.EvenFfnReferenceIdeal.nD Cert.EvenFfnReferenceIdeal.τ).loc Cert.EvenFfnReferenceIdeal.main_arg7) = m ((c.tc : Thread Cert.EvenFfnIdeal.nD Cert.EvenFfnIdeal.τ).loc Cert.EvenFfnIdeal.main_arg7)
      ∧ m' ((c.tc : Thread Cert.EvenFfnReferenceIdeal.nD Cert.EvenFfnReferenceIdeal.τ).loc Cert.EvenFfnReferenceIdeal.main_arg8) = m ((c.tc : Thread Cert.EvenFfnIdeal.nD Cert.EvenFfnIdeal.τ).loc Cert.EvenFfnIdeal.main_arg8)
      ∧ m' ((c.tc : Thread Cert.EvenFfnReferenceIdeal.nD Cert.EvenFfnReferenceIdeal.τ).loc Cert.EvenFfnReferenceIdeal.main_arg9) = m ((c.tc : Thread Cert.EvenFfnIdeal.nD Cert.EvenFfnIdeal.τ).loc Cert.EvenFfnIdeal.main_arg9)) →
    ∃ (v0 : (c : Dev Cert.EvenFfnIdeal.nD) → Buf (Elt Ideal) ((c.tc : Thread Cert.EvenFfnIdeal.nD Cert.EvenFfnIdeal.τ).loc Cert.EvenFfnIdeal.main_v7)),
      θ_run (Cert.EvenFfnIdeal.defs (F := Ideal)) (onTc (τ := Cert.EvenFfnIdeal.τ) (Cert.EvenFfnIdeal.main (F := Ideal))) ⟨m, fun _ => 0, g⟩ (fun r => ∀ c : Dev Cert.EvenFfnIdeal.nD,
          r.2.mem ((c.tc : Thread Cert.EvenFfnIdeal.nD Cert.EvenFfnIdeal.τ).loc Cert.EvenFfnIdeal.main_v7) = v0 c
          ∧ r.2.mem ((c.tc : Thread Cert.EvenFfnIdeal.nD Cert.EvenFfnIdeal.τ).loc Cert.EvenFfnIdeal.main_arg0) = m ((c.tc : Thread Cert.EvenFfnIdeal.nD Cert.EvenFfnIdeal.τ).loc Cert.EvenFfnIdeal.main_arg0)
          ∧ r.2.mem ((c.tc : Thread Cert.EvenFfnIdeal.nD Cert.EvenFfnIdeal.τ).loc Cert.EvenFfnIdeal.main_arg1) = m ((c.tc : Thread Cert.EvenFfnIdeal.nD Cert.EvenFfnIdeal.τ).loc Cert.EvenFfnIdeal.main_arg1)
          ∧ r.2.mem ((c.tc : Thread Cert.EvenFfnIdeal.nD Cert.EvenFfnIdeal.τ).loc Cert.EvenFfnIdeal.main_arg2) = m ((c.tc : Thread Cert.EvenFfnIdeal.nD Cert.EvenFfnIdeal.τ).loc Cert.EvenFfnIdeal.main_arg2)
          ∧ r.2.mem ((c.tc : Thread Cert.EvenFfnIdeal.nD Cert.EvenFfnIdeal.τ).loc Cert.EvenFfnIdeal.main_arg3) = m ((c.tc : Thread Cert.EvenFfnIdeal.nD Cert.EvenFfnIdeal.τ).loc Cert.EvenFfnIdeal.main_arg3)
          ∧ r.2.mem ((c.tc : Thread Cert.EvenFfnIdeal.nD Cert.EvenFfnIdeal.τ).loc Cert.EvenFfnIdeal.main_arg4) = m ((c.tc : Thread Cert.EvenFfnIdeal.nD Cert.EvenFfnIdeal.τ).loc Cert.EvenFfnIdeal.main_arg4)
          ∧ r.2.mem ((c.tc : Thread Cert.EvenFfnIdeal.nD Cert.EvenFfnIdeal.τ).loc Cert.EvenFfnIdeal.main_arg5) = m ((c.tc : Thread Cert.EvenFfnIdeal.nD Cert.EvenFfnIdeal.τ).loc Cert.EvenFfnIdeal.main_arg5)
          ∧ r.2.mem ((c.tc : Thread Cert.EvenFfnIdeal.nD Cert.EvenFfnIdeal.τ).loc Cert.EvenFfnIdeal.main_arg6) = m ((c.tc : Thread Cert.EvenFfnIdeal.nD Cert.EvenFfnIdeal.τ).loc Cert.EvenFfnIdeal.main_arg6)
          ∧ r.2.mem ((c.tc : Thread Cert.EvenFfnIdeal.nD Cert.EvenFfnIdeal.τ).loc Cert.EvenFfnIdeal.main_arg7) = m ((c.tc : Thread Cert.EvenFfnIdeal.nD Cert.EvenFfnIdeal.τ).loc Cert.EvenFfnIdeal.main_arg7)
          ∧ r.2.mem ((c.tc : Thread Cert.EvenFfnIdeal.nD Cert.EvenFfnIdeal.τ).loc Cert.EvenFfnIdeal.main_arg8) = m ((c.tc : Thread Cert.EvenFfnIdeal.nD Cert.EvenFfnIdeal.τ).loc Cert.EvenFfnIdeal.main_arg8)
          ∧ r.2.mem ((c.tc : Thread Cert.EvenFfnIdeal.nD Cert.EvenFfnIdeal.τ).loc Cert.EvenFfnIdeal.main_arg9) = m ((c.tc : Thread Cert.EvenFfnIdeal.nD Cert.EvenFfnIdeal.τ).loc Cert.EvenFfnIdeal.main_arg9))
      ∧ θ_run (Cert.EvenFfnReferenceIdeal.defs (F := Ideal)) (onTc (τ := Cert.EvenFfnReferenceIdeal.τ) (Cert.EvenFfnReferenceIdeal.main (F := Ideal))) ⟨m', fun _ => 0, g'⟩ (fun r => ∀ c : Dev Cert.EvenFfnReferenceIdeal.nD,
          r.2.mem ((c.tc : Thread Cert.EvenFfnReferenceIdeal.nD Cert.EvenFfnReferenceIdeal.τ).loc Cert.EvenFfnReferenceIdeal.main_v63) = v0 c
          ∧ r.2.mem ((c.tc : Thread Cert.EvenFfnReferenceIdeal.nD Cert.EvenFfnReferenceIdeal.τ).loc Cert.EvenFfnReferenceIdeal.main_arg0) = m' ((c.tc : Thread Cert.EvenFfnReferenceIdeal.nD Cert.EvenFfnReferenceIdeal.τ).loc Cert.EvenFfnReferenceIdeal.main_arg0)
          ∧ r.2.mem ((c.tc : Thread Cert.EvenFfnReferenceIdeal.nD Cert.EvenFfnReferenceIdeal.τ).loc Cert.EvenFfnReferenceIdeal.main_arg1) = m' ((c.tc : Thread Cert.EvenFfnReferenceIdeal.nD Cert.EvenFfnReferenceIdeal.τ).loc Cert.EvenFfnReferenceIdeal.main_arg1)
          ∧ r.2.mem ((c.tc : Thread Cert.EvenFfnReferenceIdeal.nD Cert.EvenFfnReferenceIdeal.τ).loc Cert.EvenFfnReferenceIdeal.main_arg2) = m' ((c.tc : Thread Cert.EvenFfnReferenceIdeal.nD Cert.EvenFfnReferenceIdeal.τ).loc Cert.EvenFfnReferenceIdeal.main_arg2)
          ∧ r.2.mem ((c.tc : Thread Cert.EvenFfnReferenceIdeal.nD Cert.EvenFfnReferenceIdeal.τ).loc Cert.EvenFfnReferenceIdeal.main_arg3) = m' ((c.tc : Thread Cert.EvenFfnReferenceIdeal.nD Cert.EvenFfnReferenceIdeal.τ).loc Cert.EvenFfnReferenceIdeal.main_arg3)
          ∧ r.2.mem ((c.tc : Thread Cert.EvenFfnReferenceIdeal.nD Cert.EvenFfnReferenceIdeal.τ).loc Cert.EvenFfnReferenceIdeal.main_arg4) = m' ((c.tc : Thread Cert.EvenFfnReferenceIdeal.nD Cert.EvenFfnReferenceIdeal.τ).loc Cert.EvenFfnReferenceIdeal.main_arg4)
          ∧ r.2.mem ((c.tc : Thread Cert.EvenFfnReferenceIdeal.nD Cert.EvenFfnReferenceIdeal.τ).loc Cert.EvenFfnReferenceIdeal.main_arg5) = m' ((c.tc : Thread Cert.EvenFfnReferenceIdeal.nD Cert.EvenFfnReferenceIdeal.τ).loc Cert.EvenFfnReferenceIdeal.main_arg5)
          ∧ r.2.mem ((c.tc : Thread Cert.EvenFfnReferenceIdeal.nD Cert.EvenFfnReferenceIdeal.τ).loc Cert.EvenFfnReferenceIdeal.main_arg6) = m' ((c.tc : Thread Cert.EvenFfnReferenceIdeal.nD Cert.EvenFfnReferenceIdeal.τ).loc Cert.EvenFfnReferenceIdeal.main_arg6)
          ∧ r.2.mem ((c.tc : Thread Cert.EvenFfnReferenceIdeal.nD Cert.EvenFfnReferenceIdeal.τ).loc Cert.EvenFfnReferenceIdeal.main_arg7) = m' ((c.tc : Thread Cert.EvenFfnReferenceIdeal.nD Cert.EvenFfnReferenceIdeal.τ).loc Cert.EvenFfnReferenceIdeal.main_arg7)
          ∧ r.2.mem ((c.tc : Thread Cert.EvenFfnReferenceIdeal.nD Cert.EvenFfnReferenceIdeal.τ).loc Cert.EvenFfnReferenceIdeal.main_arg8) = m' ((c.tc : Thread Cert.EvenFfnReferenceIdeal.nD Cert.EvenFfnReferenceIdeal.τ).loc Cert.EvenFfnReferenceIdeal.main_arg8)
          ∧ r.2.mem ((c.tc : Thread Cert.EvenFfnReferenceIdeal.nD Cert.EvenFfnReferenceIdeal.τ).loc Cert.EvenFfnReferenceIdeal.main_arg9) = m' ((c.tc : Thread Cert.EvenFfnReferenceIdeal.nD Cert.EvenFfnReferenceIdeal.τ).loc Cert.EvenFfnReferenceIdeal.main_arg9))

def preserves_MidFfn_MidFfnIdeal : Prop :=
  True

def algebraic_MidFfnIdeal_MidFfnReferenceIdeal [hMidFfnIdeal : Cert.MidFfnIdeal.Facts] [hMidFfnReferenceIdeal : Cert.MidFfnReferenceIdeal.Facts] : Prop :=
  ∀ (m : (ℓ : Loc Cert.MidFfnIdeal.nD Cert.MidFfnIdeal.τ Cert.MidFfnIdeal.sig) → Buf (Elt Ideal) ℓ) (g : Dev Cert.MidFfnIdeal.nD → PrngReg)
    (m' : (ℓ : Loc Cert.MidFfnReferenceIdeal.nD Cert.MidFfnReferenceIdeal.τ Cert.MidFfnReferenceIdeal.sig) → Buf (Elt Ideal) ℓ) (g' : Dev Cert.MidFfnReferenceIdeal.nD → PrngReg), Pre_MidFfnIdeal m →
    (∀ c : Dev Cert.MidFfnIdeal.nD,
      m' ((c.tc : Thread Cert.MidFfnReferenceIdeal.nD Cert.MidFfnReferenceIdeal.τ).loc Cert.MidFfnReferenceIdeal.main_arg0) = m ((c.tc : Thread Cert.MidFfnIdeal.nD Cert.MidFfnIdeal.τ).loc Cert.MidFfnIdeal.main_arg0)
      ∧ m' ((c.tc : Thread Cert.MidFfnReferenceIdeal.nD Cert.MidFfnReferenceIdeal.τ).loc Cert.MidFfnReferenceIdeal.main_arg1) = m ((c.tc : Thread Cert.MidFfnIdeal.nD Cert.MidFfnIdeal.τ).loc Cert.MidFfnIdeal.main_arg1)
      ∧ m' ((c.tc : Thread Cert.MidFfnReferenceIdeal.nD Cert.MidFfnReferenceIdeal.τ).loc Cert.MidFfnReferenceIdeal.main_arg2) = m ((c.tc : Thread Cert.MidFfnIdeal.nD Cert.MidFfnIdeal.τ).loc Cert.MidFfnIdeal.main_arg2)
      ∧ m' ((c.tc : Thread Cert.MidFfnReferenceIdeal.nD Cert.MidFfnReferenceIdeal.τ).loc Cert.MidFfnReferenceIdeal.main_arg3) = m ((c.tc : Thread Cert.MidFfnIdeal.nD Cert.MidFfnIdeal.τ).loc Cert.MidFfnIdeal.main_arg3)
      ∧ m' ((c.tc : Thread Cert.MidFfnReferenceIdeal.nD Cert.MidFfnReferenceIdeal.τ).loc Cert.MidFfnReferenceIdeal.main_arg4) = m ((c.tc : Thread Cert.MidFfnIdeal.nD Cert.MidFfnIdeal.τ).loc Cert.MidFfnIdeal.main_arg4)
      ∧ m' ((c.tc : Thread Cert.MidFfnReferenceIdeal.nD Cert.MidFfnReferenceIdeal.τ).loc Cert.MidFfnReferenceIdeal.main_arg5) = m ((c.tc : Thread Cert.MidFfnIdeal.nD Cert.MidFfnIdeal.τ).loc Cert.MidFfnIdeal.main_arg5)
      ∧ m' ((c.tc : Thread Cert.MidFfnReferenceIdeal.nD Cert.MidFfnReferenceIdeal.τ).loc Cert.MidFfnReferenceIdeal.main_arg6) = m ((c.tc : Thread Cert.MidFfnIdeal.nD Cert.MidFfnIdeal.τ).loc Cert.MidFfnIdeal.main_arg6)
      ∧ m' ((c.tc : Thread Cert.MidFfnReferenceIdeal.nD Cert.MidFfnReferenceIdeal.τ).loc Cert.MidFfnReferenceIdeal.main_arg7) = m ((c.tc : Thread Cert.MidFfnIdeal.nD Cert.MidFfnIdeal.τ).loc Cert.MidFfnIdeal.main_arg7)
      ∧ m' ((c.tc : Thread Cert.MidFfnReferenceIdeal.nD Cert.MidFfnReferenceIdeal.τ).loc Cert.MidFfnReferenceIdeal.main_arg8) = m ((c.tc : Thread Cert.MidFfnIdeal.nD Cert.MidFfnIdeal.τ).loc Cert.MidFfnIdeal.main_arg8)) →
    ∃ (v0 : (c : Dev Cert.MidFfnIdeal.nD) → Buf (Elt Ideal) ((c.tc : Thread Cert.MidFfnIdeal.nD Cert.MidFfnIdeal.τ).loc Cert.MidFfnIdeal.main_v7)),
      θ_run (Cert.MidFfnIdeal.defs (F := Ideal)) (onTc (τ := Cert.MidFfnIdeal.τ) (Cert.MidFfnIdeal.main (F := Ideal))) ⟨m, fun _ => 0, g⟩ (fun r => ∀ c : Dev Cert.MidFfnIdeal.nD,
          r.2.mem ((c.tc : Thread Cert.MidFfnIdeal.nD Cert.MidFfnIdeal.τ).loc Cert.MidFfnIdeal.main_v7) = v0 c
          ∧ r.2.mem ((c.tc : Thread Cert.MidFfnIdeal.nD Cert.MidFfnIdeal.τ).loc Cert.MidFfnIdeal.main_arg0) = m ((c.tc : Thread Cert.MidFfnIdeal.nD Cert.MidFfnIdeal.τ).loc Cert.MidFfnIdeal.main_arg0)
          ∧ r.2.mem ((c.tc : Thread Cert.MidFfnIdeal.nD Cert.MidFfnIdeal.τ).loc Cert.MidFfnIdeal.main_arg1) = m ((c.tc : Thread Cert.MidFfnIdeal.nD Cert.MidFfnIdeal.τ).loc Cert.MidFfnIdeal.main_arg1)
          ∧ r.2.mem ((c.tc : Thread Cert.MidFfnIdeal.nD Cert.MidFfnIdeal.τ).loc Cert.MidFfnIdeal.main_arg2) = m ((c.tc : Thread Cert.MidFfnIdeal.nD Cert.MidFfnIdeal.τ).loc Cert.MidFfnIdeal.main_arg2)
          ∧ r.2.mem ((c.tc : Thread Cert.MidFfnIdeal.nD Cert.MidFfnIdeal.τ).loc Cert.MidFfnIdeal.main_arg3) = m ((c.tc : Thread Cert.MidFfnIdeal.nD Cert.MidFfnIdeal.τ).loc Cert.MidFfnIdeal.main_arg3)
          ∧ r.2.mem ((c.tc : Thread Cert.MidFfnIdeal.nD Cert.MidFfnIdeal.τ).loc Cert.MidFfnIdeal.main_arg4) = m ((c.tc : Thread Cert.MidFfnIdeal.nD Cert.MidFfnIdeal.τ).loc Cert.MidFfnIdeal.main_arg4)
          ∧ r.2.mem ((c.tc : Thread Cert.MidFfnIdeal.nD Cert.MidFfnIdeal.τ).loc Cert.MidFfnIdeal.main_arg5) = m ((c.tc : Thread Cert.MidFfnIdeal.nD Cert.MidFfnIdeal.τ).loc Cert.MidFfnIdeal.main_arg5)
          ∧ r.2.mem ((c.tc : Thread Cert.MidFfnIdeal.nD Cert.MidFfnIdeal.τ).loc Cert.MidFfnIdeal.main_arg6) = m ((c.tc : Thread Cert.MidFfnIdeal.nD Cert.MidFfnIdeal.τ).loc Cert.MidFfnIdeal.main_arg6)
          ∧ r.2.mem ((c.tc : Thread Cert.MidFfnIdeal.nD Cert.MidFfnIdeal.τ).loc Cert.MidFfnIdeal.main_arg7) = m ((c.tc : Thread Cert.MidFfnIdeal.nD Cert.MidFfnIdeal.τ).loc Cert.MidFfnIdeal.main_arg7)
          ∧ r.2.mem ((c.tc : Thread Cert.MidFfnIdeal.nD Cert.MidFfnIdeal.τ).loc Cert.MidFfnIdeal.main_arg8) = m ((c.tc : Thread Cert.MidFfnIdeal.nD Cert.MidFfnIdeal.τ).loc Cert.MidFfnIdeal.main_arg8))
      ∧ θ_run (Cert.MidFfnReferenceIdeal.defs (F := Ideal)) (onTc (τ := Cert.MidFfnReferenceIdeal.τ) (Cert.MidFfnReferenceIdeal.main (F := Ideal))) ⟨m', fun _ => 0, g'⟩ (fun r => ∀ c : Dev Cert.MidFfnReferenceIdeal.nD,
          r.2.mem ((c.tc : Thread Cert.MidFfnReferenceIdeal.nD Cert.MidFfnReferenceIdeal.τ).loc Cert.MidFfnReferenceIdeal.main_v60) = v0 c
          ∧ r.2.mem ((c.tc : Thread Cert.MidFfnReferenceIdeal.nD Cert.MidFfnReferenceIdeal.τ).loc Cert.MidFfnReferenceIdeal.main_arg0) = m' ((c.tc : Thread Cert.MidFfnReferenceIdeal.nD Cert.MidFfnReferenceIdeal.τ).loc Cert.MidFfnReferenceIdeal.main_arg0)
          ∧ r.2.mem ((c.tc : Thread Cert.MidFfnReferenceIdeal.nD Cert.MidFfnReferenceIdeal.τ).loc Cert.MidFfnReferenceIdeal.main_arg1) = m' ((c.tc : Thread Cert.MidFfnReferenceIdeal.nD Cert.MidFfnReferenceIdeal.τ).loc Cert.MidFfnReferenceIdeal.main_arg1)
          ∧ r.2.mem ((c.tc : Thread Cert.MidFfnReferenceIdeal.nD Cert.MidFfnReferenceIdeal.τ).loc Cert.MidFfnReferenceIdeal.main_arg2) = m' ((c.tc : Thread Cert.MidFfnReferenceIdeal.nD Cert.MidFfnReferenceIdeal.τ).loc Cert.MidFfnReferenceIdeal.main_arg2)
          ∧ r.2.mem ((c.tc : Thread Cert.MidFfnReferenceIdeal.nD Cert.MidFfnReferenceIdeal.τ).loc Cert.MidFfnReferenceIdeal.main_arg3) = m' ((c.tc : Thread Cert.MidFfnReferenceIdeal.nD Cert.MidFfnReferenceIdeal.τ).loc Cert.MidFfnReferenceIdeal.main_arg3)
          ∧ r.2.mem ((c.tc : Thread Cert.MidFfnReferenceIdeal.nD Cert.MidFfnReferenceIdeal.τ).loc Cert.MidFfnReferenceIdeal.main_arg4) = m' ((c.tc : Thread Cert.MidFfnReferenceIdeal.nD Cert.MidFfnReferenceIdeal.τ).loc Cert.MidFfnReferenceIdeal.main_arg4)
          ∧ r.2.mem ((c.tc : Thread Cert.MidFfnReferenceIdeal.nD Cert.MidFfnReferenceIdeal.τ).loc Cert.MidFfnReferenceIdeal.main_arg5) = m' ((c.tc : Thread Cert.MidFfnReferenceIdeal.nD Cert.MidFfnReferenceIdeal.τ).loc Cert.MidFfnReferenceIdeal.main_arg5)
          ∧ r.2.mem ((c.tc : Thread Cert.MidFfnReferenceIdeal.nD Cert.MidFfnReferenceIdeal.τ).loc Cert.MidFfnReferenceIdeal.main_arg6) = m' ((c.tc : Thread Cert.MidFfnReferenceIdeal.nD Cert.MidFfnReferenceIdeal.τ).loc Cert.MidFfnReferenceIdeal.main_arg6)
          ∧ r.2.mem ((c.tc : Thread Cert.MidFfnReferenceIdeal.nD Cert.MidFfnReferenceIdeal.τ).loc Cert.MidFfnReferenceIdeal.main_arg7) = m' ((c.tc : Thread Cert.MidFfnReferenceIdeal.nD Cert.MidFfnReferenceIdeal.τ).loc Cert.MidFfnReferenceIdeal.main_arg7)
          ∧ r.2.mem ((c.tc : Thread Cert.MidFfnReferenceIdeal.nD Cert.MidFfnReferenceIdeal.τ).loc Cert.MidFfnReferenceIdeal.main_arg8) = m' ((c.tc : Thread Cert.MidFfnReferenceIdeal.nD Cert.MidFfnReferenceIdeal.τ).loc Cert.MidFfnReferenceIdeal.main_arg8))

def preserves_EvenProj_EvenProjIdeal : Prop :=
  True

def algebraic_EvenProjIdeal_EvenProjReferenceIdeal [hEvenProjIdeal : Cert.EvenProjIdeal.Facts] [hEvenProjReferenceIdeal : Cert.EvenProjReferenceIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjReferenceIdeal.nD Cert.EvenProjReferenceIdeal.τ Cert.EvenProjReferenceIdeal.sig) → Buf (Elt Ideal) ℓ) (g' : Dev Cert.EvenProjReferenceIdeal.nD → PrngReg), Pre_EvenProjIdeal m →
    (∀ c : Dev Cert.EvenProjIdeal.nD,
      m' ((c.tc : Thread Cert.EvenProjReferenceIdeal.nD Cert.EvenProjReferenceIdeal.τ).loc Cert.EvenProjReferenceIdeal.main_arg0) = m ((c.tc : Thread Cert.EvenProjIdeal.nD Cert.EvenProjIdeal.τ).loc Cert.EvenProjIdeal.main_arg0)
      ∧ m' ((c.tc : Thread Cert.EvenProjReferenceIdeal.nD Cert.EvenProjReferenceIdeal.τ).loc Cert.EvenProjReferenceIdeal.main_arg1) = m ((c.tc : Thread Cert.EvenProjIdeal.nD Cert.EvenProjIdeal.τ).loc Cert.EvenProjIdeal.main_arg1)
      ∧ m' ((c.tc : Thread Cert.EvenProjReferenceIdeal.nD Cert.EvenProjReferenceIdeal.τ).loc Cert.EvenProjReferenceIdeal.main_arg2) = m ((c.tc : Thread Cert.EvenProjIdeal.nD Cert.EvenProjIdeal.τ).loc Cert.EvenProjIdeal.main_arg2)) →
    ∃ (v0 : (c : Dev Cert.EvenProjIdeal.nD) → Buf (Elt Ideal) ((c.tc : Thread Cert.EvenProjIdeal.nD Cert.EvenProjIdeal.τ).loc Cert.EvenProjIdeal.main_v13_0)) (v1 : (c : Dev Cert.EvenProjIdeal.nD) → Buf (Elt Ideal) ((c.tc : Thread Cert.EvenProjIdeal.nD Cert.EvenProjIdeal.τ).loc Cert.EvenProjIdeal.main_v13_1)) (v2 : (c : Dev Cert.EvenProjIdeal.nD) → Buf (Elt Ideal) ((c.tc : Thread Cert.EvenProjIdeal.nD Cert.EvenProjIdeal.τ).loc Cert.EvenProjIdeal.main_v13_2)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v13_0) = v0 c
          ∧ r.2.mem ((c.tc : Thread Cert.EvenProjIdeal.nD Cert.EvenProjIdeal.τ).loc Cert.EvenProjIdeal.main_v13_1) = v1 c
          ∧ r.2.mem ((c.tc : Thread Cert.EvenProjIdeal.nD Cert.EvenProjIdeal.τ).loc Cert.EvenProjIdeal.main_v13_2) = v2 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ θ_run (Cert.EvenProjReferenceIdeal.defs (F := Ideal)) (onTc (τ := Cert.EvenProjReferenceIdeal.τ) (Cert.EvenProjReferenceIdeal.main (F := Ideal))) ⟨m', fun _ => 0, g'⟩ (fun r => ∀ c : Dev Cert.EvenProjReferenceIdeal.nD,
          r.2.mem ((c.tc : Thread Cert.EvenProjReferenceIdeal.nD Cert.EvenProjReferenceIdeal.τ).loc Cert.EvenProjReferenceIdeal.main_v29) = v0 c
          ∧ r.2.mem ((c.tc : Thread Cert.EvenProjReferenceIdeal.nD Cert.EvenProjReferenceIdeal.τ).loc Cert.EvenProjReferenceIdeal.main_v37) = v1 c
          ∧ r.2.mem ((c.tc : Thread Cert.EvenProjReferenceIdeal.nD Cert.EvenProjReferenceIdeal.τ).loc Cert.EvenProjReferenceIdeal.main_v35) = v2 c
          ∧ r.2.mem ((c.tc : Thread Cert.EvenProjReferenceIdeal.nD Cert.EvenProjReferenceIdeal.τ).loc Cert.EvenProjReferenceIdeal.main_arg0) = m' ((c.tc : Thread Cert.EvenProjReferenceIdeal.nD Cert.EvenProjReferenceIdeal.τ).loc Cert.EvenProjReferenceIdeal.main_arg0)
          ∧ r.2.mem ((c.tc : Thread Cert.EvenProjReferenceIdeal.nD Cert.EvenProjReferenceIdeal.τ).loc Cert.EvenProjReferenceIdeal.main_arg1) = m' ((c.tc : Thread Cert.EvenProjReferenceIdeal.nD Cert.EvenProjReferenceIdeal.τ).loc Cert.EvenProjReferenceIdeal.main_arg1)
          ∧ r.2.mem ((c.tc : Thread Cert.EvenProjReferenceIdeal.nD Cert.EvenProjReferenceIdeal.τ).loc Cert.EvenProjReferenceIdeal.main_arg2) = m' ((c.tc : Thread Cert.EvenProjReferenceIdeal.nD Cert.EvenProjReferenceIdeal.τ).loc Cert.EvenProjReferenceIdeal.main_arg2))

def Claim : Prop :=
  ∃ (hFfn : Cert.Ffn.Facts) (hFfnIdeal : Cert.FfnIdeal.Facts) (hFfnReferenceIdeal : Cert.FfnReferenceIdeal.Facts) (hDiff : Cert.Diff.Facts) (hDiffIdeal : Cert.DiffIdeal.Facts) (hDiffReferenceIdeal : Cert.DiffReferenceIdeal.Facts) (hEvenFfn : Cert.EvenFfn.Facts) (hEvenFfnIdeal : Cert.EvenFfnIdeal.Facts) (hEvenFfnReferenceIdeal : Cert.EvenFfnReferenceIdeal.Facts) (hMidFfn : Cert.MidFfn.Facts) (hMidFfnIdeal : Cert.MidFfnIdeal.Facts) (hMidFfnReferenceIdeal : Cert.MidFfnReferenceIdeal.Facts) (hEvenProj : Cert.EvenProj.Facts) (hEvenProjIdeal : Cert.EvenProjIdeal.Facts) (hEvenProjReferenceIdeal : Cert.EvenProjReferenceIdeal.Facts) (hPre_weights_finite : Cert.Pre_weights_finite.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Diff (hDiff := hDiff)
    ∧ quiescent_DiffIdeal (hDiffIdeal := hDiffIdeal)
    ∧ quiescent_DiffIdeal_pre_weights_finite (hDiffIdeal := hDiffIdeal) (hPre_weights_finite := hPre_weights_finite)
    ∧ quiescent_DiffReferenceIdeal (hDiffReferenceIdeal := hDiffReferenceIdeal)
    ∧ quiescent_DiffReferenceIdeal_pre_weights_finite (hDiffReferenceIdeal := hDiffReferenceIdeal) (hPre_weights_finite := hPre_weights_finite)
    ∧ quiescent_EvenFfn (hEvenFfn := hEvenFfn)
    ∧ quiescent_EvenFfnIdeal (hEvenFfnIdeal := hEvenFfnIdeal)
    ∧ quiescent_EvenFfnReferenceIdeal (hEvenFfnReferenceIdeal := hEvenFfnReferenceIdeal)
    ∧ quiescent_MidFfn (hMidFfn := hMidFfn)
    ∧ quiescent_MidFfnIdeal (hMidFfnIdeal := hMidFfnIdeal)
    ∧ quiescent_MidFfnReferenceIdeal (hMidFfnReferenceIdeal := hMidFfnReferenceIdeal)
    ∧ quiescent_EvenProj (hEvenProj := hEvenProj)
    ∧ quiescent_EvenProjIdeal (hEvenProjIdeal := hEvenProjIdeal)
    ∧ quiescent_EvenProjReferenceIdeal (hEvenProjReferenceIdeal := hEvenProjReferenceIdeal)
    ∧ preserves_Ffn_FfnIdeal
    ∧ algebraic_FfnIdeal_FfnReferenceIdeal (hFfnIdeal := hFfnIdeal) (hFfnReferenceIdeal := hFfnReferenceIdeal)
    ∧ preserves_Diff_DiffIdeal
    ∧ algebraic_DiffIdeal_DiffReferenceIdeal_pre_weights_finite (hDiffIdeal := hDiffIdeal) (hDiffReferenceIdeal := hDiffReferenceIdeal) (hPre_weights_finite := hPre_weights_finite)
    ∧ preserves_EvenFfn_EvenFfnIdeal
    ∧ algebraic_EvenFfnIdeal_EvenFfnReferenceIdeal (hEvenFfnIdeal := hEvenFfnIdeal) (hEvenFfnReferenceIdeal := hEvenFfnReferenceIdeal)
    ∧ preserves_MidFfn_MidFfnIdeal
    ∧ algebraic_MidFfnIdeal_MidFfnReferenceIdeal (hMidFfnIdeal := hMidFfnIdeal) (hMidFfnReferenceIdeal := hMidFfnReferenceIdeal)
    ∧ preserves_EvenProj_EvenProjIdeal
    ∧ algebraic_EvenProjIdeal_EvenProjReferenceIdeal (hEvenProjIdeal := hEvenProjIdeal) (hEvenProjReferenceIdeal := hEvenProjReferenceIdeal)
-- ==== Pre_weights_finite.lean ====
abbrev S4x4096x1024 : Shape := ⟨3, ![4, 4096, 1024]⟩
abbrev S2x1024 : Shape := ⟨2, ![2, 1024]⟩
abbrev S2x1024x3072 : Shape := ⟨3, ![2, 1024, 3072]⟩
abbrev S2x4x64 : Shape := ⟨3, ![2, 4, 64]⟩
abbrev S2x128 : Shape := ⟨2, ![2, 128]⟩
abbrev S1x1024 : Shape := ⟨2, ![1, 1024]⟩
abbrev S1024 : Shape := ⟨1, ![1024]⟩
abbrev S_ : Shape := ⟨0, ![]⟩
abbrev S1x1024x3072 : Shape := ⟨3, ![1, 1024, 3072]⟩
abbrev S1024x3072 : Shape := ⟨2, ![1024, 3072]⟩
abbrev S1x4x64 : Shape := ⟨3, ![1, 4, 64]⟩
abbrev S4x64 : Shape := ⟨2, ![4, 64]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  slices_S2x1024x3072_S1x1024x3072_1_0_0 : S2x1024x3072.Slices ![1, 0, 0] S1x1024x3072
  shapeCasts_S1x1024x3072_S1024x3072 : S1x1024x3072.ShapeCasts S1024x3072
  bcast_S_S1024x3072 : S_.BroadcastsInDim S1024x3072 (![] : Fin 0 → Fin S1024x3072.rank)
  slices_S2x4x64_S1x4x64_1_0_0 : S2x4x64.Slices ![1, 0, 0] S1x4x64
  shapeCasts_S1x4x64_S4x64 : S1x4x64.ShapeCasts S4x64
  bcast_S_S4x64 : S_.BroadcastsInDim S4x64 (![] : Fin 0 → Fin S4x64.rank)

variable [Facts]

def fn {F : FTy → Type} [FloatOps F] (main_arg0 : FVec F S4x4096x1024 .f32) (main_arg1 : FVec F S2x1024 .f32) (main_arg2 : FVec F S2x1024x3072 .f32) (main_arg3 : FVec F S2x4x64 .f32) (main_arg4 : FVec F S2x128 .f32) : IVec S1024 1 × IVec S1024x3072 1 × IVec S4x64 1 :=
  let main_v0 : FVec F S1x1024 .f32 := (extractStridedSlice S1x1024 ![1, 0] · slices_S2x1024_S1x1024_1_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x3072 .f32 := (extractStridedSlice S1x1024x3072 ![1, 0, 0] · slices_S2x1024x3072_S1x1024x3072_1_0_0) main_arg2
  let main_v6 : FVec F S1024x3072 .f32 := shapeCast S1024x3072 main_v5 shapeCasts_S1x1024x3072_S1024x3072
  let main_v7 : FVec F S1024x3072 .f32 := Host.absf main_v6
  let main_cst_0 : FVec F S_ .f32 := constant S_ .f32 0x7F800000#32
  let main_v8 : FVec F S1024x3072 .f32 := broadcastInDim S1024x3072 ![] bcast_S_S1024x3072 main_cst_0
  let main_v9 : IVec S1024x3072 1 := cmpf .olt main_v7 main_v8
  let main_v10 : FVec F S1x4x64 .f32 := (extractStridedSlice S1x4x64 ![1, 0, 0] · slices_S2x4x64_S1x4x64_1_0_0) main_arg3
  let main_v11 : FVec F S4x64 .f32 := shapeCast S4x64 main_v10 shapeCasts_S1x4x64_S4x64
  let main_v12 : FVec F S4x64 .f32 := Host.absf main_v11
  let main_cst_1 : FVec F S_ .f32 := constant S_ .f32 0x7F800000#32
  let main_v13 : FVec F S4x64 .f32 := broadcastInDim S4x64 ![] bcast_S_S4x64 main_cst_1
  let main_v14 : IVec S4x64 1 := cmpf .olt main_v12 main_v13
  (main_v4, main_v9, main_v14)
-- ==== Ffn.lean ====
abbrev S4x4096x1024 : Shape := ⟨3, ![4, 4096, 1024]⟩
abbrev S16384x1024 : Shape := ⟨2, ![16384, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S4x1x1024 : Shape := ⟨3, ![4, 1, 1024]⟩
abbrev S4x1x2816 : Shape := ⟨3, ![4, 1, 2816]⟩
abbrev S1x1024 : Shape := ⟨2, ![1, 1024]⟩
abbrev S1024x1024 : Shape := ⟨2, ![1024, 1024]⟩
abbrev S16x1024 : Shape := ⟨2, ![16, 1024]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1040x1024 : Shape := ⟨2, ![1040, 1024]⟩
abbrev S1024x2816 : Shape := ⟨2, ![1024, 2816]⟩
abbrev S16 : Shape := ⟨1, ![16]⟩
abbrev S16x1 : Shape := ⟨2, ![16, 1]⟩
abbrev S1024x1 : Shape := ⟨2, ![1024, 1]⟩
abbrev S1x1024x256 : Shape := ⟨3, ![1, 1024, 256]⟩
abbrev S1024x256 : Shape := ⟨2, ![1024, 256]⟩
abbrev S1040x256 : Shape := ⟨2, ![1040, 256]⟩
abbrev S1x1x256 : Shape := ⟨3, ![1, 1, 256]⟩
abbrev S1x256 : Shape := ⟨2, ![1, 256]⟩
abbrev S2816x1024 : Shape := ⟨2, ![2816, 1024]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S2x1024x1024, .f32⟩
  | .hbm, ⟨3, _⟩ => ⟨S4x1024, .f32⟩
  | .hbm, ⟨4, _⟩ => ⟨S4x1024x5632, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1024, .f32⟩
  | .hbm, ⟨9, _⟩ => ⟨S16384x1024, .f32⟩
  | .hbm, ⟨10, _⟩ => ⟨S2x1024x1024, .bf16⟩
  | .hbm, ⟨11, _⟩ => ⟨S4x1x1024, .f32⟩
  | .hbm, ⟨12, _⟩ => ⟨S4x1024x5632, .bf16⟩
  | .hbm, ⟨13, _⟩ => ⟨S4x1x2816, .f32⟩
  | .hbm, ⟨14, _⟩ => ⟨S4x2816x1024, .bf16⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S1024x1024, .bf16⟩
  | .local _ .vmem, ⟨6, _⟩ => ⟨S16x1024, .bf16⟩
  | .local _ .vmem, ⟨7, _⟩ => ⟨S16x1024, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1024x5632, .bf16⟩
  | .local _ .vmem, ⟨11, _⟩ => ⟨S1x3x2816, .f32⟩
  | .local _ .vmem, ⟨12, _⟩ => ⟨S1x1x2816, .f32⟩
  | .local _ .vmem, ⟨13, _⟩ => ⟨S1x2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1040x1024, .bf16⟩
  | .local _ .vmem, ⟨18, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnReferenceIdeal.lean ====
abbrev S4x4096x1024 : Shape := ⟨3, ![4, 4096, 1024]⟩
abbrev S16384x1024 : Shape := ⟨2, ![16384, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x1x2816 : Shape := ⟨3, ![1, 1, 2816]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S2x1024x1024, .f32⟩
  | .hbm, ⟨3, _⟩ => ⟨S4x1024, .f32⟩
  | .hbm, ⟨4, _⟩ => ⟨S4x1024x5632, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1024, .f32⟩
  | .hbm, ⟨9, _⟩ => ⟨S16384x1024, .f32⟩
  | .hbm, ⟨10, _⟩ => ⟨S4x4096x1024, .f32⟩
  | .hbm, ⟨11, _⟩ => ⟨S1x1024x1024, .f32⟩
  | .hbm, ⟨12, _⟩ => ⟨S1024x1024, .f32⟩
  | .hbm, ⟨13, _⟩ => ⟨S4x4096x1024, .f32⟩
  | .hbm, ⟨14, _⟩ => ⟨S4x4096x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S1x1024x5632, .f32⟩
  | .hbm, ⟨34, _⟩ => ⟨S1024x5632, .f32⟩
  | .hbm, ⟨35, _⟩ => ⟨S1x3x2816, .f32⟩
  | .hbm, ⟨36, _⟩ => ⟨S3x2816, .f32⟩
  | .hbm, ⟨37, _⟩ => ⟨S1x2816, .f32⟩
  | .hbm, ⟨38, _⟩ => ⟨S2816, .f32⟩
  | .hbm, ⟨39, _⟩ => ⟨S1x2816x1024, .f32⟩
  | .hbm, ⟨40, _⟩ => ⟨S2816x1024, .f32⟩
  | .hbm, ⟨41, _⟩ => ⟨S4x4096x5632, .f32⟩
  | .hbm, ⟨42, _⟩ => ⟨S4x4096x2816, .f32⟩
  | .hbm, ⟨43, _⟩ => ⟨S4x4096x2816, .f32⟩
  | .hbm, ⟨44, _⟩ => ⟨S_, .i32⟩
  | .hbm, ⟨45, _⟩ => ⟨S_, .f32⟩
  | .hbm, ⟨46, _⟩ => ⟨S4x4098x2816, .f32⟩
  | .hbm, ⟨47, _⟩ => ⟨S4x4096x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S1x2816, .f32⟩
  | .hbm, ⟨62, _⟩ => ⟨S2816, .f32⟩
  | .hbm, ⟨63, _⟩ => ⟨S1x1x2816, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S1x1x2816, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S_, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S4x4096x2816, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1, .f32⟩
  | .hbm, ⟨93, _⟩ => ⟨S4x4096x1024, .f32⟩
  | .hbm, ⟨94, _⟩ => ⟨S4x4096x1024, .f32⟩
  | .hbm, ⟨95, _⟩ => ⟨S1x1x1024, .f32⟩
  | .hbm, ⟨96, _⟩ => ⟨S4x4096x1024, .f32⟩
  | .hbm, ⟨97, _⟩ => ⟨S4x4096x1024, .f32⟩
  | .hbm, ⟨98, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_2 : Ref sig .tc := ⟨.hbm, 83, rfl⟩
abbrev main_v61 : Ref sig .tc := ⟨.hbm, 84, rfl⟩
abbrev main_v62 : Ref sig .tc := ⟨.hbm, 85, rfl⟩
abbrev main_cst_3 : Ref sig .tc := ⟨.hbm, 86, rfl⟩
abbrev main_v63 : Ref sig .tc := ⟨.hbm, 87, rfl⟩
abbrev main_v64 : Ref sig .tc := ⟨.hbm, 88, rfl⟩
abbrev main_cst_4 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Diff.lean ====
abbrev S4x4096x1024 : Shape := ⟨3, ![4, 4096, 1024]⟩
abbrev S2x1024 : Shape := ⟨2, ![2, 1024]⟩
abbrev S2x1024x3072 : Shape := ⟨3, ![2, 1024, 3072]⟩
abbrev S2x4x64 : Shape := ⟨3, ![2, 4, 64]⟩
abbrev S2x128 : Shape := ⟨2, ![2, 128]⟩
abbrev S16384x1024 : Shape := ⟨2, ![16384, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x4096x128 : Shape := ⟨3, ![1, 4096, 128]⟩
abbrev S2x4096x128 : Shape := ⟨3, ![2, 4096, 128]⟩
abbrev S2x1x1024 : Shape := ⟨3, ![2, 1, 1024]⟩
abbrev S16384x2048 : Shape := ⟨2, ![16384, 2048]⟩
abbrev S1152x16384 : Shape := ⟨2, ![1152, 16384]⟩
abbrev S1024x1024 : Shape := ⟨2, ![1024, 1024]⟩
abbrev S1x1x1024 : Shape := ⟨3, ![1, 1, 1024]⟩
abbrev S1x1024x3072 : Shape := ⟨3, ![1, 1024, 3072]⟩
abbrev S2x1024x128 : Shape := ⟨3, ![2, 1024, 128]⟩
abbrev S1024x2048 : Shape := ⟨2, ![1024, 2048]⟩
abbrev S1152x1024 : Shape := ⟨2, ![1152, 1024]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S1x1024x512 : Shape := ⟨3, ![1, 1024, 512]⟩
abbrev S1024x512 : Shape := ⟨2, ![1024, 512]⟩
abbrev S1x1024x128 : Shape := ⟨3, ![1, 1024, 128]⟩
abbrev S512x1024 : Shape := ⟨2, ![512, 1024]⟩
abbrev S16x1024 : Shape := ⟨2, ![16, 1024]⟩
abbrev S128x1024 : Shape := ⟨2, ![128, 1024]⟩
abbrev S2x1x128 : Shape := ⟨3, ![2, 1, 128]⟩
abbrev S4x4096x2048 : Shape := ⟨3, ![4, 4096, 2048]⟩
abbrev S1x2048x128 : Shape := ⟨3, ![1, 2048, 128]⟩
abbrev S144x4096 : Shape := ⟨2, ![144, 4096]⟩
abbrev S1x4x64 : Shape := ⟨3, ![1, 4, 64]⟩
abbrev S1x1x128 : Shape := ⟨3, ![1, 1, 128]⟩
abbrev S16x256x128 : Shape := ⟨3, ![16, 256, 128]⟩
abbrev S16x1x256 : Shape := ⟨3, ![16, 1, 256]⟩
abbrev S16x144x256 : Shape := ⟨3, ![16, 144, 256]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S144x256 : Shape := ⟨2, ![144, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S4x64 : Shape := ⟨2, ![4, 64]⟩
abbrev S1x64 : Shape := ⟨2, ![1, 64]⟩
abbrev S1 : Shape := ⟨1, ![1]⟩
abbrev S1x1 : Shape := ⟨2, ![1, 1]⟩
abbrev S128x256 : Shape := ⟨2, ![128, 256]⟩
abbrev S1x128 : Shape := ⟨2, ![1, 128]⟩
abbrev S128 : Shape := ⟨1, ![128]⟩
abbrev S128x1 : Shape := ⟨2, ![128, 1]⟩

abbrev nBuf : Space → Nat
  | .hbm => 49
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x3072, .f32⟩
  | .hbm, ⟨3, _⟩ => ⟨S2x4x64, .f32⟩
  | .hbm, ⟨4, _⟩ => ⟨S2x128, .f32⟩
  | .hbm, ⟨5, _⟩ => ⟨S16384x1024, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S1x4096x1x32, .f32⟩
  | .hbm, ⟨27, _⟩ => ⟨S1x4096x4x32, .f32⟩
  | .hbm, ⟨28, _⟩ => ⟨S4096x128, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S1x4096x128, .f32⟩
  | .hbm, ⟨37, _⟩ => ⟨S1x4096x128, .f32⟩
  | .hbm, ⟨38, _⟩ => ⟨S2x4096x128, .f32⟩
  | .hbm, ⟨39, _⟩ => ⟨S1x4096x128, .f32⟩
  | .hbm, ⟨40, _⟩ => ⟨S1x4096x128, .f32⟩
  | .hbm, ⟨41, _⟩ => ⟨S2x4096x128, .f32⟩
  | .hbm, ⟨42, _⟩ => ⟨S2x1x1024, .f32⟩
  | .hbm, ⟨43, _⟩ => ⟨S2x1024x3072, .bf16⟩
  | .hbm, ⟨44, _⟩ => ⟨S16384x2048, .bf16⟩
  | .hbm, ⟨45, _⟩ => ⟨S1152x16384, .bf16⟩
  | .hbm, ⟨46, _⟩ => ⟨S2x1x128, .f32⟩
  | .hbm, ⟨47, _⟩ => ⟨S4x4096x2048, .bf16⟩
  | .hbm, ⟨48, _⟩ => ⟨S4x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x3072, .bf16⟩
  | .local _ .vmem, ⟨4, _⟩ => ⟨S2x1024x128, .f32⟩
  | .local _ .vmem, ⟨5, _⟩ => ⟨S2x1024x128, .f32⟩
  | .local _ .vmem, ⟨6, _⟩ => ⟨S2x1024x128, .f32⟩
  | .local _ .vmem, ⟨7, _⟩ => ⟨S2x1024x128, .f32⟩
  | .local _ .vmem, ⟨8, _⟩ => ⟨S1024x2048, .bf16⟩
  | .local _ .vmem, ⟨9, _⟩ => ⟨S1024x2048, .bf16⟩
  | .local _ .vmem, ⟨10, _⟩ => ⟨S1152x1024, .bf16⟩
  | .local _ .vmem, ⟨11, _⟩ => ⟨S1152x1024, .bf16⟩
  | .local _ .vmem, ⟨12, _⟩ => ⟨S1024x1024, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S144x4096, .bf16⟩
  | .local _ .vmem, ⟨18, _⟩ => ⟨S144x4096, .bf16⟩
  | .local _ .vmem, ⟨19, _⟩ => ⟨S1x4x64, .f32⟩
  | .local _ .vmem, ⟨20, _⟩ => ⟨S1x1x128, .f32⟩
  | .local _ .vmem, ⟨21, _⟩ => ⟨S1x2048x128, .bf16⟩
  | .local _ .vmem, ⟨22, _⟩ => ⟨S1x2048x128, .bf16⟩
  | .local _ .vmem, ⟨23, _⟩ => ⟨S16x256x128, .bf16⟩
  | .local _ .vmem, ⟨24, _⟩ => ⟨S16x1x256, .f32⟩
  | .local _ .vmem, ⟨25, _⟩ => ⟨S16x144x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35_0 : Ref sig .tc := ⟨.hbm, 44, rfl⟩
abbrev main_v35_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 8, 2], ![false, false, false]⟩

@[reducible] def k1_t1_loop (i : grid1.Coords) : Scf.Loop 32 :=
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let c1_i32_184 : BitVec 32 := 1#32
  ⟨c0_i32_183, v285, c1_i32_184⟩
def k1_mult1 (i : grid1.Coords) (k1_t1 : Fin (k1_t1_loop i).trips) : BitVec 32 :=
  let c0_i32_183 : BitVec 32 := 0#32
  let c1_i32_184 : BitVec 32 := 1#32
  let arg12 : BitVec 32 := Scf.iv c0_i32_183 c1_i32_184 k1_t1
  let c1024_i32_1864 : BitVec 32 := 1024#32
  let v3159 : BitVec 32 := Scalar.muli arg12 c1024_i32_1864
  let c0_i32_1865 : BitVec 32 := 0#32
  let v3160 : BitVec 32 := Scalar.addi v3159 c0_i32_1865
  v3160
def k1_mult2 (i : grid1.Coords) (k1_t1 : Fin (k1_t1_loop i).trips) : BitVec 32 :=
  let c0_i32_183 : BitVec 32 := 0#32
  let c1_i32_184 : BitVec 32 := 1#32
  let arg12 : BitVec 32 := Scf.iv c0_i32_183 c1_i32_184 k1_t1
  let c1024_i32_1864 : BitVec 32 := 1024#32
  let v3159 : BitVec 32 := Scalar.muli arg12 c1024_i32_1864
  let c256_i32_1866 : BitVec 32 := 256#32
  let v3162 : BitVec 32 := Scalar.addi v3159 c256_i32_1866
  v3162
def k1_mult3 (i : grid1.Coords) (k1_t1 : Fin (k1_t1_loop i).trips) : BitVec 32 :=
  let c0_i32_183 : BitVec 32 := 0#32
  let c1_i32_184 : BitVec 32 := 1#32
  let arg12 : BitVec 32 := Scf.iv c0_i32_183 c1_i32_184 k1_t1
  let c1024_i32_1864 : BitVec 32 := 1024#32
  let v3159 : BitVec 32 := Scalar.muli arg12 c1024_i32_1864
  let c512_i32_1867 : BitVec 32 := 512#32
  let v3164 : BitVec 32 := Scalar.addi v3159 c512_i32_1867
  v3164
def k1_mult4 (i : grid1.Coords) (k1_t1 : Fin (k1_t1_loop i).trips) : BitVec 32 :=
  let c0_i32_183 : BitVec 32 := 0#32
  let c1_i32_184 : BitVec 32 := 1#32
  let arg12 : BitVec 32 := Scf.iv c0_i32_183 c1_i32_184 k1_t1
  let c1024_i32_1864 : BitVec 32 := 1024#32
  let v3159 : BitVec 32 := Scalar.muli arg12 c1024_i32_1864
  let c768_i32_1868 : BitVec 32 := 768#32
  let v3166 : BitVec 32 := Scalar.addi v3159 c768_i32_1868
  v3166
def k1_off1 (i : grid1.Coords) (k1_t1 : Fin (k1_t1_loop i).trips) (c0_i32_1865 : BitVec 32) : Fin 3 → Nat :=
  let c0_1869 : Index := 0#32
  let c0_i32_183 : BitVec 32 := 0#32
  let c1_i32_184 : BitVec 32 := 1#32
  let arg12 : BitVec 32 := Scf.iv c0_i32_183 c1_i32_184 k1_t1
  let c1024_i32_1864 : BitVec 32 := 1024#32
  let v3159 : BitVec 32 := Scalar.muli arg12 c1024_i32_1864
  let v3160 : BitVec 32 := Scalar.addi v3159 c0_i32_1865
  let v3161 : BitVec 32 := v3160
  let v3168 : Index := Scalar.indexCast v3161
  let c0_1870 : Index := 0#32
  ![0, v3168.toNat, 0]
def k1_off2 (i : grid1.Coords) (k1_t1 : Fin (k1_t1_loop i).trips) (c0_i32_1865 : BitVec 32) : Fin 2 → Nat :=
  let c0_1871 : Index := 0#32
  let c0_i32_183 : BitVec 32 := 0#32
  let c1_i32_184 : BitVec 32 := 1#32
  let arg12 : BitVec 32 := Scf.iv c0_i32_183 c1_i32_184 k1_t1
  let c1024_i32_1864 : BitVec 32 := 1024#32
  let v3159 : BitVec 32 := Scalar.muli arg12 c1024_i32_1864
  let v3160 : BitVec 32 := Scalar.addi v3159 c0_i32_1865
  let v3161 : BitVec 32 := v3160
  let v3171 : Index := Scalar.indexCast v3161
  ![0, v3171.toNat]
@[reducible] def k1_t2_loop (i : grid1.Coords) : Scf.Loop 32 :=
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let v282 : BitVec 32 := Scalar.addi c0_i32_183 v281
  let c1_i32_185 : BitVec 32 := 1#32
  ⟨v285, v282, c1_i32_185⟩
def k1_mult5 (i : grid1.Coords) (k1_t2 : Fin (k1_t2_loop i).trips) : BitVec 32 :=
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let c1_i32_185 : BitVec 32 := 1#32
  let arg12 : BitVec 32 := Scf.iv v285 c1_i32_185 k1_t2
  let c1024_i32_1864 : BitVec 32 := 1024#32
  let v3159 : BitVec 32 := Scalar.muli arg12 c1024_i32_1864
  let c0_i32_1865 : BitVec 32 := 0#32
  let v3160 : BitVec 32 := Scalar.addi v3159 c0_i32_1865
  v3160
def k1_mult6 (i : grid1.Coords) (k1_t2 : Fin (k1_t2_loop i).trips) : BitVec 32 :=
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let c1_i32_185 : BitVec 32 := 1#32
  let arg12 : BitVec 32 := Scf.iv v285 c1_i32_185 k1_t2
  let c1024_i32_1864 : BitVec 32 := 1024#32
  let v3159 : BitVec 32 := Scalar.muli arg12 c1024_i32_1864
  let c256_i32_1866 : BitVec 32 := 256#32
  let v3162 : BitVec 32 := Scalar.addi v3159 c256_i32_1866
  v3162
def k1_mult7 (i : grid1.Coords) (k1_t2 : Fin (k1_t2_loop i).trips) : BitVec 32 :=
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let c1_i32_185 : BitVec 32 := 1#32
  let arg12 : BitVec 32 := Scf.iv v285 c1_i32_185 k1_t2
  let c1024_i32_1864 : BitVec 32 := 1024#32
  let v3159 : BitVec 32 := Scalar.muli arg12 c1024_i32_1864
  let c512_i32_1867 : BitVec 32 := 512#32
  let v3164 : BitVec 32 := Scalar.addi v3159 c512_i32_1867
  v3164
def k1_mult8 (i : grid1.Coords) (k1_t2 : Fin (k1_t2_loop i).trips) : BitVec 32 :=
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let c1_i32_185 : BitVec 32 := 1#32
  let arg12 : BitVec 32 := Scf.iv v285 c1_i32_185 k1_t2
  let c1024_i32_1864 : BitVec 32 := 1024#32
  let v3159 : BitVec 32 := Scalar.muli arg12 c1024_i32_1864
  let c768_i32_1868 : BitVec 32 := 768#32
  let v3166 : BitVec 32 := Scalar.addi v3159 c768_i32_1868
  v3166
def k1_off3 (i : grid1.Coords) (k1_t2 : Fin (k1_t2_loop i).trips) (c0_i32_1865 : BitVec 32) : Fin 3 → Nat :=
  let c0_1869 : Index := 0#32
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let c1_i32_185 : BitVec 32 := 1#32
  let arg12 : BitVec 32 := Scf.iv v285 c1_i32_185 k1_t2
  let c1024_i32_1864 : BitVec 32 := 1024#32
  let v3159 : BitVec 32 := Scalar.muli arg12 c1024_i32_1864
  let v3160 : BitVec 32 := Scalar.addi v3159 c0_i32_1865
  let v3161 : BitVec 32 := v3160
  let v3168 : Index := Scalar.indexCast v3161
  let c0_1870 : Index := 0#32
  ![0, v3168.toNat, 0]
def k1_off4 (i : grid1.Coords) (k1_t2 : Fin (k1_t2_loop i).trips) (c0_i32_1865 : BitVec 32) : Fin 2 → Nat :=
  let c0_1871 : Index := 0#32
  let c0_i32_183 : BitVec 32 := 0#32
  let arg2 : BitVec 32 := BitVec.ofNat 32 (i 2).val
  let c2_i32 : BitVec 32 := 2#32
  let v280 : BitVec 32 := Scalar.muli arg2 c2_i32
  let v281 : BitVec 32 := Scalar.subi v280 c0_i32_183
  let c1_i32 : BitVec 32 := 1#32
  let v283 : BitVec 32 := Scalar.divsi v281 c1_i32
  let v284 : BitVec 32 := Scalar.muli v283 c1_i32
  let v285 : BitVec 32 := Scalar.addi c0_i32_183 v284
  let c1_i32_185 : BitVec 32 := 1#32
  let arg12 : BitVec 32 := Scf.iv v285 c1_i32_185 k1_t2
  let c1024_i32_1864 : BitVec 32 := 1024#32
  let v3159 : BitVec 32 := Scalar.muli arg12 c1024_i32_1864
  let v3160 : BitVec 32 := Scalar.addi v3159 c0_i32_1865
  let v3161 : BitVec 32 := v3160
  let v3171 : Index := Scalar.indexCast v3161
  ![0, v3171.toNat]
def k1_mult9 (i : grid1.Coords) : BitVec 32 :=
  let arg2 : BitVec 32 := BitVec.ofNat 32 (i 2).val
  let c2048_i32 : BitVec 32 := 2048#32
  let v286 : BitVec 32 := Scalar.muli arg2 c2048_i32
  let c0_i32_186 : BitVec 32 := 0#32
  let v287 : BitVec 32 := Scalar.addi v286 c0_i32_186
  v287
def k1_mult10 (i : grid1.Coords) : BitVec 32 :=
  let arg2 : BitVec 32 := BitVec.ofNat 32 (i 2).val
  let c2048_i32_187 : BitVec 32 := 2048#32
  let v289 : BitVec 32 := Scalar.muli arg2 c2048_i32_187
  let c256_i32 : BitVec 32 := 256#32
  let v290 : BitVec 32 := Scalar.addi v289 c256_i32
  v290
def k1_mult11 (i : grid1.Coords) : BitVec 32 :=
  let arg2 : BitVec 32 := BitVec.ofNat 32 (i 2).val
  let c2048_i32_188 : BitVec 32 := 2048#32
  let v292 : BitVec 32 := Scalar.muli arg2 c2048_i32_188
  let c512_i32 : BitVec 32 := 512#32
  let v293 : BitVec 32 := Scalar.addi v292 c512_i32
  v293
def k1_mult12 (i : grid1.Coords) : BitVec 32 :=
  let arg2 : BitVec 32 := BitVec.ofNat 32 (i 2).val
  let c2048_i32_189 : BitVec 32 := 2048#32
  let v295 : BitVec 32 := Scalar.muli arg2 c2048_i32_189
  let c768_i32 : BitVec 32 := 768#32
  let v296 : BitVec 32 := Scalar.addi v295 c768_i32
  v296
def k1_mult13 (i : grid1.Coords) : BitVec 32 :=
  let arg2 : BitVec 32 := BitVec.ofNat 32 (i 2).val
  let c2048_i32_190 : BitVec 32 := 2048#32
  let v298 : BitVec 32 := Scalar.muli arg2 c2048_i32_190
  let c1024_i32 : BitVec 32 := 1024#32
  let v299 : BitVec 32 := Scalar.addi v298 c1024_i32
  v299
def k1_mult14 (i : grid1.Coords) : BitVec 32 :=
  let arg2 : BitVec 32 := BitVec.ofNat 32 (i 2).val
  let c2048_i32_191 : BitVec 32 := 2048#32
  let v301 : BitVec 32 := Scalar.muli arg2 c2048_i32_191
  let c1280_i32 : BitVec 32 := 1280#32
  let v302 : BitVec 32 := Scalar.addi v301 c1280_i32
  v302
def k1_mult15 (i : grid1.Coords) : BitVec 32 :=
  let arg2 : BitVec 32 := BitVec.ofNat 32 (i 2).val
  let c2048_i32_192 : BitVec 32 := 2048#32
  let v304 : BitVec 32 := Scalar.muli arg2 c2048_i32_192
  let c1536_i32 : BitVec 32 := 1536#32
  let v305 : BitVec 32 := Scalar.addi v304 c1536_i32
  v305
def k1_mult16 (i : grid1.Coords) : BitVec 32 :=
  let arg2 : BitVec 32 := BitVec.ofNat 32 (i 2).val
  let c2048_i32_193 : BitVec 32 := 2048#32
  let v307 : BitVec 32 := Scalar.muli arg2 c2048_i32_193
  let c1792_i32 : BitVec 32 := 1792#32
  let v308 : BitVec 32 := Scalar.addi v307 c1792_i32
  v308
def k1_off5 (i : grid1.Coords) (c0_i32_186 : BitVec 32) : Fin 3 → Nat :=
  let c0_194 : Index := 0#32
  let arg2 : BitVec 32 := BitVec.ofNat 32 (i 2).val
  let c2048_i32 : BitVec 32 := 2048#32
  let v286 : BitVec 32 := Scalar.muli arg2 c2048_i32
  let v287 : BitVec 32 := Scalar.addi v286 c0_i32_186
  let v288 : BitVec 32 := v287
  let v310 : Index := Scalar.indexCast v288
  let c0_195 : Index := 0#32
  ![0, v310.toNat, 0]
def k1_off6 (i : grid1.Coords) (c0_i32_186 : BitVec 32) : Fin 2 → Nat :=
  let c0_196 : Index := 0#32
  let arg2 : BitVec 32 := BitVec.ofNat 32 (i 2).val
  let c2048_i32 : BitVec 32 := 2048#32
  let v286 : BitVec 32 := Scalar.muli arg2 c2048_i32
  let v287 : BitVec 32 := Scalar.addi v286 c0_i32_186
  let v288 : BitVec 32 := v287
  let v313 : Index := Scalar.indexCast v288
  ![0, v313.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S144x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== DiffIdeal.lean ====
variable {F : FTy → Type} [FloatOps F] [Named F]
def κ : String → Option EReal := fun
  | "q_scale" => some (((1 / 8) * (Real.log 2)⁻¹ : ℝ) : EReal)
  | _ => none
-- ==== DiffReferenceIdeal.lean ====
abbrev S4x4096x1024 : Shape := ⟨3, ![4, 4096, 1024]⟩
abbrev S2x1024 : Shape := ⟨2, ![2, 1024]⟩
abbrev S2x1024x3072 : Shape := ⟨3, ![2, 1024, 3072]⟩
abbrev S2x4x64 : Shape := ⟨3, ![2, 4, 64]⟩
abbrev S2x128 : Shape := ⟨2, ![2, 128]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S1x4x64 : Shape := ⟨3, ![1, 4, 64]⟩
abbrev S4x64 : Shape := ⟨2, ![4, 64]⟩
abbrev S1x128 : Shape := ⟨2, ![1, 128]⟩
abbrev S128 : Shape := ⟨1, ![128]⟩
abbrev S4x4096x3072 : Shape := ⟨3, ![4, 4096, 3072]⟩
abbrev S4x4096x8x2x64 : Shape := ⟨5, ![4, 4096, 8, 2, 64]⟩
abbrev S4x8x2x4096x64 : Shape := ⟨5, ![4, 8, 2, 4096, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4x8x2x4096x32 : Shape := ⟨5, ![4, 8, 2, 4096, 32]⟩
abbrev S1x1x1x4096x32 : Shape := ⟨5, ![1, 1, 1, 4096, 32]⟩
abbrev S4x4096x8x128 : Shape := ⟨4, ![4, 4096, 8, 128]⟩
abbrev S4x8x4096x128 : Shape := ⟨4, ![4, 8, 4096, 128]⟩
abbrev S1x64 : Shape := ⟨2, ![1, 64]⟩
abbrev S64 : Shape := ⟨1, ![64]⟩
abbrev S4x8x2x4096x4096 : Shape := ⟨5, ![4, 8, 2, 4096, 4096]⟩
abbrev S1x4096 : Shape := ⟨2, ![1, 4096]⟩
abbrev S4096x4096 : Shape := ⟨2, ![4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S1x1x1x128 : Shape := ⟨4, ![1, 1, 1, 128]⟩

abbrev nBuf : Space → Nat
  | .hbm => 193
  | .vmem => 0
  | .smem => 0
  | _ => 0

abbrev hbmTy0_0 (i : Nat) : BufTy := match i % 128 with
  | 0 => ⟨S4x4096x1024, .f32⟩
  | 1 => ⟨S2x1024, .f32⟩
  | 2 => ⟨S2x1024x3072, .f32⟩
  | 3 => ⟨S2x4x64, .f32⟩
  | 4 => ⟨S2x128, .f32⟩
  | 5 => ⟨S1x1024, .f32⟩
  | 6 => ⟨S1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S1x1024x3072, .f32⟩
  | 24 => ⟨S1024x3072, .f32⟩
  | 25 => ⟨S1x4x64, .f32⟩
  | 26 => ⟨S4x64, .f32⟩
  | 27 => ⟨S1x128, .f32⟩
  | 28 => ⟨S128, .f32⟩
  | 29 => ⟨S4x4096x3072, .f32⟩
  | 30 => ⟨S4x4096x1024, .f32⟩
  | 31 => ⟨S4x4096x1024, .f32⟩
  | 32 => ⟨S4x4096x1024, .f32⟩
  | 33 => ⟨S4x4096x8x2x64, .f32⟩
  | 34 => ⟨S4x8x2x4096x64, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S4096, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x32, .f32⟩
  | 55 => ⟨S4096x32, .f32⟩
  | 56 => ⟨S4x8x2x4096x32, .f32⟩
  | 57 => ⟨S4x8x2x4096x32, .f32⟩
  | 58 => ⟨S1x1x1x4096x32, .f32⟩
  | 59 => ⟨S4x8x2x4096x32, .f32⟩
  | 60 => ⟨S4x8x2x4096x32, .f32⟩
  | 61 => ⟨S1x1x1x4096x32, .f32⟩
  | 62 => ⟨S4x8x2x4096x32, .f32⟩
  | 63 => ⟨S4x8x2x4096x32, .f32⟩
  | 64 => ⟨S4x8x2x4096x32, .f32⟩
  | 65 => ⟨S1x1x1x4096x32, .f32⟩
  | 66 => ⟨S4x8x2x4096x32, .f32⟩
  | 67 => ⟨S4x8x2x4096x32, .f32⟩
  | 68 => ⟨S1x1x1x4096x32, .f32⟩
  | 69 => ⟨S4x8x2x4096x32, .f32⟩
  | 70 => ⟨S4x8x2x4096x32, .f32⟩
  | 71 => ⟨S4x8x2x4096x32, .f32⟩
  | 72 => ⟨S4x8x2x4096x64, .f32⟩
  | 73 => ⟨S4x4096x8x2x64, .f32⟩
  | 74 => ⟨S4x8x2x4096x64, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S4096, .f32⟩
  | 89 => ⟨S4096x1, .f32⟩
  | 90 => ⟨S1x32, .f32⟩
  | 91 => ⟨S4096x32, .f32⟩
  | 92 => ⟨S4096x32, .f32⟩
  | 93 => ⟨S4096x32, .f32⟩
  | 94 => ⟨S4096x32, .f32⟩
  | 95 => ⟨S4096x32, .f32⟩
  | 96 => ⟨S4x8x2x4096x32, .f32⟩
  | 97 => ⟨S4x8x2x4096x32, .f32⟩
  | 98 => ⟨S1x1x1x4096x32, .f32⟩
  | 99 => ⟨S4x8x2x4096x32, .f32⟩
  | 100 => ⟨S4x8x2x4096x32, .f32⟩
  | 101 => ⟨S1x1x1x4096x32, .f32⟩
  | 102 => ⟨S4x8x2x4096x32, .f32⟩
  | 103 => ⟨S4x8x2x4096x32, .f32⟩
  | 104 => ⟨S4x8x2x4096x32, .f32⟩
  | 105 => ⟨S1x1x1x4096x32, .f32⟩
  | 106 => ⟨S4x8x2x4096x32, .f32⟩
  | 107 => ⟨S4x8x2x4096x32, .f32⟩
  | 108 => ⟨S1x1x1x4096x32, .f32⟩
  | 109 => ⟨S4x8x2x4096x32, .f32⟩
  | 110 => ⟨S4x8x2x4096x32, .f32⟩
  | 111 => ⟨S4x8x2x4096x32, .f32⟩
  | 112 => ⟨S4x8x2x4096x64, .f32⟩
  | 113 => ⟨S4x4096x8x128, .f32⟩
  | 114 => ⟨S4x8x4096x128, .f32⟩
  | 115 => ⟨S1x64, .f32⟩
  | 116 => ⟨S64, .f32⟩
  | 117 => ⟨S1x64, .f32⟩
  | 118 => ⟨S64, .f32⟩
  | 119 => ⟨S64, .f32⟩
  | 120 => ⟨S_, .f32⟩
  | 121 => ⟨S_, .f32⟩
  | 122 => ⟨S_, .f32⟩
  | 123 => ⟨S1x64, .f32⟩
  | 124 => ⟨S64, .f32⟩
  | 125 => ⟨S1x64, .f32⟩
  | 126 => ⟨S64, .f32⟩
  | 127 => ⟨S64, .f32⟩
  | _ => ⟨S4x4096x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S4x8x2x4096x4096, .f32⟩
  | 7 => ⟨S_, .f32⟩
  | 8 => ⟨S4x8x2x4096x4096, .f32⟩
  | 9 => ⟨S4x8x2x4096x4096, .f32⟩
  | 10 => ⟨S4096, .i32⟩
  | 11 => ⟨S1x4096, .i32⟩
  | 12 => ⟨S4096x1, .i32⟩
  | 13 => ⟨S4096x4096, .i32⟩
  | 14 => ⟨S4096x4096, .i32⟩
  | 15 => ⟨S4096x4096, .i1⟩
  | 16 => ⟨S_, .f32⟩
  | 17 => ⟨S_, .f32⟩
  | 18 => ⟨S4x8x2x4096x4096, .i1⟩
  | 19 => ⟨S4x8x2x4096x4096, .f32⟩
  | 20 => ⟨S4x8x2x4096x4096, .f32⟩
  | 21 => ⟨S_, .f32⟩
  | 22 => ⟨S4x8x2x4096, .f32⟩
  | 23 => ⟨S_, .f32⟩
  | 24 => ⟨S4x8x2x4096, .f32⟩
  | 25 => ⟨S4x8x2x4096, .f32⟩
  | 26 => ⟨S4x8x2x4096x1, .f32⟩
  | 27 => ⟨S4x8x2x4096x4096, .f32⟩
  | 28 => ⟨S4x8x2x4096x4096, .f32⟩
  | 29 => ⟨S4x8x2x4096x4096, .f32⟩
  | 30 => ⟨S_, .f32⟩
  | 31 => ⟨S4x8x2x4096, .f32⟩
  | 32 => ⟨S4x8x2x4096x1, .f32⟩
  | 33 => ⟨S4x8x2x4096x4096, .f32⟩
  | 34 => ⟨S4x8x2x4096x4096, .f32⟩
  | 35 => ⟨S4x8x1x4096x4096, .f32⟩
  | 36 => ⟨S4x8x4096x4096, .f32⟩
  | 37 => ⟨S4x8x1x4096x4096, .f32⟩
  | 38 => ⟨S4x8x4096x4096, .f32⟩
  | 39 => ⟨S4x8x4096x4096, .f32⟩
  | 40 => ⟨S4x8x4096x4096, .f32⟩
  | 41 => ⟨S4x8x4096x4096, .f32⟩
  | 42 => ⟨S4x8x4096x128, .f32⟩
  | 43 => ⟨S4x8x4096x128, .f32⟩
  | 44 => ⟨S_, .f32⟩
  | 45 => ⟨S4x8x4096, .f32⟩
  | 46 => ⟨S4x8x4096x1, .f32⟩
  | 47 => ⟨S_, .f32⟩
  | 48 => ⟨S4x8x4096x1, .f32⟩
  | 49 => ⟨S4x8x4096x1, .f32⟩
  | 50 => ⟨S_, .f32⟩
  | 51 => ⟨S4x8x4096x1, .f32⟩
  | 52 => ⟨S4x8x4096x1, .f32⟩
  | 53 => ⟨S4x8x4096x1, .f32⟩
  | 54 => ⟨S4x8x4096x128, .f32⟩
  | 55 => ⟨S4x8x4096x128, .f32⟩
  | 56 => ⟨S1x1x1x128, .f32⟩
  | 57 => ⟨S4x8x4096x128, .f32⟩
  | 58 => ⟨S4x8x4096x128, .f32⟩
  | 59 => ⟨S_, .f32⟩
  | 60 => ⟨S4x8x4096x128, .f32⟩
  | 61 => ⟨S4x8x4096x128, .f32⟩
  | 62 => ⟨S4x4096x8x128, .f32⟩
  | 63 => ⟨S4x4096x1024, .f32⟩
  | 64 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_6 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_10 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_11 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_12 : Ref sig .tc := ⟨.hbm, 132, rfl⟩
abbrev main_v114 : Ref sig .tc := ⟨.hbm, 133, rfl⟩
abbrev main_v115 : Ref sig .tc := ⟨.hbm, 134, rfl⟩
abbrev main_cst_13 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_14 : Ref sig .tc := ⟨.hbm, 144, rfl⟩
abbrev main_call0_v0 : Ref sig .tc := ⟨.hbm, 145, rfl⟩
abbrev main_call0_v1 : Ref sig .tc := ⟨.hbm, 146, rfl⟩
abbrev main_call0_v2 : Ref sig .tc := ⟨.hbm, 147, rfl⟩
abbrev main_v124 : Ref sig .tc := ⟨.hbm, 148, rfl⟩
abbrev main_cst_15 : Ref sig .tc := ⟨.hbm, 149, rfl⟩
abbrev main_v125 : Ref sig .tc := ⟨.hbm, 150, rfl⟩
abbrev main_cst_16 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_17 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_18 : Ref sig .tc := ⟨.hbm, 172, rfl⟩
abbrev main_v145 : Ref sig .tc := ⟨.hbm, 173, rfl⟩
abbrev main_v146 : Ref sig .tc := ⟨.hbm, 174, rfl⟩
abbrev main_cst_19 : Ref sig .tc := ⟨.hbm, 175, rfl⟩
abbrev main_v147 : Ref sig .tc := ⟨.hbm, 176, rfl⟩
abbrev main_v148 : Ref sig .tc := ⟨.hbm, 177, rfl⟩
abbrev main_cst_20 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_cst_21 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩

abbrev nD : Nat := 1
abbrev τ : Topo := Topo.v7x

variable {F : FTy → Type} [FloatOps F]
-- ==== EvenFfn.lean ====
abbrev S4x4096x1024 : Shape := ⟨3, ![4, 4096, 1024]⟩
abbrev S16384x512 : Shape := ⟨2, ![16384, 512]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S16384x1024 : Shape := ⟨2, ![16384, 1024]⟩
abbrev S4x1x1024 : Shape := ⟨3, ![4, 1, 1024]⟩
abbrev S4x1x2816 : Shape := ⟨3, ![4, 1, 2816]⟩
abbrev S1x1024 : Shape := ⟨2, ![1, 1024]⟩
abbrev S1024x1024 : Shape := ⟨2, ![1024, 1024]⟩
abbrev S16x1024 : Shape := ⟨2, ![16, 1024]⟩
abbrev S1024x512 : Shape := ⟨2, ![1024, 512]⟩
abbrev S16x512 : Shape := ⟨2, ![16, 512]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1040x1024 : Shape := ⟨2, ![1040, 1024]⟩
abbrev S1024x2816 : Shape := ⟨2, ![1024, 2816]⟩
abbrev S1x512x1024 : Shape := ⟨3, ![1, 512, 1024]⟩
abbrev S512x1024 : Shape := ⟨2, ![512, 1024]⟩
abbrev S16 : Shape := ⟨1, ![16]⟩
abbrev S16x1 : Shape := ⟨2, ![16, 1]⟩
abbrev S1024x1 : Shape := ⟨2, ![1024, 1]⟩
abbrev S1x1024x256 : Shape := ⟨3, ![1, 1024, 256]⟩
abbrev S1024x256 : Shape := ⟨2, ![1024, 256]⟩
abbrev S1040x256 : Shape := ⟨2, ![1040, 256]⟩
abbrev S1x1x256 : Shape := ⟨3, ![1, 1, 256]⟩
abbrev S1x256 : Shape := ⟨2, ![1, 256]⟩
abbrev S2816x1024 : Shape := ⟨2, ![2816, 1024]⟩

abbrev nBuf : Space → Nat
  | .hbm => 18
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x3x2816, .f32⟩
  | .hbm, ⟨7, _⟩ => ⟨S4x2816, .f32⟩
  | .hbm, ⟨8, _⟩ => ⟨S4x2816x1024, .f32⟩
  | .hbm, ⟨9, _⟩ => ⟨S1024, .f32⟩
  | .hbm, ⟨10, _⟩ => ⟨S16384x1024, .f32⟩
  | .hbm, ⟨11, _⟩ => ⟨S2x1024x1024, .bf16⟩
  | .hbm, ⟨12, _⟩ => ⟨S4x1x1024, .f32⟩
  | .hbm, ⟨13, _⟩ => ⟨S4x1024x5632, .bf16⟩
  | .hbm, ⟨14, _⟩ => ⟨S4x1x2816, .f32⟩
  | .hbm, ⟨15, _⟩ => ⟨S4x2816x1024, .bf16⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S1x1024x1024, .bf16⟩
  | .local _ .vmem, ⟨13, _⟩ => ⟨S1x1x1024, .f32⟩
  | .local _ .vmem, ⟨14, _⟩ => ⟨S1x1024x5632, .bf16⟩
  | .local _ .vmem, ⟨15, _⟩ => ⟨S1x3x2816, .f32⟩
  | .local _ .vmem, ⟨16, _⟩ => ⟨S1x1x2816, .f32⟩
  | .local _ .vmem, ⟨17, _⟩ => ⟨S1x2816x1024, .bf16⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1040x1024, .bf16⟩
  | .local _ .vmem, ⟨22, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== EvenFfnReferenceIdeal.lean ====
abbrev S4x4096x1024 : Shape := ⟨3, ![4, 4096, 1024]⟩
abbrev S16384x512 : Shape := ⟨2, ![16384, 512]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S4x4096x512 : Shape := ⟨3, ![4, 4096, 512]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x1x2816 : Shape := ⟨3, ![1, 1, 2816]⟩
abbrev S16384x1024 : Shape := ⟨2, ![16384, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x3x2816, .f32⟩
  | .hbm, ⟨7, _⟩ => ⟨S4x2816, .f32⟩
  | .hbm, ⟨8, _⟩ => ⟨S4x2816x1024, .f32⟩
  | .hbm, ⟨9, _⟩ => ⟨S1024, .f32⟩
  | .hbm, ⟨10, _⟩ => ⟨S16384x512, .f32⟩
  | .hbm, ⟨11, _⟩ => ⟨S4x4096x512, .f32⟩
  | .hbm, ⟨12, _⟩ => ⟨S16384x512, .f32⟩
  | .hbm, ⟨13, _⟩ => ⟨S4x4096x512, .f32⟩
  | .hbm, ⟨14, _⟩ => ⟨S4x4096x1024, .f32⟩
  | .hbm, ⟨15, _⟩ => ⟨S1x1024x1024, .f32⟩
  | .hbm, ⟨16, _⟩ => ⟨S1024x1024, .f32⟩
  | .hbm, ⟨17, _⟩ => ⟨S4x4096x1024, .f32⟩
  | .hbm, ⟨18, _⟩ => ⟨S4x4096x1024, .f32⟩
  | .hbm, ⟨19, _⟩ => ⟨S1x1024, .f32⟩
  | .hbm, ⟨20, _⟩ => ⟨S1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S1x1024x5632, .f32⟩
  | .hbm, ⟨38, _⟩ => ⟨S1024x5632, .f32⟩
  | .hbm, ⟨39, _⟩ => ⟨S1x3x2816, .f32⟩
  | .hbm, ⟨40, _⟩ => ⟨S3x2816, .f32⟩
  | .hbm, ⟨41, _⟩ => ⟨S1x2816, .f32⟩
  | .hbm, ⟨42, _⟩ => ⟨S2816, .f32⟩
  | .hbm, ⟨43, _⟩ => ⟨S1x2816x1024, .f32⟩
  | .hbm, ⟨44, _⟩ => ⟨S2816x1024, .f32⟩
  | .hbm, ⟨45, _⟩ => ⟨S4x4096x5632, .f32⟩
  | .hbm, ⟨46, _⟩ => ⟨S4x4096x2816, .f32⟩
  | .hbm, ⟨47, _⟩ => ⟨S4x4096x2816, .f32⟩
  | .hbm, ⟨48, _⟩ => ⟨S_, .i32⟩
  | .hbm, ⟨49, _⟩ => ⟨S_, .f32⟩
  | .hbm, ⟨50, _⟩ => ⟨S4x4098x2816, .f32⟩
  | .hbm, ⟨51, _⟩ => ⟨S4x4096x2816, .f32⟩
  | .hbm, ⟨52, _⟩ => ⟨S1x2816, .f32⟩
  | .hbm, ⟨53, _⟩ => ⟨S2816, .f32⟩
  | .hbm, ⟨54, _⟩ => ⟨S1x1x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S1x2816, .f32⟩
  | .hbm, ⟨59, _⟩ => ⟨S2816, .f32⟩
  | .hbm, ⟨60, _⟩ => ⟨S1x1x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S1x2816, .f32⟩
  | .hbm, ⟨66, _⟩ => ⟨S2816, .f32⟩
  | .hbm, ⟨67, _⟩ => ⟨S1x1x2816, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S1x1x2816, .f32⟩
  | .hbm, ⟨72, _⟩ => ⟨S4x4096x2816, .f32⟩
  | .hbm, ⟨73, _⟩ => ⟨S4x4096x2816, .f32⟩
  | .hbm, ⟨74, _⟩ => ⟨S4x4096x2816, .f32⟩
  | .hbm, ⟨75, _⟩ => ⟨S4x4096x2816, .f32⟩
  | .hbm, ⟨76, _⟩ => ⟨S_, .f32⟩
  | .hbm, ⟨77, _⟩ => ⟨S4x4096x2816, .f32⟩
  | .hbm, ⟨78, _⟩ => ⟨S4x4096x2816, .f32⟩
  | .hbm, ⟨79, _⟩ => ⟨S_, .f32⟩
  | .hbm, ⟨80, _⟩ => ⟨S4x4096x2816, .f32⟩
  | .hbm, ⟨81, _⟩ => ⟨S4x4096x2816, .f32⟩
  | .hbm, ⟨82, _⟩ => ⟨S4x4096x2816, .f32⟩
  | .hbm, ⟨83, _⟩ => ⟨S4x4096x2816, .f32⟩
  | .hbm, ⟨84, _⟩ => ⟨S4x4096x1024, .f32⟩
  | .hbm, ⟨85, _⟩ => ⟨S4x4096x1024, .f32⟩
  | .hbm, ⟨86, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_call0_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== MidFfn.lean ====
abbrev S4x4096x1024 : Shape := ⟨3, ![4, 4096, 1024]⟩
abbrev S16384x1024 : Shape := ⟨2, ![16384, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S4x1x1024 : Shape := ⟨3, ![4, 1, 1024]⟩
abbrev S4x1x2816 : Shape := ⟨3, ![4, 1, 2816]⟩
abbrev S1x1024 : Shape := ⟨2, ![1, 1024]⟩
abbrev S1024x1024 : Shape := ⟨2, ![1024, 1024]⟩
abbrev S16x1024 : Shape := ⟨2, ![16, 1024]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1040x1024 : Shape := ⟨2, ![1040, 1024]⟩
abbrev S1024x2816 : Shape := ⟨2, ![1024, 2816]⟩
abbrev S16 : Shape := ⟨1, ![16]⟩
abbrev S16x1 : Shape := ⟨2, ![16, 1]⟩
abbrev S1024x1 : Shape := ⟨2, ![1024, 1]⟩
abbrev S1x1024x256 : Shape := ⟨3, ![1, 1024, 256]⟩
abbrev S1024x256 : Shape := ⟨2, ![1024, 256]⟩
abbrev S1040x256 : Shape := ⟨2, ![1040, 256]⟩
abbrev S1x1x256 : Shape := ⟨3, ![1, 1, 256]⟩
abbrev S1x256 : Shape := ⟨2, ![1, 256]⟩
abbrev S2816x1024 : Shape := ⟨2, ![2816, 1024]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S2x1024x1024, .f32⟩
  | .hbm, ⟨3, _⟩ => ⟨S4x1024, .f32⟩
  | .hbm, ⟨4, _⟩ => ⟨S4x1024x5632, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1024, .f32⟩
  | .hbm, ⟨9, _⟩ => ⟨S16384x1024, .f32⟩
  | .hbm, ⟨10, _⟩ => ⟨S2x1024x1024, .bf16⟩
  | .hbm, ⟨11, _⟩ => ⟨S4x1x1024, .f32⟩
  | .hbm, ⟨12, _⟩ => ⟨S4x1024x5632, .bf16⟩
  | .hbm, ⟨13, _⟩ => ⟨S4x1x2816, .f32⟩
  | .hbm, ⟨14, _⟩ => ⟨S4x2816x1024, .bf16⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S1024x1024, .bf16⟩
  | .local _ .vmem, ⟨6, _⟩ => ⟨S16x1024, .bf16⟩
  | .local _ .vmem, ⟨7, _⟩ => ⟨S16x1024, .bf16⟩
  | .local _ .vmem, ⟨8, _⟩ => ⟨S1x1024x1024, .bf16⟩
  | .local _ .vmem, ⟨9, _⟩ => ⟨S1x1x1024, .f32⟩
  | .local _ .vmem, ⟨10, _⟩ => ⟨S1x1024x5632, .bf16⟩
  | .local _ .vmem, ⟨11, _⟩ => ⟨S1x3x2816, .f32⟩
  | .local _ .vmem, ⟨12, _⟩ => ⟨S1x1x2816, .f32⟩
  | .local _ .vmem, ⟨13, _⟩ => ⟨S1x2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1040x1024, .bf16⟩
  | .local _ .vmem, ⟨18, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MidFfnReferenceIdeal.lean ====
abbrev S4x4096x1024 : Shape := ⟨3, ![4, 4096, 1024]⟩
abbrev S16384x1024 : Shape := ⟨2, ![16384, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x3x2816 : Shape := ⟨3, ![4, 3, 2816]⟩
abbrev S4x2816 : Shape := ⟨2, ![4, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x1x2816 : Shape := ⟨3, ![1, 1, 2816]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .bf16⟩
  | .hbm, ⟨2, _⟩ => ⟨S2x1024x1024, .f32⟩
  | .hbm, ⟨3, _⟩ => ⟨S4x1024, .f32⟩
  | .hbm, ⟨4, _⟩ => ⟨S4x1024x5632, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1024, .f32⟩
  | .hbm, ⟨9, _⟩ => ⟨S16384x1024, .f32⟩
  | .hbm, ⟨10, _⟩ => ⟨S4x4096x1024, .f32⟩
  | .hbm, ⟨11, _⟩ => ⟨S1x1024x1024, .f32⟩
  | .hbm, ⟨12, _⟩ => ⟨S1024x1024, .f32⟩
  | .hbm, ⟨13, _⟩ => ⟨S4x4096x1024, .f32⟩
  | .hbm, ⟨14, _⟩ => ⟨S4x4096x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S1x1024x5632, .f32⟩
  | .hbm, ⟨34, _⟩ => ⟨S1024x5632, .f32⟩
  | .hbm, ⟨35, _⟩ => ⟨S1x3x2816, .f32⟩
  | .hbm, ⟨36, _⟩ => ⟨S3x2816, .f32⟩
  | .hbm, ⟨37, _⟩ => ⟨S1x2816, .f32⟩
  | .hbm, ⟨38, _⟩ => ⟨S2816, .f32⟩
  | .hbm, ⟨39, _⟩ => ⟨S1x2816x1024, .f32⟩
  | .hbm, ⟨40, _⟩ => ⟨S2816x1024, .f32⟩
  | .hbm, ⟨41, _⟩ => ⟨S4x4096x5632, .f32⟩
  | .hbm, ⟨42, _⟩ => ⟨S4x4096x2816, .f32⟩
  | .hbm, ⟨43, _⟩ => ⟨S4x4096x2816, .f32⟩
  | .hbm, ⟨44, _⟩ => ⟨S_, .i32⟩
  | .hbm, ⟨45, _⟩ => ⟨S_, .f32⟩
  | .hbm, ⟨46, _⟩ => ⟨S4x4098x2816, .f32⟩
  | .hbm, ⟨47, _⟩ => ⟨S4x4096x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S1x2816, .f32⟩
  | .hbm, ⟨62, _⟩ => ⟨S2816, .f32⟩
  | .hbm, ⟨63, _⟩ => ⟨S1x1x2816, .f32⟩
  | .hbm, ⟨64, _⟩ => ⟨S4x4096x2816, .f32⟩
  | .hbm, ⟨65, _⟩ => ⟨S4x4096x2816, .f32⟩
  | .hbm, ⟨66, _⟩ => ⟨S4x4096x2816, .f32⟩
  | .hbm, ⟨67, _⟩ => ⟨S1x1x2816, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S_, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S4x4096x2816, .f32⟩
  | .hbm, ⟨80, _⟩ => ⟨S4x4096x1024, .f32⟩
  | .hbm, ⟨81, _⟩ => ⟨S4x4096x1024, .f32⟩
  | .hbm, ⟨82, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== EvenProj.lean ====
abbrev S4x4096x1024 : Shape := ⟨3, ![4, 4096, 1024]⟩
abbrev S2x1024 : Shape := ⟨2, ![2, 1024]⟩
abbrev S2x1024x3596 : Shape := ⟨3, ![2, 1024, 3596]⟩
abbrev S16384x1024 : Shape := ⟨2, ![16384, 1024]⟩
abbrev S3596x2x1024 : Shape := ⟨3, ![3596, 2, 1024]⟩
abbrev S3596x2048 : Shape := ⟨2, ![3596, 2048]⟩
abbrev S2048x2048 : Shape := ⟨2, ![2048, 2048]⟩
abbrev S1536x2048 : Shape := ⟨2, ![1536, 2048]⟩
abbrev S8x2048 : Shape := ⟨2, ![8, 2048]⟩
abbrev S4x2048 : Shape := ⟨2, ![4, 2048]⟩
abbrev S_ : Shape := ⟨0, ![]⟩
abbrev S116x2048 : Shape := ⟨2, ![116, 2048]⟩
abbrev S128x2048 : Shape := ⟨2, ![128, 2048]⟩
abbrev S2x1x1024 : Shape := ⟨3, ![2, 1, 1024]⟩
abbrev S16384x3072 : Shape := ⟨2, ![16384, 3072]⟩
abbrev S576x16384 : Shape := ⟨2, ![576, 16384]⟩
abbrev S16384x128 : Shape := ⟨2, ![16384, 128]⟩
abbrev S1024x1024 : Shape := ⟨2, ![1024, 1024]⟩
abbrev S1x1x1024 : Shape := ⟨3, ![1, 1, 1024]⟩
abbrev S2048x1024 : Shape := ⟨2, ![2048, 1024]⟩
abbrev S1536x1024 : Shape := ⟨2, ![1536, 1024]⟩
abbrev S128x1024 : Shape := ⟨2, ![128, 1024]⟩
abbrev S1024x3072 : Shape := ⟨2, ![1024, 3072]⟩
abbrev S576x1024 : Shape := ⟨2, ![576, 1024]⟩
abbrev S1024x128 : Shape := ⟨2, ![1024, 128]⟩
abbrev S1x1024 : Shape := ⟨2, ![1, 1024]⟩
abbrev S1024 : Shape := ⟨1, ![1024]⟩
abbrev S1024x1 : Shape := ⟨2, ![1024, 1]⟩
abbrev S512x1024 : Shape := ⟨2, ![512, 1024]⟩
abbrev S1024x512 : Shape := ⟨2, ![1024, 512]⟩
abbrev S16x1024 : Shape := ⟨2, ![16, 1024]⟩

abbrev nBuf : Space → Nat
  | .hbm => 20
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x3596, .f32⟩
  | .hbm, ⟨3, _⟩ => ⟨S16384x1024, .f32⟩
  | .hbm, ⟨4, _⟩ => ⟨S3596x2x1024, .f32⟩
  | .hbm, ⟨5, _⟩ => ⟨S3596x2048, .f32⟩
  | .hbm, ⟨6, _⟩ => ⟨S2048x2048, .f32⟩
  | .hbm, ⟨7, _⟩ => ⟨S2048x2048, .bf16⟩
  | .hbm, ⟨8, _⟩ => ⟨S1536x2048, .f32⟩
  | .hbm, ⟨9, _⟩ => ⟨S1536x2048, .bf16⟩
  | .hbm, ⟨10, _⟩ => ⟨S8x2048, .f32⟩
  | .hbm, ⟨11, _⟩ => ⟨S4x2048, .f32⟩
  | .hbm, ⟨12, _⟩ => ⟨S_, .f32⟩
  | .hbm, ⟨13, _⟩ => ⟨S116x2048, .f32⟩
  | .hbm, ⟨14, _⟩ => ⟨S128x2048, .f32⟩
  | .hbm, ⟨15, _⟩ => ⟨S128x2048, .bf16⟩
  | .hbm, ⟨16, _⟩ => ⟨S2x1x1024, .f32⟩
  | .hbm, ⟨17, _⟩ => ⟨S16384x3072, .bf16⟩
  | .hbm, ⟨18, _⟩ => ⟨S576x16384, .bf16⟩
  | .hbm, ⟨19, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S2048x1024, .bf16⟩
  | .local _ .vmem, ⟨4, _⟩ => ⟨S1536x1024, .bf16⟩
  | .local _ .vmem, ⟨5, _⟩ => ⟨S128x1024, .bf16⟩
  | .local _ .vmem, ⟨6, _⟩ => ⟨S1024x3072, .bf16⟩
  | .local _ .vmem, ⟨7, _⟩ => ⟨S1024x3072, .bf16⟩
  | .local _ .vmem, ⟨8, _⟩ => ⟨S576x1024, .bf16⟩
  | .local _ .vmem, ⟨9, _⟩ => ⟨S576x1024, .bf16⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S576x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenProjReferenceIdeal.lean ====
abbrev S4x4096x1024 : Shape := ⟨3, ![4, 4096, 1024]⟩
abbrev S2x1024 : Shape := ⟨2, ![2, 1024]⟩
abbrev S2x1024x3596 : Shape := ⟨3, ![2, 1024, 3596]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3596 : Shape := ⟨3, ![1, 1024, 3596]⟩
abbrev S1024x3596 : Shape := ⟨2, ![1024, 3596]⟩
abbrev S4x4096x3596 : Shape := ⟨3, ![4, 4096, 3596]⟩
abbrev S16384x3596 : Shape := ⟨2, ![16384, 3596]⟩
abbrev S16384x2048 : Shape := ⟨2, ![16384, 2048]⟩
abbrev S16384x4 : Shape := ⟨2, ![16384, 4]⟩
abbrev S16384x512 : Shape := ⟨2, ![16384, 512]⟩
abbrev S16384x3072 : Shape := ⟨2, ![16384, 3072]⟩
abbrev S512x16384 : Shape := ⟨2, ![512, 16384]⟩
abbrev S4x128x16384 : Shape := ⟨3, ![4, 128, 16384]⟩
abbrev S4x16x16384 : Shape := ⟨3, ![4, 16, 16384]⟩
abbrev S4x144x16384 : Shape := ⟨3, ![4, 144, 16384]⟩
abbrev S16384x116 : Shape := ⟨2, ![16384, 116]⟩
abbrev S16384x128 : Shape := ⟨2, ![16384, 128]⟩
abbrev S576x16384 : Shape := ⟨2, ![576, 16384]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x3596, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1x1024x3596, .f32⟩
  | .hbm, ⟨22, _⟩ => ⟨S1024x3596, .f32⟩
  | .hbm, ⟨23, _⟩ => ⟨S4x4096x3596, .f32⟩
  | .hbm, ⟨24, _⟩ => ⟨S16384x3596, .f32⟩
  | .hbm, ⟨25, _⟩ => ⟨S16384x2048, .f32⟩
  | .hbm, ⟨26, _⟩ => ⟨S16384x4, .f32⟩
  | .hbm, ⟨27, _⟩ => ⟨S16384x4, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x4, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x3072, .f32⟩
  | .hbm, ⟨36, _⟩ => ⟨S16384x3072, .bf16⟩
  | .hbm, ⟨37, _⟩ => ⟨S512x16384, .f32⟩
  | .hbm, ⟨38, _⟩ => ⟨S4x128x16384, .f32⟩
  | .hbm, ⟨39, _⟩ => ⟨S_, .f32⟩
  | .hbm, ⟨40, _⟩ => ⟨S4x16x16384, .f32⟩
  | .hbm, ⟨41, _⟩ => ⟨S4x144x16384, .f32⟩
  | .hbm, ⟨42, _⟩ => ⟨S_, .f32⟩
  | .hbm, ⟨43, _⟩ => ⟨S16384x116, .f32⟩
  | .hbm, ⟨44, _⟩ => ⟨S16384x128, .f32⟩
  | .hbm, ⟨45, _⟩ => ⟨S576x16384, .f32⟩
  | .hbm, ⟨46, _⟩ => ⟨S576x16384, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Proof.Ffn.Spec.lean ====
module
public import Idealize.ShloMosaic.Lib.Pipeline.ValueKit
@[expose] public section
set_option maxRecDepth 16384
noncomputable section
namespace Cert.FfnSpec
open Idealize.ShloMosaic

/-- The root-mean-square norm of one row of 1024 numbers, with its weights. -/
def rms (v w : Fin 1024 → EReal) (j : Fin 1024) : EReal :=
  v j * Ideal.rsqrt (Ideal.div (∑ k, v k * v k) (Ideal.ofBits .f32 0x44800000#32) + Ideal.ofBits .f32 0x358637BD#32) * w j

/-- Rows of the residual stream: sequence, position, column. -/
abbrev Rows := Fin 4 → Fin 4096 → Fin 1024 → EReal

section
variable (xm : Rows) (nw : Fin 1024 → EReal) (wu : Fin 1024 → Fin 5632 → EReal) (cw : Fin 3 → Fin 2816 → EReal)
  (cb : Fin 2816 → EReal) (wd : Fin 2816 → Fin 1024 → EReal)

/-- The normed row `d` positions before position `s`; zero before the sequence's start. -/
def normed (b : Fin 4) (s : Fin 4096) (d : ℕ) (k : Fin 1024) : EReal :=
  if d ≤ s.val then rms (xm b ⟨s.val - d, by omega⟩) nw k else 0

/-- The gate's projection `d` positions before position `s`. -/
def proj (b : Fin 4) (s : Fin 4096) (d : ℕ) (f : Fin 2816) : EReal :=
  ∑ k : Fin 1024, normed xm nw b s d k * wu k ⟨f.val, by omega⟩

/-- The gate after its causal convolution over three positions. -/
def gate (b : Fin 4) (s : Fin 4096) (f : Fin 2816) : EReal :=
  cb f + cw 2 f * proj xm nw wu b s 0 f + cw 0 f * proj xm nw wu b s 2 f + cw 1 f * proj xm nw wu b s 1 f

/-- The gated value: the gate through the sigmoid-weighted unit, times the value's projection. -/
def gatedVal (b : Fin 4) (s : Fin 4096) (f : Fin 2816) : EReal :=
  gate xm nw wu cw cb b s f * Ideal.div 1 (1 + Ideal.exp (0 - gate xm nw wu cw cb b s f))
    * ∑ k : Fin 1024, normed xm nw b s 0 k * wu k ⟨2816 + f.val, by omega⟩

/-- The feed-forward network's output added to its input. -/
def ffnRow : Rows := fun b s j => xm b s j + ∑ f : Fin 2816, gatedVal xm nw wu cw cb b s f * wd f j
end

end Cert.FfnSpec

end
-- ==== Proof.Ffn.Block.lean ====
module
public import proofs.«01_k».proof.Proof.Gen.FfnIdeal.Value
public import proofs.«01_k».proof.Proof.Ffn.Spec
@[expose] public section
set_option maxRecDepth 16384
noncomputable section
namespace Cert.FfnIdeal.Value
open Cert.FfnIdeal Cert.FfnIdeal.Gen Idealize.ShloMosaic Idealize.ShloMosaic.TcCoe Idealize.SL.Sem
open Idealize.ShloMosaic.Pipeline (Dat)
open Cert.FfnSpec (rms)

/-- Row `p` of the block after the mixer's output projection and the residual addition. -/
def xmid (X : FVec Ideal S1024x1024 .f32) (A : FVec Ideal S1024x1024 .bf16) (WO : FVec Ideal S1x1024x1024 .bf16)
    (p j : Fin 1024) : EReal := X (ix2 p j) + ∑ k : Fin 1024, A (ix2 p k) * WO (ix3 0 k j)

/-- The same of the sixteen rows before the block. -/
def xhalo (XP : FVec Ideal S16x1024 .f32) (AP : FVec Ideal S16x1024 .bf16) (WO : FVec Ideal S1x1024x1024 .bf16)
    (e : Fin 16) (j : Fin 1024) : EReal := XP (ix2 e j) + ∑ k : Fin 1024, AP (ix2 e k) * WO (ix3 0 k j)

/-- The normed rows the block works on: sixteen rows of the block before (zero at a sequence's start), then its own. -/
def hnbuf (X : FVec Ideal S1024x1024 .f32) (XP : FVec Ideal S16x1024 .f32) (A : FVec Ideal S1024x1024 .bf16)
    (AP : FVec Ideal S16x1024 .bf16) (WO : FVec Ideal S1x1024x1024 .bf16) (NW : FVec Ideal S1x1x1024 .f32) (z : BitVec 1)
    (e : Fin 1040) (k : Fin 1024) : EReal :=
  if h : e.val < 16 then Scalar.select z (0 : EReal) (rms (xhalo XP AP WO ⟨e.val, h⟩) (fun j => NW (ix3 0 0 j)) k)
  else rms (xmid X A WO ⟨e.val - 16, by omega⟩) (fun j => NW (ix3 0 0 j)) k

/-- The gated value of row `p`, column `f`, from the normed rows. -/
def gated (hn : Fin 1040 → Fin 1024 → EReal) (WU : FVec Ideal S1x1024x5632 .bf16) (CW : FVec Ideal S1x3x2816 .f32)
    (CB : FVec Ideal S1x1x2816 .f32) (p : Fin 1024) (f : Fin 2816) : EReal :=
  let ge : Fin 1040 → EReal := fun e => ∑ k : Fin 1024, hn e k * WU (ix3 0 k ⟨f.val, by omega⟩)
  let g : EReal := CB (ix3 0 0 f) + CW (ix3 0 2 f) * ge ⟨16 + p.val, by omega⟩ + CW (ix3 0 0 f) * ge ⟨14 + p.val, by omega⟩
    + CW (ix3 0 1 f) * ge ⟨15 + p.val, by omega⟩
  g * Ideal.div 1 (1 + Ideal.exp (0 - g)) * ∑ k : Fin 1024, hn ⟨16 + p.val, by omega⟩ k * WU (ix3 0 k ⟨2816 + f.val, by omega⟩)

/-- What the block's body leaves at row `p`, column `j`. -/
def blockOut (X : FVec Ideal S1024x1024 .f32) (XP : FVec Ideal S16x1024 .f32) (A : FVec Ideal S1024x1024 .bf16)
    (AP : FVec Ideal S16x1024 .bf16) (WO : FVec Ideal S1x1024x1024 .bf16) (NW : FVec Ideal S1x1x1024 .f32)
    (WU : FVec Ideal S1x1024x5632 .bf16) (CW : FVec Ideal S1x3x2816 .f32) (CB : FVec Ideal S1x1x2816 .f32)
    (WD : FVec Ideal S1x2816x1024 .bf16) (FW : FVec Ideal S1x1024 .f32) (z : BitVec 1) (p j : Fin 1024) : EReal :=
  rms (fun j => xmid X A WO p j + ∑ f : Fin 2816, gated (hnbuf X XP A AP WO NW z) WU CW CB p f * WD (ix3 0 f j))
    (fun j => FW (ix2 0 j)) j

/-- Is point `t` the first block of a sequence? As the body computes it. -/
def seqStart (t : Fin cfg0.N) : BitVec 1 :=
  (Scalar.cmpi CmpIPredicate.eq
                          (Scalar.select
                            (Scalar.andi
                              (Scalar.xori
                                (Scalar.cmpi CmpIPredicate.slt (Scalar.remsi (BitVec.ofNat 32 ↑(grid0.coords t 0)) 4#32)
                                  0#32)
                                0#1)
                              (Scalar.cmpi CmpIPredicate.ne (Scalar.remsi (BitVec.ofNat 32 ↑(grid0.coords t 0)) 4#32)
                                0#32))
                            (Scalar.addi (Scalar.remsi (BitVec.ofNat 32 ↑(grid0.coords t 0)) 4#32) 4#32)
                            (Scalar.remsi (BitVec.ofNat 32 ↑(grid0.coords t 0)) 4#32))
                          0#32)

section
variable (X : FVec Ideal S1024x1024 .f32) (XP : FVec Ideal S16x1024 .f32) (A : FVec Ideal S1024x1024 .bf16)
    (AP : FVec Ideal S16x1024 .bf16) (WO : FVec Ideal S1x1024x1024 .bf16) (NW : FVec Ideal S1x1x1024 .f32) (z : BitVec 1)

theorem own_at (p k : Fin 1024) : k0_pay8 (F := Ideal) (k0_pay3 X WO A) NW (ix2 p k)
    = hnbuf X XP A AP WO NW z ⟨16 + p.val, by omega⟩ k := by
  have h : (⟨16 + p.val - 16, by omega⟩ : Fin 1024) = p := Fin.ext (by simp)
  unfold hnbuf
  rw [dif_neg (by simp)]
  simp only [h]
  pointwise [k0_pay8, k0_pay3, k0_pay2, rms, xmid]

theorem halo_at (e : Fin 16) (k : Fin 1024) : k0_pay7 (F := Ideal) (k0_pay4 XP WO AP) z (k0_pay5 NW) (k0_pay6 XP WO AP) (ix2 e k)
    = hnbuf X XP A AP WO NW z ⟨e.val, by omega⟩ k := by
  unfold hnbuf
  rw [dif_pos (show (⟨e.val, _⟩ : Fin 1040).val < 16 from e.isLt)]
  pointwise [k0_pay7, k0_pay6, k0_pay5, k0_pay4, k0_pay2, rms, xhalo]
end

/-- The two stores into the normed-row buffer are one function of its index. -/
theorem hn_canon (w1 : FVec Ideal S1024x1024 .bf16) (w2 : FVec Ideal S16x1024 .bf16) (H : Fin 1040 → Fin 1024 → EReal)
    (h1 : ∀ p k, w1 (ix2 p k) = H ⟨16 + p.val, by omega⟩ k) (h2 : ∀ e k, w2 (ix2 e k) = H ⟨e.val, by omega⟩ k) :
    View.canon (Val := Elt Ideal) (s := S1040x1024) (e := .bf16)
      [⟨Rect.unit ![16, 0] ![1024, 1024] inb_S1040x1024_S1024x1024_16_0, w1⟩,
       ⟨Rect.unit ![0, 0] ![16, 1024] inb_S1040x1024_S16x1024_0_0, w2⟩] = fun y => H (y 0) (y 1) := by
  funext y
  refine View.canon_apply_of_pieces (Val := Elt Ideal) (S := S1040x1024) (e := .bf16) (fun y => H (y 0) (y 1)) _ ?_ y ?_
  · intro pc hpc x
    simp only [List.mem_cons, List.not_mem_nil, or_false] at hpc
    rcases hpc with rfl | rfl
    · refine ((congrArg w1 (eq_ix2 x)).trans (h1 (x 0) (x 1))).trans (congrArg₂ H (Fin.ext ?_) (Fin.ext ?_)) <;>
        simp [Rect.emb, LoadRect.idx, Rect.unit]
    · refine ((congrArg w2 (eq_ix2 x)).trans (h2 (x 0) (x 1))).trans (congrArg₂ H (Fin.ext ?_) (Fin.ext ?_)) <;>
        simp [Rect.emb, LoadRect.idx, Rect.unit]
  · by_cases h : (y 0).val < 16
    · refine ⟨_, List.mem_cons_of_mem _ List.mem_cons_self, ?_⟩
      rw [Rect.mem_set_unit]
      intro a
      match a with
      | ⟨0, _⟩ => exact ⟨Nat.zero_le _, by show (y 0).val < 0 + 16; omega⟩
      | ⟨1, _⟩ => exact ⟨Nat.zero_le _, by show (y 1).val < 0 + 1024; have : (y 1).val < 1024 := (y 1).isLt; omega⟩
    · refine ⟨_, List.mem_cons_self, ?_⟩
      rw [Rect.mem_set_unit]
      intro a
      match a with
      | ⟨0, _⟩ => exact ⟨by show 16 ≤ (y 0).val; omega, by show (y 0).val < 16 + 1024; have : (y 0).val < 1040 := (y 0).isLt; omega⟩
      | ⟨1, _⟩ => exact ⟨Nat.zero_le _, by show (y 1).val < 0 + 1024; have : (y 1).val < 1024 := (y 1).isLt; omega⟩

/-- A load of the whole normed-row buffer after its two stores, -/
theorem rows_all (w1 : FVec Ideal S1024x1024 .bf16) (w2 : FVec Ideal S16x1024 .bf16) (H : Fin 1040 → Fin 1024 → EReal)
    (h1 : ∀ p k, w1 (ix2 p k) = H ⟨16 + p.val, by omega⟩ k) (h2 : ∀ e k, w2 (ix2 e k) = H ⟨e.val, by omega⟩ k) :
    (View.whole cc0_scratch0).readCov (Val := Elt Ideal)
      [⟨Rect.unit ![16, 0] ![1024, 1024] inb_S1040x1024_S1024x1024_16_0, w1⟩,
       ⟨Rect.unit ![0, 0] ![16, 1024] inb_S1040x1024_S16x1024_0_0, w2⟩]
      (Rect.unit (s := S1040x1024) ![0, 0] ![1040, 1024] inb_S1040x1024_S1040x1024_0_0).toLoadRect
      = fun j : S1040x1024.Idx => H (j 0) (j 1) := by
  rw [View.readCov_eq_canon', hn_canon w1 w2 H h1 h2]
  funext j
  refine congrArg₂ H (Fin.ext ?_) (Fin.ext ?_) <;> simp [Rect.unit, LoadRect.idx, Rect.toLoadRect]

/-- and of the block's own rows. -/
theorem rows_own (w1 : FVec Ideal S1024x1024 .bf16) (w2 : FVec Ideal S16x1024 .bf16) (H : Fin 1040 → Fin 1024 → EReal)
    (h1 : ∀ p k, w1 (ix2 p k) = H ⟨16 + p.val, by omega⟩ k) (h2 : ∀ e k, w2 (ix2 e k) = H ⟨e.val, by omega⟩ k) :
    (View.whole cc0_scratch0).readCov (Val := Elt Ideal)
      [⟨Rect.unit ![16, 0] ![1024, 1024] inb_S1040x1024_S1024x1024_16_0, w1⟩,
       ⟨Rect.unit ![0, 0] ![16, 1024] inb_S1040x1024_S16x1024_0_0, w2⟩]
      (Rect.unit (s := S1040x1024) ![16, 0] ![1024, 1024] inb_S1040x1024_S1024x1024_16_0).toLoadRect
      = fun j : S1024x1024.Idx => H ⟨16 + (j 0).val, by have : (j 0).val < 1024 := (j 0).isLt; omega⟩ (j 1) := by
  rw [View.readCov_eq_canon', hn_canon w1 w2 H h1 h2]
  funext j
  refine congrArg₂ H (Fin.ext ?_) (Fin.ext ?_) <;> simp [Rect.unit, LoadRect.idx, Rect.toLoadRect]

/-- The index of a column tile's element in the wide buffer. -/
theorem tile_at (G : Fin 1024 → Fin 2816 → EReal) (o : ℕ) (inb : ∀ a, (![0, o] : Fin 2 → ℕ) a + (![1024, 256] : Fin 2 → ℕ) a ≤ S1024x2816.size a)
    (x : (⟨2, ![1024, 256]⟩ : Shape).Idx) (ho : o + 256 ≤ 2816) :
    G ((Rect.unit (s := S1024x2816) ![0, o] ![1024, 256] inb).emb x 0) ((Rect.unit (s := S1024x2816) ![0, o] ![1024, 256] inb).emb x 1)
      = G (x 0) ⟨o + (x 1).val, by have : (x 1).val < 256 := (x 1).isLt; omega⟩ := by
  refine congrArg₂ G (Fin.ext ?_) (Fin.ext ?_) <;> simp [Rect.unit, Rect.emb, LoadRect.idx]

/-- The last payload read at equal gated values. -/
theorem pay1_congr {v8 : FVec Ideal S1024x1024 .f32} {v v' : Vec Ideal S1024x2816 .bf16} {w : Vec Ideal S1x2816x1024 .bf16}
    {f : Vec Ideal S1x1024 .f32} (h : v = v') (y : S1024x1024.Idx) : k0_pay1 (F := Ideal) v8 v w f y = k0_pay1 v8 v' w f y := by rw [h]

variable (m : (ℓ : Loc nD τ sig) → Buf (Elt Ideal) ℓ)

theorem out_at (c : Dev nD) (t : Fin cfg0.N) (p j : Fin 1024) :
    outsAt0 m c t (ix2 p j) = blockOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) (seqStart t) p j := by
  unfold outsAt0
  frame_out
  rw [show (Scalar.cmpi CmpIPredicate.eq
                          (Scalar.select
                            (Scalar.andi
                              (Scalar.xori
                                (Scalar.cmpi CmpIPredicate.slt (Scalar.remsi (BitVec.ofNat 32 ↑(grid0.coords t 0)) 4#32)
                                  0#32)
                                0#1)
                              (Scalar.cmpi CmpIPredicate.ne (Scalar.remsi (BitVec.ofNat 32 ↑(grid0.coords t 0)) 4#32)
                                0#32))
                            (Scalar.addi (Scalar.remsi (BitVec.ofNat 32 ↑(grid0.coords t 0)) 4#32) 4#32)
                            (Scalar.remsi (BitVec.ofNat 32 ↑(grid0.coords t 0)) 4#32))
                          0#32) = seqStart t from rfl]
  generalize seqStart t = z
  generalize iblk m c 0 t = X
  generalize iblk m c 1 t = XP
  generalize iblk m c 2 t = A
  generalize iblk m c 3 t = AP
  generalize iblk m c 4 t = WO
  generalize iblk m c 5 t = NW
  generalize iblk m c 6 t = WU
  generalize iblk m c 7 t = CW
  generalize iblk m c 8 t = CB
  generalize iblk m c 9 t = WD
  generalize iblk m c 10 t = FW
  refine (pay1_congr (v' := fun y => gated (hnbuf X XP A AP WO NW z) WU CW CB (y 0) (y 1)) ?_ _).trans ?_
  · simp only [rows_all _ _ (hnbuf X XP A AP WO NW z) (own_at X XP A AP WO NW z) (halo_at X XP A AP WO NW z),
      rows_own _ _ (hnbuf X XP A AP WO NW z) (own_at X XP A AP WO NW z) (halo_at X XP A AP WO NW z), View.readCov_eq_canon']
    generalize hnbuf X XP A AP WO NW z = H
    funext y
    refine (View.canon_apply_of_pieces (Val := Elt Ideal) (S := S1024x2816) (e := .bf16) (fun y => gated H WU CW CB (y 0) (y 1)) _ ?_ _
      (View.cover_of_tiledL _ ![1024, 256] (by sl_kernel_rfl) _)).trans ?_
    swap
    · refine congrArg₂ (gated H WU CW CB) (Fin.ext ?_) (Fin.ext ?_) <;> simp [Rect.unit, LoadRect.idx, Rect.toLoadRect]
    intro pc hpc x
    simp only [List.mem_cons, List.not_mem_nil, or_false] at hpc
    rcases hpc with rfl | rfl | rfl | rfl | rfl | rfl | rfl | rfl | rfl | rfl | rfl
    all_goals
      dsimp only at x ⊢
      rw [tile_at (gated H WU CW CB) _ _ x (by decide)]
      pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, gated]
      try simp only [← Nat.add_assoc, Nat.reduceAdd]
  · pointwise [k0_pay1, k0_pay3, k0_pay2]
    rfl

end Cert.FfnIdeal.Value
end
-- ==== Proof.Ffn.Array.lean ====
module
public import proofs.«01_k».proof.Proof.Ffn.Block
@[expose] public section
set_option maxRecDepth 16384
noncomputable section
namespace Cert.FfnIdeal.Value
open Cert.FfnIdeal Cert.FfnIdeal.Gen Idealize.ShloMosaic Idealize.ShloMosaic.TcCoe Idealize.SL.Sem
open Idealize.ShloMosaic.Pipeline (Dat)
open Cert.FfnSpec

/-- Every window's block index at every grid point. -/
theorem idx : ∀ t : Fin cfg0.N, win0_0.index t = ![t.val, 0] ∧ win0_1.index t = ![64 * t.val - 1, 0]
    ∧ win0_2.index t = ![t.val, 0] ∧ win0_3.index t = ![64 * t.val - 1, 0] ∧ win0_4.index t = ![1, 0, 0]
    ∧ win0_5.index t = ![3, 0, 0] ∧ win0_6.index t = ![3, 0, 0] ∧ win0_7.index t = ![3, 0, 0]
    ∧ win0_8.index t = ![3, 0, 0] ∧ win0_9.index t = ![3, 0, 0] ∧ win0_10.index t = ![0, 0] ∧ win0_11.index t = ![t.val, 0] :=
  (by decide +kernel : ∀ t : Fin grid0.N, _)

/-- The first block of a sequence is every fourth point. -/
theorem start_iff : ∀ t : Fin cfg0.N, seqStart t = if t.val % 4 = 0 then 1#1 else 0#1 :=
  (by unfold seqStart; decide +kernel : ∀ t : Fin grid0.N, _)

theorem lt16 (t : Fin cfg0.N) : t.val < 16 := lt_of_lt_of_eq t.isLt N_0

section
variable (m : (ℓ : Loc nD τ sig) → Buf (Elt Ideal) ℓ) (c : Dev nD)

/-- The residual stream's argument, the mixer's output, and the weights of layer 3. -/
abbrev ax : FVec Ideal S4x4096x1024 .f32 := m ((c : Thread nD τ).loc main_arg0)
abbrev ao : FVec Ideal S16384x1024 .bf16 := m ((c : Thread nD τ).loc main_arg1)
abbrev awo : FVec Ideal S2x1024x1024 .f32 := m ((c : Thread nD τ).loc main_arg2)
abbrev anw : FVec Ideal S4x1024 .f32 := m ((c : Thread nD τ).loc main_arg3)
abbrev awu : FVec Ideal S4x1024x5632 .f32 := m ((c : Thread nD τ).loc main_arg4)
abbrev acw : FVec Ideal S4x3x2816 .f32 := m ((c : Thread nD τ).loc main_arg5)
abbrev acb : FVec Ideal S4x2816 .f32 := m ((c : Thread nD τ).loc main_arg6)
abbrev awd : FVec Ideal S4x2816x1024 .f32 := m ((c : Thread nD τ).loc main_arg7)
abbrev afw : FVec Ideal S1024 .f32 := m ((c : Thread nD τ).loc main_arg8)

theorem v0_at (r : Fin 16384) (j : Fin 1024) : (show FVec Ideal S16384x1024 .f32 from V m c main_v0) (ix2 r j)
    = ax m c (ix3 ⟨r.val / 4096, by omega⟩ ⟨r.val % 4096, by omega⟩ j) := by
  entry_read
  pointwise

theorem v1_at : (show FVec Ideal S2x1024x1024 .bf16 from V m c main_v1) = awo m c := by
  entry_read
  rfl

theorem v2_at (l : Fin 4) (j : Fin 1024) : (show FVec Ideal S4x1x1024 .f32 from V m c main_v2) (ix3 l 0 j) = anw m c (ix2 l j) := by
  entry_read
  pointwise

theorem v3_at : (show FVec Ideal S4x1024x5632 .bf16 from V m c main_v3) = awu m c := by
  entry_read
  rfl

theorem v4_at (l : Fin 4) (j : Fin 2816) : (show FVec Ideal S4x1x2816 .f32 from V m c main_v4) (ix3 l 0 j) = acb m c (ix2 l j) := by
  entry_read
  pointwise

theorem v5_at : (show FVec Ideal S4x2816x1024 .bf16 from V m c main_v5) = awd m c := by
  entry_read
  rfl

theorem v6_at (j : Fin 1024) : (show FVec Ideal S1x1024 .f32 from V m c main_v6) (ix2 0 j) = afw m c (ix1 j) := by
  entry_read
  pointwise

theorem rd0 (t : Fin cfg0.N) (p j : Fin 1024) : iblk m c 0 t (ix2 p j)
    = ax m c (ix3 ⟨t.val / 4, by have := lt16 t; omega⟩ ⟨1024 * (t.val % 4) + p.val, by omega⟩ j) := by
  have h := lt16 t
  refine Eq.trans ?_ ((v0_at m c ⟨1024 * t.val + p.val, by omega⟩ j).trans ?_)
  · blk_ext [iblk, idx t]
  · blk_ext [idx t]

theorem rd1 (t : Fin cfg0.N) (ht : t.val % 4 ≠ 0) (e : Fin 16) (j : Fin 1024) : iblk m c 1 t (ix2 e j)
    = ax m c (ix3 ⟨t.val / 4, by have := lt16 t; omega⟩ ⟨1024 * (t.val % 4) - 16 + e.val, by omega⟩ j) := by
  have h := lt16 t
  refine Eq.trans ?_ ((v0_at m c ⟨1024 * t.val - 16 + e.val, by omega⟩ j).trans ?_)
  · blk_ext [iblk, idx t]
  · blk_ext [idx t]

theorem rd2 (t : Fin cfg0.N) (p j : Fin 1024) : iblk m c 2 t (ix2 p j)
    = ao m c (ix2 ⟨1024 * t.val + p.val, by have := lt16 t; omega⟩ j) := by
  have h := lt16 t
  blk_ext [iblk, V, idx t]

theorem rd3 (t : Fin cfg0.N) (ht : t.val % 4 ≠ 0) (e : Fin 16) (j : Fin 1024) : iblk m c 3 t (ix2 e j)
    = ao m c (ix2 ⟨1024 * t.val - 16 + e.val, by have := lt16 t; omega⟩ j) := by
  have h := lt16 t
  blk_ext [iblk, V, idx t]

theorem rd4 (t : Fin cfg0.N) (k j : Fin 1024) : iblk m c 4 t (ix3 0 k j) = awo m c (ix3 1 k j) := by
  refine Eq.trans ?_ (congrFun (v1_at m c) (ix3 1 k j))
  blk_ext [iblk, idx t]

theorem rd5 (t : Fin cfg0.N) (j : Fin 1024) : iblk m c 5 t (ix3 0 0 j) = anw m c (ix2 3 j) := by
  refine Eq.trans ?_ (v2_at m c 3 j)
  blk_ext [iblk, idx t]

theorem rd6 (t : Fin cfg0.N) (k : Fin 1024) (f : Fin 5632) : iblk m c 6 t (ix3 0 k f) = awu m c (ix3 3 k f) := by
  refine Eq.trans ?_ (congrFun (v3_at m c) (ix3 3 k f))
  blk_ext [iblk, idx t]

theorem rd7 (t : Fin cfg0.N) (d : Fin 3) (f : Fin 2816) : iblk m c 7 t (ix3 0 d f) = acw m c (ix3 3 d f) := by
  blk_ext [iblk, V, idx t]

theorem rd8 (t : Fin cfg0.N) (f : Fin 2816) : iblk m c 8 t (ix3 0 0 f) = acb m c (ix2 3 f) := by
  refine Eq.trans ?_ (v4_at m c 3 f)
  blk_ext [iblk, idx t]

theorem rd9 (t : Fin cfg0.N) (f : Fin 2816) (j : Fin 1024) : iblk m c 9 t (ix3 0 f j) = awd m c (ix3 3 f j) := by
  refine Eq.trans ?_ (congrFun (v5_at m c) (ix3 3 f j))
  blk_ext [iblk, idx t]

theorem rd10 (t : Fin cfg0.N) (j : Fin 1024) : iblk m c 10 t (ix2 0 j) = afw m c (ix1 j) := by
  refine Eq.trans ?_ (v6_at m c j)
  blk_ext [iblk, idx t]

/-- The rows the network works on: the residual stream plus the mixer's output through its projection. -/
def xm : Rows := fun b s j => ax m c (ix3 b s j)
  + ∑ k : Fin 1024, ao m c (ix2 ⟨4096 * b.val + s.val, by omega⟩ k) * awo m c (ix3 1 k j)

/-- The sequence of grid point `t`, and the position of its row `p`. -/
def seqOf (t : Fin cfg0.N) : Fin 4 := ⟨t.val / 4, by have := lt16 t; omega⟩
def posOf (t : Fin cfg0.N) (p : Fin 1024) : Fin 4096 := ⟨1024 * (t.val % 4) + p.val, by omega⟩

theorem xmid_eq (t : Fin cfg0.N) (p j : Fin 1024) :
    xmid (iblk m c 0 t) (iblk m c 2 t) (iblk m c 4 t) p j = xm m c (seqOf t) (posOf t p) j := by
  unfold xmid xm
  refine congrArg₂ (· + ·) (rd0 m c t p j) (Finset.sum_congr rfl fun k _ => ?_)
  refine congrArg₂ (· * ·) ((rd2 m c t p k).trans ?_) (rd4 m c t k j)
  exact congrArg (ao m c) (congrArg₂ ix2 (Fin.ext (by simp only [seqOf, posOf]; omega)) rfl)

theorem xhalo_eq (t : Fin cfg0.N) (ht : t.val % 4 ≠ 0) (e : Fin 16) (j : Fin 1024) :
    xhalo (iblk m c 1 t) (iblk m c 3 t) (iblk m c 4 t) e j
      = xm m c (seqOf t) ⟨1024 * (t.val % 4) - 16 + e.val, by omega⟩ j := by
  unfold xhalo xm
  refine congrArg₂ (· + ·) (rd1 m c t ht e j) (Finset.sum_congr rfl fun k _ => ?_)
  refine congrArg₂ (· * ·) ((rd3 m c t ht e k).trans ?_) (rd4 m c t k j)
  exact congrArg (ao m c) (congrArg₂ ix2 (Fin.ext (by simp only [seqOf]; omega)) rfl)

/-- The normed rows of the block are the normed rows of the sequence, zero before its start. -/
theorem hn_eq (t : Fin cfg0.N) (p : Fin 1024) (d : ℕ) (hd : d ≤ 16) (k : Fin 1024) :
    hnbuf (iblk m c 0 t) (iblk m c 1 t) (iblk m c 2 t) (iblk m c 3 t) (iblk m c 4 t) (iblk m c 5 t) (seqStart t)
      ⟨16 - d + p.val, by omega⟩ k
    = normed (xm m c) (fun k => anw m c (ix2 3 k)) (seqOf t) (posOf t p) d k := by
  have hw : (fun j => iblk m c 5 t (ix3 0 0 j)) = fun k => anw m c (ix2 3 k) := funext fun j => rd5 m c t j
  unfold hnbuf normed
  by_cases h : 16 - d + p.val < 16
  · rw [dif_pos h, start_iff t]
    by_cases ht : t.val % 4 = 0
    · rw [if_pos ht, if_neg (by simp only [posOf]; omega)]
      rfl
    · rw [if_neg ht, if_pos (by simp only [posOf]; omega)]
      refine Eq.trans (b := rms (xhalo (iblk m c 1 t) (iblk m c 3 t) (iblk m c 4 t) ⟨16 - d + p.val, h⟩)
        (fun j => iblk m c 5 t (ix3 0 0 j)) k) rfl ?_
      rw [hw]
      refine congrArg (fun v => rms v _ k) (funext fun j => (xhalo_eq m c t ht _ j).trans ?_)
      exact congrArg (fun s => xm m c (seqOf t) s j) (Fin.ext (by simp only [posOf]; omega))
  · rw [dif_neg h, if_pos (by simp only [posOf]; omega)]
    rw [hw]
    refine congrArg (fun v => rms v _ k) (funext fun j => (xmid_eq m c t _ j).trans ?_)
    exact congrArg (fun s => xm m c (seqOf t) s j) (Fin.ext (by simp only [posOf]; omega))

/-- The weights of layer 3, as the network's functions of their coordinates. -/
abbrev wNorm : Fin 1024 → EReal := fun k => anw m c (ix2 3 k)
abbrev wUp : Fin 1024 → Fin 5632 → EReal := fun k f => awu m c (ix3 3 k f)
abbrev wConv : Fin 3 → Fin 2816 → EReal := fun d f => acw m c (ix3 3 d f)
abbrev bConv : Fin 2816 → EReal := fun f => acb m c (ix2 3 f)
abbrev wDown : Fin 2816 → Fin 1024 → EReal := fun f j => awd m c (ix3 3 f j)

theorem ge_eq (t : Fin cfg0.N) (p : Fin 1024) (d : ℕ) (hd : d ≤ 16) (e : Fin 1040) (he : e.val = 16 - d + p.val) (f : Fin 5632) :
    (∑ k : Fin 1024, hnbuf (iblk m c 0 t) (iblk m c 1 t) (iblk m c 2 t) (iblk m c 3 t) (iblk m c 4 t) (iblk m c 5 t) (seqStart t) e k
        * iblk m c 6 t (ix3 0 k f))
    = ∑ k : Fin 1024, normed (xm m c) (wNorm m c) (seqOf t) (posOf t p) d k * wUp m c k f := by
  exact Finset.sum_congr rfl fun k _ => congrArg₂ (· * ·)
    ((congrArg (fun e => hnbuf _ _ _ _ _ _ _ e k) (Fin.ext he)).trans (hn_eq m c t p d hd k)) (rd6 m c t k f)

theorem gated_eq (t : Fin cfg0.N) (p : Fin 1024) (f : Fin 2816) :
    gated (hnbuf (iblk m c 0 t) (iblk m c 1 t) (iblk m c 2 t) (iblk m c 3 t) (iblk m c 4 t) (iblk m c 5 t) (seqStart t))
      (iblk m c 6 t) (iblk m c 7 t) (iblk m c 8 t) p f
    = gatedVal (xm m c) (wNorm m c) (wUp m c) (wConv m c) (bConv m c) (seqOf t) (posOf t p) f := by
  unfold gated gatedVal gate proj
  simp only []
  rw [ge_eq m c t p 0 (by omega) ⟨16 + p.val, by omega⟩ (by simp), ge_eq m c t p 2 (by omega) ⟨14 + p.val, by omega⟩ (by simp),
    ge_eq m c t p 1 (by omega) ⟨15 + p.val, by omega⟩ (by simp), ge_eq m c t p 0 (by omega) ⟨16 + p.val, by omega⟩ (by simp),
    rd8, rd7, rd7, rd7]

/-- The layer's result: the network's row through the final norm. -/
def result (b : Fin 4) (s : Fin 4096) (j : Fin 1024) : EReal :=
  rms (ffnRow (xm m c) (wNorm m c) (wUp m c) (wConv m c) (bConv m c) (wDown m c) b s) (fun j => afw m c (ix1 j)) j

theorem block_eq (t : Fin cfg0.N) (p j : Fin 1024) :
    outsAt0 m c t (ix2 p j) = result m c (seqOf t) (posOf t p) j := by
  refine (out_at m c t p j).trans ?_
  unfold blockOut result ffnRow
  have hw : (fun j => iblk m c 10 t (ix2 0 j)) = fun j => afw m c (ix1 j) := funext fun j => rd10 m c t j
  rw [hw]
  refine congrArg (fun v => rms v _ j) (funext fun j => ?_)
  exact congrArg₂ (· + ·) (xmid_eq m c t p j)
    (Finset.sum_congr rfl fun f _ => congrArg₂ (· * ·) (gated_eq m c t p f) (rd9 m c t f j))

/-- The result array: row `r` is position `r mod 4096` of sequence `r div 4096`. -/
def G : FVec Ideal S16384x1024 .f32 := fun y => result m c ⟨(y 0).val / 4096, by have : (y 0).val < 16384 := (y 0).isLt; omega⟩
  ⟨(y 0).val % 4096, by omega⟩ (y 1)

theorem final : (dats m 0 c).arrAt 11 (cfgs 0).N = G m c := by
  refine (dats m 0 c).arrAt_eq_of_covers 11 _ (by decide +kernel) fun t _ y => ?_
  blk_simp
  rw [after0_11]
  have h := lt16 t
  refine (congrArg (outsAt0 m c t) (eq_ix2 y)).trans ((block_eq m c t (y 0) (y 1)).trans ?_)
  have hy : (y 0).val < 1024 := (y 0).isLt
  have e0 : ((win0_11.blk t).view.emb y 0 : ℕ) = 1024 * t.val + (y 0).val := by
    blk_simp [idx t]
    simp
    omega
  have e1 : ((win0_11.blk t).view.emb y 1 : ℕ) = (y 1).val := by
    blk_simp [idx t]
  unfold G
  refine congr (congrArg₂ (result m c) (Fin.ext ?_) (Fin.ext ?_)) (Fin.ext e1.symm)
  · simp only [seqOf, e0]; omega
  · simp only [posOf, e0]; omega
end

end Cert.FfnIdeal.Value

end
-- ==== Proof.Ffn.Ref.lean ====
module
public import proofs.«01_k».proof.Proof.Gen.FfnReferenceIdeal.Read
public import proofs.«01_k».proof.Proof.Ffn.Spec
@[expose] public section
set_option maxRecDepth 16384
noncomputable section
namespace Cert.FfnReferenceIdeal.Spec
open Cert.FfnReferenceIdeal Cert.FfnReferenceIdeal.Gen Cert.FfnReferenceIdeal.Read Idealize.ShloMosaic Idealize.ShloMosaic.TcCoe
open Cert.FfnSpec

variable (x0 : FVec Ideal S4x4096x1024 .f32) (x1 : FVec Ideal S16384x1024 .bf16) (x2 : FVec Ideal S2x1024x1024 .f32)
  (x3 : FVec Ideal S4x1024 .f32) (x4 : FVec Ideal S4x1024x5632 .f32) (x5 : FVec Ideal S4x3x2816 .f32)
  (x6 : FVec Ideal S4x2816 .f32) (x7 : FVec Ideal S4x2816x1024 .f32) (x8 : FVec Ideal S1024 .f32)

/-- The rows the network works on, read from the reference's arguments. -/
def xm : Rows := fun b s j => x0 (ix3 b s j)
  + ∑ k : Fin 1024, x1 (ix2 ⟨4096 * b.val + s.val, by omega⟩ k) * x2 (ix3 1 k j)

theorem v5_at (b : Fin 4) (s : Fin 4096) (j : Fin 1024) : val_main_v5 (F := Ideal) x0 x1 x2 (ix3 b s j) = xm x0 x1 x2 b s j := by
  pointwise [val_main_v5, val_main_v4, val_main_v3, val_main_v2, val_main_v1, val_main_v0, xm]
  simp only [Nat.mul_comm b.val 4096]

theorem v20_at (b : Fin 4) (s : Fin 4096) (j : Fin 1024) : val_main_v20 (F := Ideal) x0 x1 x2 x3 (ix3 b s j)
    = rms (xm x0 x1 x2 b s) (fun k => x3 (ix2 3 k)) j := by
  pointwise [val_main_v20, val_main_v19, val_main_v18, val_main_v17, val_main_v16, val_main_v15, val_main_v14, val_main_v13,
    val_main_v12, val_main_v11, val_main_v10, val_main_v9, val_main_v8, val_main_v7, val_main_v6, val_main_cst, val_main_cst_0,
    val_main_cst_1]
  simp only [v5_at]
  rfl

/-- The weights of layer 3, as the network's functions of their coordinates. -/
abbrev wNorm : Fin 1024 → EReal := fun k => x3 (ix2 3 k)
abbrev wUp : Fin 1024 → Fin 5632 → EReal := fun k f => x4 (ix3 3 k f)
abbrev wConv : Fin 3 → Fin 2816 → EReal := fun d f => x5 (ix3 3 d f)
abbrev bConv : Fin 2816 → EReal := fun f => x6 (ix2 3 f)
abbrev wDown : Fin 2816 → Fin 1024 → EReal := fun f j => x7 (ix3 3 f j)

theorem normed_zero (w : Fin 1024 → EReal) (b : Fin 4) (s : Fin 4096) (k : Fin 1024) :
    normed (xm x0 x1 x2) w b s 0 k = rms (xm x0 x1 x2 b s) w k := by
  unfold normed
  rw [if_pos (Nat.zero_le _)]
  rfl

theorem v29_at (b : Fin 4) (s : Fin 4096) (f : Fin 5632) : val_main_v29 (F := Ideal) x0 x1 x2 x3 x4 (ix3 b s f)
    = ∑ k : Fin 1024, rms (xm x0 x1 x2 b s) (wNorm x3) k * wUp x4 k f := by
  pointwise [val_main_v29, val_main_v22, val_main_v21]
  simp only [v20_at]

/-- The padded gate at the row that `d` before position `s` has: the gate's projection there, zero before the start. -/
theorem v32_at (b : Fin 4) (s : Fin 4096) (d : ℕ) (r : Fin 4098) (hd : d ≤ 2) (hr : r.val = s.val + 2 - d) (f : Fin 2816) :
    val_main_v32 (F := Ideal) x0 x1 x2 x3 x4 (ix3 b r f) = proj (xm x0 x1 x2) (wNorm x3) (wUp x4) b s d f := by
  pointwise [val_main_v32, val_main_v30, val_main_call0_v0, val_main_c]
  unfold proj normed
  by_cases h : d ≤ s.val
  · rw [dif_pos (by omega)]
    simp only [if_pos h]
    refine Eq.trans ?_ (v29_at x0 x1 x2 x3 x4 b ⟨s.val - d, by omega⟩ ⟨f.val, by omega⟩)
    exact congrArg (val_main_v29 (F := Ideal) x0 x1 x2 x3 x4)
      (congrArg (fun r => ix3 b r _) (Fin.ext (by simp only [hr]; omega)))
  · rw [dif_neg (by omega)]
    simp only [if_neg h, zero_mul, Finset.sum_const_zero]
    exact (by simp [FloatOps.sitofp] : (FloatOps.sitofp (F := Ideal) .f32 (0#32) : EReal) = 0)

theorem v55_at (b : Fin 4) (s : Fin 4096) (f : Fin 2816) : val_main_v55 (F := Ideal) x0 x1 x2 x3 x4 x5 x6 (ix3 b s f)
    = gate (xm x0 x1 x2) (wNorm x3) (wUp x4) (wConv x5) (bConv x6) b s f := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v26, val_main_v25, val_main_v24, val_main_v23]
  have h0 := v32_at x0 x1 x2 x3 x4 b s 0 ⟨2 + s.val, by omega⟩ (by omega) (by simp only []; omega) f
  have h1 := v32_at x0 x1 x2 x3 x4 b s 1 ⟨1 + s.val, by omega⟩ (by omega) (by simp only []; omega) f
  have h2 := v32_at x0 x1 x2 x3 x4 b s 2 ⟨s.val, by omega⟩ (by omega) (by simp only []; omega) f
  refine (congrArg (· + x6 (ix2 3 f)) (congrArg₂ (· + ·) (congrArg₂ (· + ·) (congrArg (· * x5 (ix3 3 0 f)) h2)
    (congrArg (· * x5 (ix3 3 1 f)) h1)) (congrArg (· * x5 (ix3 3 2 f)) h0))).trans ?_
  unfold gate
  simp only [mul_comm (proj _ _ _ _ _ _ _)]
  ac_rfl

theorem v57_at (b : Fin 4) (s : Fin 4096) (f : Fin 2816) : val_main_v57 (F := Ideal) x0 x1 x2 x3 x4 x5 x6 (ix3 b s f)
    = gatedVal (xm x0 x1 x2) (wNorm x3) (wUp x4) (wConv x5) (bConv x6) b s f := by
  pointwise [val_main_v57, val_main_v56, val_main_v31, val_main_call1_v5, val_main_call1_v4, val_main_call1_v3,
    val_main_call1_v2, val_main_call1_v1, val_main_call1_v0, val_main_call1_cst, val_main_call1_cst_0]
  simp only [v55_at, v29_at]
  unfold gatedVal
  simp only [normed_zero, zero_sub]

theorem v59_at (b : Fin 4) (s : Fin 4096) (j : Fin 1024) : val_main_v59 (F := Ideal) x0 x1 x2 x3 x4 x5 x6 x7 (ix3 b s j)
    = ffnRow (xm x0 x1 x2) (wNorm x3) (wUp x4) (wConv x5) (bConv x6) (wDown x7) b s j := by
  pointwise [val_main_v59, val_main_v58, val_main_v28, val_main_v27]
  simp only [v57_at, v5_at]
  rfl

theorem v73_at (r : Fin 16384) (j : Fin 1024) : val_main_v73 (F := Ideal) x0 x1 x2 x3 x4 x5 x6 x7 x8 (ix2 r j)
    = rms (ffnRow (xm x0 x1 x2) (wNorm x3) (wUp x4) (wConv x5) (bConv x6) (wDown x7) ⟨r.val / 4096, by omega⟩
        ⟨r.val % 4096, by omega⟩) (fun j => x8 (ix1 j)) j := by
  pointwise [val_main_v73, val_main_v72, val_main_v71, val_main_v70, val_main_v69, val_main_v68, val_main_v67, val_main_v66, val_main_v65, val_main_v64, val_main_v63, val_main_v62, val_main_v61, val_main_v60, val_main_cst_2, val_main_cst_3, val_main_cst_4]
  simp only [v59_at]
  rfl
end Cert.FfnReferenceIdeal.Spec

end
-- ==== Proof.Ffn.Claims.lean ====
module
public import proofs.«01_k».proof.Defs
public import proofs.«01_k».proof.Proof.Ffn.Array
public import proofs.«01_k».proof.Proof.Ffn.Ref
public import proofs.«01_k».proof.Proof.Gen.FfnReferenceIdeal.Run
public import Idealize.ShloMosaic.Lib.Claim
@[expose] public section
set_option maxRecDepth 16384
noncomputable section
namespace Cert.FfnClaims
open Idealize.ShloMosaic Idealize.ShloMosaic.TcCoe Idealize.SL.Sem

/-- The reference's result, over the kernel's argument arrays, is the array the kernel leaves. -/
theorem ref_eq (m : (ℓ : Loc Cert.FfnIdeal.nD Cert.FfnIdeal.τ Cert.FfnIdeal.sig) → Buf (Elt Ideal) ℓ) (c : Dev Cert.FfnIdeal.nD) :
    Cert.FfnReferenceIdeal.Read.val_main_v73 (F := Ideal) (Cert.FfnIdeal.Value.ax m c) (Cert.FfnIdeal.Value.ao m c)
      (Cert.FfnIdeal.Value.awo m c) (Cert.FfnIdeal.Value.anw m c) (Cert.FfnIdeal.Value.awu m c) (Cert.FfnIdeal.Value.acw m c)
      (Cert.FfnIdeal.Value.acb m c) (Cert.FfnIdeal.Value.awd m c) (Cert.FfnIdeal.Value.afw m c)
    = Cert.FfnIdeal.Value.G m c :=
  funext fun y => (congrArg _ (eq_ix2 y)).trans
    (Cert.FfnReferenceIdeal.Spec.v73_at _ _ _ _ _ _ _ _ _ (y 0) (y 1))

theorem algebraic : Cert.algebraic_FfnIdeal_FfnReferenceIdeal := by
  pair_intro
  · run_from Cert.FfnIdeal.Value.run_blocks m g
  · run_from Cert.FfnReferenceIdeal.Value.run m' g'
    rw [Cert.FfnReferenceIdeal.Read.val_main_v73_eq]
    obtain ⟨h0, h1, h2, h3, h4, h5, h6, h7, h8⟩ := hagree c
    rw [h0, h1, h2, h3, h4, h5, h6, h7, h8]
    exact (ref_eq m c).trans (Cert.FfnIdeal.Value.final m c).symm

theorem frame_reference : Cert.quiescent_FfnReferenceIdeal := by
  intro m g _
  exact (θ_run Cert.FfnReferenceIdeal.defs _ _).mono (fun r h => ⟨fun c => (h c).2, sem_eq_zero_of_no_sems (by decide) r.2⟩)
    (Cert.FfnReferenceIdeal.Value.run (F := Ideal) m g)

end Cert.FfnClaims

end
-- ==== Proof.Diff.Spec.lean ====
module

public import Idealize.ShloMosaic.Lib.Pipeline.ValueKit

/-! # Differential attention, on the extended reals

The formulas both programs compute, and why their numbers are real when the weights are: the norm of a row is real
whatever the row is, a projection of real numbers by real weights is real, and a softmax of real scores is the usual
quotient. -/

@[expose] public section

set_option maxRecDepth 16384

noncomputable section

namespace Cert.DiffSpec

open Idealize.ShloMosaic

/-- The root-mean-square norm of one row of 1024 numbers, with its weights. -/
def rms (v w : Fin 1024 → EReal) (j : Fin 1024) : EReal :=
  v j * Ideal.rsqrt (Ideal.div (∑ k, v k * v k) (Ideal.ofBits .f32 0x44800000#32) + Ideal.ofBits .f32 0x358637BD#32) * w j

/-- The angle by which frequency `f` turns at position `s`. -/
def ang (s : Fin 4096) (f : Fin 32) : EReal :=
  FloatOps.sitofp (F := Ideal) FTy.f32 (BitVec.ofNat 32 s.val) * Ideal.div 1 (Ideal.pow (Ideal.ofBits .f32 0x461C4000#32)
    (Ideal.div (FloatOps.sitofp (F := Ideal) FTy.f32 (BitVec.ofNat 32 f.val) * Ideal.ofBits .f32 0x40000000#32) (Ideal.ofBits .f32 0x42800000#32)))

/-- Position `s` of sequence `b`, normalised and projected to column `j`. -/
def pr (X : Fin 4 → Fin 4096 → Fin 1024 → EReal) (N : Fin 1024 → EReal) (W : Fin 1024 → Fin 3072 → EReal)
    (b : Fin 4) (s : Fin 4096) (j : Fin 3072) : EReal := ∑ k, rms (X b s) N k * W k j

/-! ## Real numbers -/

/-- Neither infinity. -/
def Fin' (x : EReal) : Prop := ∃ r : ℝ, x = (r : EReal)

theorem Fin'.toReal {x : EReal} (h : Fin' x) : x = ((x.toReal : ℝ) : EReal) := by
  obtain ⟨r, rfl⟩ := h
  simp

theorem Fin'.mul {x y : EReal} (hx : Fin' x) (hy : Fin' y) : Fin' (x * y) := by
  obtain ⟨a, rfl⟩ := hx; obtain ⟨b, rfl⟩ := hy
  exact ⟨a * b, (EReal.coe_mul _ _).symm⟩

theorem Fin'.add {x y : EReal} (hx : Fin' x) (hy : Fin' y) : Fin' (x + y) := by
  obtain ⟨a, rfl⟩ := hx; obtain ⟨b, rfl⟩ := hy
  exact ⟨a + b, (EReal.coe_add _ _).symm⟩

theorem coe_sum' {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem Fin'.sum {ι : Type} {s : Finset ι} {f : ι → EReal} (h : ∀ i ∈ s, Fin' (f i)) : Fin' (∑ i ∈ s, f i) := by
  refine ⟨∑ i ∈ s, (f i).toReal, ?_⟩
  rw [← coe_sum']
  exact Finset.sum_congr rfl fun i hi => (h i hi).toReal

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem exp_real (r : ℝ) : Ideal.exp (r : EReal) = ((Real.exp r : ℝ) : EReal) := rfl

theorem bits_1024 : Ideal.ofBits .f32 0x44800000#32 = ((1024 : ℝ) : EReal) := by
  simp [Ideal.ofBits, Ideal.ieee, -EReal.coe_mul]; norm_num

theorem bits_eps : ∃ e : ℝ, 0 < e ∧ Ideal.ofBits .f32 0x358637BD#32 = ((e : ℝ) : EReal) := by
  refine ⟨_, ?_, by simp [Ideal.ofBits, Ideal.ieee, -EReal.coe_mul]; rfl⟩
  norm_num

theorem bits_two : Ideal.ofBits .f32 0x40000000#32 = ((2 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_1e4 : Ideal.ofBits .f32 0x461C4000#32 = ((10000 : ℝ) : EReal) := by
  simp [Ideal.ofBits, Ideal.ieee, -EReal.coe_mul]; norm_num
theorem bits_eighth : Ideal.ofBits .f32 0x3E000000#32 = ((1 / 8 : ℝ) : EReal) := by
  simp [Ideal.ofBits, Ideal.ieee, -EReal.coe_mul]; norm_num
theorem bits_lam : Fin' (Ideal.ofBits .f32 0x3F0E59D5#32) := by
  refine ⟨_, by simp [Ideal.ofBits, Ideal.ieee, -EReal.coe_mul]; rfl⟩

theorem ang_real (s : Fin 4096) (f : Fin 32) : Fin' (ang s f) := by
  unfold ang
  rw [bits_two, bits_64, bits_1e4]
  refine Fin'.mul ⟨_, rfl⟩ ?_
  have h1 : FloatOps.sitofp (F := Ideal) FTy.f32 (BitVec.ofNat 32 f.val) = (((BitVec.ofNat 32 f.val).toInt : ℝ) : EReal) := rfl
  rw [h1, ← EReal.coe_mul, div_real _ _ (by norm_num)]
  have h2 : ∀ y : ℝ, Ideal.pow ((10000 : ℝ) : EReal) (y : EReal) = (((10000 : ℝ) ^ y : ℝ) : EReal) := fun y => rfl
  rw [h2]
  have h3 : (1 : EReal) = ((1 : ℝ) : EReal) := rfl
  rw [h3, div_real _ _ (Real.rpow_pos_of_pos (by norm_num) _).ne']
  exact ⟨_, rfl⟩

theorem rms_real (v w : Fin 1024 → EReal) (hw : ∀ k, Fin' (w k)) (j : Fin 1024) : Fin' (rms v w j) := by
  obtain ⟨e, he, hb⟩ := bits_eps
  unfold rms
  rw [bits_1024, hb]
  refine Fin'.mul ?_ (hw j)
  by_cases h : ∀ k, Fin' (v k)
  · have h0 : ∑ k, v k * v k = ((∑ k, (v k).toReal * (v k).toReal : ℝ) : EReal) := by
      rw [← coe_sum']
      exact Finset.sum_congr rfl fun k _ => by rw [EReal.coe_mul, ← (h k).toReal]
    rw [h0, div_real _ _ (by norm_num), ← EReal.coe_add]
    refine Fin'.mul (h j) ?_
    have hp : 0 < (∑ k, (v k).toReal * (v k).toReal) / 1024 + e :=
      add_pos_of_nonneg_of_pos (div_nonneg (Finset.sum_nonneg fun k _ => mul_self_nonneg _) (by norm_num)) he
    refine ⟨(Real.sqrt ((∑ k, (v k).toReal * (v k).toReal) / 1024 + e))⁻¹, ?_⟩
    unfold Ideal.rsqrt
    show (if _ then _ else if _ then _ else _) = _
    rw [if_neg hp.not_gt, if_neg hp.ne']
  · have hnn : ∀ x : EReal, 0 ≤ x * x := fun x => by
      rcases le_total 0 x with hx | hx
      · exact mul_nonneg hx hx
      · exact EReal.mul_nonneg_iff.2 (Or.inr ⟨hx, hx⟩)
    obtain ⟨k0, hk0⟩ := not_forall.1 h
    have ht : v k0 * v k0 = ⊤ := by
      induction hv : v k0 with
      | bot => exact EReal.bot_mul_bot
      | top => exact EReal.top_mul_top
      | coe r => exact absurd ⟨r, hv⟩ hk0
    have hs : ∑ k, v k * v k = ⊤ := by
      refine top_le_iff.1 (ht ▸ Finset.single_le_sum (f := fun k => v k * v k) (fun k _ => hnn (v k)) (Finset.mem_univ k0))
    have hd : Ideal.div ⊤ ((1024 : ℝ) : EReal) = ⊤ := by
      unfold Ideal.div
      rw [if_neg (by norm_num), ← EReal.coe_inv]
      exact EReal.top_mul_coe_of_pos (by norm_num)
    rw [hs, hd, EReal.top_add_coe]
    show Fin' (v j * 0)
    rw [mul_zero]
    exact ⟨0, rfl⟩

theorem pr_real {X : Fin 4 → Fin 4096 → Fin 1024 → EReal} {N : Fin 1024 → EReal} {W : Fin 1024 → Fin 3072 → EReal}
    (hN : ∀ k, Fin' (N k)) (hW : ∀ k j, Fin' (W k j)) (b : Fin 4) (s : Fin 4096) (j : Fin 3072) : Fin' (pr X N W b s j) :=
  Fin'.sum fun k _ => (rms_real _ _ hN k).mul (hW k j)

/-! ## The softmax of a row -/

/-- The causal row of scores: those of the later keys are dropped. -/
def row (l : ℕ → ℝ) (s : ℕ) (k : Fin 4096) : EReal := if k.val ≤ s then ((l k.val : ℝ) : EReal) else ⊥

theorem row_max (l : ℕ → ℝ) (s : ℕ) : ∃ M : ℝ, max ⊥ (Finset.univ.fold max (⊥ : EReal) (row l s)) = (M : EReal) := by
  have h1 : Finset.univ.fold max (⊥ : EReal) (row l s) ≠ ⊤ := by
    intro h
    have h2 : ∀ c : ℝ, ∃ x, (c : EReal) < row l s x := fun c => by
      rcases (Finset.lt_fold_max (c := (c : EReal)) (b := ⊥) (f := row l s) (s := Finset.univ)).1 (h ▸ EReal.coe_lt_top c) with h | ⟨x, -, hx⟩
      · exact absurd h not_lt_bot
      · exact ⟨x, hx⟩
    obtain ⟨x, hx⟩ := h2 (∑ k : Fin 4096, |l k.val|)
    unfold row at hx
    split at hx
    · have := EReal.coe_lt_coe_iff.1 hx
      have h3 := Finset.single_le_sum (f := fun k : Fin 4096 => |l k.val|) (fun k _ => abs_nonneg _) (Finset.mem_univ x)
      have h4 := le_abs_self (l x.val)
      linarith
    · exact absurd hx not_lt_bot
  have h2 : Finset.univ.fold max (⊥ : EReal) (row l s) ≠ ⊥ := by
    intro h
    have h3 := (Finset.le_fold_max (c := row l s ⟨0, by norm_num⟩) (b := ⊥) (f := row l s) (s := Finset.univ)).2 (Or.inr ⟨⟨0, by norm_num⟩, Finset.mem_univ _, le_refl _⟩)
    rw [h] at h3
    unfold row at h3
    rw [if_pos (Nat.zero_le s)] at h3
    exact absurd h3 (not_le_of_gt (EReal.bot_lt_coe _))
  refine ⟨(Finset.univ.fold max (⊥ : EReal) (row l s)).toReal, ?_⟩
  rw [max_eq_right bot_le, EReal.coe_toReal h1 h2]

/-- The total weight of the keys up to `s`. -/
def tot (l : ℕ → ℝ) (s : ℕ) : ℝ := ∑ k ∈ Finset.range (s + 1), Real.exp (l k)

theorem tot_pos (l : ℕ → ℝ) (s : ℕ) : 0 < tot l s :=
  Finset.sum_pos (fun _ _ => Real.exp_pos _) ⟨0, Finset.mem_range.2 (Nat.succ_pos _)⟩

theorem sum_upto (f : ℕ → ℝ) (s : ℕ) (hs : s < 4096) : (∑ k : Fin 4096, if k.val ≤ s then f k.val else 0) = ∑ k ∈ Finset.range (s + 1), f k := by
  rw [← Finset.sum_range (n := 4096) (fun k => if k ≤ s then f k else 0)]
  rw [← Finset.sum_subset (s₁ := Finset.range (s + 1)) (by intro k; simp only [Finset.mem_range]; omega)
    (fun k _ hk => if_neg (by simp only [Finset.mem_range] at hk; omega))]
  exact Finset.sum_congr rfl fun k hk => if_pos (by simp only [Finset.mem_range] at hk; omega)

theorem softmax_row (l : ℕ → ℝ) (s : ℕ) (hs : s < 4096) (M : EReal)
    (hM : M = max ⊥ (Finset.univ.fold max (⊥ : EReal) (row l s))) (k : Fin 4096) :
    Ideal.div (Ideal.exp (row l s k - M)) (∑ k' : Fin 4096, Ideal.exp (row l s k' - M))
      = ((if k.val ≤ s then Real.exp (l k.val) / tot l s else 0 : ℝ) : EReal) := by
  obtain ⟨m, hm⟩ := row_max l s
  rw [hM, hm]
  have he : ∀ k : Fin 4096, Ideal.exp (row l s k - (m : EReal)) = ((if k.val ≤ s then Real.exp (l k.val) * Real.exp (-m) else 0 : ℝ) : EReal) := fun k => by
    unfold row
    by_cases h : k.val ≤ s
    · rw [if_pos h, if_pos h, ← EReal.coe_sub, exp_real, ← Real.exp_add, sub_eq_add_neg]
    · rw [if_neg h, if_neg h]
      have : (⊥ : EReal) - (m : EReal) = ⊥ := by rw [sub_eq_add_neg, EReal.bot_add]
      rw [this]
      rfl
  simp only [he]
  rw [coe_sum', sum_upto (fun k => Real.exp (l k) * Real.exp (-m)) s hs, ← Finset.sum_mul]
  have ht := tot_pos l s
  have hx := Real.exp_pos (-m)
  refine (div_real _ (tot l s * Real.exp (-m)) (mul_pos ht hx).ne').trans ?_
  congr 1
  split
  · unfold tot at ht ⊢
    field_simp
  · exact zero_div _

/-- The average of the values `v` over the keys up to `s`, weighted by the exponentials of the scores. -/
def wavg (l : ℕ → ℝ) (v : ℕ → ℝ) (s : ℕ) : ℝ := (∑ k ∈ Finset.range (s + 1), Real.exp (l k) * v k) / tot l s

/-- The difference of two softmaxes applied to the values is the difference of the two averages. -/
theorem diff_avg (l0 l1 v : ℕ → ℝ) (s : ℕ) (hs : s < 4096) (lam : ℝ) :
    (∑ k : Fin 4096, (((if k.val ≤ s then Real.exp (l0 k.val) / tot l0 s else 0 : ℝ) : EReal)
        - (lam : EReal) * ((if k.val ≤ s then Real.exp (l1 k.val) / tot l1 s else 0 : ℝ) : EReal)) * ((v k.val : ℝ) : EReal))
      = ((wavg l0 v s : ℝ) : EReal) - (lam : EReal) * ((wavg l1 v s : ℝ) : EReal) := by
  simp only [← EReal.coe_mul, ← EReal.coe_sub]
  rw [coe_sum']
  congr 1
  have h : ∀ k : Fin 4096, ((if k.val ≤ s then Real.exp (l0 k.val) / tot l0 s else 0) - lam * (if k.val ≤ s then Real.exp (l1 k.val) / tot l1 s else 0)) * v k.val
      = if k.val ≤ s then (fun k => Real.exp (l0 k) / tot l0 s * v k - lam * (Real.exp (l1 k) / tot l1 s) * v k) k.val else 0 := fun k => by
    by_cases hk : k.val ≤ s
    · rw [if_pos hk, if_pos hk, if_pos hk]; ring
    · rw [if_neg hk, if_neg hk, if_neg hk]; ring
  rw [Finset.sum_congr rfl fun k _ => h k]
  rw [sum_upto (fun k => Real.exp (l0 k) / tot l0 s * v k - lam * (Real.exp (l1 k) / tot l1 s) * v k) s hs, Finset.sum_sub_distrib]
  unfold wavg
  rw [Finset.sum_div, Finset.sum_div, Finset.mul_sum]
  congr 1 <;> exact Finset.sum_congr rfl fun k _ => by ring

end Cert.DiffSpec

end
-- ==== Proof.Diff.Pre.lean ====
module

public import proofs.«01_k».proof.Defs
public import proofs.«01_k».proof.Proof.Gen.DiffIdeal
public import proofs.«01_k».proof.Proof.Diff.Spec

/-! # What the precondition says: the layer's norm weights, projection weights and lambda vectors are real numbers -/

@[expose] public section

set_option maxRecDepth 16384

noncomputable section

namespace Cert.Pre_weights_finite

open Idealize.ShloMosaic
open Cert.DiffSpec (Fin')

/-- The shape facts the precondition states. -/
instance facts : Cert.Pre_weights_finite.Facts where
  slices_S2x1024_S1x1024_1_0 := by decide
  shapeCasts_S1x1024_S1024 := by decide
  bcast_S_S1024 := by decide
  slices_S2x1024x3072_S1x1024x3072_1_0_0 := by decide
  shapeCasts_S1x1024x3072_S1024x3072 := by decide
  bcast_S_S1024x3072 := by decide
  slices_S2x4x64_S1x4x64_1_0_0 := by decide
  shapeCasts_S1x4x64_S4x64 := by decide
  bcast_S_S4x64 := by decide

variable (x0 : FVec Ideal S4x4096x1024 .f32) (x1 : FVec Ideal S2x1024 .f32) (x2 : FVec Ideal S2x1024x3072 .f32)
  (x3 : FVec Ideal S2x4x64 .f32) (x4 : FVec Ideal S2x128 .f32)

/-- A number whose absolute value is below infinity is real. -/
theorem fin_of_abs {x : EReal} (h : BitVec.ofBool (decide ((FloatOps.absf (F := Ideal) (φ := .f32) x : EReal) < Ideal.ofBits .f32 0x7F800000#32)) = 1#1) : Fin' x := by
  have e : Ideal.ofBits .f32 0x7F800000#32 = ⊤ := by simp [Ideal.ofBits, Ideal.ieee]
  rw [e] at h
  induction x using EReal.rec with
  | bot => simp [FloatOps.absf] at h
  | coe r => exact ⟨r, rfl⟩
  | top => simp [FloatOps.absf] at h

theorem norm_real (h : (fn (F := Ideal) x0 x1 x2 x3 x4).1 = fun _ => 1#1) (j : Fin 1024) : Fin' (x1 (ix2 1 j)) := by
  have e := congrFun h (ix1 j)
  refine fin_of_abs (Eq.trans (Eq.symm ?_) e)
  pointwise [fn]

theorem proj_real (h : (fn (F := Ideal) x0 x1 x2 x3 x4).2.1 = fun _ => 1#1) (k : Fin 1024) (j : Fin 3072) : Fin' (x2 (ix3 1 k j)) := by
  have e := congrFun h (ix2 k j)
  refine fin_of_abs (Eq.trans (Eq.symm ?_) e)
  pointwise [fn]

theorem lam_real (h : (fn (F := Ideal) x0 x1 x2 x3 x4).2.2 = fun _ => 1#1) (a : Fin 4) (d : Fin 64) : Fin' (x3 (ix3 1 a d)) := by
  have e := congrFun h (ix2 a d)
  refine fin_of_abs (Eq.trans (Eq.symm ?_) e)
  pointwise [fn]

end Cert.Pre_weights_finite

end
-- ==== Proof.Diff.Run.lean ====
/-
The launch of the projection and the differential attention, run once over any element model: the arrays and
staging buffers each of the two grids leaves, the host stretches between them, and the final memory. It follows the
shape of the frame written for the program; the attention body is run through the skeletons of its two outer parts
first, so that its counted loop is met in the form its invariant is stated for, and the final memory also names
the result array.
-/
module

public import proofs.«01_k».proof.Proof.Gen.DiffIdeal.Launch
public import proofs.«01_k».proof.Proof.Gen.DiffIdeal.Skeleton
public import proofs.«01_k».proof.Proof.Gen.DiffIdeal.Points
public import Idealize.ShloMosaic.Lib.Pipeline.FrameBody
public import proofs.«01_k».proof.Proof.Gen.DiffIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DiffIdeal.Run

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_od_proj` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated (`View.read_writes_of_cover`: the
    choice does not matter). -/
abbrev VO0_5 : View sig .tc .vmem S1024x2048 .bf16 := (Memref.whole cc0_stg5_0 : Memref sig .tc .vmem S1024x2048 .bf16).view
/-- One staging buffer of output window 6, through which its contents are stated (`View.read_writes_of_cover`: the
    choice does not matter). -/
abbrev VO0_6 : View sig .tc .vmem S1152x1024 .bf16 := (Memref.whole cc0_stg6_0 : Memref sig .tc .vmem S1152x1024 .bf16).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x1024 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x3072 .bf16) (harg3 : arg3.IsWhole) (arg4 : Memref sig .tc .vmem S2x1024x128 .f32) (harg4 : arg4.IsWhole) (arg5 : Memref sig .tc .vmem S2x1024x128 .f32) (harg5 : arg5.IsWhole) (arg6 : Memref sig .tc .vmem S1024x2048 .bf16) (harg6 : arg6.IsWhole) (arg7 : Memref sig .tc .vmem S1152x1024 .bf16) (harg7 : arg7.IsWhole) (arg8 : Memref sig .tc .vmem S1024x1024 .bf16) (harg8 : arg8.IsWhole)
    (x0 : Vec F S1024x1024 .f32) (x1 : Vec F S1x1x1024 .f32) (x2 : Vec F S1x1024x3072 .bf16) (x3 : Vec F S2x1024x128 .f32) (x4 : Vec F S2x1024x128 .f32) :
    Σ' (L5 : List (View.Piece (Elt F) S1024x2048 .bf16)), Σ' (L6 : List (View.Piece (Elt F) S1152x1024 .bf16)), { LT0 : List (View.Piece (Elt F) S1024x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0)) -∗ K ⟨⟩))
          ⊢ wp frame (wpE (defs₀ (F := F)) Variants.none c none) E (cc0_od_proj i arg1 harg1 arg2 harg2 arg3 harg3 arg4 harg4 arg5 harg5 arg6 harg6 arg7 harg7 arg8 harg8) K } := by
  refine ⟨?_, ?_, ?_, fun E K => ?run⟩
  case run =>
    simp only [cc0_od_proj_eq_skeleton]; unfold cc0_od_proj_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact HS0

/-- The run's pieces for output 5 tile its block (16 stores of `S1024x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x3072 .bf16) (harg3 : arg3.IsWhole) (arg4 : Memref sig .tc .vmem S2x1024x128 .f32) (harg4 : arg4.IsWhole) (arg5 : Memref sig .tc .vmem S2x1024x128 .f32) (harg5 : arg5.IsWhole) (arg6 : Memref sig .tc .vmem S1024x2048 .bf16) (harg6 : arg6.IsWhole) (arg7 : Memref sig .tc .vmem S1152x1024 .bf16) (harg7 : arg7.IsWhole) (arg8 : Memref sig .tc .vmem S1024x1024 .bf16) (harg8 : arg8.IsWhole)
    (x0 : Vec F S1024x1024 .f32) (x1 : Vec F S1x1x1024 .f32) (x2 : Vec F S1x1024x3072 .bf16) (x3 : Vec F S2x1024x128 .f32) (x4 : Vec F S2x1024x128 .f32) (y : S1024x2048.Idx) :
    ∃ pc ∈ (kernelRun0_A c i arg1 harg1 arg2 harg2 arg3 harg3 arg4 harg4 arg5 harg5 arg6 harg6 arg7 harg7 arg8 harg8 x0 x1 x2 x3 x4).1, y ∈ pc.1.set :=
  View.cover_of_tiledL (kernelRun0_A c i arg1 harg1 arg2 harg2 arg3 harg3 arg4 harg4 arg5 harg5 arg6 harg6 arg7 harg7 arg8 harg8 x0 x1 x2 x3 x4).1 S1024x128.size (by sl_kernel_rfl) y

/-- What the run leaves in output 5's staging buffer: its pieces read back over junk. -/
def out0_A_5 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x3072 .bf16) (harg3 : arg3.IsWhole) (arg4 : Memref sig .tc .vmem S2x1024x128 .f32) (harg4 : arg4.IsWhole) (arg5 : Memref sig .tc .vmem S2x1024x128 .f32) (harg5 : arg5.IsWhole) (arg6 : Memref sig .tc .vmem S1024x2048 .bf16) (harg6 : arg6.IsWhole) (arg7 : Memref sig .tc .vmem S1152x1024 .bf16) (harg7 : arg7.IsWhole) (arg8 : Memref sig .tc .vmem S1024x1024 .bf16) (harg8 : arg8.IsWhole)
    (x0 : Vec F S1024x1024 .f32) (x1 : Vec F S1x1x1024 .f32) (x2 : Vec F S1x1024x3072 .bf16) (x3 : Vec F S2x1024x128 .f32) (x4 : Vec F S2x1024x128 .f32) : Vec F S1024x2048 .bf16 :=
  VO0_5.read (Elt F) (VO0_5.writes (Elt F) VO0_5.junk (kernelRun0_A c i arg1 harg1 arg2 harg2 arg3 harg3 arg4 harg4 arg5 harg5 arg6 harg6 arg7 harg7 arg8 harg8 x0 x1 x2 x3 x4).1)

/-- The run's pieces for output 6 are of SEVERAL sizes (16 stores of `S128x1024`, `S16x1024`): cut into blocks of `![16, 1024]` they tile its block (checked by the kernel's evaluation: Lib/Ring.lean `Piece.tiledBy`), so they cover it. -/
theorem cover0_A_6 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x3072 .bf16) (harg3 : arg3.IsWhole) (arg4 : Memref sig .tc .vmem S2x1024x128 .f32) (harg4 : arg4.IsWhole) (arg5 : Memref sig .tc .vmem S2x1024x128 .f32) (harg5 : arg5.IsWhole) (arg6 : Memref sig .tc .vmem S1024x2048 .bf16) (harg6 : arg6.IsWhole) (arg7 : Memref sig .tc .vmem S1152x1024 .bf16) (harg7 : arg7.IsWhole) (arg8 : Memref sig .tc .vmem S1024x1024 .bf16) (harg8 : arg8.IsWhole)
    (x0 : Vec F S1024x1024 .f32) (x1 : Vec F S1x1x1024 .f32) (x2 : Vec F S1x1024x3072 .bf16) (x3 : Vec F S2x1024x128 .f32) (x4 : Vec F S2x1024x128 .f32) (y : S1152x1024.Idx) :
    ∃ pc ∈ (kernelRun0_A c i arg1 harg1 arg2 harg2 arg3 harg3 arg4 harg4 arg5 harg5 arg6 harg6 arg7 harg7 arg8 harg8 x0 x1 x2 x3 x4).2.1, y ∈ pc.1.set :=
  View.cover_of_tiledBy (kernelRun0_A c i arg1 harg1 arg2 harg2 arg3 harg3 arg4 harg4 arg5 harg5 arg6 harg6 arg7 harg7 arg8 harg8 x0 x1 x2 x3 x4).2.1 ![16, 1024] (by sl_kernel_rfl) y

/-- What the run leaves in output 6's staging buffer: its pieces read back over junk. -/
def out0_A_6 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x3072 .bf16) (harg3 : arg3.IsWhole) (arg4 : Memref sig .tc .vmem S2x1024x128 .f32) (harg4 : arg4.IsWhole) (arg5 : Memref sig .tc .vmem S2x1024x128 .f32) (harg5 : arg5.IsWhole) (arg6 : Memref sig .tc .vmem S1024x2048 .bf16) (harg6 : arg6.IsWhole) (arg7 : Memref sig .tc .vmem S1152x1024 .bf16) (harg7 : arg7.IsWhole) (arg8 : Memref sig .tc .vmem S1024x1024 .bf16) (harg8 : arg8.IsWhole)
    (x0 : Vec F S1024x1024 .f32) (x1 : Vec F S1x1x1024 .f32) (x2 : Vec F S1x1024x3072 .bf16) (x3 : Vec F S2x1024x128 .f32) (x4 : Vec F S2x1024x128 .f32) : Vec F S1152x1024 .bf16 :=
  VO0_6.read (Elt F) (VO0_6.writes (Elt F) VO0_6.junk (kernelRun0_A c i arg1 harg1 arg2 harg2 arg3 harg3 arg4 harg4 arg5 harg5 arg6 harg6 arg7 harg7 arg8 harg8 x0 x1 x2 x3 x4).2.1)

/-! ## What the outputs hold after each point -/

/-- What the outputs' staging buffers hold after the body at point `t` (as a tuple, in window order): the run's contents at
    the point's memrefs and input blocks. -/
def outsAt0 (c : Dev nD) (t : Fin cfg0.N) : Vec F S1024x2048 .bf16 × Vec F S1152x1024 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk0 V c 0 t) (iblk0 V c 1 t) (iblk0 V c 2 t) (iblk0 V c 3 t) (iblk0 V c 4 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  rw [show (dat0 V c).Φ t.castSucc = Pipeline.ΦA spec0 c from rfl, PhiA0_eq]
  unfold outsAt0
  unfold out0_A_5 out0_A_6; (try dsimp only)
  iintro ⟨⟨⟨HS0, HR1, HR2, HR3, HR4, HR5, HR6, HR7, HR8, HR9, HR10, HR11, HR12, HR13⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%fT0, HS0⟩⟩
  isplitl [HS0 HR1 HR2 HR3 HR4 HR5 HR6 HR7 HR8 HR9 HR10 HR11 HR12 HR13 Hg]
  · isplitl [HS0 HR1 HR2 HR3 HR4 HR5 HR6 HR7 HR8 HR9 HR10 HR11 HR12 HR13]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      iexact HR13
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_diff_attn` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 5, through which its contents are stated (`View.read_writes_of_cover`: the
    choice does not matter). -/
abbrev VO1_5 : View sig .tc .vmem S1x2048x128 .bf16 := (Memref.whole cc1_stg5_0 : Memref sig .tc .vmem S1x2048x128 .bf16).view
/-- Each window's current staging memref at point `t`, spelled as the pipeline passes it (`bodyAt1`), and its wholeness. -/
abbrev ms1_0 (t : Fin cfg1.N) : Memref sig .tc .vmem S1x2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S144x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048x128 .bf16 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S16x256x128 .bf16 := Memref.whole cc1_scratch0
abbrev scM1_1 : Memref sig .tc .vmem S16x1x256 .f32 := Memref.whole cc1_scratch1
abbrev scM1_2 : Memref sig .tc .vmem S16x144x256 .f32 := Memref.whole cc1_scratch2

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 4972000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg3 : Memref sig .tc .vmem S1x2048x128 .bf16) (harg3 : arg3.IsWhole) (arg4 : Memref sig .tc .vmem S1x4096x128 .bf16) (harg4 : arg4.IsWhole) (arg5 : Memref sig .tc .vmem S144x4096 .bf16) (harg5 : arg5.IsWhole) (arg6 : Memref sig .tc .vmem S1x4x64 .f32) (harg6 : arg6.IsWhole) (arg7 : Memref sig .tc .vmem S1x1x128 .f32) (harg7 : arg7.IsWhole) (arg8 : Memref sig .tc .vmem S1x2048x128 .bf16) (harg8 : arg8.IsWhole) (arg9 : Memref sig .tc .vmem S16x256x128 .bf16) (harg9 : arg9.IsWhole) (arg10 : Memref sig .tc .vmem S16x1x256 .f32) (harg10 : arg10.IsWhole) (arg11 : Memref sig .tc .vmem S16x144x256 .f32) (harg11 : arg11.IsWhole)
    (x0 : Vec F S1x2048x128 .bf16) (x1 : Vec F S1x4096x128 .bf16) (x2 : Vec F S144x4096 .bf16) (x3 : Vec F S1x4x64 .f32) (x4 : Vec F S1x1x128 .f32) :
    { L5 : List (View.Piece (Elt F) S1x2048x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc1_diff_attn i arg3 harg3 arg4 harg4 arg5 harg5 arg6 harg6 arg7 harg7 arg8 harg8 arg9 harg9 arg10 harg10 arg11 harg11) K } := by
  refine ⟨?_, fun E K => ?run⟩
  case run =>
    simp only [cc1_diff_attn_eq_skeleton]; unfold cc1_diff_attn_skel
    simp only [k1_part188_eq_skeleton, k1_part189_eq_skeleton]; unfold k1_part188_skel k1_part189_skel
    simp only [k1_part101_eq_skeleton, k1_part102_eq_skeleton, k1_part103_eq_skeleton, k1_part104_eq_skeleton, k1_part105_eq_skeleton, k1_part106_eq_skeleton, k1_part107_eq_skeleton, k1_part108_eq_skeleton, k1_part109_eq_skeleton, k1_part110_eq_skeleton, k1_part111_eq_skeleton, k1_part112_eq_skeleton, k1_part113_eq_skeleton, k1_part114_eq_skeleton, k1_part115_eq_skeleton, k1_part116_eq_skeleton, k1_part117_eq_skeleton, k1_part118_eq_skeleton, k1_part119_eq_skeleton, k1_part120_eq_skeleton, k1_part121_eq_skeleton, k1_part122_eq_skeleton, k1_part123_eq_skeleton, k1_part124_eq_skeleton, k1_part125_eq_skeleton, k1_part126_eq_skeleton, k1_part127_eq_skeleton, k1_part128_eq_skeleton, k1_part129_eq_skeleton, k1_part130_eq_skeleton, k1_part131_eq_skeleton, k1_part132_eq_skeleton, k1_part133_eq_skeleton, k1_part134_eq_skeleton, k1_part135_eq_skeleton, k1_part136_eq_skeleton, k1_part137_eq_skeleton, k1_part138_eq_skeleton, k1_part139_eq_skeleton, k1_part140_eq_skeleton, k1_part141_eq_skeleton, k1_part142_eq_skeleton, k1_part143_eq_skeleton, k1_part144_eq_skeleton, k1_part145_eq_skeleton, k1_part146_eq_skeleton, k1_part147_eq_skeleton, k1_part148_eq_skeleton, k1_part149_eq_skeleton, k1_part150_eq_skeleton, k1_part151_eq_skeleton, k1_part152_eq_skeleton, k1_part153_eq_skeleton, k1_part154_eq_skeleton, k1_part155_eq_skeleton, k1_part156_eq_skeleton, k1_part157_eq_skeleton, k1_part158_eq_skeleton, k1_part159_eq_skeleton, k1_part160_eq_skeleton, k1_part161_eq_skeleton, k1_part162_eq_skeleton, k1_part163_eq_skeleton, k1_part164_eq_skeleton, k1_part165_eq_skeleton, k1_part166_eq_skeleton, k1_part167_eq_skeleton, k1_part168_eq_skeleton, k1_part169_eq_skeleton, k1_part170_eq_skeleton, k1_part171_eq_skeleton, k1_part172_eq_skeleton, k1_part173_eq_skeleton, k1_part174_eq_skeleton, k1_part175_eq_skeleton, k1_part176_eq_skeleton, k1_part177_eq_skeleton, k1_part178_eq_skeleton, k1_part179_eq_skeleton, k1_part180_eq_skeleton, k1_part181_eq_skeleton, k1_part182_eq_skeleton, k1_part183_eq_skeleton, k1_part184_eq_skeleton, k1_part185_eq_skeleton, k1_part186_eq_skeleton, k1_part187_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The run's pieces for output 5 tile its block (16 stores of `S1x128x128`, checked by the kernel's evaluation: Lib/Ring.lean `Piece.tiledL`, linear in the pieces, through a loop's `@[irreducible]` trip theorem too), so they cover it. -/
theorem cover1_A_5 (c : Dev nD) (i : grid1.Coords) (arg3 : Memref sig .tc .vmem S1x2048x128 .bf16) (harg3 : arg3.IsWhole) (arg4 : Memref sig .tc .vmem S1x4096x128 .bf16) (harg4 : arg4.IsWhole) (arg5 : Memref sig .tc .vmem S144x4096 .bf16) (harg5 : arg5.IsWhole) (arg6 : Memref sig .tc .vmem S1x4x64 .f32) (harg6 : arg6.IsWhole) (arg7 : Memref sig .tc .vmem S1x1x128 .f32) (harg7 : arg7.IsWhole) (arg8 : Memref sig .tc .vmem S1x2048x128 .bf16) (harg8 : arg8.IsWhole) (arg9 : Memref sig .tc .vmem S16x256x128 .bf16) (harg9 : arg9.IsWhole) (arg10 : Memref sig .tc .vmem S16x1x256 .f32) (harg10 : arg10.IsWhole) (arg11 : Memref sig .tc .vmem S16x144x256 .f32) (harg11 : arg11.IsWhole)
    (x0 : Vec F S1x2048x128 .bf16) (x1 : Vec F S1x4096x128 .bf16) (x2 : Vec F S144x4096 .bf16) (x3 : Vec F S1x4x64 .f32) (x4 : Vec F S1x1x128 .f32) (y : S1x2048x128.Idx) :
    ∃ pc ∈ (kernelRun1_A c i arg3 harg3 arg4 harg4 arg5 harg5 arg6 harg6 arg7 harg7 arg8 harg8 arg9 harg9 arg10 harg10 arg11 harg11 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 x0 x1 x2 x3 x4).1 S1x128x128.size (by sl_kernel_rfl) y

/-- What the run leaves in output 5's staging buffer: its pieces read back over junk. -/
def out1_A_5 (c : Dev nD) (i : grid1.Coords) (arg3 : Memref sig .tc .vmem S1x2048x128 .bf16) (harg3 : arg3.IsWhole) (arg4 : Memref sig .tc .vmem S1x4096x128 .bf16) (harg4 : arg4.IsWhole) (arg5 : Memref sig .tc .vmem S144x4096 .bf16) (harg5 : arg5.IsWhole) (arg6 : Memref sig .tc .vmem S1x4x64 .f32) (harg6 : arg6.IsWhole) (arg7 : Memref sig .tc .vmem S1x1x128 .f32) (harg7 : arg7.IsWhole) (arg8 : Memref sig .tc .vmem S1x2048x128 .bf16) (harg8 : arg8.IsWhole) (arg9 : Memref sig .tc .vmem S16x256x128 .bf16) (harg9 : arg9.IsWhole) (arg10 : Memref sig .tc .vmem S16x1x256 .f32) (harg10 : arg10.IsWhole) (arg11 : Memref sig .tc .vmem S16x144x256 .f32) (harg11 : arg11.IsWhole)
    (x0 : Vec F S1x2048x128 .bf16) (x1 : Vec F S1x4096x128 .bf16) (x2 : Vec F S144x4096 .bf16) (x3 : Vec F S1x4x64 .f32) (x4 : Vec F S1x1x128 .f32) : Vec F S1x2048x128 .bf16 :=
  VO1_5.read (Elt F) (VO1_5.writes (Elt F) VO1_5.junk (kernelRun1_A c i arg3 harg3 arg4 harg4 arg5 harg5 arg6 harg6 arg7 harg7 arg8 harg8 arg9 harg9 arg10 harg10 arg11 harg11 x0 x1 x2 x3 x4).1)

/-! ## What the outputs hold after each point -/

/-- What the outputs' staging buffers hold after the body at point `t`: the run's contents at
    the point's memrefs and input blocks. -/
def outsAt1 (c : Dev nD) (t : Fin cfg1.N) : Vec F S1x2048x128 .bf16 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (iblk1 V c 0 t) (iblk1 V c 1 t) (iblk1 V c 2 t) (iblk1 V c 3 t) (iblk1 V c 4 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t)
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  unfold out1_A_5
  iintro ⟨⟨⟨HR0, HR1, HR2, HR3, HR4, HR5, HR6, HR7, HR8, HR9, HR10, HR11, HR12, HS0, HS1, HS2⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HR0 HR1 HR2 HR3 HR4 HR5 HR6 HR7 HR8 HR9 HR10 HR11 HR12 HS0 HS1 HS2 Hg]
  · isplitl [HR0 HR1 HR2 HR3 HR4 HR5 HR6 HR7 HR8 HR9 HR10 HR11 HR12 HS0 HS1 HS2]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_A_5 c _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3, main_cst_0, main_v4, main_v5, main_cst_1, main_v6, main_v7, main_cst_2, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v36, main_v37]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: at the compiled mesh, from any memory with zero counters, every weakly fair execution terminates with
    nothing faulting, the result array what the attention's grid leaves, the arguments as launched, every counter zero. -/
theorem run_arrays : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v38) = (dat1 (V3 m ρ) c).arrAt 5 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_v38 (by decide))).trans (hF1 m ρ c 5).symm⟩), funext fun g => hz g (.inr (no_unscoped g.2))⟩)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run_arrays m ρ)

end Cert.DiffIdeal.Run

end
-- ==== Proof.Diff.Step.lean ====
module

public import proofs.«01_k».proof.Proof.Gen.DiffIdeal.Skeleton
public import Idealize.ShloMosaic.Lib.Pipeline.ValueKit

/-! # One step of the running softmax

The attention kernel treats one block of 128 queries (for its two maps at once: 256 columns) against one tile
of 256 keys in a fixed chain of operations. Here the chain is written once, as functions of the tile, the block
and the running row, and read entry by entry in the reals with infinities. -/

@[expose] public section

set_option maxRecDepth 16384

noncomputable section

namespace Cert.DiffIdeal.Step

open Cert.DiffIdeal Cert.DiffIdeal.Gen Idealize.ShloMosaic Idealize.ShloMosaic.TcCoe Idealize.SL.Sem

variable {F : FTy → Type} [FloatOps F] [Named F]

/-- The scores of one tile of keys against one block of queries. -/
def score (kt qz : FVec F S256x128 .bf16) : FVec F S256x256 .f32 :=
  matmul dot_S256x128_S256x128_S256x256_1_1_0_0_n_n none kt qz (constant S256x256 .f32 0x00000000#32)

/-- The position of each column's query inside its block of 128, as the kernel computes it. -/
def qin : IVec S256x256 32 :=
  let v337 : IVec S256x256 32 := iota .tc S256x256 32 [1] iota_S256x256_d1_w32
  let v339 : BitVec 32 := Scalar.select (Scalar.cmpi .eq 128#32 0#32) 1#32 128#32
  let v341 : IVec S256x256 32 := remsi v337 (broadcast S256x256 v339)
  select (andi (xori (cmpi .slt v341 (broadcast S256x256 0#32))
      (broadcastTo S256x256 (broadcast S256x256 (Scalar.cmpi .slt v339 0#32)) broadcasts_S256x256_S256x256))
      (cmpi .ne v341 (broadcast S256x256 0#32)))
    (addi v341 (broadcast S256x256 v339)) v341

/-- Scores of keys later than the column's query are replaced by minus infinity. -/
def maskS (a b : BitVec 32) (s : FVec F S256x256 .f32) : FVec F S256x256 .f32 :=
  select (cmpi .sle (addi (iota .tc S256x256 32 [0] iota_S256x256_d0_w32) (broadcast S256x256 a))
      (addi qin (broadcast S256x256 b))) s (broadcast S256x256 (Scalar.ofBits .f32 0xFF800000#32))

/-- The new running maximum. -/
def newM (x : FVec F S256x256 .f32) (m : Vec F S1x1x256 .f32) : FVec F S1x256 .f32 :=
  maximumf (shapeCast S1x256 m shapeCasts_S1x1x256_S1x256)
    (shapeCast S1x256 (multiReduction .maximumf [0] S256 x 0xFF800000#32 reduces_S256x256_S256 (.inl rfl) rfl)
      shapeCasts_S256_S1x256)

/-- The stored running maximum. -/
def stepM (x : FVec F S256x256 .f32) (m : Vec F S1x1x256 .f32) : FVec F S1x1x256 .f32 :=
  shapeCast S1x1x256 (newM x m) shapeCasts_S1x256_S1x1x256

/-- The stored running sum: the old one rescaled, plus the tile's values weighted by `exp2`. -/
def stepA (vt : FVec F S144x256 .bf16) (x : FVec F S256x256 .f32) (m : Vec F S1x1x256 .f32)
    (a : Vec F S1x144x256 .f32) : FVec F S1x144x256 .f32 :=
  shapeCast S1x144x256
    (addf (mulf (broadcastTo S144x256 (exp2 (subf (shapeCast S1x256 m shapeCasts_S1x1x256_S1x256) (newM x m)))
          broadcasts_S1x256_S144x256) (shapeCast S144x256 a shapeCasts_S1x144x256_S144x256))
      (matmul dot_S144x256_S256x256_S144x256_1_0_0_1_n_n none vt
        (truncf .bf16 (exp2 (subf x (broadcastTo S256x256 (newM x m) broadcasts_S1x256_S256x256))) bitsLt_bf16_f32)
        (constant S144x256 .f32 0x00000000#32)))
    shapeCasts_S144x256_S1x144x256

theorem score_at (kt qz : FVec Ideal S256x128 .bf16) (j q : Fin 256) :
    score kt qz (ix2 j q) = ∑ d : Fin 128, kt (ix2 j d) * qz (ix2 q d) := by
  pointwise [score]

/-- The new running maximum of a column of scores. -/
def colM (x : Fin 256 → EReal) (m : EReal) : EReal := max m (Finset.fold max ⊥ x Finset.univ)

theorem ofBits_bot : Ideal.ofBits .f32 0xFF800000#32 = (⊥ : EReal) := by simp [Ideal.ofBits, Ideal.ieee]

theorem stepM_at (x : FVec Ideal S256x256 .f32) (m : Vec Ideal S1x1x256 .f32) (q : Fin 256) :
    stepM x m (ix3 0 0 q) = colM (fun j => x (ix2 j q)) (m (ix3 0 0 q)) := by
  pointwise [stepM, newM]
  rw [ofBits_bot]; rfl

theorem stepA_at (vt : FVec Ideal S144x256 .bf16) (x : FVec Ideal S256x256 .f32) (m : Vec Ideal S1x1x256 .f32)
    (a : Vec Ideal S1x144x256 .f32) (c : Fin 144) (q : Fin 256) :
    stepA vt x m a (ix3 0 c q)
      = Ideal.exp2 (m (ix3 0 0 q) - colM (fun j => x (ix2 j q)) (m (ix3 0 0 q))) * a (ix3 0 c q)
        + ∑ j : Fin 256, vt (ix2 c j) * Ideal.exp2 (x (ix2 j q) - colM (fun j => x (ix2 j q)) (m (ix3 0 0 q))) := by
  pointwise [stepA, newM]
  rw [ofBits_bot]; rfl

/-- The position of a column's query inside its block, as a word. -/
theorem qin_at (j q : Fin 256) : qin (ix2 j q) = BitVec.ofNat 32 (q.val % 128) := by
  pointwise [qin]
  revert q
  decide +kernel

theorem maskS_at (a b : BitVec 32) (s : FVec Ideal S256x256 .f32) (j q : Fin 256) (ha : a.toNat ≤ 4096)
    (hb : b.toNat ≤ 4096) :
    maskS a b s (ix2 j q) = if a.toNat + j.val ≤ b.toNat + q.val % 128 then s (ix2 j q) else ⊥ := by
  have h : maskS a b s (ix2 j q) = Scalar.select (IntOp.cmpi .sle (IntOp.addi (BitVec.ofNat 32 j.val) a)
      (IntOp.addi (qin (ix2 j q)) b)) (s (ix2 j q)) (Ideal.ofBits .f32 0xFF800000#32) := by
    pointwise [maskS]
  rw [h, qin_at, ofBits_bot]
  have hj := j.isLt
  have hq := q.isLt
  have e : (IntOp.addi (BitVec.ofNat 32 j.val) a).sle (IntOp.addi (BitVec.ofNat 32 (q.val % 128)) b)
      = decide (a.toNat + j.val ≤ b.toNat + q.val % 128) := by
    have h1 : (IntOp.addi (BitVec.ofNat 32 j.val) a).toNat = a.toNat + j.val := by
      show (BitVec.ofNat 32 j.val + a).toNat = _
      rw [BitVec.toNat_add, BitVec.toNat_ofNat]; omega
    have h2 : (IntOp.addi (BitVec.ofNat 32 (q.val % 128)) b).toNat = b.toNat + q.val % 128 := by
      show (BitVec.ofNat 32 (q.val % 128) + b).toNat = _
      rw [BitVec.toNat_add, BitVec.toNat_ofNat]; omega
    rw [BitVec.sle_eq_decide, BitVec.toInt_eq_toNat_of_lt (by rw [h1]; omega),
      BitVec.toInt_eq_toNat_of_lt (by rw [h2]; omega), h1, h2]
    simp only [Nat.cast_le]
  show Scalar.select (BitVec.ofBool _) _ _ = _
  rw [e]
  by_cases hc : a.toNat + j.val ≤ b.toNat + q.val % 128
  · rw [if_pos hc, decide_eq_true hc]; rfl
  · rw [if_neg hc, decide_eq_false hc]; rfl

/-! ## A column of the running softmax, over the reals -/

theorem exp2_real (r : ℝ) : Ideal.exp2 ((r : ℝ) : EReal) = ((Real.rpow 2 r : ℝ) : EReal) := rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- What a column holds once the keys below `N` are accounted for: nothing yet, or a real reference point `M`
together with the sums of the values weighted by `2 ^ (score - M)`, over the keys not later than `p`. -/
def Col (N p : ℕ) (s : ℕ → ℝ) {ι : Type} (V : ι → ℕ → ℝ) (m : EReal) (a : ι → EReal) : Prop :=
  (N = 0 ∧ m = ⊥ ∧ ∀ c, a c = 0) ∨ ∃ M : ℝ, m = (M : EReal) ∧ ∀ c,
    a c = ((∑ k ∈ Finset.range N, if k ≤ p then V c k * Real.rpow 2 (s k - M) else 0 : ℝ) : EReal)

theorem fold_max_le (x : Fin 256 → EReal) (j : Fin 256) : x j ≤ Finset.fold max ⊥ x Finset.univ := by
  rw [Finset.le_fold_max]; exact Or.inr ⟨j, Finset.mem_univ j, le_rfl⟩

theorem fold_max_ne_top (x : Fin 256 → EReal) (h : ∀ j, x j < ⊤) : Finset.fold max ⊥ x Finset.univ < ⊤ := by
  rw [Finset.fold_max_lt]; exact ⟨by decide, fun j _ => h j⟩

/-- One tile moves a column on by 256 keys. -/
theorem Col.step {N p : ℕ} {s : ℕ → ℝ} {ι : Type} {V : ι → ℕ → ℝ} {m : EReal} {a : ι → EReal} (h : Col N p s V m a)
    (x : Fin 256 → EReal) (hx : ∀ j, x j = if N + j.val ≤ p then ((s (N + j.val) : ℝ) : EReal) else ⊥)
    (vt : ι → Fin 256 → EReal) (hv : ∀ c j, vt c j = ((V c (N + j.val) : ℝ) : EReal)) :
    Col (N + 256) p s V (colM x m)
      (fun c => Ideal.exp2 (m - colM x m) * a c + ∑ j : Fin 256, vt c j * Ideal.exp2 (x j - colM x m)) := by
  have hlt : ∀ j, x j < ⊤ := by
    intro j; rw [hx j]; split
    · exact EReal.coe_lt_top _
    · exact bot_lt_top
  have hM : ∃ M : ℝ, colM x m = (M : EReal) := by
    have htop : colM x m < ⊤ := by
      refine max_lt ?_ (fold_max_ne_top x hlt)
      rcases h with ⟨_, hm, _⟩ | ⟨M, hm, _⟩ <;> rw [hm]
      · exact bot_lt_top
      · exact EReal.coe_lt_top _
    have hbot : ⊥ < colM x m := by
      rcases h with ⟨h0, _, _⟩ | ⟨M, hm, _⟩
      · refine lt_of_lt_of_le ?_ (le_trans (fold_max_le x 0) (le_max_right _ _))
        rw [hx 0, if_pos (by subst h0; simp)]; exact EReal.bot_lt_coe _
      · exact lt_of_lt_of_le (by rw [hm]; exact EReal.bot_lt_coe _) (le_max_left _ _)
    exact ⟨(colM x m).toReal, (EReal.coe_toReal htop.ne hbot.ne').symm⟩
  obtain ⟨M', hM'⟩ := hM
  rw [hM']
  have htile : ∀ c, ∑ j : Fin 256, vt c j * Ideal.exp2 (x j - (M' : EReal))
      = ((∑ j ∈ Finset.range 256, if N + j ≤ p then V c (N + j) * Real.rpow 2 (s (N + j) - M') else 0 : ℝ) : EReal) := by
    intro c
    rw [Finset.sum_range, ← coe_sum]
    refine Finset.sum_congr rfl fun j _ => ?_
    rw [hv, hx]
    by_cases hj : N + j.val ≤ p
    · rw [if_pos hj, if_pos hj, ← EReal.coe_sub, exp2_real, ← EReal.coe_mul]
    · rw [if_neg hj, if_neg hj]
      have : (⊥ : EReal) - (M' : EReal) = ⊥ := by rw [sub_eq_add_neg, EReal.bot_add]
      rw [this]; show _ * (0 : EReal) = _; simp
  refine Or.inr ⟨M', rfl, fun c => ?_⟩
  beta_reduce
  rw [htile c, Finset.sum_range_add, EReal.coe_add]
  congr 1
  rcases h with ⟨h0, hm, ha⟩ | ⟨M, hm, ha⟩
  · rw [ha c, h0]; simp
  · rw [hm, ha c, ← EReal.coe_sub, exp2_real, ← EReal.coe_mul, Finset.mul_sum]
    refine congrArg _ (Finset.sum_congr rfl fun k _ => ?_)
    split
    · have : Real.rpow 2 (s k - M') = Real.rpow 2 (M - M') * Real.rpow 2 (s k - M) := by
        show (2 : ℝ) ^ (s k - M') = 2 ^ (M - M') * 2 ^ (s k - M)
        rw [← Real.rpow_add (by norm_num)]; congr 1; ring
      rw [this]; ring
    · simp

/-- Keys later than the column's query change nothing. -/
theorem Col.skip {N p : ℕ} {s : ℕ → ℝ} {ι : Type} {V : ι → ℕ → ℝ} {m : EReal} {a : ι → EReal} (h : Col N p s V m a)
    (hp : p < N) : Col (N + 256) p s V m a := by
  rcases h with ⟨h0, _, _⟩ | ⟨M, hm, ha⟩
  · omega
  · refine Or.inr ⟨M, hm, fun c => ?_⟩
    rw [ha c, Finset.sum_range_add]
    have : ∑ x ∈ Finset.range 256, (if N + x ≤ p then V c (N + x) * Real.rpow 2 (s (N + x) - M) else 0) = 0 :=
      Finset.sum_eq_zero fun x _ => if_neg (by omega)
    rw [this, add_zero]

/-! ## A row block -/

/-- The numbers a point of the grid works on: the keys' lanes, the queries' lanes (those of the other map zero),
the values (with rows of ones), and the position of the point's first query. -/
structure Env where
  K : ℕ → Fin 128 → ℝ
  Q : Fin 16 → Fin 256 → Fin 128 → ℝ
  V : Fin 144 → ℕ → ℝ
  p0 : ℕ

/-- The score of a key against a column of a row block. -/
def Env.sc (E : Env) (r : Fin 16) (q : Fin 256) (k : ℕ) : ℝ := ∑ d : Fin 128, E.K k d * E.Q r q d

/-- The position of a column's query. -/
def Env.pos (E : Env) (r : Fin 16) (q : Fin 256) : ℕ := E.p0 + 128 * r.val + q.val % 128

/-- The two stored rows of a row block account for the keys below `N`. -/
def Env.Row (E : Env) (N : ℕ) (r : Fin 16) (m : Vec Ideal S1x1x256 .f32) (a : Vec Ideal S1x144x256 .f32) : Prop :=
  ∀ q : Fin 256, Col N (E.pos r q) (E.sc r q) E.V (m (ix3 0 0 q)) (fun c => a (ix3 0 c q))

/-- A tile of keys, with the values of the same keys. -/
def Env.KT (E : Env) (N : ℕ) (kt : FVec Ideal S256x128 .bf16) : Prop :=
  ∀ j d, kt (ix2 j d) = ((E.K (N + j.val) d : ℝ) : EReal)
def Env.VT (E : Env) (N : ℕ) (vt : FVec Ideal S144x256 .bf16) : Prop :=
  ∀ c j, vt (ix2 c j) = ((E.V c (N + j.val) : ℝ) : EReal)
/-- The queries of one row block. -/
def Env.QZ (E : Env) (r : Fin 16) (qz : FVec Ideal S256x128 .bf16) : Prop :=
  ∀ q d, qz (ix2 q d) = ((E.Q r q d : ℝ) : EReal)

theorem Env.score_eq (E : Env) {N : ℕ} {r : Fin 16} {kt qz : FVec Ideal S256x128 .bf16} (hk : E.KT N kt)
    (hq : E.QZ r qz) (j q : Fin 256) : score kt qz (ix2 j q) = ((E.sc r q (N + j.val) : ℝ) : EReal) := by
  rw [score_at, Env.sc, ← coe_sum]
  refine Finset.sum_congr rfl fun d _ => ?_
  rw [hk, hq, EReal.coe_mul]

/-- An unmasked tile. -/
theorem Env.Row.step {E : Env} {N : ℕ} {r : Fin 16} {m : Vec Ideal S1x1x256 .f32} {a : Vec Ideal S1x144x256 .f32}
    (h : E.Row N r m a) {kt qz : FVec Ideal S256x128 .bf16} {vt : FVec Ideal S144x256 .bf16} (hk : E.KT N kt)
    (hv : E.VT N vt) (hq : E.QZ r qz) (hN : N + 255 ≤ E.p0 + 128 * r.val) :
    E.Row (N + 256) r (stepM (score kt qz) m) (stepA vt (score kt qz) m a) := by
  intro q
  have := (h q).step (fun j => score kt qz (ix2 j q))
    (fun j => by rw [E.score_eq hk hq, if_pos (by unfold Env.pos; omega)]) (fun c j => vt (ix2 c j)) (fun c j => hv c j)
  rw [stepM_at]
  exact (funext fun c => stepA_at vt (score kt qz) m a c q : (fun c => stepA vt (score kt qz) m a (ix3 0 c q)) = _) ▸ this

/-- A masked tile of the diagonal. -/
theorem Env.Row.stepMasked {E : Env} {N : ℕ} {r : Fin 16} {m : Vec Ideal S1x1x256 .f32} {a : Vec Ideal S1x144x256 .f32}
    (h : E.Row N r m a) {kt qz : FVec Ideal S256x128 .bf16} {vt : FVec Ideal S144x256 .bf16} (hk : E.KT N kt)
    (hv : E.VT N vt) (hq : E.QZ r qz) (w b : BitVec 32) (hN : N = E.p0 + w.toNat) (hb : b.toNat = 128 * r.val)
    (hw : w.toNat ≤ 4096) :
    E.Row (N + 256) r (stepM (maskS w b (score kt qz)) m) (stepA vt (maskS w b (score kt qz)) m a) := by
  intro q
  have := (h q).step (fun j => maskS w b (score kt qz) (ix2 j q))
    (fun j => by
      rw [maskS_at _ _ _ _ _ hw (by have := r.isLt; omega), E.score_eq hk hq]
      exact if_congr (by unfold Env.pos; omega) rfl rfl) (fun c j => vt (ix2 c j)) (fun c j => hv c j)
  rw [stepM_at]
  exact (funext fun c => stepA_at vt (maskS w b (score kt qz)) m a c q :
    (fun c => stepA vt (maskS w b (score kt qz)) m a (ix3 0 c q)) = _) ▸ this

/-- A skipped tile. -/
theorem Env.Row.skip {E : Env} {N : ℕ} {r : Fin 16} {m : Vec Ideal S1x1x256 .f32} {a : Vec Ideal S1x144x256 .f32}
    (h : E.Row N r m a) (hN : E.p0 + 128 * r.val + 127 < N) : E.Row (N + 256) r m a := fun q =>
  (h q).skip (by unfold Env.pos; omega)

end Cert.DiffIdeal.Step
-- ==== Proof.Diff.State.lean ====
module

public import proofs.«01_k».proof.Proof.Diff.Step
public import Idealize.ShloMosaic.Lib.WritesUnit

/-! # The sixteen row blocks in memory

The kernel keeps the running maximum and the running sum of its sixteen row blocks in two buffers, one row each,
and stores a row at every step. A list of stores is read here row by row, whatever the buffers held before. -/

@[expose] public section

set_option maxRecDepth 16384

noncomputable section

namespace Cert.DiffIdeal.Step

open Cert.DiffIdeal Cert.DiffIdeal.Gen Idealize.ShloMosaic Idealize.ShloMosaic.TcCoe Idealize.SL.Sem

variable (v10 : View sig .tc .vmem S16x1x256 .f32) (v11 : View sig .tc .vmem S16x144x256 .f32)

/-- Row block `r` of the first buffer after the stores `L`. -/
def at10 (f : v10.ty.Contents (Elt Ideal)) (L : List (View.Piece (Elt Ideal) S16x1x256 .f32)) (r : Fin 16) :
    Vec Ideal S1x1x256 .f32 := fun y => v10.read (Elt Ideal) (v10.writes (Elt Ideal) f L) (ix3 r 0 (y 2))

/-- Row block `r` of the second buffer after the stores `L`. -/
def at11 (f : v11.ty.Contents (Elt Ideal)) (L : List (View.Piece (Elt Ideal) S16x144x256 .f32)) (r : Fin 16) :
    Vec Ideal S1x144x256 .f32 := fun y => v11.read (Elt Ideal) (v11.writes (Elt Ideal) f L) (ix3 r (y 1) (y 2))

abbrev P10 := List (View.Piece (Elt Ideal) S16x1x256 .f32)
abbrev P11 := List (View.Piece (Elt Ideal) S16x144x256 .f32)

theorem readAt10 (f : v10.ty.Contents (Elt Ideal)) (L : P10) (r : Fin 16)
    (inb : ∀ a, (![r.val, 0, 0] : Fin 3 → ℕ) a + S1x1x256.size a ≤ S16x1x256.size a) :
    v10.readAt (Elt Ideal) (Rect.unit (s := S16x1x256) ![r.val, 0, 0] S1x1x256.size inb).toLoadRect
      (v10.writes (Elt Ideal) f L) = at10 v10 f L r := by
  funext y
  rw [View.readAt_apply]
  unfold at10
  congr 1
  funext a
  apply Fin.ext
  have h0 : (y 0).val = 0 := by have := (y 0).isLt; change _ < 1 at this; omega
  have h1 : (y 1).val = 0 := by have := (y 1).isLt; change _ < 1 at this; omega
  fin_cases a
  · show r.val + 1 * (y 0).val = r.val; omega
  · show 0 + 1 * (y 1).val = 0; omega
  · show 0 + 1 * (y 2).val = (y 2).val; omega

theorem readAt11 (f : v11.ty.Contents (Elt Ideal)) (L : P11) (r : Fin 16)
    (inb : ∀ a, (![r.val, 0, 0] : Fin 3 → ℕ) a + S1x144x256.size a ≤ S16x144x256.size a) :
    v11.readAt (Elt Ideal) (Rect.unit (s := S16x144x256) ![r.val, 0, 0] S1x144x256.size inb).toLoadRect
      (v11.writes (Elt Ideal) f L) = at11 v11 f L r := by
  funext y
  rw [View.readAt_apply]
  unfold at11
  congr 1
  funext a
  apply Fin.ext
  have h0 : (y 0).val = 0 := by have := (y 0).isLt; change _ < 1 at this; omega
  fin_cases a
  · show r.val + 1 * (y 0).val = r.val; omega
  · show 0 + 1 * (y 1).val = (y 1).val; omega
  · show 0 + 1 * (y 2).val = (y 2).val; omega

theorem at10_cons (f : v10.ty.Contents (Elt Ideal)) (L : P10) (r r' : Fin 16)
    (inb : ∀ a, (![r.val, 0, 0] : Fin 3 → ℕ) a + S1x1x256.size a ≤ S16x1x256.size a) (w : Vec Ideal S1x1x256 .f32)
    (q : Fin 256) :
    at10 v10 f (⟨Rect.unit (s := S16x1x256) ![r.val, 0, 0] S1x1x256.size inb, w⟩ :: L) r' (ix3 0 0 q)
      = if r' = r then w (ix3 0 0 q) else at10 v10 f L r' (ix3 0 0 q) := by
  unfold at10
  by_cases h : r' = r
  · rw [if_pos h]; subst h
    refine View.read_writes_cons_unit_of_mem v10 f inb w L _ (ix3 0 0 q) rfl fun a => ?_
    fin_cases a
    · show r'.val = r'.val + 0; omega
    · rfl
    · show q.val = 0 + q.val; omega
  · rw [if_neg h]
    refine View.read_writes_cons_unit_of_not_mem v10 f inb w L _ rfl (0 : Fin 3) ?_
    have : r'.val ≠ r.val := fun e => h (Fin.ext e)
    show r'.val < r.val ∨ r.val + 1 ≤ r'.val
    omega

theorem at11_cons (f : v11.ty.Contents (Elt Ideal)) (L : P11) (r r' : Fin 16)
    (inb : ∀ a, (![r.val, 0, 0] : Fin 3 → ℕ) a + S1x144x256.size a ≤ S16x144x256.size a) (w : Vec Ideal S1x144x256 .f32)
    (c : Fin 144) (q : Fin 256) :
    at11 v11 f (⟨Rect.unit (s := S16x144x256) ![r.val, 0, 0] S1x144x256.size inb, w⟩ :: L) r' (ix3 0 c q)
      = if r' = r then w (ix3 0 c q) else at11 v11 f L r' (ix3 0 c q) := by
  unfold at11
  by_cases h : r' = r
  · rw [if_pos h]; subst h
    refine View.read_writes_cons_unit_of_mem v11 f inb w L _ (ix3 0 c q) rfl fun a => ?_
    fin_cases a
    · show r'.val = r'.val + 0; omega
    · show c.val = 0 + c.val; omega
    · show q.val = 0 + q.val; omega
  · rw [if_neg h]
    refine View.read_writes_cons_unit_of_not_mem v11 f inb w L _ rfl (0 : Fin 3) ?_
    have : r'.val ≠ r.val := fun e => h (Fin.ext e)
    show r'.val < r.val ∨ r.val + 1 ≤ r'.val
    omega

/-- The rows of the blocks in `S` account for the keys below `Nv r`, whatever the buffers held before the stores. -/
def Holds (E : Env) (S : Fin 16 → Prop) (Nv : Fin 16 → ℕ) (L10 : P10) (L11 : P11) : Prop :=
  ∀ f g r, S r → E.Row (Nv r) r (at10 v10 f L10 r) (at11 v11 g L11 r)

/-- Blocks before `j` are one tile ahead. -/
def lev (N j : ℕ) (r : Fin 16) : ℕ := if r.val < j then N + 256 else N

variable {v10 v11}

/-- A store of a row block's two rows. -/
theorem Holds.cons {E : Env} {S : Fin 16 → Prop} {N : ℕ} {L10 : P10} {L11 : P11} (r : Fin 16)
    (h : Holds v10 v11 E S (lev N r.val) L10 L11) {m : Vec Ideal S1x1x256 .f32} {a : Vec Ideal S1x144x256 .f32}
    (hr : E.Row (N + 256) r m a)
    {inb10 : ∀ a, (![r.val, 0, 0] : Fin 3 → ℕ) a + S1x1x256.size a ≤ S16x1x256.size a}
    {inb11 : ∀ a, (![r.val, 0, 0] : Fin 3 → ℕ) a + S1x144x256.size a ≤ S16x144x256.size a} :
    Holds v10 v11 E (fun r' => S r' ∨ r' = r) (lev N (r.val + 1))
      (⟨Rect.unit (s := S16x1x256) ![r.val, 0, 0] S1x1x256.size inb10, m⟩ :: L10)
      (⟨Rect.unit (s := S16x144x256) ![r.val, 0, 0] S1x144x256.size inb11, a⟩ :: L11) := by
  intro f g r' hs q
  rw [at10_cons]
  have e : (fun c => at11 v11 g (⟨Rect.unit (s := S16x144x256) ![r.val, 0, 0] S1x144x256.size inb11, a⟩ :: L11) r' (ix3 0 c q))
      = fun c => if r' = r then a (ix3 0 c q) else at11 v11 g L11 r' (ix3 0 c q) := funext fun c => at11_cons v11 g L11 r r' inb11 a c q
  rw [e]
  by_cases h' : r' = r
  · subst h'
    have : lev N (r'.val + 1) r' = N + 256 := if_pos (by omega)
    rw [this]
    simp only [if_true]
    exact hr q
  · have hne : r'.val ≠ r.val := fun e => h' (Fin.ext e)
    have : lev N (r.val + 1) r' = lev N r.val r' := if_congr (by omega) rfl rfl
    rw [this]
    simp only [if_neg h']
    exact h f g r' (hs.resolve_right h') q

/-- What a load of a row block finds. -/
theorem Holds.row {E : Env} {S : Fin 16 → Prop} {Nv : Fin 16 → ℕ} {L10 : P10} {L11 : P11}
    (h : Holds v10 v11 E S Nv L10 L11) (r : Fin 16) (hs : S r)
    {inb10 : ∀ a, (![r.val, 0, 0] : Fin 3 → ℕ) a + S1x1x256.size a ≤ S16x1x256.size a}
    {inb11 : ∀ a, (![r.val, 0, 0] : Fin 3 → ℕ) a + S1x144x256.size a ≤ S16x144x256.size a}
    (f : v10.ty.Contents (Elt Ideal)) (g : v11.ty.Contents (Elt Ideal)) :
    E.Row (Nv r) r (v10.readAt (Elt Ideal) (Rect.unit (s := S16x1x256) ![r.val, 0, 0] S1x1x256.size inb10).toLoadRect (v10.writes (Elt Ideal) f L10))
      (v11.readAt (Elt Ideal) (Rect.unit (s := S16x144x256) ![r.val, 0, 0] S1x144x256.size inb11).toLoadRect (v11.writes (Elt Ideal) g L11)) := by
  rw [readAt10, readAt11]
  exact h f g r hs

/-- One step on a row block whose rows are already stored: unmasked. -/
theorem Holds.step {E : Env} {N : ℕ} {L10 : P10} {L11 : P11} (j : ℕ) (hj : j < 16)
    (h : Holds v10 v11 E (fun _ => True) (lev N j) L10 L11) {kt qz : FVec Ideal S256x128 .bf16}
    {vt : FVec Ideal S144x256 .bf16} (hk : E.KT N kt) (hv : E.VT N vt) (hq : E.QZ ⟨j, hj⟩ qz)
    (hN : N + 255 ≤ E.p0 + 128 * j)
    {inb10 : ∀ a, (![j, 0, 0] : Fin 3 → ℕ) a + S1x1x256.size a ≤ S16x1x256.size a}
    {inb11 : ∀ a, (![j, 0, 0] : Fin 3 → ℕ) a + S1x144x256.size a ≤ S16x144x256.size a} :
    Holds v10 v11 E (fun _ => True) (lev N (j + 1))
      (⟨Rect.unit (s := S16x1x256) ![j, 0, 0] S1x1x256.size inb10, stepM (score kt qz)
        (v10.readCov L10 (Rect.unit (s := S16x1x256) ![j, 0, 0] S1x1x256.size inb10).toLoadRect)⟩ :: L10)
      (⟨Rect.unit (s := S16x144x256) ![j, 0, 0] S1x144x256.size inb11, stepA vt (score kt qz)
        (v10.readCov L10 (Rect.unit (s := S16x1x256) ![j, 0, 0] S1x1x256.size inb10).toLoadRect)
        (v11.readCov L11 (Rect.unit (s := S16x144x256) ![j, 0, 0] S1x144x256.size inb11).toLoadRect)⟩ :: L11) := by
  have hr := h.row ⟨j, hj⟩ trivial (inb10 := inb10) (inb11 := inb11) v10.junk v11.junk
  have hl : lev N j ⟨j, hj⟩ = N := if_neg (lt_irrefl _)
  rw [hl] at hr
  exact fun f g r _ => Holds.cons ⟨j, hj⟩ h (hr.step hk hv hq hN) f g r (Or.inl trivial)

/-- One step on a row block whose rows are already stored: masked. -/
theorem Holds.stepMasked {E : Env} {N : ℕ} {L10 : P10} {L11 : P11} (j : ℕ) (hj : j < 16)
    (h : Holds v10 v11 E (fun _ => True) (lev N j) L10 L11) {kt qz : FVec Ideal S256x128 .bf16}
    {vt : FVec Ideal S144x256 .bf16} (hk : E.KT N kt) (hv : E.VT N vt) (hq : E.QZ ⟨j, hj⟩ qz)
    (w b : BitVec 32) (hN : N = E.p0 + w.toNat) (hb : b.toNat = 128 * j) (hw : w.toNat ≤ 4096)
    {inb10 : ∀ a, (![j, 0, 0] : Fin 3 → ℕ) a + S1x1x256.size a ≤ S16x1x256.size a}
    {inb11 : ∀ a, (![j, 0, 0] : Fin 3 → ℕ) a + S1x144x256.size a ≤ S16x144x256.size a} :
    Holds v10 v11 E (fun _ => True) (lev N (j + 1))
      (⟨Rect.unit (s := S16x1x256) ![j, 0, 0] S1x1x256.size inb10, stepM (maskS w b (score kt qz))
        (v10.readCov L10 (Rect.unit (s := S16x1x256) ![j, 0, 0] S1x1x256.size inb10).toLoadRect)⟩ :: L10)
      (⟨Rect.unit (s := S16x144x256) ![j, 0, 0] S1x144x256.size inb11, stepA vt (maskS w b (score kt qz))
        (v10.readCov L10 (Rect.unit (s := S16x1x256) ![j, 0, 0] S1x1x256.size inb10).toLoadRect)
        (v11.readCov L11 (Rect.unit (s := S16x144x256) ![j, 0, 0] S1x144x256.size inb11).toLoadRect)⟩ :: L11) := by
  have hr := h.row ⟨j, hj⟩ trivial (inb10 := inb10) (inb11 := inb11) v10.junk v11.junk
  have hl : lev N j ⟨j, hj⟩ = N := if_neg (lt_irrefl _)
  rw [hl] at hr
  exact fun f g r _ => Holds.cons ⟨j, hj⟩ h (hr.stepMasked hk hv hq w b hN hb hw) f g r (Or.inl trivial)

/-- All sixteen blocks a tile ahead: the next tile begins. -/
theorem Holds.next {E : Env} {N : ℕ} {L10 : P10} {L11 : P11} (h : Holds v10 v11 E (fun _ => True) (lev N 16) L10 L11) :
    Holds v10 v11 E (fun _ => True) (lev (N + 256) 0) L10 L11 := by
  intro f g r hr
  have e : lev (N + 256) 0 r = lev N 16 r := by
    have := r.isLt
    simp [lev, this]
  rw [e]; exact h f g r hr

/-- Blocks before `j` skip the tile: its keys are later than all their queries. -/
theorem Holds.skip {E : Env} {N : ℕ} {L10 : P10} {L11 : P11} (j : ℕ) (h : Holds v10 v11 E (fun _ => True) (lev N 0) L10 L11)
    (hN : ∀ r : Fin 16, r.val < j → E.p0 + 128 * r.val + 127 < N) :
    Holds v10 v11 E (fun _ => True) (lev N j) L10 L11 := by
  intro f g r hr
  have h0 : lev N 0 r = N := if_neg (Nat.not_lt_zero _)
  have := h f g r hr
  rw [h0] at this
  unfold lev
  split
  · next hlt => exact this.skip (hN r hlt)
  · exact this

/-- Stores over earlier stores. -/
theorem Holds.append {E : Env} {Nv : Fin 16 → ℕ} {L10 : P10} {L11 : P11} (h : Holds v10 v11 E (fun _ => True) Nv L10 L11)
    (K10 : P10) (K11 : P11) : Holds v10 v11 E (fun _ => True) Nv (L10 ++ K10) (L11 ++ K11) := by
  intro f g r hr
  have := h (v10.writes (Elt Ideal) f K10) (v11.writes (Elt Ideal) g K11) r hr
  unfold at10 at11 at this ⊢
  rw [View.writes_append, View.writes_append]
  exact this

end Cert.DiffIdeal.Step
-- ==== Proof.Diff.Trip.lean ====
module

public import proofs.«01_k».proof.Proof.Gen.DiffIdeal.Loops
public import proofs.«01_k».proof.Proof.Diff.State

/-! # One trip of the loop over whole key tiles

A trip takes four tiles of 256 keys; each tile steps the sixteen row blocks in turn. -/

@[expose] public section

set_option maxRecDepth 16384

noncomputable section

namespace Cert.DiffIdeal.Step

open Cert.DiffIdeal Cert.DiffIdeal.Gen Idealize.ShloMosaic Idealize.ShloMosaic.TcCoe Idealize.SL.Sem

/-- What a trip works on: its point's numbers, the first key of its tiles, and what its buffers hold. -/
structure TripIn (E : Env) (N : ℕ) (i : grid1.Coords) (k : Fin (k1_t1_loop i).trips)
    (arg4 : Memref sig .tc .vmem S1x4096x128 .bf16) (arg5 : Memref sig .tc .vmem S144x4096 .bf16)
    (arg9 : Memref sig .tc .vmem S16x256x128 .bf16)
    (X4 : BufTy.Contents (Elt Ideal) arg4.view.ty) (X5 : BufTy.Contents (Elt Ideal) arg5.view.ty)
    (X9 : BufTy.Contents (Elt Ideal) arg9.view.ty) : Prop where
  le : N + 1023 ≤ E.p0
  kt : ∀ (t : Fin 4) inb, E.KT (N + 256 * t.val) (shapeCast S256x128 (arg4.view.readAt (Elt Ideal)
    (Rect.unit (s := S1x4096x128) (k1_off1 i k (BitVec.ofNat 32 (256 * t.val))) S1x256x128.size inb).toLoadRect X4) shapeCasts_S1x256x128_S256x128)
  vt : ∀ (t : Fin 4) inb, E.VT (N + 256 * t.val) (shapeCast S144x256 (arg5.view.readAt (Elt Ideal)
    (Rect.unit (s := S144x4096) (k1_off2 i k (BitVec.ofNat 32 (256 * t.val))) S144x256.size inb).toLoadRect X5) shapeCasts_S144x256_S144x256)
  qz : ∀ (r : Fin 16) inb, E.QZ r (shapeCast S256x128 (arg9.view.readAt (Elt Ideal)
    (Rect.unit (s := S16x256x128) ![r.val, 0, 0] S1x256x128.size inb).toLoadRect X9) shapeCasts_S1x256x128_S256x128)

section

variable {E : Env} {N : ℕ} {i : grid1.Coords} {k : Fin (k1_t1_loop i).trips}
  {arg4 : Memref sig .tc .vmem S1x4096x128 .bf16} {arg5 : Memref sig .tc .vmem S144x4096 .bf16}
  {arg9 : Memref sig .tc .vmem S16x256x128 .bf16} {arg10 : Memref sig .tc .vmem S16x1x256 .f32}
  {arg11 : Memref sig .tc .vmem S16x144x256 .f32}
  {X4 : BufTy.Contents (Elt Ideal) arg4.view.ty} {X5 : BufTy.Contents (Elt Ideal) arg5.view.ty}
  {X9 : BufTy.Contents (Elt Ideal) arg9.view.ty} {f10 : BufTy.Contents (Elt Ideal) arg10.view.ty}
  {f11 : BufTy.Contents (Elt Ideal) arg11.view.ty}

/-- The first tile: the rows are those the trip finds. -/
theorem trip_16 (T : TripIn E N i k arg4 arg5 arg9 X4 X5 X9)
    (h : ∀ (r : Fin 16) inb10 inb11, E.Row N r
      (arg10.view.readAt (Elt Ideal) (Rect.unit (s := S16x1x256) ![r.val, 0, 0] S1x1x256.size inb10).toLoadRect f10)
      (arg11.view.readAt (Elt Ideal) (Rect.unit (s := S16x144x256) ![r.val, 0, 0] S1x144x256.size inb11).toLoadRect f11)) :
    Holds arg10.view arg11.view E (fun _ => True) (lev (N + 256 * 0) 16)
      (trip_k1_t1.sl.HW_arg10_16 i arg4 arg9 arg10 X4 X9 k f10)
      (trip_k1_t1.sl.HW_arg11_16 i arg4 arg5 arg9 arg10 arg11 X4 X5 X9 k f10 f11) := by
  have p0 : Holds arg10.view arg11.view E (fun _ => False) (lev (N + 256 * 0) (0 : Fin 16).val) [] [] := fun _ _ _ hf => hf.elim
  have p1 := Holds.cons (inb10 := by decide) (inb11 := by decide) 0 p0 ((h 0 (by decide) (by decide)).step (T.kt 0 (k1_off1_inb i k 0)) (T.vt 0 (k1_off2_inb i k 0)) (T.qz 0 (by decide)) (by have := T.le; show N + 256 * 0 + 255 ≤ E.p0 + 128 * 0; omega))
  have p2 := Holds.cons (inb10 := by decide) (inb11 := by decide) 1 p1 ((h 1 (by decide) (by decide)).step (T.kt 0 (k1_off1_inb i k 0)) (T.vt 0 (k1_off2_inb i k 0)) (T.qz 1 (by decide)) (by have := T.le; show N + 256 * 0 + 255 ≤ E.p0 + 128 * 1; omega))
  have p3 := Holds.cons (inb10 := by decide) (inb11 := by decide) 2 p2 ((h 2 (by decide) (by decide)).step (T.kt 0 (k1_off1_inb i k 0)) (T.vt 0 (k1_off2_inb i k 0)) (T.qz 2 (by decide)) (by have := T.le; show N + 256 * 0 + 255 ≤ E.p0 + 128 * 2; omega))
  have p4 := Holds.cons (inb10 := by decide) (inb11 := by decide) 3 p3 ((h 3 (by decide) (by decide)).step (T.kt 0 (k1_off1_inb i k 0)) (T.vt 0 (k1_off2_inb i k 0)) (T.qz 3 (by decide)) (by have := T.le; show N + 256 * 0 + 255 ≤ E.p0 + 128 * 3; omega))
  have p5 := Holds.cons (inb10 := by decide) (inb11 := by decide) 4 p4 ((h 4 (by decide) (by decide)).step (T.kt 0 (k1_off1_inb i k 0)) (T.vt 0 (k1_off2_inb i k 0)) (T.qz 4 (by decide)) (by have := T.le; show N + 256 * 0 + 255 ≤ E.p0 + 128 * 4; omega))
  have p6 := Holds.cons (inb10 := by decide) (inb11 := by decide) 5 p5 ((h 5 (by decide) (by decide)).step (T.kt 0 (k1_off1_inb i k 0)) (T.vt 0 (k1_off2_inb i k 0)) (T.qz 5 (by decide)) (by have := T.le; show N + 256 * 0 + 255 ≤ E.p0 + 128 * 5; omega))
  have p7 := Holds.cons (inb10 := by decide) (inb11 := by decide) 6 p6 ((h 6 (by decide) (by decide)).step (T.kt 0 (k1_off1_inb i k 0)) (T.vt 0 (k1_off2_inb i k 0)) (T.qz 6 (by decide)) (by have := T.le; show N + 256 * 0 + 255 ≤ E.p0 + 128 * 6; omega))
  have p8 := Holds.cons (inb10 := by decide) (inb11 := by decide) 7 p7 ((h 7 (by decide) (by decide)).step (T.kt 0 (k1_off1_inb i k 0)) (T.vt 0 (k1_off2_inb i k 0)) (T.qz 7 (by decide)) (by have := T.le; show N + 256 * 0 + 255 ≤ E.p0 + 128 * 7; omega))
  have p9 := Holds.cons (inb10 := by decide) (inb11 := by decide) 8 p8 ((h 8 (by decide) (by decide)).step (T.kt 0 (k1_off1_inb i k 0)) (T.vt 0 (k1_off2_inb i k 0)) (T.qz 8 (by decide)) (by have := T.le; show N + 256 * 0 + 255 ≤ E.p0 + 128 * 8; omega))
  have p10 := Holds.cons (inb10 := by decide) (inb11 := by decide) 9 p9 ((h 9 (by decide) (by decide)).step (T.kt 0 (k1_off1_inb i k 0)) (T.vt 0 (k1_off2_inb i k 0)) (T.qz 9 (by decide)) (by have := T.le; show N + 256 * 0 + 255 ≤ E.p0 + 128 * 9; omega))
  have p11 := Holds.cons (inb10 := by decide) (inb11 := by decide) 10 p10 ((h 10 (by decide) (by decide)).step (T.kt 0 (k1_off1_inb i k 0)) (T.vt 0 (k1_off2_inb i k 0)) (T.qz 10 (by decide)) (by have := T.le; show N + 256 * 0 + 255 ≤ E.p0 + 128 * 10; omega))
  have p12 := Holds.cons (inb10 := by decide) (inb11 := by decide) 11 p11 ((h 11 (by decide) (by decide)).step (T.kt 0 (k1_off1_inb i k 0)) (T.vt 0 (k1_off2_inb i k 0)) (T.qz 11 (by decide)) (by have := T.le; show N + 256 * 0 + 255 ≤ E.p0 + 128 * 11; omega))
  have p13 := Holds.cons (inb10 := by decide) (inb11 := by decide) 12 p12 ((h 12 (by decide) (by decide)).step (T.kt 0 (k1_off1_inb i k 0)) (T.vt 0 (k1_off2_inb i k 0)) (T.qz 12 (by decide)) (by have := T.le; show N + 256 * 0 + 255 ≤ E.p0 + 128 * 12; omega))
  have p14 := Holds.cons (inb10 := by decide) (inb11 := by decide) 13 p13 ((h 13 (by decide) (by decide)).step (T.kt 0 (k1_off1_inb i k 0)) (T.vt 0 (k1_off2_inb i k 0)) (T.qz 13 (by decide)) (by have := T.le; show N + 256 * 0 + 255 ≤ E.p0 + 128 * 13; omega))
  have p15 := Holds.cons (inb10 := by decide) (inb11 := by decide) 14 p14 ((h 14 (by decide) (by decide)).step (T.kt 0 (k1_off1_inb i k 0)) (T.vt 0 (k1_off2_inb i k 0)) (T.qz 14 (by decide)) (by have := T.le; show N + 256 * 0 + 255 ≤ E.p0 + 128 * 14; omega))
  have p16 := Holds.cons (inb10 := by decide) (inb11 := by decide) 15 p15 ((h 15 (by decide) (by decide)).step (T.kt 0 (k1_off1_inb i k 0)) (T.vt 0 (k1_off2_inb i k 0)) (T.qz 15 (by decide)) (by have := T.le; show N + 256 * 0 + 255 ≤ E.p0 + 128 * 15; omega))
  refine fun f g r _ => p16 f g r ?_
  revert r; decide

theorem trip_17 (T : TripIn E N i k arg4 arg5 arg9 X4 X5 X9) (h : Holds arg10.view arg11.view E (fun _ => True) (lev (N + 256 * 1) 0) (trip_k1_t1.sl.HW_arg10_16 i arg4 arg9 arg10 X4 X9 k f10) (trip_k1_t1.sl.HW_arg11_16 i arg4 arg5 arg9 arg10 arg11 X4 X5 X9 k f10 f11)) :
    Holds arg10.view arg11.view E (fun _ => True) (lev (N + 256 * 1) 1) (trip_k1_t1.sl.HW_arg10_17 i arg4 arg9 arg10 X4 X9 k f10) (trip_k1_t1.sl.HW_arg11_17 i arg4 arg5 arg9 arg10 arg11 X4 X5 X9 k f10 f11) :=
  h.step 0 (by omega) (T.kt 1 (k1_off1_inb i k 1)) (T.vt 1 (k1_off2_inb i k 1)) (T.qz 0 (by decide)) (by have := T.le; show N + 256 * 1 + 255 ≤ _; omega) (inb10 := by decide) (inb11 := by decide)

theorem trip_18 (T : TripIn E N i k arg4 arg5 arg9 X4 X5 X9) (h : Holds arg10.view arg11.view E (fun _ => True) (lev (N + 256 * 1) 1) (trip_k1_t1.sl.HW_arg10_17 i arg4 arg9 arg10 X4 X9 k f10) (trip_k1_t1.sl.HW_arg11_17 i arg4 arg5 arg9 arg10 arg11 X4 X5 X9 k f10 f11)) :
    Holds arg10.view arg11.view E (fun _ => True) (lev (N + 256 * 1) 2) (trip_k1_t1.sl.HW_arg10_18 i arg4 arg9 arg10 X4 X9 k f10) (trip_k1_t1.sl.HW_arg11_18 i arg4 arg5 arg9 arg10 arg11 X4 X5 X9 k f10 f11) :=
  h.step 1 (by omega) (T.kt 1 (k1_off1_inb i k 1)) (T.vt 1 (k1_off2_inb i k 1)) (T.qz 1 (by decide)) (by have := T.le; show N + 256 * 1 + 255 ≤ _; omega) (inb10 := by decide) (inb11 := by decide)

theorem trip_19 (T : TripIn E N i k arg4 arg5 arg9 X4 X5 X9) (h : Holds arg10.view arg11.view E (fun _ => True) (lev (N + 256 * 1) 2) (trip_k1_t1.sl.HW_arg10_18 i arg4 arg9 arg10 X4 X9 k f10) (trip_k1_t1.sl.HW_arg11_18 i arg4 arg5 arg9 arg10 arg11 X4 X5 X9 k f10 f11)) :
    Holds arg10.view arg11.view E (fun _ => True) (lev (N + 256 * 1) 3) (trip_k1_t1.sl.HW_arg10_19 i arg4 arg9 arg10 X4 X9 k f10) (trip_k1_t1.sl.HW_arg11_19 i arg4 arg5 arg9 arg10 arg11 X4 X5 X9 k f10 f11) :=
  h.step 2 (by omega) (T.kt 1 (k1_off1_inb i k 1)) (T.vt 1 (k1_off2_inb i k 1)) (T.qz 2 (by decide)) (by have := T.le; show N + 256 * 1 + 255 ≤ _; omega) (inb10 := by decide) (inb11 := by decide)

theorem trip_20 (T : TripIn E N i k arg4 arg5 arg9 X4 X5 X9) (h : Holds arg10.view arg11.view E (fun _ => True) (lev (N + 256 * 1) 3) (trip_k1_t1.sl.HW_arg10_19 i arg4 arg9 arg10 X4 X9 k f10) (trip_k1_t1.sl.HW_arg11_19 i arg4 arg5 arg9 arg10 arg11 X4 X5 X9 k f10 f11)) :
    Holds arg10.view arg11.view E (fun _ => True) (lev (N + 256 * 1) 4) (trip_k1_t1.sl.HW_arg10_20 i arg4 arg9 arg10 X4 X9 k f10) (trip_k1_t1.sl.HW_arg11_20 i arg4 arg5 arg9 arg10 arg11 X4 X5 X9 k f10 f11) :=
  h.step 3 (by omega) (T.kt 1 (k1_off1_inb i k 1)) (T.vt 1 (k1_off2_inb i k 1)) (T.qz 3 (by decide)) (by have := T.le; show N + 256 * 1 + 255 ≤ _; omega) (inb10 := by decide) (inb11 := by decide)

theorem trip_21 (T : TripIn E N i k arg4 arg5 arg9 X4 X5 X9) (h : Holds arg10.view arg11.view E (fun _ => True) (lev (N + 256 * 1) 4) (trip_k1_t1.sl.HW_arg10_20 i arg4 arg9 arg10 X4 X9 k f10) (trip_k1_t1.sl.HW_arg11_20 i arg4 arg5 arg9 arg10 arg11 X4 X5 X9 k f10 f11)) :
    Holds arg10.view arg11.view E (fun _ => True) (lev (N + 256 * 1) 5) (trip_k1_t1.sl.HW_arg10_21 i arg4 arg9 arg10 X4 X9 k f10) (trip_k1_t1.sl.HW_arg11_21 i arg4 arg5 arg9 arg10 arg11 X4 X5 X9 k f10 f11) :=
  h.step 4 (by omega) (T.kt 1 (k1_off1_inb i k 1)) (T.vt 1 (k1_off2_inb i k 1)) (T.qz 4 (by decide)) (by have := T.le; show N + 256 * 1 + 255 ≤ _; omega) (inb10 := by decide) (inb11 := by decide)

theorem trip_22 (T : TripIn E N i k arg4 arg5 arg9 X4 X5 X9) (h : Holds arg10.view arg11.view E (fun _ => True) (lev (N + 256 * 1) 5) (trip_k1_t1.sl.HW_arg10_21 i arg4 arg9 arg10 X4 X9 k f10) (trip_k1_t1.sl.HW_arg11_21 i arg4 arg5 arg9 arg10 arg11 X4 X5 X9 k f10 f11)) :
    Holds arg10.view arg11.view E (fun _ => True) (lev (N + 256 * 1) 6) (trip_k1_t1.sl.HW_arg10_22 i arg4 arg9 arg10 X4 X9 k f10) (trip_k1_t1.sl.HW_arg11_22 i arg4 arg5 arg9 arg10 arg11 X4 X5 X9 k f10 f11) :=
  h.step 5 (by omega) (T.kt 1 (k1_off1_inb i k 1)) (T.vt 1 (k1_off2_inb i k 1)) (T.qz 5 (by decide)) (by have := T.le; show N + 256 * 1 + 255 ≤ _; omega) (inb10 := by decide) (inb11 := by decide)

theorem trip_23 (T : TripIn E N i k arg4 arg5 arg9 X4 X5 X9) (h : Holds arg10.view arg11.view E (fun _ => True) (lev (N + 256 * 1) 6) (trip_k1_t1.sl.HW_arg10_22 i arg4 arg9 arg10 X4 X9 k f10) (trip_k1_t1.sl.HW_arg11_22 i arg4 arg5 arg9 arg10 arg11 X4 X5 X9 k f10 f11)) :
    Holds arg10.view arg11.view E (fun _ => True) (lev (N + 256 * 1) 7) (trip_k1_t1.sl.HW_arg10_23 i arg4 arg9 arg10 X4 X9 k f10) (trip_k1_t1.sl.HW_arg11_23 i arg4 arg5 arg9 arg10 arg11 X4 X5 X9 k f10 f11) :=
  h.step 6 (by omega) (T.kt 1 (k1_off1_inb i k 1)) (T.vt 1 (k1_off2_inb i k 1)) (T.qz 6 (by decide)) (by have := T.le; show N + 256 * 1 + 255 ≤ _; omega) (inb10 := by decide) (inb11 := by decide)

theorem trip_24 (T : TripIn E N i k arg4 arg5 arg9 X4 X5 X9) (h : Holds arg10.view arg11.view E (fun _ => True) (lev (N + 256 * 1) 7) (trip_k1_t1.sl.HW_arg10_23 i arg4 arg9 arg10 X4 X9 k f10) (trip_k1_t1.sl.HW_arg11_23 i arg4 arg5 arg9 arg10 arg11 X4 X5 X9 k f10 f11)) :
    Holds arg10.view arg11.view E (fun _ => True) (lev (N + 256 * 1) 8) (trip_k1_t1.sl.HW_arg10_24 i arg4 arg9 arg10 X4 X9 k f10) (trip_k1_t1.sl.HW_arg11_24 i arg4 arg5 arg9 arg10 arg11 X4 X5 X9 k f10 f11) :=
  h.step 7 (by omega) (T.kt 1 (k1_off1_inb i k 1)) (T.vt 1 (k1_off2_inb i k 1)) (T.qz 7 (by decide)) (by have := T.le; show N + 256 * 1 + 255 ≤ _; omega) (inb10 := by decide) (inb11 := by decide)

theorem trip_25 (T : TripIn E N i k arg4 arg5 arg9 X4 X5 X9) (h : Holds arg10.view arg11.view E (fun _ => True) (lev (N + 256 * 1) 8) (trip_k1_t1.sl.HW_arg10_24 i arg4 arg9 arg10 X4 X9 k f10) (trip_k1_t1.sl.HW_arg11_24 i arg4 arg5 arg9 arg10 arg11 X4 X5 X9 k f10 f11)) :
    Holds arg10.view arg11.view E (fun _ => True) (lev (N + 256 * 1) 9) (trip_k1_t1.sl.HW_arg10_25 i arg4 arg9 arg10 X4 X9 k f10) (trip_k1_t1.sl.HW_arg11_25 i arg4 arg5 arg9 arg10 arg11 X4 X5 X9 k f10 f11) :=
  h.step 8 (by omega) (T.kt 1 (k1_off1_inb i k 1)) (T.vt 1 (k1_off2_inb i k 1)) (T.qz 8 (by decide)) (by have := T.le; show N + 256 * 1 + 255 ≤ _; omega) (inb10 := by decide) (inb11 := by decide)

theorem trip_26 (T : TripIn E N i k arg4 arg5 arg9 X4 X5 X9) (h : Holds arg10.view arg11.view E (fun _ => True) (lev (N + 256 * 1) 9) (trip_k1_t1.sl.HW_arg10_25 i arg4 arg9 arg10 X4 X9 k f10) (trip_k1_t1.sl.HW_arg11_25 i arg4 arg5 arg9 arg10 arg11 X4 X5 X9 k f10 f11)) :
    Holds arg10.view arg11.view E (fun _ => True) (lev (N + 256 * 1) 10) (trip_k1_t1.sl.HW_arg10_26 i arg4 arg9 arg10 X4 X9 k f10) (trip_k1_t1.sl.HW_arg11_26 i arg4 arg5 arg9 arg10 arg11 X4 X5 X9 k f10 f11) :=
  h.step 9 (by omega) (T.kt 1 (k1_off1_inb i k 1)) (T.vt 1 (k1_off2_inb i k 1)) (T.qz 9 (by decide)) (by have := T.le; show N + 256 * 1 + 255 ≤ _; omega) (inb10 := by decide) (inb11 := by decide)

theorem trip_27 (T : TripIn E N i k arg4 arg5 arg9 X4 X5 X9) (h : Holds arg10.view arg11.view E (fun _ => True) (lev (N + 256 * 1) 10) (trip_k1_t1.sl.HW_arg10_26 i arg4 arg9 arg10 X4 X9 k f10) (trip_k1_t1.sl.HW_arg11_26 i arg4 arg5 arg9 arg10 arg11 X4 X5 X9 k f10 f11)) :
    Holds arg10.view arg11.view E (fun _ => True) (lev (N + 256 * 1) 11) (trip_k1_t1.sl.HW_arg10_27 i arg4 arg9 arg10 X4 X9 k f10) (trip_k1_t1.sl.HW_arg11_27 i arg4 arg5 arg9 arg10 arg11 X4 X5 X9 k f10 f11) :=
  h.step 10 (by omega) (T.kt 1 (k1_off1_inb i k 1)) (T.vt 1 (k1_off2_inb i k 1)) (T.qz 10 (by decide)) (by have := T.le; show N + 256 * 1 + 255 ≤ _; omega) (inb10 := by decide) (inb11 := by decide)

theorem trip_28 (T : TripIn E N i k arg4 arg5 arg9 X4 X5 X9) (h : Holds arg10.view arg11.view E (fun _ => True) (lev (N + 256 * 1) 11) (trip_k1_t1.sl.HW_arg10_27 i arg4 arg9 arg10 X4 X9 k f10) (trip_k1_t1.sl.HW_arg11_27 i arg4 arg5 arg9 arg10 arg11 X4 X5 X9 k f10 f11)) :
    Holds arg10.view arg11.view E (fun _ => True) (lev (N + 256 * 1) 12) (trip_k1_t1.sl.HW_arg10_28 i arg4 arg9 arg10 X4 X9 k f10) (trip_k1_t1.sl.HW_arg11_28 i arg4 arg5 arg9 arg10 arg11 X4 X5 X9 k f10 f11) :=
  h.step 11 (by omega) (T.kt 1 (k1_off1_inb i k 1)) (T.vt 1 (k1_off2_inb i k 1)) (T.qz 11 (by decide)) (by have := T.le; show N + 256 * 1 + 255 ≤ _; omega) (inb10 := by decide) (inb11 := by decide)

theorem trip_29 (T : TripIn E N i k arg4 arg5 arg9 X4 X5 X9) (h : Holds arg10.view arg11.view E (fun _ => True) (lev (N + 256 * 1) 12) (trip_k1_t1.sl.HW_arg10_28 i arg4 arg9 arg10 X4 X9 k f10) (trip_k1_t1.sl.HW_arg11_28 i arg4 arg5 arg9 arg10 arg11 X4 X5 X9 k f10 f11)) :
    Holds arg10.view arg11.view E (fun _ => True) (lev (N + 256 * 1) 13) (trip_k1_t1.sl.HW_arg10_29 i arg4 arg9 arg10 X4 X9 k f10) (trip_k1_t1.sl.HW_arg11_29 i arg4 arg5 arg9 arg10 arg11 X4 X5 X9 k f10 f11) :=
  h.step 12 (by omega) (T.kt 1 (k1_off1_inb i k 1)) (T.vt 1 (k1_off2_inb i k 1)) (T.qz 12 (by decide)) (by have := T.le; show N + 256 * 1 + 255 ≤ _; omega) (inb10 := by decide) (inb11 := by decide)

theorem trip_30 (T : TripIn E N i k arg4 arg5 arg9 X4 X5 X9) (h : Holds arg10.view arg11.view E (fun _ => True) (lev (N + 256 * 1) 13) (trip_k1_t1.sl.HW_arg10_29 i arg4 arg9 arg10 X4 X9 k f10) (trip_k1_t1.sl.HW_arg11_29 i arg4 arg5 arg9 arg10 arg11 X4 X5 X9 k f10 f11)) :
    Holds arg10.view arg11.view E (fun _ => True) (lev (N + 256 * 1) 14) (trip_k1_t1.sl.HW_arg10_30 i arg4 arg9 arg10 X4 X9 k f10) (trip_k1_t1.sl.HW_arg11_30 i arg4 arg5 arg9 arg10 arg11 X4 X5 X9 k f10 f11) :=
  h.step 13 (by omega) (T.kt 1 (k1_off1_inb i k 1)) (T.vt 1 (k1_off2_inb i k 1)) (T.qz 13 (by decide)) (by have := T.le; show N + 256 * 1 + 255 ≤ _; omega) (inb10 := by decide) (inb11 := by decide)

theorem trip_31 (T : TripIn E N i k arg4 arg5 arg9 X4 X5 X9) (h : Holds arg10.view arg11.view E (fun _ => True) (lev (N + 256 * 1) 14) (trip_k1_t1.sl.HW_arg10_30 i arg4 arg9 arg10 X4 X9 k f10) (trip_k1_t1.sl.HW_arg11_30 i arg4 arg5 arg9 arg10 arg11 X4 X5 X9 k f10 f11)) :
    Holds arg10.view arg11.view E (fun _ => True) (lev (N + 256 * 1) 15) (trip_k1_t1.sl.HW_arg10_31 i arg4 arg9 arg10 X4 X9 k f10) (trip_k1_t1.sl.HW_arg11_31 i arg4 arg5 arg9 arg10 arg11 X4 X5 X9 k f10 f11) :=
  h.step 14 (by omega) (T.kt 1 (k1_off1_inb i k 1)) (T.vt 1 (k1_off2_inb i k 1)) (T.qz 14 (by decide)) (by have := T.le; show N + 256 * 1 + 255 ≤ _; omega) (inb10 := by decide) (inb11 := by decide)

theorem trip_32 (T : TripIn E N i k arg4 arg5 arg9 X4 X5 X9) (h : Holds arg10.view arg11.view E (fun _ => True) (lev (N + 256 * 1) 15) (trip_k1_t1.sl.HW_arg10_31 i arg4 arg9 arg10 X4 X9 k f10) (trip_k1_t1.sl.HW_arg11_31 i arg4 arg5 arg9 arg10 arg11 X4 X5 X9 k f10 f11)) :
    Holds arg10.view arg11.view E (fun _ => True) (lev (N + 256 * 1) 16) (trip_k1_t1.sl.HW_arg10_32 i arg4 arg9 arg10 X4 X9 k f10) (trip_k1_t1.sl.HW_arg11_32 i arg4 arg5 arg9 arg10 arg11 X4 X5 X9 k f10 f11) :=
  h.step 15 (by omega) (T.kt 1 (k1_off1_inb i k 1)) (T.vt 1 (k1_off2_inb i k 1)) (T.qz 15 (by decide)) (by have := T.le; show N + 256 * 1 + 255 ≤ _; omega) (inb10 := by decide) (inb11 := by decide)

theorem trip_33 (T : TripIn E N i k arg4 arg5 arg9 X4 X5 X9) (h : Holds arg10.view arg11.view E (fun _ => True) (lev (N + 256 * 2) 0) (trip_k1_t1.sl.HW_arg10_32 i arg4 arg9 arg10 X4 X9 k f10) (trip_k1_t1.sl.HW_arg11_32 i arg4 arg5 arg9 arg10 arg11 X4 X5 X9 k f10 f11)) :
    Holds arg10.view arg11.view E (fun _ => True) (lev (N + 256 * 2) 1) (trip_k1_t1.sl.HW_arg10_33 i arg4 arg9 arg10 X4 X9 k f10) (trip_k1_t1.sl.HW_arg11_33 i arg4 arg5 arg9 arg10 arg11 X4 X5 X9 k f10 f11) :=
  h.step 0 (by omega) (T.kt 2 (k1_off1_inb i k 2)) (T.vt 2 (k1_off2_inb i k 2)) (T.qz 0 (by decide)) (by have := T.le; show N + 256 * 2 + 255 ≤ _; omega) (inb10 := by decide) (inb11 := by decide)

theorem trip_34 (T : TripIn E N i k arg4 arg5 arg9 X4 X5 X9) (h : Holds arg10.view arg11.view E (fun _ => True) (lev (N + 256 * 2) 1) (trip_k1_t1.sl.HW_arg10_33 i arg4 arg9 arg10 X4 X9 k f10) (trip_k1_t1.sl.HW_arg11_33 i arg4 arg5 arg9 arg10 arg11 X4 X5 X9 k f10 f11)) :
    Holds arg10.view arg11.view E (fun _ => True) (lev (N + 256 * 2) 2) (trip_k1_t1.sl.HW_arg10_34 i arg4 arg9 arg10 X4 X9 k f10) (trip_k1_t1.sl.HW_arg11_34 i arg4 arg5 arg9 arg10 arg11 X4 X5 X9 k f10 f11) :=
  h.step 1 (by omega) (T.kt 2 (k1_off1_inb i k 2)) (T.vt 2 (k1_off2_inb i k 2)) (T.qz 1 (by decide)) (by have := T.le; show N + 256 * 2 + 255 ≤ _; omega) (inb10 := by decide) (inb11 := by decide)

theorem trip_35 (T : TripIn E N i k arg4 arg5 arg9 X4 X5 X9) (h : Holds arg10.view arg11.view E (fun _ => True) (lev (N + 256 * 2) 2) (trip_k1_t1.sl.HW_arg10_34 i arg4 arg9 arg10 X4 X9 k f10) (trip_k1_t1.sl.HW_arg11_34 i arg4 arg5 arg9 arg10 arg11 X4 X5 X9 k f10 f11)) :
    Holds arg10.view arg11.view E (fun _ => True) (lev (N + 256 * 2) 3) (trip_k1_t1.sl.HW_arg10_35 i arg4 arg9 arg10 X4 X9 k f10) (trip_k1_t1.sl.HW_arg11_35 i arg4 arg5 arg9 arg10 arg11 X4 X5 X9 k f10 f11) :=
  h.step 2 (by omega) (T.kt 2 (k1_off1_inb i k 2)) (T.vt 2 (k1_off2_inb i k 2)) (T.qz 2 (by decide)) (by have := T.le; show N + 256 * 2 + 255 ≤ _; omega) (inb10 := by decide) (inb11 := by decide)

theorem trip_36 (T : TripIn E N i k arg4 arg5 arg9 X4 X5 X9) (h : Holds arg10.view arg11.view E (fun _ => True) (lev (N + 256 * 2) 3) (trip_k1_t1.sl.HW_arg10_35 i arg4 arg9 arg10 X4 X9 k f10) (trip_k1_t1.sl.HW_arg11_35 i arg4 arg5 arg9 arg10 arg11 X4 X5 X9 k f10 f11)) :
    Holds arg10.view arg11.view E (fun _ => True) (lev (N + 256 * 2) 4) (trip_k1_t1.sl.HW_arg10_36 i arg4 arg9 arg10 X4 X9 k f10) (trip_k1_t1.sl.HW_arg11_36 i arg4 arg5 arg9 arg10 arg11 X4 X5 X9 k f10 f11) :=
  h.step 3 (by omega) (T.kt 2 (k1_off1_inb i k 2)) (T.vt 2 (k1_off2_inb i k 2)) (T.qz 3 (by decide)) (by have := T.le; show N + 256 * 2 + 255 ≤ _; omega) (inb10 := by decide) (inb11 := by decide)

theorem trip_37 (T : TripIn E N i k arg4 arg5 arg9 X4 X5 X9) (h : Holds arg10.view arg11.view E (fun _ => True) (lev (N + 256 * 2) 4) (trip_k1_t1.sl.HW_arg10_36 i arg4 arg9 arg10 X4 X9 k f10) (trip_k1_t1.sl.HW_arg11_36 i arg4 arg5 arg9 arg10 arg11 X4 X5 X9 k f10 f11)) :
    Holds arg10.view arg11.view E (fun _ => True) (lev (N + 256 * 2) 5) (trip_k1_t1.sl.HW_arg10_37 i arg4 arg9 arg10 X4 X9 k f10) (trip_k1_t1.sl.HW_arg11_37 i arg4 arg5 arg9 arg10 arg11 X4 X5 X9 k f10 f11) :=
  h.step 4 (by omega) (T.kt 2 (k1_off1_inb i k 2)) (T.vt 2 (k1_off2_inb i k 2)) (T.qz 4 (by decide)) (by have := T.le; show N + 256 * 2 + 255 ≤ _; omega) (inb10 := by decide) (inb11 := by decide)

theorem trip_38 (T : TripIn E N i k arg4 arg5 arg9 X4 X5 X9) (h : Holds arg10.view arg11.view E (fun _ => True) (lev (N + 256 * 2) 5) (trip_k1_t1.sl.HW_arg10_37 i arg4 arg9 arg10 X4 X9 k f10) (trip_k1_t1.sl.HW_arg11_37 i arg4 arg5 arg9 arg10 arg11 X4 X5 X9 k f10 f11)) :
    Holds arg10.view arg11.view E (fun _ => True) (lev (N + 256 * 2) 6) (trip_k1_t1.sl.HW_arg10_38 i arg4 arg9 arg10 X4 X9 k f10) (trip_k1_t1.sl.HW_arg11_38 i arg4 arg5 arg9 arg10 arg11 X4 X5 X9 k f10 f11) :=
  h.step 5 (by omega) (T.kt 2 (k1_off1_inb i k 2)) (T.vt 2 (k1_off2_inb i k 2)) (T.qz 5 (by decide)) (by have := T.le; show N + 256 * 2 + 255 ≤ _; omega) (inb10 := by decide) (inb11 := by decide)

theorem trip_39 (T : TripIn E N i k arg4 arg5 arg9 X4 X5 X9) (h : Holds arg10.view arg11.view E (fun _ => True) (lev (N + 256 * 2) 6) (trip_k1_t1.sl.HW_arg10_38 i arg4 arg9 arg10 X4 X9 k f10) (trip_k1_t1.sl.HW_arg11_38 i arg4 arg5 arg9 arg10 arg11 X4 X5 X9 k f10 f11)) :
    Holds arg10.view arg11.view E (fun _ => True) (lev (N + 256 * 2) 7) (trip_k1_t1.sl.HW_arg10_39 i arg4 arg9 arg10 X4 X9 k f10) (trip_k1_t1.sl.HW_arg11_39 i arg4 arg5 arg9 arg10 arg11 X4 X5 X9 k f10 f11) :=
  h.step 6 (by omega) (T.kt 2 (k1_off1_inb i k 2)) (T.vt 2 (k1_off2_inb i k 2)) (T.qz 6 (by decide)) (by have := T.le; show N + 256 * 2 + 255 ≤ _; omega) (inb10 := by decide) (inb11 := by decide)

theorem trip_40 (T : TripIn E N i k arg4 arg5 arg9 X4 X5 X9) (h : Holds arg10.view arg11.view E (fun _ => True) (lev (N + 256 * 2) 7) (trip_k1_t1.sl.HW_arg10_39 i arg4 arg9 arg10 X4 X9 k f10) (trip_k1_t1.sl.HW_arg11_39 i arg4 arg5 arg9 arg10 arg11 X4 X5 X9 k f10 f11)) :
    Holds arg10.view arg11.view E (fun _ => True) (lev (N + 256 * 2) 8) (trip_k1_t1.sl.HW_arg10_40 i arg4 arg9 arg10 X4 X9 k f10) (trip_k1_t1.sl.HW_arg11_40 i arg4 arg5 arg9 arg10 arg11 X4 X5 X9 k f10 f11) :=
  h.step 7 (by omega) (T.kt 2 (k1_off1_inb i k 2)) (T.vt 2 (k1_off2_inb i k 2)) (T.qz 7 (by decide)) (by have := T.le; show N + 256 * 2 + 255 ≤ _; omega) (inb10 := by decide) (inb11 := by decide)

theorem trip_41 (T : TripIn E N i k arg4 arg5 arg9 X4 X5 X9) (h : Holds arg10.view arg11.view E (fun _ => True) (lev (N + 256 * 2) 8) (trip_k1_t1.sl.HW_arg10_40 i arg4 arg9 arg10 X4 X9 k f10) (trip_k1_t1.sl.HW_arg11_40 i arg4 arg5 arg9 arg10 arg11 X4 X5 X9 k f10 f11)) :
    Holds arg10.view arg11.view E (fun _ => True) (lev (N + 256 * 2) 9) (trip_k1_t1.sl.HW_arg10_41 i arg4 arg9 arg10 X4 X9 k f10) (trip_k1_t1.sl.HW_arg11_41 i arg4 arg5 arg9 arg10 arg11 X4 X5 X9 k f10 f11) :=
  h.step 8 (by omega) (T.kt 2 (k1_off1_inb i k 2)) (T.vt 2 (k1_off2_inb i k 2)) (T.qz 8 (by decide)) (by have := T.le; show N + 256 * 2 + 255 ≤ _; omega) (inb10 := by decide) (inb11 := by decide)

theorem trip_42 (T : TripIn E N i k arg4 arg5 arg9 X4 X5 X9) (h : Holds arg10.view arg11.view E (fun _ => True) (lev (N + 256 * 2) 9) (trip_k1_t1.sl.HW_arg10_41 i arg4 arg9 arg10 X4 X9 k f10) (trip_k1_t1.sl.HW_arg11_41 i arg4 arg5 arg9 arg10 arg11 X4 X5 X9 k f10 f11)) :
    Holds arg10.view arg11.view E (fun _ => True) (lev (N + 256 * 2) 10) (trip_k1_t1.sl.HW_arg10_42 i arg4 arg9 arg10 X4 X9 k f10) (trip_k1_t1.sl.HW_arg11_42 i arg4 arg5 arg9 arg10 arg11 X4 X5 X9 k f10 f11) :=
  h.step 9 (by omega) (T.kt 2 (k1_off1_inb i k 2)) (T.vt 2 (k1_off2_inb i k 2)) (T.qz 9 (by decide)) (by have := T.le; show N + 256 * 2 + 255 ≤ _; omega) (inb10 := by decide) (inb11 := by decide)

theorem trip_43 (T : TripIn E N i k arg4 arg5 arg9 X4 X5 X9) (h : Holds arg10.view arg11.view E (fun _ => True) (lev (N + 256 * 2) 10) (trip_k1_t1.sl.HW_arg10_42 i arg4 arg9 arg10 X4 X9 k f10) (trip_k1_t1.sl.HW_arg11_42 i arg4 arg5 arg9 arg10 arg11 X4 X5 X9 k f10 f11)) :
    Holds arg10.view arg11.view E (fun _ => True) (lev (N + 256 * 2) 11) (trip_k1_t1.sl.HW_arg10_43 i arg4 arg9 arg10 X4 X9 k f10) (trip_k1_t1.sl.HW_arg11_43 i arg4 arg5 arg9 arg10 arg11 X4 X5 X9 k f10 f11) :=
  h.step 10 (by omega) (T.kt 2 (k1_off1_inb i k 2)) (T.vt 2 (k1_off2_inb i k 2)) (T.qz 10 (by decide)) (by have := T.le; show N + 256 * 2 + 255 ≤ _; omega) (inb10 := by decide) (inb11 := by decide)

theorem trip_44 (T : TripIn E N i k arg4 arg5 arg9 X4 X5 X9) (h : Holds arg10.view arg11.view E (fun _ => True) (lev (N + 256 * 2) 11) (trip_k1_t1.sl.HW_arg10_43 i arg4 arg9 arg10 X4 X9 k f10) (trip_k1_t1.sl.HW_arg11_43 i arg4 arg5 arg9 arg10 arg11 X4 X5 X9 k f10 f11)) :
    Holds arg10.view arg11.view E (fun _ => True) (lev (N + 256 * 2) 12) (trip_k1_t1.sl.HW_arg10_44 i arg4 arg9 arg10 X4 X9 k f10) (trip_k1_t1.sl.HW_arg11_44 i arg4 arg5 arg9 arg10 arg11 X4 X5 X9 k f10 f11) :=
  h.step 11 (by omega) (T.kt 2 (k1_off1_inb i k 2)) (T.vt 2 (k1_off2_inb i k 2)) (T.qz 11 (by decide)) (by have := T.le; show N + 256 * 2 + 255 ≤ _; omega) (inb10 := by decide) (inb11 := by decide)

theorem trip_45 (T : TripIn E N i k arg4 arg5 arg9 X4 X5 X9) (h : Holds arg10.view arg11.view E (fun _ => True) (lev (N + 256 * 2) 12) (trip_k1_t1.sl.HW_arg10_44 i arg4 arg9 arg10 X4 X9 k f10) (trip_k1_t1.sl.HW_arg11_44 i arg4 arg5 arg9 arg10 arg11 X4 X5 X9 k f10 f11)) :
    Holds arg10.view arg11.view E (fun _ => True) (lev (N + 256 * 2) 13) (trip_k1_t1.sl.HW_arg10_45 i arg4 arg9 arg10 X4 X9 k f10) (trip_k1_t1.sl.HW_arg11_45 i arg4 arg5 arg9 arg10 arg11 X4 X5 X9 k f10 f11) :=
  h.step 12 (by omega) (T.kt 2 (k1_off1_inb i k 2)) (T.vt 2 (k1_off2_inb i k 2)) (T.qz 12 (by decide)) (by have := T.le; show N + 256 * 2 + 255 ≤ _; omega) (inb10 := by decide) (inb11 := by decide)

theorem trip_46 (T : TripIn E N i k arg4 arg5 arg9 X4 X5 X9) (h : Holds arg10.view arg11.view E (fun _ => True) (lev (N + 256 * 2) 13) (trip_k1_t1.sl.HW_arg10_45 i arg4 arg9 arg10 X4 X9 k f10) (trip_k1_t1.sl.HW_arg11_45 i arg4 arg5 arg9 arg10 arg11 X4 X5 X9 k f10 f11)) :
    Holds arg10.view arg11.view E (fun _ => True) (lev (N + 256 * 2) 14) (trip_k1_t1.sl.HW_arg10_46 i arg4 arg9 arg10 X4 X9 k f10) (trip_k1_t1.sl.HW_arg11_46 i arg4 arg5 arg9 arg10 arg11 X4 X5 X9 k f10 f11) :=
  h.step 13 (by omega) (T.kt 2 (k1_off1_inb i k 2)) (T.vt 2 (k1_off2_inb i k 2)) (T.qz 13 (by decide)) (by have := T.le; show N + 256 * 2 + 255 ≤ _; omega) (inb10 := by decide) (inb11 := by decide)

theorem trip_47 (T : TripIn E N i k arg4 arg5 arg9 X4 X5 X9) (h : Holds arg10.view arg11.view E (fun _ => True) (lev (N + 256 * 2) 14) (trip_k1_t1.sl.HW_arg10_46 i arg4 arg9 arg10 X4 X9 k f10) (trip_k1_t1.sl.HW_arg11_46 i arg4 arg5 arg9 arg10 arg11 X4 X5 X9 k f10 f11)) :
    Holds arg10.view arg11.view E (fun _ => True) (lev (N + 256 * 2) 15) (trip_k1_t1.sl.HW_arg10_47 i arg4 arg9 arg10 X4 X9 k f10) (trip_k1_t1.sl.HW_arg11_47 i arg4 arg5 arg9 arg10 arg11 X4 X5 X9 k f10 f11) :=
  h.step 14 (by omega) (T.kt 2 (k1_off1_inb i k 2)) (T.vt 2 (k1_off2_inb i k 2)) (T.qz 14 (by decide)) (by have := T.le; show N + 256 * 2 + 255 ≤ _; omega) (inb10 := by decide) (inb11 := by decide)

theorem trip_48 (T : TripIn E N i k arg4 arg5 arg9 X4 X5 X9) (h : Holds arg10.view arg11.view E (fun _ => True) (lev (N + 256 * 2) 15) (trip_k1_t1.sl.HW_arg10_47 i arg4 arg9 arg10 X4 X9 k f10) (trip_k1_t1.sl.HW_arg11_47 i arg4 arg5 arg9 arg10 arg11 X4 X5 X9 k f10 f11)) :
    Holds arg10.view arg11.view E (fun _ => True) (lev (N + 256 * 2) 16) (trip_k1_t1.sl.HW_arg10_48 i arg4 arg9 arg10 X4 X9 k f10) (trip_k1_t1.sl.HW_arg11_48 i arg4 arg5 arg9 arg10 arg11 X4 X5 X9 k f10 f11) :=
  h.step 15 (by omega) (T.kt 2 (k1_off1_inb i k 2)) (T.vt 2 (k1_off2_inb i k 2)) (T.qz 15 (by decide)) (by have := T.le; show N + 256 * 2 + 255 ≤ _; omega) (inb10 := by decide) (inb11 := by decide)

theorem trip_49 (T : TripIn E N i k arg4 arg5 arg9 X4 X5 X9) (h : Holds arg10.view arg11.view E (fun _ => True) (lev (N + 256 * 3) 0) (trip_k1_t1.sl.HW_arg10_48 i arg4 arg9 arg10 X4 X9 k f10) (trip_k1_t1.sl.HW_arg11_48 i arg4 arg5 arg9 arg10 arg11 X4 X5 X9 k f10 f11)) :
    Holds arg10.view arg11.view E (fun _ => True) (lev (N + 256 * 3) 1) (trip_k1_t1.sl.HW_arg10_49 i arg4 arg9 arg10 X4 X9 k f10) (trip_k1_t1.sl.HW_arg11_49 i arg4 arg5 arg9 arg10 arg11 X4 X5 X9 k f10 f11) :=
  h.step 0 (by omega) (T.kt 3 (k1_off1_inb i k 3)) (T.vt 3 (k1_off2_inb i k 3)) (T.qz 0 (by decide)) (by have := T.le; show N + 256 * 3 + 255 ≤ _; omega) (inb10 := by decide) (inb11 := by decide)

theorem trip_50 (T : TripIn E N i k arg4 arg5 arg9 X4 X5 X9) (h : Holds arg10.view arg11.view E (fun _ => True) (lev (N + 256 * 3) 1) (trip_k1_t1.sl.HW_arg10_49 i arg4 arg9 arg10 X4 X9 k f10) (trip_k1_t1.sl.HW_arg11_49 i arg4 arg5 arg9 arg10 arg11 X4 X5 X9 k f10 f11)) :
    Holds arg10.view arg11.view E (fun _ => True) (lev (N + 256 * 3) 2) (trip_k1_t1.sl.HW_arg10_50 i arg4 arg9 arg10 X4 X9 k f10) (trip_k1_t1.sl.HW_arg11_50 i arg4 arg5 arg9 arg10 arg11 X4 X5 X9 k f10 f11) :=
  h.step 1 (by omega) (T.kt 3 (k1_off1_inb i k 3)) (T.vt 3 (k1_off2_inb i k 3)) (T.qz 1 (by decide)) (by have := T.le; show N + 256 * 3 + 255 ≤ _; omega) (inb10 := by decide) (inb11 := by decide)

theorem trip_51 (T : TripIn E N i k arg4 arg5 arg9 X4 X5 X9) (h : Holds arg10.view arg11.view E (fun _ => True) (lev (N + 256 * 3) 2) (trip_k1_t1.sl.HW_arg10_50 i arg4 arg9 arg10 X4 X9 k f10) (trip_k1_t1.sl.HW_arg11_50 i arg4 arg5 arg9 arg10 arg11 X4 X5 X9 k f10 f11)) :
    Holds arg10.view arg11.view E (fun _ => True) (lev (N + 256 * 3) 3) (trip_k1_t1.sl.HW_arg10_51 i arg4 arg9 arg10 X4 X9 k f10) (trip_k1_t1.sl.HW_arg11_51 i arg4 arg5 arg9 arg10 arg11 X4 X5 X9 k f10 f11) :=
  h.step 2 (by omega) (T.kt 3 (k1_off1_inb i k 3)) (T.vt 3 (k1_off2_inb i k 3)) (T.qz 2 (by decide)) (by have := T.le; show N + 256 * 3 + 255 ≤ _; omega) (inb10 := by decide) (inb11 := by decide)

theorem trip_52 (T : TripIn E N i k arg4 arg5 arg9 X4 X5 X9) (h : Holds arg10.view arg11.view E (fun _ => True) (lev (N + 256 * 3) 3) (trip_k1_t1.sl.HW_arg10_51 i arg4 arg9 arg10 X4 X9 k f10) (trip_k1_t1.sl.HW_arg11_51 i arg4 arg5 arg9 arg10 arg11 X4 X5 X9 k f10 f11)) :
    Holds arg10.view arg11.view E (fun _ => True) (lev (N + 256 * 3) 4) (trip_k1_t1.sl.HW_arg10_52 i arg4 arg9 arg10 X4 X9 k f10) (trip_k1_t1.sl.HW_arg11_52 i arg4 arg5 arg9 arg10 arg11 X4 X5 X9 k f10 f11) :=
  h.step 3 (by omega) (T.kt 3 (k1_off1_inb i k 3)) (T.vt 3 (k1_off2_inb i k 3)) (T.qz 3 (by decide)) (by have := T.le; show N + 256 * 3 + 255 ≤ _; omega) (inb10 := by decide) (inb11 := by decide)

theorem trip_53 (T : TripIn E N i k arg4 arg5 arg9 X4 X5 X9) (h : Holds arg10.view arg11.view E (fun _ => True) (lev (N + 256 * 3) 4) (trip_k1_t1.sl.HW_arg10_52 i arg4 arg9 arg10 X4 X9 k f10) (trip_k1_t1.sl.HW_arg11_52 i arg4 arg5 arg9 arg10 arg11 X4 X5 X9 k f10 f11)) :
    Holds arg10.view arg11.view E (fun _ => True) (lev (N + 256 * 3) 5) (trip_k1_t1.sl.HW_arg10_53 i arg4 arg9 arg10 X4 X9 k f10) (trip_k1_t1.sl.HW_arg11_53 i arg4 arg5 arg9 arg10 arg11 X4 X5 X9 k f10 f11) :=
  h.step 4 (by omega) (T.kt 3 (k1_off1_inb i k 3)) (T.vt 3 (k1_off2_inb i k 3)) (T.qz 4 (by decide)) (by have := T.le; show N + 256 * 3 + 255 ≤ _; omega) (inb10 := by decide) (inb11 := by decide)

theorem trip_54 (T : TripIn E N i k arg4 arg5 arg9 X4 X5 X9) (h : Holds arg10.view arg11.view E (fun _ => True) (lev (N + 256 * 3) 5) (trip_k1_t1.sl.HW_arg10_53 i arg4 arg9 arg10 X4 X9 k f10) (trip_k1_t1.sl.HW_arg11_53 i arg4 arg5 arg9 arg10 arg11 X4 X5 X9 k f10 f11)) :
    Holds arg10.view arg11.view E (fun _ => True) (lev (N + 256 * 3) 6) (trip_k1_t1.sl.HW_arg10_54 i arg4 arg9 arg10 X4 X9 k f10) (trip_k1_t1.sl.HW_arg11_54 i arg4 arg5 arg9 arg10 arg11 X4 X5 X9 k f10 f11) :=
  h.step 5 (by omega) (T.kt 3 (k1_off1_inb i k 3)) (T.vt 3 (k1_off2_inb i k 3)) (T.qz 5 (by decide)) (by have := T.le; show N + 256 * 3 + 255 ≤ _; omega) (inb10 := by decide) (inb11 := by decide)

theorem trip_55 (T : TripIn E N i k arg4 arg5 arg9 X4 X5 X9) (h : Holds arg10.view arg11.view E (fun _ => True) (lev (N + 256 * 3) 6) (trip_k1_t1.sl.HW_arg10_54 i arg4 arg9 arg10 X4 X9 k f10) (trip_k1_t1.sl.HW_arg11_54 i arg4 arg5 arg9 arg10 arg11 X4 X5 X9 k f10 f11)) :
    Holds arg10.view arg11.view E (fun _ => True) (lev (N + 256 * 3) 7) (trip_k1_t1.sl.HW_arg10_55 i arg4 arg9 arg10 X4 X9 k f10) (trip_k1_t1.sl.HW_arg11_55 i arg4 arg5 arg9 arg10 arg11 X4 X5 X9 k f10 f11) :=
  h.step 6 (by omega) (T.kt 3 (k1_off1_inb i k 3)) (T.vt 3 (k1_off2_inb i k 3)) (T.qz 6 (by decide)) (by have := T.le; show N + 256 * 3 + 255 ≤ _; omega) (inb10 := by decide) (inb11 := by decide)

theorem trip_56 (T : TripIn E N i k arg4 arg5 arg9 X4 X5 X9) (h : Holds arg10.view arg11.view E (fun _ => True) (lev (N + 256 * 3) 7) (trip_k1_t1.sl.HW_arg10_55 i arg4 arg9 arg10 X4 X9 k f10) (trip_k1_t1.sl.HW_arg11_55 i arg4 arg5 arg9 arg10 arg11 X4 X5 X9 k f10 f11)) :
    Holds arg10.view arg11.view E (fun _ => True) (lev (N + 256 * 3) 8) (trip_k1_t1.sl.HW_arg10_56 i arg4 arg9 arg10 X4 X9 k f10) (trip_k1_t1.sl.HW_arg11_56 i arg4 arg5 arg9 arg10 arg11 X4 X5 X9 k f10 f11) :=
  h.step 7 (by omega) (T.kt 3 (k1_off1_inb i k 3)) (T.vt 3 (k1_off2_inb i k 3)) (T.qz 7 (by decide)) (by have := T.le; show N + 256 * 3 + 255 ≤ _; omega) (inb10 := by decide) (inb11 := by decide)

theorem trip_57 (T : TripIn E N i k arg4 arg5 arg9 X4 X5 X9) (h : Holds arg10.view arg11.view E (fun _ => True) (lev (N + 256 * 3) 8) (trip_k1_t1.sl.HW_arg10_56 i arg4 arg9 arg10 X4 X9 k f10) (trip_k1_t1.sl.HW_arg11_56 i arg4 arg5 arg9 arg10 arg11 X4 X5 X9 k f10 f11)) :
    Holds arg10.view arg11.view E (fun _ => True) (lev (N + 256 * 3) 9) (trip_k1_t1.sl.HW_arg10_57 i arg4 arg9 arg10 X4 X9 k f10) (trip_k1_t1.sl.HW_arg11_57 i arg4 arg5 arg9 arg10 arg11 X4 X5 X9 k f10 f11) :=
  h.step 8 (by omega) (T.kt 3 (k1_off1_inb i k 3)) (T.vt 3 (k1_off2_inb i k 3)) (T.qz 8 (by decide)) (by have := T.le; show N + 256 * 3 + 255 ≤ _; omega) (inb10 := by decide) (inb11 := by decide)

theorem trip_58 (T : TripIn E N i k arg4 arg5 arg9 X4 X5 X9) (h : Holds arg10.view arg11.view E (fun _ => True) (lev (N + 256 * 3) 9) (trip_k1_t1.sl.HW_arg10_57 i arg4 arg9 arg10 X4 X9 k f10) (trip_k1_t1.sl.HW_arg11_57 i arg4 arg5 arg9 arg10 arg11 X4 X5 X9 k f10 f11)) :
    Holds arg10.view arg11.view E (fun _ => True) (lev (N + 256 * 3) 10) (trip_k1_t1.sl.HW_arg10_58 i arg4 arg9 arg10 X4 X9 k f10) (trip_k1_t1.sl.HW_arg11_58 i arg4 arg5 arg9 arg10 arg11 X4 X5 X9 k f10 f11) :=
  h.step 9 (by omega) (T.kt 3 (k1_off1_inb i k 3)) (T.vt 3 (k1_off2_inb i k 3)) (T.qz 9 (by decide)) (by have := T.le; show N + 256 * 3 + 255 ≤ _; omega) (inb10 := by decide) (inb11 := by decide)

theorem trip_59 (T : TripIn E N i k arg4 arg5 arg9 X4 X5 X9) (h : Holds arg10.view arg11.view E (fun _ => True) (lev (N + 256 * 3) 10) (trip_k1_t1.sl.HW_arg10_58 i arg4 arg9 arg10 X4 X9 k f10) (trip_k1_t1.sl.HW_arg11_58 i arg4 arg5 arg9 arg10 arg11 X4 X5 X9 k f10 f11)) :
    Holds arg10.view arg11.view E (fun _ => True) (lev (N + 256 * 3) 11) (trip_k1_t1.sl.HW_arg10_59 i arg4 arg9 arg10 X4 X9 k f10) (trip_k1_t1.sl.HW_arg11_59 i arg4 arg5 arg9 arg10 arg11 X4 X5 X9 k f10 f11) :=
  h.step 10 (by omega) (T.kt 3 (k1_off1_inb i k 3)) (T.vt 3 (k1_off2_inb i k 3)) (T.qz 10 (by decide)) (by have := T.le; show N + 256 * 3 + 255 ≤ _; omega) (inb10 := by decide) (inb11 := by decide)

theorem trip_60 (T : TripIn E N i k arg4 arg5 arg9 X4 X5 X9) (h : Holds arg10.view arg11.view E (fun _ => True) (lev (N + 256 * 3) 11) (trip_k1_t1.sl.HW_arg10_59 i arg4 arg9 arg10 X4 X9 k f10) (trip_k1_t1.sl.HW_arg11_59 i arg4 arg5 arg9 arg10 arg11 X4 X5 X9 k f10 f11)) :
    Holds arg10.view arg11.view E (fun _ => True) (lev (N + 256 * 3) 12) (trip_k1_t1.sl.HW_arg10_60 i arg4 arg9 arg10 X4 X9 k f10) (trip_k1_t1.sl.HW_arg11_60 i arg4 arg5 arg9 arg10 arg11 X4 X5 X9 k f10 f11) :=
  h.step 11 (by omega) (T.kt 3 (k1_off1_inb i k 3)) (T.vt 3 (k1_off2_inb i k 3)) (T.qz 11 (by decide)) (by have := T.le; show N + 256 * 3 + 255 ≤ _; omega) (inb10 := by decide) (inb11 := by decide)

theorem trip_61 (T : TripIn E N i k arg4 arg5 arg9 X4 X5 X9) (h : Holds arg10.view arg11.view E (fun _ => True) (lev (N + 256 * 3) 12) (trip_k1_t1.sl.HW_arg10_60 i arg4 arg9 arg10 X4 X9 k f10) (trip_k1_t1.sl.HW_arg11_60 i arg4 arg5 arg9 arg10 arg11 X4 X5 X9 k f10 f11)) :
    Holds arg10.view arg11.view E (fun _ => True) (lev (N + 256 * 3) 13) (trip_k1_t1.sl.HW_arg10_61 i arg4 arg9 arg10 X4 X9 k f10) (trip_k1_t1.sl.HW_arg11_61 i arg4 arg5 arg9 arg10 arg11 X4 X5 X9 k f10 f11) :=
  h.step 12 (by omega) (T.kt 3 (k1_off1_inb i k 3)) (T.vt 3 (k1_off2_inb i k 3)) (T.qz 12 (by decide)) (by have := T.le; show N + 256 * 3 + 255 ≤ _; omega) (inb10 := by decide) (inb11 := by decide)

theorem trip_62 (T : TripIn E N i k arg4 arg5 arg9 X4 X5 X9) (h : Holds arg10.view arg11.view E (fun _ => True) (lev (N + 256 * 3) 13) (trip_k1_t1.sl.HW_arg10_61 i arg4 arg9 arg10 X4 X9 k f10) (trip_k1_t1.sl.HW_arg11_61 i arg4 arg5 arg9 arg10 arg11 X4 X5 X9 k f10 f11)) :
    Holds arg10.view arg11.view E (fun _ => True) (lev (N + 256 * 3) 14) (trip_k1_t1.sl.HW_arg10_62 i arg4 arg9 arg10 X4 X9 k f10) (trip_k1_t1.sl.HW_arg11_62 i arg4 arg5 arg9 arg10 arg11 X4 X5 X9 k f10 f11) :=
  h.step 13 (by omega) (T.kt 3 (k1_off1_inb i k 3)) (T.vt 3 (k1_off2_inb i k 3)) (T.qz 13 (by decide)) (by have := T.le; show N + 256 * 3 + 255 ≤ _; omega) (inb10 := by decide) (inb11 := by decide)

theorem trip_63 (T : TripIn E N i k arg4 arg5 arg9 X4 X5 X9) (h : Holds arg10.view arg11.view E (fun _ => True) (lev (N + 256 * 3) 14) (trip_k1_t1.sl.HW_arg10_62 i arg4 arg9 arg10 X4 X9 k f10) (trip_k1_t1.sl.HW_arg11_62 i arg4 arg5 arg9 arg10 arg11 X4 X5 X9 k f10 f11)) :
    Holds arg10.view arg11.view E (fun _ => True) (lev (N + 256 * 3) 15) (trip_k1_t1.sl.HW_arg10_63 i arg4 arg9 arg10 X4 X9 k f10) (trip_k1_t1.sl.HW_arg11_63 i arg4 arg5 arg9 arg10 arg11 X4 X5 X9 k f10 f11) :=
  h.step 14 (by omega) (T.kt 3 (k1_off1_inb i k 3)) (T.vt 3 (k1_off2_inb i k 3)) (T.qz 14 (by decide)) (by have := T.le; show N + 256 * 3 + 255 ≤ _; omega) (inb10 := by decide) (inb11 := by decide)

variable {c : Dev nD}
  {arg3 : Memref sig .tc .vmem S1x2048x128 .bf16} {harg3 : arg3.IsWhole} {harg4 : arg4.IsWhole} {harg5 : arg5.IsWhole}
  {arg6 : Memref sig .tc .vmem S1x4x64 .f32} {harg6 : arg6.IsWhole} {arg7 : Memref sig .tc .vmem S1x1x128 .f32}
  {harg7 : arg7.IsWhole} {arg8 : Memref sig .tc .vmem S1x2048x128 .bf16} {harg8 : arg8.IsWhole} {harg9 : arg9.IsWhole}
  {harg10 : arg10.IsWhole} {harg11 : arg11.IsWhole} {arg2 c0 v281 c1 : BitVec 32}

theorem trip_64 (T : TripIn E N i k arg4 arg5 arg9 X4 X5 X9) (h : Holds arg10.view arg11.view E (fun _ => True) (lev (N + 256 * 3) 15) (trip_k1_t1.sl.HW_arg10_63 i arg4 arg9 arg10 X4 X9 k f10) (trip_k1_t1.sl.HW_arg11_63 i arg4 arg5 arg9 arg10 arg11 X4 X5 X9 k f10 f11)) :
    Holds arg10.view arg11.view E (fun _ => True) (lev (N + 256 * 3) 16)
      (tripL_k1_t1 (F := Ideal) Variants.none c none i arg3 harg3 arg4 harg4 arg5 harg5 arg6 harg6 arg7 harg7 arg8 harg8 arg9 harg9 arg10 harg10 arg11 harg11 arg2 c0 v281 c1 X4 X5 X9 k f10 f11).1
      (tripL_k1_t1 (F := Ideal) Variants.none c none i arg3 harg3 arg4 harg4 arg5 harg5 arg6 harg6 arg7 harg7 arg8 harg8 arg9 harg9 arg10 harg10 arg11 harg11 arg2 c0 v281 c1 X4 X5 X9 k f10 f11).2 := by
  unfold tripL_k1_t1 trip_k1_t1
  exact h.step 15 (by omega) (T.kt 3 (k1_off1_inb i k 3)) (T.vt 3 (k1_off2_inb i k 3)) (T.qz 15 (by decide)) (by have := T.le; show N + 256 * 3 + 255 ≤ _; omega) (inb10 := by decide) (inb11 := by decide)

/-- A trip accounts for its four tiles in every row block. -/
theorem trip_all (T : TripIn E N i k arg4 arg5 arg9 X4 X5 X9)
    (h : ∀ (r : Fin 16) inb10 inb11, E.Row N r
      (arg10.view.readAt (Elt Ideal) (Rect.unit (s := S16x1x256) ![r.val, 0, 0] S1x1x256.size inb10).toLoadRect f10)
      (arg11.view.readAt (Elt Ideal) (Rect.unit (s := S16x144x256) ![r.val, 0, 0] S1x144x256.size inb11).toLoadRect f11)) :
    Holds arg10.view arg11.view E (fun _ => True) (fun _ => N + 1024)
      (tripL_k1_t1 (F := Ideal) Variants.none c none i arg3 harg3 arg4 harg4 arg5 harg5 arg6 harg6 arg7 harg7 arg8 harg8 arg9 harg9 arg10 harg10 arg11 harg11 arg2 c0 v281 c1 X4 X5 X9 k f10 f11).1
      (tripL_k1_t1 (F := Ideal) Variants.none c none i arg3 harg3 arg4 harg4 arg5 harg5 arg6 harg6 arg7 harg7 arg8 harg8 arg9 harg9 arg10 harg10 arg11 harg11 arg2 c0 v281 c1 X4 X5 X9 k f10 f11).2 := by
  have p16 := trip_16 (f10 := f10) (f11 := f11) T h
  have n1 : Holds arg10.view arg11.view E (fun _ => True) (lev (N + 256 * 1) 0) (trip_k1_t1.sl.HW_arg10_16 i arg4 arg9 arg10 X4 X9 k f10) (trip_k1_t1.sl.HW_arg11_16 i arg4 arg5 arg9 arg10 arg11 X4 X5 X9 k f10 f11) := p16.next
  have p17 := trip_17 T n1
  have p18 := trip_18 T p17
  have p19 := trip_19 T p18
  have p20 := trip_20 T p19
  have p21 := trip_21 T p20
  have p22 := trip_22 T p21
  have p23 := trip_23 T p22
  have p24 := trip_24 T p23
  have p25 := trip_25 T p24
  have p26 := trip_26 T p25
  have p27 := trip_27 T p26
  have p28 := trip_28 T p27
  have p29 := trip_29 T p28
  have p30 := trip_30 T p29
  have p31 := trip_31 T p30
  have p32 := trip_32 T p31
  have n2 : Holds arg10.view arg11.view E (fun _ => True) (lev (N + 256 * 2) 0) (trip_k1_t1.sl.HW_arg10_32 i arg4 arg9 arg10 X4 X9 k f10) (trip_k1_t1.sl.HW_arg11_32 i arg4 arg5 arg9 arg10 arg11 X4 X5 X9 k f10 f11) := p32.next
  have p33 := trip_33 T n2
  have p34 := trip_34 T p33
  have p35 := trip_35 T p34
  have p36 := trip_36 T p35
  have p37 := trip_37 T p36
  have p38 := trip_38 T p37
  have p39 := trip_39 T p38
  have p40 := trip_40 T p39
  have p41 := trip_41 T p40
  have p42 := trip_42 T p41
  have p43 := trip_43 T p42
  have p44 := trip_44 T p43
  have p45 := trip_45 T p44
  have p46 := trip_46 T p45
  have p47 := trip_47 T p46
  have p48 := trip_48 T p47
  have n3 : Holds arg10.view arg11.view E (fun _ => True) (lev (N + 256 * 3) 0) (trip_k1_t1.sl.HW_arg10_48 i arg4 arg9 arg10 X4 X9 k f10) (trip_k1_t1.sl.HW_arg11_48 i arg4 arg5 arg9 arg10 arg11 X4 X5 X9 k f10 f11) := p48.next
  have p49 := trip_49 T n3
  have p50 := trip_50 T p49
  have p51 := trip_51 T p50
  have p52 := trip_52 T p51
  have p53 := trip_53 T p52
  have p54 := trip_54 T p53
  have p55 := trip_55 T p54
  have p56 := trip_56 T p55
  have p57 := trip_57 T p56
  have p58 := trip_58 T p57
  have p59 := trip_59 T p58
  have p60 := trip_60 T p59
  have p61 := trip_61 T p60
  have p62 := trip_62 T p61
  have p63 := trip_63 T p62
  intro f g r hr
  have e : lev (N + 256 * 3) 16 r = N + 1024 := if_pos r.isLt
  have := trip_64 (c := c) (arg3 := arg3) (harg3 := harg3) (harg4 := harg4) (harg5 := harg5) (arg6 := arg6) (harg6 := harg6) (arg7 := arg7) (harg7 := harg7) (arg8 := arg8) (harg8 := harg8) (harg9 := harg9) (harg10 := harg10) (harg11 := harg11) (arg2 := arg2) (c0 := c0) (v281 := v281) (c1 := c1) T p63 f g r hr
  rw [e] at this; exact this

/-- After `n` trips every row block accounts for the first `1024 n` keys. -/
theorem loop_holds {K10 : P10} {K11 : P11}
    (hT : ∀ k : Fin (k1_t1_loop i).trips, TripIn E (1024 * k.val) i k arg4 arg5 arg9 X4 X5 X9)
    (h0 : Holds arg10.view arg11.view E (fun _ => True) (fun _ => 0) K10 K11) : ∀ n : ℕ, n ≤ (k1_t1_loop i).trips →
    Holds arg10.view arg11.view E (fun _ => True) (fun _ => 1024 * n)
      ((pb_k1_t1 (F := Ideal) Variants.none c none i arg3 harg3 arg4 harg4 arg5 harg5 arg6 harg6 arg7 harg7 arg8 harg8 arg9 harg9 arg10 harg10 arg11 harg11 arg2 c0 v281 c1 X4 X5 X9 (arg10.view.writes (Elt Ideal) arg10.view.junk K10) (arg11.view.writes (Elt Ideal) arg11.view.junk K11) n).1 ++ K10)
      ((pb_k1_t1 (F := Ideal) Variants.none c none i arg3 harg3 arg4 harg4 arg5 harg5 arg6 harg6 arg7 harg7 arg8 harg8 arg9 harg9 arg10 harg10 arg11 harg11 arg2 c0 v281 c1 X4 X5 X9 (arg10.view.writes (Elt Ideal) arg10.view.junk K10) (arg11.view.writes (Elt Ideal) arg11.view.junk K11) n).2 ++ K11) := by
  intro n
  induction n with
  | zero => intro _; exact h0
  | succ n ih =>
    intro hn
    have ih := ih (by omega)
    have e := pb_k1_t1_succ (F := Ideal) Variants.none c none i arg3 harg3 arg4 harg4 arg5 harg5 arg6 harg6 arg7 harg7 arg8 harg8 arg9 harg9 arg10 harg10 arg11 harg11 arg2 c0 v281 c1 X4 X5 X9 (arg10.view.writes (Elt Ideal) arg10.view.junk K10) (arg11.view.writes (Elt Ideal) arg11.view.junk K11) ⟨n, by omega⟩
    dsimp only at e
    rw [e]
    dsimp only
    rw [List.append_assoc, List.append_assoc]
    refine Holds.append ?_ _ _
    refine trip_all (hT ⟨n, by omega⟩) fun r inb10 inb11 => ?_
    rw [← View.writes_append, ← View.writes_append]
    exact ih.row r trivial _ _

end

end Cert.DiffIdeal.Step
-- ==== Proof.Diff.Diag.lean ====
module

public import proofs.«01_k».proof.Proof.Diff.Run
public import proofs.«01_k».proof.Proof.Diff.Trip

/-! # The tiles of the diagonal

After the whole tiles come eight tiles that meet the point's own queries. A tile is stepped for the row blocks it
does not follow entirely: masked for the two blocks it crosses, unmasked for the later ones. -/

@[expose] public section

set_option maxRecDepth 1000000

noncomputable section

namespace Cert.DiffIdeal.Step

open Cert.DiffIdeal Cert.DiffIdeal.Gen Cert.DiffIdeal.Run Idealize.ShloMosaic Idealize.ShloMosaic.TcCoe Idealize.SL.Sem

/-- What the diagonal works on. -/
structure DiagIn (E : Env) (i : grid1.Coords)
    (arg4 : Memref sig .tc .vmem S1x4096x128 .bf16) (arg5 : Memref sig .tc .vmem S144x4096 .bf16)
    (arg9 : Memref sig .tc .vmem S16x256x128 .bf16)
    (X4 : BufTy.Contents (Elt Ideal) arg4.view.ty) (X5 : BufTy.Contents (Elt Ideal) arg5.view.ty)
    (L9 : List (View.Piece (Elt Ideal) S16x256x128 .bf16)) : Prop where
  kt : ∀ (t : Fin 8) inb, E.KT (E.p0 + 256 * t.val) (shapeCast S256x128 (arg4.view.readAt (Elt Ideal)
    (Rect.unit (s := S1x4096x128) (k1_off5 i (BitVec.ofNat 32 (256 * t.val))) S1x256x128.size inb).toLoadRect X4) shapeCasts_S1x256x128_S256x128)
  vt : ∀ (t : Fin 8) inb, E.VT (E.p0 + 256 * t.val) (shapeCast S144x256 (arg5.view.readAt (Elt Ideal)
    (Rect.unit (s := S144x4096) (k1_off6 i (BitVec.ofNat 32 (256 * t.val))) S144x256.size inb).toLoadRect X5) shapeCasts_S144x256_S144x256)
  qz : ∀ (r : Fin 16) inb, E.QZ r (shapeCast S256x128 (arg9.view.readCov L9
    (Rect.unit (s := S16x256x128) ![r.val, 0, 0] S1x256x128.size inb).toLoadRect) shapeCasts_S1x256x128_S256x128)

section

variable {E : Env} {c : Dev nD} {i : grid1.Coords}
  {arg3 : Memref sig .tc .vmem S1x2048x128 .bf16} {harg3 : arg3.IsWhole}
  {arg4 : Memref sig .tc .vmem S1x4096x128 .bf16} {harg4 : arg4.IsWhole} {arg5 : Memref sig .tc .vmem S144x4096 .bf16}
  {harg5 : arg5.IsWhole} {arg6 : Memref sig .tc .vmem S1x4x64 .f32} {harg6 : arg6.IsWhole}
  {arg7 : Memref sig .tc .vmem S1x1x128 .f32} {harg7 : arg7.IsWhole} {arg8 : Memref sig .tc .vmem S1x2048x128 .bf16}
  {harg8 : arg8.IsWhole} {arg9 : Memref sig .tc .vmem S16x256x128 .bf16} {harg9 : arg9.IsWhole}
  {arg10 : Memref sig .tc .vmem S16x1x256 .f32} {harg10 : arg10.IsWhole}
  {arg11 : Memref sig .tc .vmem S16x144x256 .f32} {harg11 : arg11.IsWhole}
  {x0 : Vec Ideal S1x2048x128 .bf16} {x1 : Vec Ideal S1x4096x128 .bf16} {x2 : Vec Ideal S144x4096 .bf16}

/-- The stores before the diagonal. -/
abbrev L10_0 (c : Dev nD) (i : grid1.Coords) (arg3 : Memref sig .tc .vmem S1x2048x128 .bf16) (harg3 : arg3.IsWhole)
    (arg4 : Memref sig .tc .vmem S1x4096x128 .bf16) (harg4 : arg4.IsWhole) (arg5 : Memref sig .tc .vmem S144x4096 .bf16)
    (harg5 : arg5.IsWhole) (arg6 : Memref sig .tc .vmem S1x4x64 .f32) (harg6 : arg6.IsWhole)
    (arg7 : Memref sig .tc .vmem S1x1x128 .f32) (harg7 : arg7.IsWhole) (arg8 : Memref sig .tc .vmem S1x2048x128 .bf16)
    (harg8 : arg8.IsWhole) (arg9 : Memref sig .tc .vmem S16x256x128 .bf16) (harg9 : arg9.IsWhole)
    (arg10 : Memref sig .tc .vmem S16x1x256 .f32) (harg10 : arg10.IsWhole)
    (arg11 : Memref sig .tc .vmem S16x144x256 .f32) (harg11 : arg11.IsWhole)
    (x0 : Vec Ideal S1x2048x128 .bf16) (x1 : Vec Ideal S1x4096x128 .bf16) (x2 : Vec Ideal S144x4096 .bf16) : P10 :=
  (pb_k1_t2 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (kernelRun1_A.sl.v285 i) (harg4.unread x1) (harg5.unread x2) (arg9.view.writes (Elt Ideal) arg9.view.junk (kernelRun1_A.sl.HS0_32 c arg3 harg3 x0)) (arg10.view.writes (Elt Ideal) arg10.view.junk ((pb_k1_t1 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (harg4.unread x1) (harg5.unread x2) (arg9.view.writes (Elt Ideal) arg9.view.junk (kernelRun1_A.sl.HS0_32 c arg3 harg3 x0)) (arg10.view.writes (Elt Ideal) arg10.view.junk kernelRun1_A.sl.HS1_1) (arg11.view.writes (Elt Ideal) arg11.view.junk kernelRun1_A.sl.HS2_1) (k1_t1_loop i).trips).1 ++ kernelRun1_A.sl.HS1_1)) (arg11.view.writes (Elt Ideal) arg11.view.junk ((pb_k1_t1 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (harg4.unread x1) (harg5.unread x2) (arg9.view.writes (Elt Ideal) arg9.view.junk (kernelRun1_A.sl.HS0_32 c arg3 harg3 x0)) (arg10.view.writes (Elt Ideal) arg10.view.junk kernelRun1_A.sl.HS1_1) (arg11.view.writes (Elt Ideal) arg11.view.junk kernelRun1_A.sl.HS2_1) (k1_t1_loop i).trips).2 ++ kernelRun1_A.sl.HS2_1)) (k1_t2_loop i).trips).1 ++ ((pb_k1_t1 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (harg4.unread x1) (harg5.unread x2) (arg9.view.writes (Elt Ideal) arg9.view.junk (kernelRun1_A.sl.HS0_32 c arg3 harg3 x0)) (arg10.view.writes (Elt Ideal) arg10.view.junk kernelRun1_A.sl.HS1_1) (arg11.view.writes (Elt Ideal) arg11.view.junk kernelRun1_A.sl.HS2_1) (k1_t1_loop i).trips).1 ++ kernelRun1_A.sl.HS1_1)
abbrev L11_0 (c : Dev nD) (i : grid1.Coords) (arg3 : Memref sig .tc .vmem S1x2048x128 .bf16) (harg3 : arg3.IsWhole)
    (arg4 : Memref sig .tc .vmem S1x4096x128 .bf16) (harg4 : arg4.IsWhole) (arg5 : Memref sig .tc .vmem S144x4096 .bf16)
    (harg5 : arg5.IsWhole) (arg6 : Memref sig .tc .vmem S1x4x64 .f32) (harg6 : arg6.IsWhole)
    (arg7 : Memref sig .tc .vmem S1x1x128 .f32) (harg7 : arg7.IsWhole) (arg8 : Memref sig .tc .vmem S1x2048x128 .bf16)
    (harg8 : arg8.IsWhole) (arg9 : Memref sig .tc .vmem S16x256x128 .bf16) (harg9 : arg9.IsWhole)
    (arg10 : Memref sig .tc .vmem S16x1x256 .f32) (harg10 : arg10.IsWhole)
    (arg11 : Memref sig .tc .vmem S16x144x256 .f32) (harg11 : arg11.IsWhole)
    (x0 : Vec Ideal S1x2048x128 .bf16) (x1 : Vec Ideal S1x4096x128 .bf16) (x2 : Vec Ideal S144x4096 .bf16) : P11 :=
  (pb_k1_t2 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (kernelRun1_A.sl.v285 i) (harg4.unread x1) (harg5.unread x2) (arg9.view.writes (Elt Ideal) arg9.view.junk (kernelRun1_A.sl.HS0_32 c arg3 harg3 x0)) (arg10.view.writes (Elt Ideal) arg10.view.junk ((pb_k1_t1 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (harg4.unread x1) (harg5.unread x2) (arg9.view.writes (Elt Ideal) arg9.view.junk (kernelRun1_A.sl.HS0_32 c arg3 harg3 x0)) (arg10.view.writes (Elt Ideal) arg10.view.junk kernelRun1_A.sl.HS1_1) (arg11.view.writes (Elt Ideal) arg11.view.junk kernelRun1_A.sl.HS2_1) (k1_t1_loop i).trips).1 ++ kernelRun1_A.sl.HS1_1)) (arg11.view.writes (Elt Ideal) arg11.view.junk ((pb_k1_t1 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (harg4.unread x1) (harg5.unread x2) (arg9.view.writes (Elt Ideal) arg9.view.junk (kernelRun1_A.sl.HS0_32 c arg3 harg3 x0)) (arg10.view.writes (Elt Ideal) arg10.view.junk kernelRun1_A.sl.HS1_1) (arg11.view.writes (Elt Ideal) arg11.view.junk kernelRun1_A.sl.HS2_1) (k1_t1_loop i).trips).2 ++ kernelRun1_A.sl.HS2_1)) (k1_t2_loop i).trips).2 ++ ((pb_k1_t1 (F := Ideal) Variants.none c none i arg3 harg3 arg4 harg4 arg5 harg5 arg6 harg6 arg7 harg7 arg8 harg8 arg9 harg9 arg10 harg10 arg11 harg11 (BitVec.ofNat 32 ↑(i 2)) (0#32) (kernelRun1_A.sl.v281 i) (1#32) (harg4.unread x1) (harg5.unread x2) (arg9.view.writes (Elt Ideal) arg9.view.junk (kernelRun1_A.sl.HS0_32 c arg3 harg3 x0)) (arg10.view.writes (Elt Ideal) arg10.view.junk kernelRun1_A.sl.HS1_1) (arg11.view.writes (Elt Ideal) arg11.view.junk kernelRun1_A.sl.HS2_1) (k1_t1_loop i).trips).2 ++ kernelRun1_A.sl.HS2_1)

theorem diag_1 (D : DiagIn E i arg4 arg5 arg9 (harg4.unread x1) (harg5.unread x2) (kernelRun1_A.sl.HS0_32 c arg3 harg3 x0)) (h : Holds arg10.view arg11.view E (fun _ => True) (lev (E.p0 + 256 * 0) 0) (L10_0 c i arg3 harg3 arg4 harg4 arg5 harg5 arg6 harg6 arg7 harg7 arg8 harg8 arg9 harg9 arg10 harg10 arg11 harg11 x0 x1 x2) (L11_0 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 1) (kernelRun1_A.sl.HS1_1_1 c i arg3 harg3 arg4 harg4 arg5 harg5 arg6 harg6 arg7 harg7 arg8 harg8 arg9 harg9 arg10 harg10 arg11 harg11 x0 x1 x2) (kernelRun1_A.sl.HS2_1_1 c i arg3 harg3 arg4 harg4 arg5 harg5 arg6 harg6 arg7 harg7 arg8 harg8 arg9 harg9 arg10 harg10 arg11 harg11 x0 x1 x2) :=
  h.stepMasked 0 (by omega) (D.kt 0 (k1_off5_inb i 0)) (D.vt 0 (k1_off6_inb i 0)) (D.qz 0 (by decide)) 0#32 0#32 rfl rfl (by decide) (inb10 := by decide) (inb11 := by decide)

theorem diag_2 (D : DiagIn E i arg4 arg5 arg9 (harg4.unread x1) (harg5.unread x2) (kernelRun1_A.sl.HS0_32 c arg3 harg3 x0)) (h : Holds arg10.view arg11.view E (fun _ => True) (lev (E.p0 + 256 * 0) 1) (kernelRun1_A.sl.HS1_1_1 c i arg3 harg3 arg4 harg4 arg5 harg5 arg6 harg6 arg7 harg7 arg8 harg8 arg9 harg9 arg10 harg10 arg11 harg11 x0 x1 x2) (kernelRun1_A.sl.HS2_1_1 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 2) (kernelRun1_A.sl.HS1_2 c i arg3 harg3 arg4 harg4 arg5 harg5 arg6 harg6 arg7 harg7 arg8 harg8 arg9 harg9 arg10 harg10 arg11 harg11 x0 x1 x2) (kernelRun1_A.sl.HS2_2 c i arg3 harg3 arg4 harg4 arg5 harg5 arg6 harg6 arg7 harg7 arg8 harg8 arg9 harg9 arg10 harg10 arg11 harg11 x0 x1 x2) :=
  h.stepMasked 1 (by omega) (D.kt 0 (k1_off5_inb i 0)) (D.vt 0 (k1_off6_inb i 0)) (D.qz 1 (by decide)) 0#32 128#32 rfl rfl (by decide) (inb10 := by decide) (inb11 := by decide)

theorem diag_3 (D : DiagIn E i arg4 arg5 arg9 (harg4.unread x1) (harg5.unread x2) (kernelRun1_A.sl.HS0_32 c arg3 harg3 x0)) (h : Holds arg10.view arg11.view E (fun _ => True) (lev (E.p0 + 256 * 0) 2) (kernelRun1_A.sl.HS1_2 c i arg3 harg3 arg4 harg4 arg5 harg5 arg6 harg6 arg7 harg7 arg8 harg8 arg9 harg9 arg10 harg10 arg11 harg11 x0 x1 x2) (kernelRun1_A.sl.HS2_2 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 3) (kernelRun1_A.sl.HS1_3 c i arg3 harg3 arg4 harg4 arg5 harg5 arg6 harg6 arg7 harg7 arg8 harg8 arg9 harg9 arg10 harg10 arg11 harg11 x0 x1 x2) (kernelRun1_A.sl.HS2_3 c i arg3 harg3 arg4 harg4 arg5 harg5 arg6 harg6 arg7 harg7 arg8 harg8 arg9 harg9 arg10 harg10 arg11 harg11 x0 x1 x2) :=
  h.step 2 (by omega) (D.kt 0 (k1_off5_inb i 0)) (D.vt 0 (k1_off6_inb i 0)) (D.qz 2 (by decide)) (by show E.p0 + 256 * 0 + 255 ≤ _; omega) (inb10 := by decide) (inb11 := by decide)

theorem diag_4 (D : DiagIn E i arg4 arg5 arg9 (harg4.unread x1) (harg5.unread x2) (kernelRun1_A.sl.HS0_32 c arg3 harg3 x0)) (h : Holds arg10.view arg11.view E (fun _ => True) (lev (E.p0 + 256 * 0) 3) (kernelRun1_A.sl.HS1_3 c i arg3 harg3 arg4 harg4 arg5 harg5 arg6 harg6 arg7 harg7 arg8 harg8 arg9 harg9 arg10 harg10 arg11 harg11 x0 x1 x2) (kernelRun1_A.sl.HS2_3 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 4) (kernelRun1_A.sl.HS1_4 c i arg3 harg3 arg4 harg4 arg5 harg5 arg6 harg6 arg7 harg7 arg8 harg8 arg9 harg9 arg10 harg10 arg11 harg11 x0 x1 x2) (kernelRun1_A.sl.HS2_4 c i arg3 harg3 arg4 harg4 arg5 harg5 arg6 harg6 arg7 harg7 arg8 harg8 arg9 harg9 arg10 harg10 arg11 harg11 x0 x1 x2) :=
  h.step 3 (by omega) (D.kt 0 (k1_off5_inb i 0)) (D.vt 0 (k1_off6_inb i 0)) (D.qz 3 (by decide)) (by show E.p0 + 256 * 0 + 255 ≤ _; omega) (inb10 := by decide) (inb11 := by decide)

theorem diag_5 (D : DiagIn E i arg4 arg5 arg9 (harg4.unread x1) (harg5.unread x2) (kernelRun1_A.sl.HS0_32 c arg3 harg3 x0)) (h : Holds arg10.view arg11.view E (fun _ => True) (lev (E.p0 + 256 * 0) 4) (kernelRun1_A.sl.HS1_4 c i arg3 harg3 arg4 harg4 arg5 harg5 arg6 harg6 arg7 harg7 arg8 harg8 arg9 harg9 arg10 harg10 arg11 harg11 x0 x1 x2) (kernelRun1_A.sl.HS2_4 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 5) (kernelRun1_A.sl.HS1_5 c i arg3 harg3 arg4 harg4 arg5 harg5 arg6 harg6 arg7 harg7 arg8 harg8 arg9 harg9 arg10 harg10 arg11 harg11 x0 x1 x2) (kernelRun1_A.sl.HS2_5 c i arg3 harg3 arg4 harg4 arg5 harg5 arg6 harg6 arg7 harg7 arg8 harg8 arg9 harg9 arg10 harg10 arg11 harg11 x0 x1 x2) :=
  h.step 4 (by omega) (D.kt 0 (k1_off5_inb i 0)) (D.vt 0 (k1_off6_inb i 0)) (D.qz 4 (by decide)) (by show E.p0 + 256 * 0 + 255 ≤ _; omega) (inb10 := by decide) (inb11 := by decide)

theorem diag_6 (D : DiagIn E i arg4 arg5 arg9 (harg4.unread x1) (harg5.unread x2) (kernelRun1_A.sl.HS0_32 c arg3 harg3 x0)) (h : Holds arg10.view arg11.view E (fun _ => True) (lev (E.p0 + 256 * 0) 5) (kernelRun1_A.sl.HS1_5 c i arg3 harg3 arg4 harg4 arg5 harg5 arg6 harg6 arg7 harg7 arg8 harg8 arg9 harg9 arg10 harg10 arg11 harg11 x0 x1 x2) (kernelRun1_A.sl.HS2_5 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 6) (kernelRun1_A.sl.HS1_6 c i arg3 harg3 arg4 harg4 arg5 harg5 arg6 harg6 arg7 harg7 arg8 harg8 arg9 harg9 arg10 harg10 arg11 harg11 x0 x1 x2) (kernelRun1_A.sl.HS2_6 c i arg3 harg3 arg4 harg4 arg5 harg5 arg6 harg6 arg7 harg7 arg8 harg8 arg9 harg9 arg10 harg10 arg11 harg11 x0 x1 x2) :=
  h.step 5 (by omega) (D.kt 0 (k1_off5_inb i 0)) (D.vt 0 (k1_off6_inb i 0)) (D.qz 5 (by decide)) (by show E.p0 + 256 * 0 + 255 ≤ _; omega) (inb10 := by decide) (inb11 := by decide)

theorem diag_7 (D : DiagIn E i arg4 arg5 arg9 (harg4.unread x1) (harg5.unread x2) (kernelRun1_A.sl.HS0_32 c arg3 harg3 x0)) (h : Holds arg10.view arg11.view E (fun _ => True) (lev (E.p0 + 256 * 0) 6) (kernelRun1_A.sl.HS1_6 c i arg3 harg3 arg4 harg4 arg5 harg5 arg6 harg6 arg7 harg7 arg8 harg8 arg9 harg9 arg10 harg10 arg11 harg11 x0 x1 x2) (kernelRun1_A.sl.HS2_6 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 7) (kernelRun1_A.sl.HS1_7 c i arg3 harg3 arg4 harg4 arg5 harg5 arg6 harg6 arg7 harg7 arg8 harg8 arg9 harg9 arg10 harg10 arg11 harg11 x0 x1 x2) (kernelRun1_A.sl.HS2_7 c i arg3 harg3 arg4 harg4 arg5 harg5 arg6 harg6 arg7 harg7 arg8 harg8 arg9 harg9 arg10 harg10 arg11 harg11 x0 x1 x2) :=
  h.step 6 (by omega) (D.kt 0 (k1_off5_inb i 0)) (D.vt 0 (k1_off6_inb i 0)) (D.qz 6 (by decide)) (by show E.p0 + 256 * 0 + 255 ≤ _; omega) (inb10 := by decide) (inb11 := by decide)

theorem diag_8 (D : DiagIn E i arg4 arg5 arg9 (harg4.unread x1) (harg5.unread x2) (kernelRun1_A.sl.HS0_32 c arg3 harg3 x0)) (h : Holds arg10.view arg11.view E (fun _ => True) (lev (E.p0 + 256 * 0) 7) (kernelRun1_A.sl.HS1_7 c i arg3 harg3 arg4 harg4 arg5 harg5 arg6 harg6 arg7 harg7 arg8 harg8 arg9 harg9 arg10 harg10 arg11 harg11 x0 x1 x2) (kernelRun1_A.sl.HS2_7 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 8) (kernelRun1_A.sl.HS1_8 c i arg3 harg3 arg4 harg4 arg5 harg5 arg6 harg6 arg7 harg7 arg8 harg8 arg9 harg9 arg10 harg10 arg11 harg11 x0 x1 x2) (kernelRun1_A.sl.HS2_8 c i arg3 harg3 arg4 harg4 arg5 harg5 arg6 harg6 arg7 harg7 arg8 harg8 arg9 harg9 arg10 harg10 arg11 harg11 x0 x1 x2) :=
  h.step 7 (by omega) (D.kt 0 (k1_off5_inb i 0)) (D.vt 0 (k1_off6_inb i 0)) (D.qz 7 (by decide)) (by show E.p0 + 256 * 0 + 255 ≤ _; omega) (inb10 := by decide) (inb11 := by decide)

theorem diag_9 (D : DiagIn E i arg4 arg5 arg9 (harg4.unread x1) (harg5.unread x2) (kernelRun1_A.sl.HS0_32 c arg3 harg3 x0)) (h : Holds arg10.view arg11.view E (fun _ => True) (lev (E.p0 + 256 * 0) 8) (kernelRun1_A.sl.HS1_8 c i arg3 harg3 arg4 harg4 arg5 harg5 arg6 harg6 arg7 harg7 arg8 harg8 arg9 harg9 arg10 harg10 arg11 harg11 x0 x1 x2) (kernelRun1_A.sl.HS2_8 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 9) (kernelRun1_A.sl.HS1_9 c i arg3 harg3 arg4 harg4 arg5 harg5 arg6 harg6 arg7 harg7 arg8 harg8 arg9 harg9 arg10 harg10 arg11 harg11 x0 x1 x2) (kernelRun1_A.sl.HS2_9 c i arg3 harg3 arg4 harg4 arg5 harg5 arg6 harg6 arg7 harg7 arg8 harg8 arg9 harg9 arg10 harg10 arg11 harg11 x0 x1 x2) :=
  h.step 8 (by omega) (D.kt 0 (k1_off5_inb i 0)) (D.vt 0 (k1_off6_inb i 0)) (D.qz 8 (by decide)) (by show E.p0 + 256 * 0 + 255 ≤ _; omega) (inb10 := by decide) (inb11 := by decide)

theorem diag_10 (D : DiagIn E i arg4 arg5 arg9 (harg4.unread x1) (harg5.unread x2) (kernelRun1_A.sl.HS0_32 c arg3 harg3 x0)) (h : Holds arg10.view arg11.view E (fun _ => True) (lev (E.p0 + 256 * 0) 9) (kernelRun1_A.sl.HS1_9 c i arg3 harg3 arg4 harg4 arg5 harg5 arg6 harg6 arg7 harg7 arg8 harg8 arg9 harg9 arg10 harg10 arg11 harg11 x0 x1 x2) (kernelRun1_A.sl.HS2_9 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 10) (kernelRun1_A.sl.HS1_10 c i arg3 harg3 arg4 harg4 arg5 harg5 arg6 harg6 arg7 harg7 arg8 harg8 arg9 harg9 arg10 harg10 arg11 harg11 x0 x1 x2) (kernelRun1_A.sl.HS2_10 c i arg3 harg3 arg4 harg4 arg5 harg5 arg6 harg6 arg7 harg7 arg8 harg8 arg9 harg9 arg10 harg10 arg11 harg11 x0 x1 x2) :=
  h.step 9 (by omega) (D.kt 0 (k1_off5_inb i 0)) (D.vt 0 (k1_off6_inb i 0)) (D.qz 9 (by decide)) (by show E.p0 + 256 * 0 + 255 ≤ _; omega) (inb10 := by decide) (inb11 := by decide)

theorem diag_11 (D : DiagIn E i arg4 arg5 arg9 (harg4.unread x1) (harg5.unread x2) (kernelRun1_A.sl.HS0_32 c arg3 harg3 x0)) (h : Holds arg10.view arg11.view E (fun _ => True) (lev (E.p0 + 256 * 0) 10) (kernelRun1_A.sl.HS1_10 c i arg3 harg3 arg4 harg4 arg5 harg5 arg6 harg6 arg7 harg7 arg8 harg8 arg9 harg9 arg10 harg10 arg11 harg11 x0 x1 x2) (kernelRun1_A.sl.HS2_10 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 11) (kernelRun1_A.sl.HS1_11 c i arg3 harg3 arg4 harg4 arg5 harg5 arg6 harg6 arg7 harg7 arg8 harg8 arg9 harg9 arg10 harg10 arg11 harg11 x0 x1 x2) (kernelRun1_A.sl.HS2_11 c i arg3 harg3 arg4 harg4 arg5 harg5 arg6 harg6 arg7 harg7 arg8 harg8 arg9 harg9 arg10 harg10 arg11 harg11 x0 x1 x2) :=
  h.step 10 (by omega) (D.kt 0 (k1_off5_inb i 0)) (D.vt 0 (k1_off6_inb i 0)) (D.qz 10 (by decide)) (by show E.p0 + 256 * 0 + 255 ≤ _; omega) (inb10 := by decide) (inb11 := by decide)

theorem diag_12 (D : DiagIn E i arg4 arg5 arg9 (harg4.unread x1) (harg5.unread x2) (kernelRun1_A.sl.HS0_32 c arg3 harg3 x0)) (h : Holds arg10.view arg11.view E (fun _ => True) (lev (E.p0 + 256 * 0) 11) (kernelRun1_A.sl.HS1_11 c i arg3 harg3 arg4 harg4 arg5 harg5 arg6 harg6 arg7 harg7 arg8 harg8 arg9 harg9 arg10 harg10 arg11 harg11 x0 x1 x2) (kernelRun1_A.sl.HS2_11 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 12) (kernelRun1_A.sl.HS1_12 c i arg3 harg3 arg4 harg4 arg5 harg5 arg6 harg6 arg7 harg7 arg8 harg8 arg9 harg9 arg10 harg10 arg11 harg11 x0 x1 x2) (kernelRun1_A.sl.HS2_12 c i arg3 harg3 arg4 harg4 arg5 harg5 arg6 harg6 arg7 harg7 arg8 harg8 arg9 harg9 arg10 harg10 arg11 harg11 x0 x1 x2) :=
  h.step 11 (by omega) (D.kt 0 (k1_off5_inb i 0)) (D.vt 0 (k1_off6_inb i 0)) (D.qz 11 (by decide)) (by show E.p0 + 256 * 0 + 255 ≤ _; omega) (inb10 := by decide) (inb11 := by decide)

theorem diag_13 (D : DiagIn E i arg4 arg5 arg9 (harg4.unread x1) (harg5.unread x2) (kernelRun1_A.sl.HS0_32 c arg3 harg3 x0)) (h : Holds arg10.view arg11.view E (fun _ => True) (lev (E.p0 + 256 * 0) 12) (kernelRun1_A.sl.HS1_12 c i arg3 harg3 arg4 harg4 arg5 harg5 arg6 harg6 arg7 harg7 arg8 harg8 arg9 harg9 arg10 harg10 arg11 harg11 x0 x1 x2) (kernelRun1_A.sl.HS2_12 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 13) (kernelRun1_A.sl.HS1_13 c i arg3 harg3 arg4 harg4 arg5 harg5 arg6 harg6 arg7 harg7 arg8 harg8 arg9 harg9 arg10 harg10 arg11 harg11 x0 x1 x2) (kernelRun1_A.sl.HS2_13 c i arg3 harg3 arg4 harg4 arg5 harg5 arg6 harg6 arg7 harg7 arg8 harg8 arg9 harg9 arg10 harg10 arg11 harg11 x0 x1 x2) :=
  h.step 12 (by omega) (D.kt 0 (k1_off5_inb i 0)) (D.vt 0 (k1_off6_inb i 0)) (D.qz 12 (by decide)) (by show E.p0 + 256 * 0 + 255 ≤ _; omega) (inb10 := by decide) (inb11 := by decide)

theorem diag_14 (D : DiagIn E i arg4 arg5 arg9 (harg4.unread x1) (harg5.unread x2) (kernelRun1_A.sl.HS0_32 c arg3 harg3 x0)) (h : Holds arg10.view arg11.view E (fun _ => True) (lev (E.p0 + 256 * 0) 13) (kernelRun1_A.sl.HS1_13 c i arg3 harg3 arg4 harg4 arg5 harg5 arg6 harg6 arg7 harg7 arg8 harg8 arg9 harg9 arg10 harg10 arg11 harg11 x0 x1 x2) (kernelRun1_A.sl.HS2_13 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 14) (kernelRun1_A.sl.HS1_14 c i arg3 harg3 arg4 harg4 arg5 harg5 arg6 harg6 arg7 harg7 arg8 harg8 arg9 harg9 arg10 harg10 arg11 harg11 x0 x1 x2) (kernelRun1_A.sl.HS2_14 c i arg3 harg3 arg4 harg4 arg5 harg5 arg6 harg6 arg7 harg7 arg8 harg8 arg9 harg9 arg10 harg10 arg11 harg11 x0 x1 x2) :=
  h.step 13 (by omega) (D.kt 0 (k1_off5_inb i 0)) (D.vt 0 (k1_off6_inb i 0)) (D.qz 13 (by decide)) (by show E.p0 + 256 * 0 + 255 ≤ _; omega) (inb10 := by decide) (inb11 := by decide)

theorem diag_15 (D : DiagIn E i arg4 arg5 arg9 (harg4.unread x1) (harg5.unread x2) (kernelRun1_A.sl.HS0_32 c arg3 harg3 x0)) (h : Holds arg10.view arg11.view E (fun _ => True) (lev (E.p0 + 256 * 0) 14) (kernelRun1_A.sl.HS1_14 c i arg3 harg3 arg4 harg4 arg5 harg5 arg6 harg6 arg7 harg7 arg8 harg8 arg9 harg9 arg10 harg10 arg11 harg11 x0 x1 x2) (kernelRun1_A.sl.HS2_14 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 15) (kernelRun1_A.sl.HS1_15 c i arg3 harg3 arg4 harg4 arg5 harg5 arg6 harg6 arg7 harg7 arg8 harg8 arg9 harg9 arg10 harg10 arg11 harg11 x0 x1 x2) (kernelRun1_A.sl.HS2_15 c i arg3 harg3 arg4 harg4 arg5 harg5 arg6 harg6 arg7 harg7 arg8 harg8 arg9 harg9 arg10 harg10 arg11 harg11 x0 x1 x2) :=
  h.step 14 (by omega) (D.kt 0 (k1_off5_inb i 0)) (D.vt 0 (k1_off6_inb i 0)) (D.qz 14 (by decide)) (by show E.p0 + 256 * 0 + 255 ≤ _; omega) (inb10 := by decide) (inb11 := by decide)

theorem diag_16 (D : DiagIn E i arg4 arg5 arg9 (harg4.unread x1) (harg5.unread x2) (kernelRun1_A.sl.HS0_32 c arg3 harg3 x0)) (h : Holds arg10.view arg11.view E (fun _ => True) (lev (E.p0 + 256 * 0) 15) (kernelRun1_A.sl.HS1_15 c i arg3 harg3 arg4 harg4 arg5 harg5 arg6 harg6 arg7 harg7 arg8 harg8 arg9 harg9 arg10 harg10 arg11 harg11 x0 x1 x2) (kernelRun1_A.sl.HS2_15 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 0) 16) (kernelRun1_A.sl.HS1_16 c i arg3 harg3 arg4 harg4 arg5 harg5 arg6 harg6 arg7 harg7 arg8 harg8 arg9 harg9 arg10 harg10 arg11 harg11 x0 x1 x2) (kernelRun1_A.sl.HS2_16 c i arg3 harg3 arg4 harg4 arg5 harg5 arg6 harg6 arg7 harg7 arg8 harg8 arg9 harg9 arg10 harg10 arg11 harg11 x0 x1 x2) :=
  h.step 15 (by omega) (D.kt 0 (k1_off5_inb i 0)) (D.vt 0 (k1_off6_inb i 0)) (D.qz 15 (by decide)) (by show E.p0 + 256 * 0 + 255 ≤ _; omega) (inb10 := by decide) (inb11 := by decide)

theorem diag_17 (D : DiagIn E i arg4 arg5 arg9 (harg4.unread x1) (harg5.unread x2) (kernelRun1_A.sl.HS0_32 c arg3 harg3 x0)) (h : Holds arg10.view arg11.view E (fun _ => True) (lev (E.p0 + 256 * 1) 2) (kernelRun1_A.sl.HS1_16 c i arg3 harg3 arg4 harg4 arg5 harg5 arg6 harg6 arg7 harg7 arg8 harg8 arg9 harg9 arg10 harg10 arg11 harg11 x0 x1 x2) (kernelRun1_A.sl.HS2_16 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 3) (kernelRun1_A.sl.HS1_17 c i arg3 harg3 arg4 harg4 arg5 harg5 arg6 harg6 arg7 harg7 arg8 harg8 arg9 harg9 arg10 harg10 arg11 harg11 x0 x1 x2) (kernelRun1_A.sl.HS2_17 c i arg3 harg3 arg4 harg4 arg5 harg5 arg6 harg6 arg7 harg7 arg8 harg8 arg9 harg9 arg10 harg10 arg11 harg11 x0 x1 x2) :=
  h.stepMasked 2 (by omega) (D.kt 1 (k1_off5_inb i 1)) (D.vt 1 (k1_off6_inb i 1)) (D.qz 2 (by decide)) 256#32 256#32 rfl rfl (by decide) (inb10 := by decide) (inb11 := by decide)

theorem diag_18 (D : DiagIn E i arg4 arg5 arg9 (harg4.unread x1) (harg5.unread x2) (kernelRun1_A.sl.HS0_32 c arg3 harg3 x0)) (h : Holds arg10.view arg11.view E (fun _ => True) (lev (E.p0 + 256 * 1) 3) (kernelRun1_A.sl.HS1_17 c i arg3 harg3 arg4 harg4 arg5 harg5 arg6 harg6 arg7 harg7 arg8 harg8 arg9 harg9 arg10 harg10 arg11 harg11 x0 x1 x2) (kernelRun1_A.sl.HS2_17 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 4) (kernelRun1_A.sl.HS1_18 c i arg3 harg3 arg4 harg4 arg5 harg5 arg6 harg6 arg7 harg7 arg8 harg8 arg9 harg9 arg10 harg10 arg11 harg11 x0 x1 x2) (kernelRun1_A.sl.HS2_18 c i arg3 harg3 arg4 harg4 arg5 harg5 arg6 harg6 arg7 harg7 arg8 harg8 arg9 harg9 arg10 harg10 arg11 harg11 x0 x1 x2) :=
  h.stepMasked 3 (by omega) (D.kt 1 (k1_off5_inb i 1)) (D.vt 1 (k1_off6_inb i 1)) (D.qz 3 (by decide)) 256#32 384#32 rfl rfl (by decide) (inb10 := by decide) (inb11 := by decide)

theorem diag_19 (D : DiagIn E i arg4 arg5 arg9 (harg4.unread x1) (harg5.unread x2) (kernelRun1_A.sl.HS0_32 c arg3 harg3 x0)) (h : Holds arg10.view arg11.view E (fun _ => True) (lev (E.p0 + 256 * 1) 4) (kernelRun1_A.sl.HS1_18 c i arg3 harg3 arg4 harg4 arg5 harg5 arg6 harg6 arg7 harg7 arg8 harg8 arg9 harg9 arg10 harg10 arg11 harg11 x0 x1 x2) (kernelRun1_A.sl.HS2_18 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 5) (kernelRun1_A.sl.HS1_19 c i arg3 harg3 arg4 harg4 arg5 harg5 arg6 harg6 arg7 harg7 arg8 harg8 arg9 harg9 arg10 harg10 arg11 harg11 x0 x1 x2) (kernelRun1_A.sl.HS2_19 c i arg3 harg3 arg4 harg4 arg5 harg5 arg6 harg6 arg7 harg7 arg8 harg8 arg9 harg9 arg10 harg10 arg11 harg11 x0 x1 x2) :=
  h.step 4 (by omega) (D.kt 1 (k1_off5_inb i 1)) (D.vt 1 (k1_off6_inb i 1)) (D.qz 4 (by decide)) (by show E.p0 + 256 * 1 + 255 ≤ _; omega) (inb10 := by decide) (inb11 := by decide)

theorem diag_20 (D : DiagIn E i arg4 arg5 arg9 (harg4.unread x1) (harg5.unread x2) (kernelRun1_A.sl.HS0_32 c arg3 harg3 x0)) (h : Holds arg10.view arg11.view E (fun _ => True) (lev (E.p0 + 256 * 1) 5) (kernelRun1_A.sl.HS1_19 c i arg3 harg3 arg4 harg4 arg5 harg5 arg6 harg6 arg7 harg7 arg8 harg8 arg9 harg9 arg10 harg10 arg11 harg11 x0 x1 x2) (kernelRun1_A.sl.HS2_19 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 6) (kernelRun1_A.sl.HS1_20 c i arg3 harg3 arg4 harg4 arg5 harg5 arg6 harg6 arg7 harg7 arg8 harg8 arg9 harg9 arg10 harg10 arg11 harg11 x0 x1 x2) (kernelRun1_A.sl.HS2_20 c i arg3 harg3 arg4 harg4 arg5 harg5 arg6 harg6 arg7 harg7 arg8 harg8 arg9 harg9 arg10 harg10 arg11 harg11 x0 x1 x2) :=
  h.step 5 (by omega) (D.kt 1 (k1_off5_inb i 1)) (D.vt 1 (k1_off6_inb i 1)) (D.qz 5 (by decide)) (by show E.p0 + 256 * 1 + 255 ≤ _; omega) (inb10 := by decide) (inb11 := by decide)

theorem diag_21 (D : DiagIn E i arg4 arg5 arg9 (harg4.unread x1) (harg5.unread x2) (kernelRun1_A.sl.HS0_32 c arg3 harg3 x0)) (h : Holds arg10.view arg11.view E (fun _ => True) (lev (E.p0 + 256 * 1) 6) (kernelRun1_A.sl.HS1_20 c i arg3 harg3 arg4 harg4 arg5 harg5 arg6 harg6 arg7 harg7 arg8 harg8 arg9 harg9 arg10 harg10 arg11 harg11 x0 x1 x2) (kernelRun1_A.sl.HS2_20 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 7) (kernelRun1_A.sl.HS1_21 c i arg3 harg3 arg4 harg4 arg5 harg5 arg6 harg6 arg7 harg7 arg8 harg8 arg9 harg9 arg10 harg10 arg11 harg11 x0 x1 x2) (kernelRun1_A.sl.HS2_21 c i arg3 harg3 arg4 harg4 arg5 harg5 arg6 harg6 arg7 harg7 arg8 harg8 arg9 harg9 arg10 harg10 arg11 harg11 x0 x1 x2) :=
  h.step 6 (by omega) (D.kt 1 (k1_off5_inb i 1)) (D.vt 1 (k1_off6_inb i 1)) (D.qz 6 (by decide)) (by show E.p0 + 256 * 1 + 255 ≤ _; omega) (inb10 := by decide) (inb11 := by decide)

theorem diag_22 (D : DiagIn E i arg4 arg5 arg9 (harg4.unread x1) (harg5.unread x2) (kernelRun1_A.sl.HS0_32 c arg3 harg3 x0)) (h : Holds arg10.view arg11.view E (fun _ => True) (lev (E.p0 + 256 * 1) 7) (kernelRun1_A.sl.HS1_21 c i arg3 harg3 arg4 harg4 arg5 harg5 arg6 harg6 arg7 harg7 arg8 harg8 arg9 harg9 arg10 harg10 arg11 harg11 x0 x1 x2) (kernelRun1_A.sl.HS2_21 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 8) (kernelRun1_A.sl.HS1_22 c i arg3 harg3 arg4 harg4 arg5 harg5 arg6 harg6 arg7 harg7 arg8 harg8 arg9 harg9 arg10 harg10 arg11 harg11 x0 x1 x2) (kernelRun1_A.sl.HS2_22 c i arg3 harg3 arg4 harg4 arg5 harg5 arg6 harg6 arg7 harg7 arg8 harg8 arg9 harg9 arg10 harg10 arg11 harg11 x0 x1 x2) :=
  h.step 7 (by omega) (D.kt 1 (k1_off5_inb i 1)) (D.vt 1 (k1_off6_inb i 1)) (D.qz 7 (by decide)) (by show E.p0 + 256 * 1 + 255 ≤ _; omega) (inb10 := by decide) (inb11 := by decide)

theorem diag_23 (D : DiagIn E i arg4 arg5 arg9 (harg4.unread x1) (harg5.unread x2) (kernelRun1_A.sl.HS0_32 c arg3 harg3 x0)) (h : Holds arg10.view arg11.view E (fun _ => True) (lev (E.p0 + 256 * 1) 8) (kernelRun1_A.sl.HS1_22 c i arg3 harg3 arg4 harg4 arg5 harg5 arg6 harg6 arg7 harg7 arg8 harg8 arg9 harg9 arg10 harg10 arg11 harg11 x0 x1 x2) (kernelRun1_A.sl.HS2_22 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 9) (kernelRun1_A.sl.HS1_23 c i arg3 harg3 arg4 harg4 arg5 harg5 arg6 harg6 arg7 harg7 arg8 harg8 arg9 harg9 arg10 harg10 arg11 harg11 x0 x1 x2) (kernelRun1_A.sl.HS2_23 c i arg3 harg3 arg4 harg4 arg5 harg5 arg6 harg6 arg7 harg7 arg8 harg8 arg9 harg9 arg10 harg10 arg11 harg11 x0 x1 x2) :=
  h.step 8 (by omega) (D.kt 1 (k1_off5_inb i 1)) (D.vt 1 (k1_off6_inb i 1)) (D.qz 8 (by decide)) (by show E.p0 + 256 * 1 + 255 ≤ _; omega) (inb10 := by decide) (inb11 := by decide)

theorem diag_24 (D : DiagIn E i arg4 arg5 arg9 (harg4.unread x1) (harg5.unread x2) (kernelRun1_A.sl.HS0_32 c arg3 harg3 x0)) (h : Holds arg10.view arg11.view E (fun _ => True) (lev (E.p0 + 256 * 1) 9) (kernelRun1_A.sl.HS1_23 c i arg3 harg3 arg4 harg4 arg5 harg5 arg6 harg6 arg7 harg7 arg8 harg8 arg9 harg9 arg10 harg10 arg11 harg11 x0 x1 x2) (kernelRun1_A.sl.HS2_23 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 10) (kernelRun1_A.sl.HS1_24 c i arg3 harg3 arg4 harg4 arg5 harg5 arg6 harg6 arg7 harg7 arg8 harg8 arg9 harg9 arg10 harg10 arg11 harg11 x0 x1 x2) (kernelRun1_A.sl.HS2_24 c i arg3 harg3 arg4 harg4 arg5 harg5 arg6 harg6 arg7 harg7 arg8 harg8 arg9 harg9 arg10 harg10 arg11 harg11 x0 x1 x2) :=
  h.step 9 (by omega) (D.kt 1 (k1_off5_inb i 1)) (D.vt 1 (k1_off6_inb i 1)) (D.qz 9 (by decide)) (by show E.p0 + 256 * 1 + 255 ≤ _; omega) (inb10 := by decide) (inb11 := by decide)

theorem diag_25 (D : DiagIn E i arg4 arg5 arg9 (harg4.unread x1) (harg5.unread x2) (kernelRun1_A.sl.HS0_32 c arg3 harg3 x0)) (h : Holds arg10.view arg11.view E (fun _ => True) (lev (E.p0 + 256 * 1) 10) (kernelRun1_A.sl.HS1_24 c i arg3 harg3 arg4 harg4 arg5 harg5 arg6 harg6 arg7 harg7 arg8 harg8 arg9 harg9 arg10 harg10 arg11 harg11 x0 x1 x2) (kernelRun1_A.sl.HS2_24 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 11) (kernelRun1_A.sl.HS1_25 c i arg3 harg3 arg4 harg4 arg5 harg5 arg6 harg6 arg7 harg7 arg8 harg8 arg9 harg9 arg10 harg10 arg11 harg11 x0 x1 x2) (kernelRun1_A.sl.HS2_25 c i arg3 harg3 arg4 harg4 arg5 harg5 arg6 harg6 arg7 harg7 arg8 harg8 arg9 harg9 arg10 harg10 arg11 harg11 x0 x1 x2) :=
  h.step 10 (by omega) (D.kt 1 (k1_off5_inb i 1)) (D.vt 1 (k1_off6_inb i 1)) (D.qz 10 (by decide)) (by show E.p0 + 256 * 1 + 255 ≤ _; omega) (inb10 := by decide) (inb11 := by decide)

theorem diag_26 (D : DiagIn E i arg4 arg5 arg9 (harg4.unread x1) (harg5.unread x2) (kernelRun1_A.sl.HS0_32 c arg3 harg3 x0)) (h : Holds arg10.view arg11.view E (fun _ => True) (lev (E.p0 + 256 * 1) 11) (kernelRun1_A.sl.HS1_25 c i arg3 harg3 arg4 harg4 arg5 harg5 arg6 harg6 arg7 harg7 arg8 harg8 arg9 harg9 arg10 harg10 arg11 harg11 x0 x1 x2) (kernelRun1_A.sl.HS2_25 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 12) (kernelRun1_A.sl.HS1_26 c i arg3 harg3 arg4 harg4 arg5 harg5 arg6 harg6 arg7 harg7 arg8 harg8 arg9 harg9 arg10 harg10 arg11 harg11 x0 x1 x2) (kernelRun1_A.sl.HS2_26 c i arg3 harg3 arg4 harg4 arg5 harg5 arg6 harg6 arg7 harg7 arg8 harg8 arg9 harg9 arg10 harg10 arg11 harg11 x0 x1 x2) :=
  h.step 11 (by omega) (D.kt 1 (k1_off5_inb i 1)) (D.vt 1 (k1_off6_inb i 1)) (D.qz 11 (by decide)) (by show E.p0 + 256 * 1 + 255 ≤ _; omega) (inb10 := by decide) (inb11 := by decide)

theorem diag_27 (D : DiagIn E i arg4 arg5 arg9 (harg4.unread x1) (harg5.unread x2) (kernelRun1_A.sl.HS0_32 c arg3 harg3 x0)) (h : Holds arg10.view arg11.view E (fun _ => True) (lev (E.p0 + 256 * 1) 12) (kernelRun1_A.sl.HS1_26 c i arg3 harg3 arg4 harg4 arg5 harg5 arg6 harg6 arg7 harg7 arg8 harg8 arg9 harg9 arg10 harg10 arg11 harg11 x0 x1 x2) (kernelRun1_A.sl.HS2_26 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 13) (kernelRun1_A.sl.HS1_27 c i arg3 harg3 arg4 harg4 arg5 harg5 arg6 harg6 arg7 harg7 arg8 harg8 arg9 harg9 arg10 harg10 arg11 harg11 x0 x1 x2) (kernelRun1_A.sl.HS2_27 c i arg3 harg3 arg4 harg4 arg5 harg5 arg6 harg6 arg7 harg7 arg8 harg8 arg9 harg9 arg10 harg10 arg11 harg11 x0 x1 x2) :=
  h.step 12 (by omega) (D.kt 1 (k1_off5_inb i 1)) (D.vt 1 (k1_off6_inb i 1)) (D.qz 12 (by decide)) (by show E.p0 + 256 * 1 + 255 ≤ _; omega) (inb10 := by decide) (inb11 := by decide)

theorem diag_28 (D : DiagIn E i arg4 arg5 arg9 (harg4.unread x1) (harg5.unread x2) (kernelRun1_A.sl.HS0_32 c arg3 harg3 x0)) (h : Holds arg10.view arg11.view E (fun _ => True) (lev (E.p0 + 256 * 1) 13) (kernelRun1_A.sl.HS1_27 c i arg3 harg3 arg4 harg4 arg5 harg5 arg6 harg6 arg7 harg7 arg8 harg8 arg9 harg9 arg10 harg10 arg11 harg11 x0 x1 x2) (kernelRun1_A.sl.HS2_27 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 14) (kernelRun1_A.sl.HS1_28 c i arg3 harg3 arg4 harg4 arg5 harg5 arg6 harg6 arg7 harg7 arg8 harg8 arg9 harg9 arg10 harg10 arg11 harg11 x0 x1 x2) (kernelRun1_A.sl.HS2_28 c i arg3 harg3 arg4 harg4 arg5 harg5 arg6 harg6 arg7 harg7 arg8 harg8 arg9 harg9 arg10 harg10 arg11 harg11 x0 x1 x2) :=
  h.step 13 (by omega) (D.kt 1 (k1_off5_inb i 1)) (D.vt 1 (k1_off6_inb i 1)) (D.qz 13 (by decide)) (by show E.p0 + 256 * 1 + 255 ≤ _; omega) (inb10 := by decide) (inb11 := by decide)

theorem diag_29 (D : DiagIn E i arg4 arg5 arg9 (harg4.unread x1) (harg5.unread x2) (kernelRun1_A.sl.HS0_32 c arg3 harg3 x0)) (h : Holds arg10.view arg11.view E (fun _ => True) (lev (E.p0 + 256 * 1) 14) (kernelRun1_A.sl.HS1_28 c i arg3 harg3 arg4 harg4 arg5 harg5 arg6 harg6 arg7 harg7 arg8 harg8 arg9 harg9 arg10 harg10 arg11 harg11 x0 x1 x2) (kernelRun1_A.sl.HS2_28 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 15) (kernelRun1_A.sl.HS1_29 c i arg3 harg3 arg4 harg4 arg5 harg5 arg6 harg6 arg7 harg7 arg8 harg8 arg9 harg9 arg10 harg10 arg11 harg11 x0 x1 x2) (kernelRun1_A.sl.HS2_29 c i arg3 harg3 arg4 harg4 arg5 harg5 arg6 harg6 arg7 harg7 arg8 harg8 arg9 harg9 arg10 harg10 arg11 harg11 x0 x1 x2) :=
  h.step 14 (by omega) (D.kt 1 (k1_off5_inb i 1)) (D.vt 1 (k1_off6_inb i 1)) (D.qz 14 (by decide)) (by show E.p0 + 256 * 1 + 255 ≤ _; omega) (inb10 := by decide) (inb11 := by decide)

theorem diag_30 (D : DiagIn E i arg4 arg5 arg9 (harg4.unread x1) (harg5.unread x2) (kernelRun1_A.sl.HS0_32 c arg3 harg3 x0)) (h : Holds arg10.view arg11.view E (fun _ => True) (lev (E.p0 + 256 * 1) 15) (kernelRun1_A.sl.HS1_29 c i arg3 harg3 arg4 harg4 arg5 harg5 arg6 harg6 arg7 harg7 arg8 harg8 arg9 harg9 arg10 harg10 arg11 harg11 x0 x1 x2) (kernelRun1_A.sl.HS2_29 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 1) 16) (kernelRun1_A.sl.HS1_30 c i arg3 harg3 arg4 harg4 arg5 harg5 arg6 harg6 arg7 harg7 arg8 harg8 arg9 harg9 arg10 harg10 arg11 harg11 x0 x1 x2) (kernelRun1_A.sl.HS2_30 c i arg3 harg3 arg4 harg4 arg5 harg5 arg6 harg6 arg7 harg7 arg8 harg8 arg9 harg9 arg10 harg10 arg11 harg11 x0 x1 x2) :=
  h.step 15 (by omega) (D.kt 1 (k1_off5_inb i 1)) (D.vt 1 (k1_off6_inb i 1)) (D.qz 15 (by decide)) (by show E.p0 + 256 * 1 + 255 ≤ _; omega) (inb10 := by decide) (inb11 := by decide)

theorem diag_31 (D : DiagIn E i arg4 arg5 arg9 (harg4.unread x1) (harg5.unread x2) (kernelRun1_A.sl.HS0_32 c arg3 harg3 x0)) (h : Holds arg10.view arg11.view E (fun _ => True) (lev (E.p0 + 256 * 2) 4) (kernelRun1_A.sl.HS1_30 c i arg3 harg3 arg4 harg4 arg5 harg5 arg6 harg6 arg7 harg7 arg8 harg8 arg9 harg9 arg10 harg10 arg11 harg11 x0 x1 x2) (kernelRun1_A.sl.HS2_30 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 5) (kernelRun1_A.sl.HS1_31 c i arg3 harg3 arg4 harg4 arg5 harg5 arg6 harg6 arg7 harg7 arg8 harg8 arg9 harg9 arg10 harg10 arg11 harg11 x0 x1 x2) (kernelRun1_A.sl.HS2_31 c i arg3 harg3 arg4 harg4 arg5 harg5 arg6 harg6 arg7 harg7 arg8 harg8 arg9 harg9 arg10 harg10 arg11 harg11 x0 x1 x2) :=
  h.stepMasked 4 (by omega) (D.kt 2 (k1_off5_inb i 2)) (D.vt 2 (k1_off6_inb i 2)) (D.qz 4 (by decide)) 512#32 512#32 rfl rfl (by decide) (inb10 := by decide) (inb11 := by decide)

theorem diag_32 (D : DiagIn E i arg4 arg5 arg9 (harg4.unread x1) (harg5.unread x2) (kernelRun1_A.sl.HS0_32 c arg3 harg3 x0)) (h : Holds arg10.view arg11.view E (fun _ => True) (lev (E.p0 + 256 * 2) 5) (kernelRun1_A.sl.HS1_31 c i arg3 harg3 arg4 harg4 arg5 harg5 arg6 harg6 arg7 harg7 arg8 harg8 arg9 harg9 arg10 harg10 arg11 harg11 x0 x1 x2) (kernelRun1_A.sl.HS2_31 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 6) (kernelRun1_A.sl.HS1_32 c i arg3 harg3 arg4 harg4 arg5 harg5 arg6 harg6 arg7 harg7 arg8 harg8 arg9 harg9 arg10 harg10 arg11 harg11 x0 x1 x2) (kernelRun1_A.sl.HS2_32 c i arg3 harg3 arg4 harg4 arg5 harg5 arg6 harg6 arg7 harg7 arg8 harg8 arg9 harg9 arg10 harg10 arg11 harg11 x0 x1 x2) :=
  h.stepMasked 5 (by omega) (D.kt 2 (k1_off5_inb i 2)) (D.vt 2 (k1_off6_inb i 2)) (D.qz 5 (by decide)) 512#32 640#32 rfl rfl (by decide) (inb10 := by decide) (inb11 := by decide)

theorem diag_33 (D : DiagIn E i arg4 arg5 arg9 (harg4.unread x1) (harg5.unread x2) (kernelRun1_A.sl.HS0_32 c arg3 harg3 x0)) (h : Holds arg10.view arg11.view E (fun _ => True) (lev (E.p0 + 256 * 2) 6) (kernelRun1_A.sl.HS1_32 c i arg3 harg3 arg4 harg4 arg5 harg5 arg6 harg6 arg7 harg7 arg8 harg8 arg9 harg9 arg10 harg10 arg11 harg11 x0 x1 x2) (kernelRun1_A.sl.HS2_32 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 7) (kernelRun1_A.sl.HS1_33 c i arg3 harg3 arg4 harg4 arg5 harg5 arg6 harg6 arg7 harg7 arg8 harg8 arg9 harg9 arg10 harg10 arg11 harg11 x0 x1 x2) (kernelRun1_A.sl.HS2_33 c i arg3 harg3 arg4 harg4 arg5 harg5 arg6 harg6 arg7 harg7 arg8 harg8 arg9 harg9 arg10 harg10 arg11 harg11 x0 x1 x2) :=
  h.step 6 (by omega) (D.kt 2 (k1_off5_inb i 2)) (D.vt 2 (k1_off6_inb i 2)) (D.qz 6 (by decide)) (by show E.p0 + 256 * 2 + 255 ≤ _; omega) (inb10 := by decide) (inb11 := by decide)

theorem diag_34 (D : DiagIn E i arg4 arg5 arg9 (harg4.unread x1) (harg5.unread x2) (kernelRun1_A.sl.HS0_32 c arg3 harg3 x0)) (h : Holds arg10.view arg11.view E (fun _ => True) (lev (E.p0 + 256 * 2) 7) (kernelRun1_A.sl.HS1_33 c i arg3 harg3 arg4 harg4 arg5 harg5 arg6 harg6 arg7 harg7 arg8 harg8 arg9 harg9 arg10 harg10 arg11 harg11 x0 x1 x2) (kernelRun1_A.sl.HS2_33 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 8) (kernelRun1_A.sl.HS1_34 c i arg3 harg3 arg4 harg4 arg5 harg5 arg6 harg6 arg7 harg7 arg8 harg8 arg9 harg9 arg10 harg10 arg11 harg11 x0 x1 x2) (kernelRun1_A.sl.HS2_34 c i arg3 harg3 arg4 harg4 arg5 harg5 arg6 harg6 arg7 harg7 arg8 harg8 arg9 harg9 arg10 harg10 arg11 harg11 x0 x1 x2) :=
  h.step 7 (by omega) (D.kt 2 (k1_off5_inb i 2)) (D.vt 2 (k1_off6_inb i 2)) (D.qz 7 (by decide)) (by show E.p0 + 256 * 2 + 255 ≤ _; omega) (inb10 := by decide) (inb11 := by decide)

theorem diag_35 (D : DiagIn E i arg4 arg5 arg9 (harg4.unread x1) (harg5.unread x2) (kernelRun1_A.sl.HS0_32 c arg3 harg3 x0)) (h : Holds arg10.view arg11.view E (fun _ => True) (lev (E.p0 + 256 * 2) 8) (kernelRun1_A.sl.HS1_34 c i arg3 harg3 arg4 harg4 arg5 harg5 arg6 harg6 arg7 harg7 arg8 harg8 arg9 harg9 arg10 harg10 arg11 harg11 x0 x1 x2) (kernelRun1_A.sl.HS2_34 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 9) (kernelRun1_A.sl.HS1_35 c i arg3 harg3 arg4 harg4 arg5 harg5 arg6 harg6 arg7 harg7 arg8 harg8 arg9 harg9 arg10 harg10 arg11 harg11 x0 x1 x2) (kernelRun1_A.sl.HS2_35 c i arg3 harg3 arg4 harg4 arg5 harg5 arg6 harg6 arg7 harg7 arg8 harg8 arg9 harg9 arg10 harg10 arg11 harg11 x0 x1 x2) :=
  h.step 8 (by omega) (D.kt 2 (k1_off5_inb i 2)) (D.vt 2 (k1_off6_inb i 2)) (D.qz 8 (by decide)) (by show E.p0 + 256 * 2 + 255 ≤ _; omega) (inb10 := by decide) (inb11 := by decide)

theorem diag_36 (D : DiagIn E i arg4 arg5 arg9 (harg4.unread x1) (harg5.unread x2) (kernelRun1_A.sl.HS0_32 c arg3 harg3 x0)) (h : Holds arg10.view arg11.view E (fun _ => True) (lev (E.p0 + 256 * 2) 9) (kernelRun1_A.sl.HS1_35 c i arg3 harg3 arg4 harg4 arg5 harg5 arg6 harg6 arg7 harg7 arg8 harg8 arg9 harg9 arg10 harg10 arg11 harg11 x0 x1 x2) (kernelRun1_A.sl.HS2_35 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 10) (kernelRun1_A.sl.HS1_36 c i arg3 harg3 arg4 harg4 arg5 harg5 arg6 harg6 arg7 harg7 arg8 harg8 arg9 harg9 arg10 harg10 arg11 harg11 x0 x1 x2) (kernelRun1_A.sl.HS2_36 c i arg3 harg3 arg4 harg4 arg5 harg5 arg6 harg6 arg7 harg7 arg8 harg8 arg9 harg9 arg10 harg10 arg11 harg11 x0 x1 x2) :=
  h.step 9 (by omega) (D.kt 2 (k1_off5_inb i 2)) (D.vt 2 (k1_off6_inb i 2)) (D.qz 9 (by decide)) (by show E.p0 + 256 * 2 + 255 ≤ _; omega) (inb10 := by decide) (inb11 := by decide)

theorem diag_37 (D : DiagIn E i arg4 arg5 arg9 (harg4.unread x1) (harg5.unread x2) (kernelRun1_A.sl.HS0_32 c arg3 harg3 x0)) (h : Holds arg10.view arg11.view E (fun _ => True) (lev (E.p0 + 256 * 2) 10) (kernelRun1_A.sl.HS1_36 c i arg3 harg3 arg4 harg4 arg5 harg5 arg6 harg6 arg7 harg7 arg8 harg8 arg9 harg9 arg10 harg10 arg11 harg11 x0 x1 x2) (kernelRun1_A.sl.HS2_36 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 11) (kernelRun1_A.sl.HS1_37 c i arg3 harg3 arg4 harg4 arg5 harg5 arg6 harg6 arg7 harg7 arg8 harg8 arg9 harg9 arg10 harg10 arg11 harg11 x0 x1 x2) (kernelRun1_A.sl.HS2_37 c i arg3 harg3 arg4 harg4 arg5 harg5 arg6 harg6 arg7 harg7 arg8 harg8 arg9 harg9 arg10 harg10 arg11 harg11 x0 x1 x2) :=
  h.step 10 (by omega) (D.kt 2 (k1_off5_inb i 2)) (D.vt 2 (k1_off6_inb i 2)) (D.qz 10 (by decide)) (by show E.p0 + 256 * 2 + 255 ≤ _; omega) (inb10 := by decide) (inb11 := by decide)

theorem diag_38 (D : DiagIn E i arg4 arg5 arg9 (harg4.unread x1) (harg5.unread x2) (kernelRun1_A.sl.HS0_32 c arg3 harg3 x0)) (h : Holds arg10.view arg11.view E (fun _ => True) (lev (E.p0 + 256 * 2) 11) (kernelRun1_A.sl.HS1_37 c i arg3 harg3 arg4 harg4 arg5 harg5 arg6 harg6 arg7 harg7 arg8 harg8 arg9 harg9 arg10 harg10 arg11 harg11 x0 x1 x2) (kernelRun1_A.sl.HS2_37 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 12) (kernelRun1_A.sl.HS1_38 c i arg3 harg3 arg4 harg4 arg5 harg5 arg6 harg6 arg7 harg7 arg8 harg8 arg9 harg9 arg10 harg10 arg11 harg11 x0 x1 x2) (kernelRun1_A.sl.HS2_38 c i arg3 harg3 arg4 harg4 arg5 harg5 arg6 harg6 arg7 harg7 arg8 harg8 arg9 harg9 arg10 harg10 arg11 harg11 x0 x1 x2) :=
  h.step 11 (by omega) (D.kt 2 (k1_off5_inb i 2)) (D.vt 2 (k1_off6_inb i 2)) (D.qz 11 (by decide)) (by show E.p0 + 256 * 2 + 255 ≤ _; omega) (inb10 := by decide) (inb11 := by decide)

theorem diag_39 (D : DiagIn E i arg4 arg5 arg9 (harg4.unread x1) (harg5.unread x2) (kernelRun1_A.sl.HS0_32 c arg3 harg3 x0)) (h : Holds arg10.view arg11.view E (fun _ => True) (lev (E.p0 + 256 * 2) 12) (kernelRun1_A.sl.HS1_38 c i arg3 harg3 arg4 harg4 arg5 harg5 arg6 harg6 arg7 harg7 arg8 harg8 arg9 harg9 arg10 harg10 arg11 harg11 x0 x1 x2) (kernelRun1_A.sl.HS2_38 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 13) (kernelRun1_A.sl.HS1_39 c i arg3 harg3 arg4 harg4 arg5 harg5 arg6 harg6 arg7 harg7 arg8 harg8 arg9 harg9 arg10 harg10 arg11 harg11 x0 x1 x2) (kernelRun1_A.sl.HS2_39 c i arg3 harg3 arg4 harg4 arg5 harg5 arg6 harg6 arg7 harg7 arg8 harg8 arg9 harg9 arg10 harg10 arg11 harg11 x0 x1 x2) :=
  h.step 12 (by omega) (D.kt 2 (k1_off5_inb i 2)) (D.vt 2 (k1_off6_inb i 2)) (D.qz 12 (by decide)) (by show E.p0 + 256 * 2 + 255 ≤ _; omega) (inb10 := by decide) (inb11 := by decide)

theorem diag_40 (D : DiagIn E i arg4 arg5 arg9 (harg4.unread x1) (harg5.unread x2) (kernelRun1_A.sl.HS0_32 c arg3 harg3 x0)) (h : Holds arg10.view arg11.view E (fun _ => True) (lev (E.p0 + 256 * 2) 13) (kernelRun1_A.sl.HS1_39 c i arg3 harg3 arg4 harg4 arg5 harg5 arg6 harg6 arg7 harg7 arg8 harg8 arg9 harg9 arg10 harg10 arg11 harg11 x0 x1 x2) (kernelRun1_A.sl.HS2_39 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 14) (kernelRun1_A.sl.HS1_40 c i arg3 harg3 arg4 harg4 arg5 harg5 arg6 harg6 arg7 harg7 arg8 harg8 arg9 harg9 arg10 harg10 arg11 harg11 x0 x1 x2) (kernelRun1_A.sl.HS2_40 c i arg3 harg3 arg4 harg4 arg5 harg5 arg6 harg6 arg7 harg7 arg8 harg8 arg9 harg9 arg10 harg10 arg11 harg11 x0 x1 x2) :=
  h.step 13 (by omega) (D.kt 2 (k1_off5_inb i 2)) (D.vt 2 (k1_off6_inb i 2)) (D.qz 13 (by decide)) (by show E.p0 + 256 * 2 + 255 ≤ _; omega) (inb10 := by decide) (inb11 := by decide)

theorem diag_41 (D : DiagIn E i arg4 arg5 arg9 (harg4.unread x1) (harg5.unread x2) (kernelRun1_A.sl.HS0_32 c arg3 harg3 x0)) (h : Holds arg10.view arg11.view E (fun _ => True) (lev (E.p0 + 256 * 2) 14) (kernelRun1_A.sl.HS1_40 c i arg3 harg3 arg4 harg4 arg5 harg5 arg6 harg6 arg7 harg7 arg8 harg8 arg9 harg9 arg10 harg10 arg11 harg11 x0 x1 x2) (kernelRun1_A.sl.HS2_40 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 15) (kernelRun1_A.sl.HS1_41 c i arg3 harg3 arg4 harg4 arg5 harg5 arg6 harg6 arg7 harg7 arg8 harg8 arg9 harg9 arg10 harg10 arg11 harg11 x0 x1 x2) (kernelRun1_A.sl.HS2_41 c i arg3 harg3 arg4 harg4 arg5 harg5 arg6 harg6 arg7 harg7 arg8 harg8 arg9 harg9 arg10 harg10 arg11 harg11 x0 x1 x2) :=
  h.step 14 (by omega) (D.kt 2 (k1_off5_inb i 2)) (D.vt 2 (k1_off6_inb i 2)) (D.qz 14 (by decide)) (by show E.p0 + 256 * 2 + 255 ≤ _; omega) (inb10 := by decide) (inb11 := by decide)

theorem diag_42 (D : DiagIn E i arg4 arg5 arg9 (harg4.unread x1) (harg5.unread x2) (kernelRun1_A.sl.HS0_32 c arg3 harg3 x0)) (h : Holds arg10.view arg11.view E (fun _ => True) (lev (E.p0 + 256 * 2) 15) (kernelRun1_A.sl.HS1_41 c i arg3 harg3 arg4 harg4 arg5 harg5 arg6 harg6 arg7 harg7 arg8 harg8 arg9 harg9 arg10 harg10 arg11 harg11 x0 x1 x2) (kernelRun1_A.sl.HS2_41 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 2) 16) (kernelRun1_A.sl.HS1_42 c i arg3 harg3 arg4 harg4 arg5 harg5 arg6 harg6 arg7 harg7 arg8 harg8 arg9 harg9 arg10 harg10 arg11 harg11 x0 x1 x2) (kernelRun1_A.sl.HS2_42 c i arg3 harg3 arg4 harg4 arg5 harg5 arg6 harg6 arg7 harg7 arg8 harg8 arg9 harg9 arg10 harg10 arg11 harg11 x0 x1 x2) :=
  h.step 15 (by omega) (D.kt 2 (k1_off5_inb i 2)) (D.vt 2 (k1_off6_inb i 2)) (D.qz 15 (by decide)) (by show E.p0 + 256 * 2 + 255 ≤ _; omega) (inb10 := by decide) (inb11 := by decide)

theorem diag_43 (D : DiagIn E i arg4 arg5 arg9 (harg4.unread x1) (harg5.unread x2) (kernelRun1_A.sl.HS0_32 c arg3 harg3 x0)) (h : Holds arg10.view arg11.view E (fun _ => True) (lev (E.p0 + 256 * 3) 6) (kernelRun1_A.sl.HS1_42 c i arg3 harg3 arg4 harg4 arg5 harg5 arg6 harg6 arg7 harg7 arg8 harg8 arg9 harg9 arg10 harg10 arg11 harg11 x0 x1 x2) (kernelRun1_A.sl.HS2_42 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 7) (kernelRun1_A.sl.HS1_43 c i arg3 harg3 arg4 harg4 arg5 harg5 arg6 harg6 arg7 harg7 arg8 harg8 arg9 harg9 arg10 harg10 arg11 harg11 x0 x1 x2) (kernelRun1_A.sl.HS2_43 c i arg3 harg3 arg4 harg4 arg5 harg5 arg6 harg6 arg7 harg7 arg8 harg8 arg9 harg9 arg10 harg10 arg11 harg11 x0 x1 x2) :=
  h.stepMasked 6 (by omega) (D.kt 3 (k1_off5_inb i 3)) (D.vt 3 (k1_off6_inb i 3)) (D.qz 6 (by decide)) 768#32 768#32 rfl rfl (by decide) (inb10 := by decide) (inb11 := by decide)

theorem diag_44 (D : DiagIn E i arg4 arg5 arg9 (harg4.unread x1) (harg5.unread x2) (kernelRun1_A.sl.HS0_32 c arg3 harg3 x0)) (h : Holds arg10.view arg11.view E (fun _ => True) (lev (E.p0 + 256 * 3) 7) (kernelRun1_A.sl.HS1_43 c i arg3 harg3 arg4 harg4 arg5 harg5 arg6 harg6 arg7 harg7 arg8 harg8 arg9 harg9 arg10 harg10 arg11 harg11 x0 x1 x2) (kernelRun1_A.sl.HS2_43 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 8) (kernelRun1_A.sl.HS1_44 c i arg3 harg3 arg4 harg4 arg5 harg5 arg6 harg6 arg7 harg7 arg8 harg8 arg9 harg9 arg10 harg10 arg11 harg11 x0 x1 x2) (kernelRun1_A.sl.HS2_44 c i arg3 harg3 arg4 harg4 arg5 harg5 arg6 harg6 arg7 harg7 arg8 harg8 arg9 harg9 arg10 harg10 arg11 harg11 x0 x1 x2) :=
  h.stepMasked 7 (by omega) (D.kt 3 (k1_off5_inb i 3)) (D.vt 3 (k1_off6_inb i 3)) (D.qz 7 (by decide)) 768#32 896#32 rfl rfl (by decide) (inb10 := by decide) (inb11 := by decide)

theorem diag_45 (D : DiagIn E i arg4 arg5 arg9 (harg4.unread x1) (harg5.unread x2) (kernelRun1_A.sl.HS0_32 c arg3 harg3 x0)) (h : Holds arg10.view arg11.view E (fun _ => True) (lev (E.p0 + 256 * 3) 8) (kernelRun1_A.sl.HS1_44 c i arg3 harg3 arg4 harg4 arg5 harg5 arg6 harg6 arg7 harg7 arg8 harg8 arg9 harg9 arg10 harg10 arg11 harg11 x0 x1 x2) (kernelRun1_A.sl.HS2_44 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 9) (kernelRun1_A.sl.HS1_45 c i arg3 harg3 arg4 harg4 arg5 harg5 arg6 harg6 arg7 harg7 arg8 harg8 arg9 harg9 arg10 harg10 arg11 harg11 x0 x1 x2) (kernelRun1_A.sl.HS2_45 c i arg3 harg3 arg4 harg4 arg5 harg5 arg6 harg6 arg7 harg7 arg8 harg8 arg9 harg9 arg10 harg10 arg11 harg11 x0 x1 x2) :=
  h.step 8 (by omega) (D.kt 3 (k1_off5_inb i 3)) (D.vt 3 (k1_off6_inb i 3)) (D.qz 8 (by decide)) (by show E.p0 + 256 * 3 + 255 ≤ _; omega) (inb10 := by decide) (inb11 := by decide)

theorem diag_46 (D : DiagIn E i arg4 arg5 arg9 (harg4.unread x1) (harg5.unread x2) (kernelRun1_A.sl.HS0_32 c arg3 harg3 x0)) (h : Holds arg10.view arg11.view E (fun _ => True) (lev (E.p0 + 256 * 3) 9) (kernelRun1_A.sl.HS1_45 c i arg3 harg3 arg4 harg4 arg5 harg5 arg6 harg6 arg7 harg7 arg8 harg8 arg9 harg9 arg10 harg10 arg11 harg11 x0 x1 x2) (kernelRun1_A.sl.HS2_45 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 10) (kernelRun1_A.sl.HS1_46 c i arg3 harg3 arg4 harg4 arg5 harg5 arg6 harg6 arg7 harg7 arg8 harg8 arg9 harg9 arg10 harg10 arg11 harg11 x0 x1 x2) (kernelRun1_A.sl.HS2_46 c i arg3 harg3 arg4 harg4 arg5 harg5 arg6 harg6 arg7 harg7 arg8 harg8 arg9 harg9 arg10 harg10 arg11 harg11 x0 x1 x2) :=
  h.step 9 (by omega) (D.kt 3 (k1_off5_inb i 3)) (D.vt 3 (k1_off6_inb i 3)) (D.qz 9 (by decide)) (by show E.p0 + 256 * 3 + 255 ≤ _; omega) (inb10 := by decide) (inb11 := by decide)

theorem diag_47 (D : DiagIn E i arg4 arg5 arg9 (harg4.unread x1) (harg5.unread x2) (kernelRun1_A.sl.HS0_32 c arg3 harg3 x0)) (h : Holds arg10.view arg11.view E (fun _ => True) (lev (E.p0 + 256 * 3) 10) (kernelRun1_A.sl.HS1_46 c i arg3 harg3 arg4 harg4 arg5 harg5 arg6 harg6 arg7 harg7 arg8 harg8 arg9 harg9 arg10 harg10 arg11 harg11 x0 x1 x2) (kernelRun1_A.sl.HS2_46 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 11) (kernelRun1_A.sl.HS1_47 c i arg3 harg3 arg4 harg4 arg5 harg5 arg6 harg6 arg7 harg7 arg8 harg8 arg9 harg9 arg10 harg10 arg11 harg11 x0 x1 x2) (kernelRun1_A.sl.HS2_47 c i arg3 harg3 arg4 harg4 arg5 harg5 arg6 harg6 arg7 harg7 arg8 harg8 arg9 harg9 arg10 harg10 arg11 harg11 x0 x1 x2) :=
  h.step 10 (by omega) (D.kt 3 (k1_off5_inb i 3)) (D.vt 3 (k1_off6_inb i 3)) (D.qz 10 (by decide)) (by show E.p0 + 256 * 3 + 255 ≤ _; omega) (inb10 := by decide) (inb11 := by decide)

theorem diag_48 (D : DiagIn E i arg4 arg5 arg9 (harg4.unread x1) (harg5.unread x2) (kernelRun1_A.sl.HS0_32 c arg3 harg3 x0)) (h : Holds arg10.view arg11.view E (fun _ => True) (lev (E.p0 + 256 * 3) 11) (kernelRun1_A.sl.HS1_47 c i arg3 harg3 arg4 harg4 arg5 harg5 arg6 harg6 arg7 harg7 arg8 harg8 arg9 harg9 arg10 harg10 arg11 harg11 x0 x1 x2) (kernelRun1_A.sl.HS2_47 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 12) (kernelRun1_A.sl.HS1_48 c i arg3 harg3 arg4 harg4 arg5 harg5 arg6 harg6 arg7 harg7 arg8 harg8 arg9 harg9 arg10 harg10 arg11 harg11 x0 x1 x2) (kernelRun1_A.sl.HS2_48 c i arg3 harg3 arg4 harg4 arg5 harg5 arg6 harg6 arg7 harg7 arg8 harg8 arg9 harg9 arg10 harg10 arg11 harg11 x0 x1 x2) :=
  h.step 11 (by omega) (D.kt 3 (k1_off5_inb i 3)) (D.vt 3 (k1_off6_inb i 3)) (D.qz 11 (by decide)) (by show E.p0 + 256 * 3 + 255 ≤ _; omega) (inb10 := by decide) (inb11 := by decide)

theorem diag_49 (D : DiagIn E i arg4 arg5 arg9 (harg4.unread x1) (harg5.unread x2) (kernelRun1_A.sl.HS0_32 c arg3 harg3 x0)) (h : Holds arg10.view arg11.view E (fun _ => True) (lev (E.p0 + 256 * 3) 12) (kernelRun1_A.sl.HS1_48 c i arg3 harg3 arg4 harg4 arg5 harg5 arg6 harg6 arg7 harg7 arg8 harg8 arg9 harg9 arg10 harg10 arg11 harg11 x0 x1 x2) (kernelRun1_A.sl.HS2_48 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 13) (kernelRun1_A.sl.HS1_49 c i arg3 harg3 arg4 harg4 arg5 harg5 arg6 harg6 arg7 harg7 arg8 harg8 arg9 harg9 arg10 harg10 arg11 harg11 x0 x1 x2) (kernelRun1_A.sl.HS2_49 c i arg3 harg3 arg4 harg4 arg5 harg5 arg6 harg6 arg7 harg7 arg8 harg8 arg9 harg9 arg10 harg10 arg11 harg11 x0 x1 x2) :=
  h.step 12 (by omega) (D.kt 3 (k1_off5_inb i 3)) (D.vt 3 (k1_off6_inb i 3)) (D.qz 12 (by decide)) (by show E.p0 + 256 * 3 + 255 ≤ _; omega) (inb10 := by decide) (inb11 := by decide)

theorem diag_50 (D : DiagIn E i arg4 arg5 arg9 (harg4.unread x1) (harg5.unread x2) (kernelRun1_A.sl.HS0_32 c arg3 harg3 x0)) (h : Holds arg10.view arg11.view E (fun _ => True) (lev (E.p0 + 256 * 3) 13) (kernelRun1_A.sl.HS1_49 c i arg3 harg3 arg4 harg4 arg5 harg5 arg6 harg6 arg7 harg7 arg8 harg8 arg9 harg9 arg10 harg10 arg11 harg11 x0 x1 x2) (kernelRun1_A.sl.HS2_49 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 14) (kernelRun1_A.sl.HS1_50 c i arg3 harg3 arg4 harg4 arg5 harg5 arg6 harg6 arg7 harg7 arg8 harg8 arg9 harg9 arg10 harg10 arg11 harg11 x0 x1 x2) (kernelRun1_A.sl.HS2_50 c i arg3 harg3 arg4 harg4 arg5 harg5 arg6 harg6 arg7 harg7 arg8 harg8 arg9 harg9 arg10 harg10 arg11 harg11 x0 x1 x2) :=
  h.step 13 (by omega) (D.kt 3 (k1_off5_inb i 3)) (D.vt 3 (k1_off6_inb i 3)) (D.qz 13 (by decide)) (by show E.p0 + 256 * 3 + 255 ≤ _; omega) (inb10 := by decide) (inb11 := by decide)

theorem diag_51 (D : DiagIn E i arg4 arg5 arg9 (harg4.unread x1) (harg5.unread x2) (kernelRun1_A.sl.HS0_32 c arg3 harg3 x0)) (h : Holds arg10.view arg11.view E (fun _ => True) (lev (E.p0 + 256 * 3) 14) (kernelRun1_A.sl.HS1_50 c i arg3 harg3 arg4 harg4 arg5 harg5 arg6 harg6 arg7 harg7 arg8 harg8 arg9 harg9 arg10 harg10 arg11 harg11 x0 x1 x2) (kernelRun1_A.sl.HS2_50 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 15) (kernelRun1_A.sl.HS1_51 c i arg3 harg3 arg4 harg4 arg5 harg5 arg6 harg6 arg7 harg7 arg8 harg8 arg9 harg9 arg10 harg10 arg11 harg11 x0 x1 x2) (kernelRun1_A.sl.HS2_51 c i arg3 harg3 arg4 harg4 arg5 harg5 arg6 harg6 arg7 harg7 arg8 harg8 arg9 harg9 arg10 harg10 arg11 harg11 x0 x1 x2) :=
  h.step 14 (by omega) (D.kt 3 (k1_off5_inb i 3)) (D.vt 3 (k1_off6_inb i 3)) (D.qz 14 (by decide)) (by show E.p0 + 256 * 3 + 255 ≤ _; omega) (inb10 := by decide) (inb11 := by decide)

theorem diag_52 (D : DiagIn E i arg4 arg5 arg9 (harg4.unread x1) (harg5.unread x2) (kernelRun1_A.sl.HS0_32 c arg3 harg3 x0)) (h : Holds arg10.view arg11.view E (fun _ => True) (lev (E.p0 + 256 * 3) 15) (kernelRun1_A.sl.HS1_51 c i arg3 harg3 arg4 harg4 arg5 harg5 arg6 harg6 arg7 harg7 arg8 harg8 arg9 harg9 arg10 harg10 arg11 harg11 x0 x1 x2) (kernelRun1_A.sl.HS2_51 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 3) 16) (kernelRun1_A.sl.HS1_52 c i arg3 harg3 arg4 harg4 arg5 harg5 arg6 harg6 arg7 harg7 arg8 harg8 arg9 harg9 arg10 harg10 arg11 harg11 x0 x1 x2) (kernelRun1_A.sl.HS2_52 c i arg3 harg3 arg4 harg4 arg5 harg5 arg6 harg6 arg7 harg7 arg8 harg8 arg9 harg9 arg10 harg10 arg11 harg11 x0 x1 x2) :=
  h.step 15 (by omega) (D.kt 3 (k1_off5_inb i 3)) (D.vt 3 (k1_off6_inb i 3)) (D.qz 15 (by decide)) (by show E.p0 + 256 * 3 + 255 ≤ _; omega) (inb10 := by decide) (inb11 := by decide)

theorem diag_53 (D : DiagIn E i arg4 arg5 arg9 (harg4.unread x1) (harg5.unread x2) (kernelRun1_A.sl.HS0_32 c arg3 harg3 x0)) (h : Holds arg10.view arg11.view E (fun _ => True) (lev (E.p0 + 256 * 4) 8) (kernelRun1_A.sl.HS1_52 c i arg3 harg3 arg4 harg4 arg5 harg5 arg6 harg6 arg7 harg7 arg8 harg8 arg9 harg9 arg10 harg10 arg11 harg11 x0 x1 x2) (kernelRun1_A.sl.HS2_52 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 9) (kernelRun1_A.sl.HS1_53 c i arg3 harg3 arg4 harg4 arg5 harg5 arg6 harg6 arg7 harg7 arg8 harg8 arg9 harg9 arg10 harg10 arg11 harg11 x0 x1 x2) (kernelRun1_A.sl.HS2_53 c i arg3 harg3 arg4 harg4 arg5 harg5 arg6 harg6 arg7 harg7 arg8 harg8 arg9 harg9 arg10 harg10 arg11 harg11 x0 x1 x2) :=
  h.stepMasked 8 (by omega) (D.kt 4 (k1_off5_inb i 4)) (D.vt 4 (k1_off6_inb i 4)) (D.qz 8 (by decide)) 1024#32 1024#32 rfl rfl (by decide) (inb10 := by decide) (inb11 := by decide)

theorem diag_54 (D : DiagIn E i arg4 arg5 arg9 (harg4.unread x1) (harg5.unread x2) (kernelRun1_A.sl.HS0_32 c arg3 harg3 x0)) (h : Holds arg10.view arg11.view E (fun _ => True) (lev (E.p0 + 256 * 4) 9) (kernelRun1_A.sl.HS1_53 c i arg3 harg3 arg4 harg4 arg5 harg5 arg6 harg6 arg7 harg7 arg8 harg8 arg9 harg9 arg10 harg10 arg11 harg11 x0 x1 x2) (kernelRun1_A.sl.HS2_53 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 10) (kernelRun1_A.sl.HS1_54 c i arg3 harg3 arg4 harg4 arg5 harg5 arg6 harg6 arg7 harg7 arg8 harg8 arg9 harg9 arg10 harg10 arg11 harg11 x0 x1 x2) (kernelRun1_A.sl.HS2_54 c i arg3 harg3 arg4 harg4 arg5 harg5 arg6 harg6 arg7 harg7 arg8 harg8 arg9 harg9 arg10 harg10 arg11 harg11 x0 x1 x2) :=
  h.stepMasked 9 (by omega) (D.kt 4 (k1_off5_inb i 4)) (D.vt 4 (k1_off6_inb i 4)) (D.qz 9 (by decide)) 1024#32 1152#32 rfl rfl (by decide) (inb10 := by decide) (inb11 := by decide)

theorem diag_55 (D : DiagIn E i arg4 arg5 arg9 (harg4.unread x1) (harg5.unread x2) (kernelRun1_A.sl.HS0_32 c arg3 harg3 x0)) (h : Holds arg10.view arg11.view E (fun _ => True) (lev (E.p0 + 256 * 4) 10) (kernelRun1_A.sl.HS1_54 c i arg3 harg3 arg4 harg4 arg5 harg5 arg6 harg6 arg7 harg7 arg8 harg8 arg9 harg9 arg10 harg10 arg11 harg11 x0 x1 x2) (kernelRun1_A.sl.HS2_54 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 11) (kernelRun1_A.sl.HS1_55 c i arg3 harg3 arg4 harg4 arg5 harg5 arg6 harg6 arg7 harg7 arg8 harg8 arg9 harg9 arg10 harg10 arg11 harg11 x0 x1 x2) (kernelRun1_A.sl.HS2_55 c i arg3 harg3 arg4 harg4 arg5 harg5 arg6 harg6 arg7 harg7 arg8 harg8 arg9 harg9 arg10 harg10 arg11 harg11 x0 x1 x2) :=
  h.step 10 (by omega) (D.kt 4 (k1_off5_inb i 4)) (D.vt 4 (k1_off6_inb i 4)) (D.qz 10 (by decide)) (by show E.p0 + 256 * 4 + 255 ≤ _; omega) (inb10 := by decide) (inb11 := by decide)

theorem diag_56 (D : DiagIn E i arg4 arg5 arg9 (harg4.unread x1) (harg5.unread x2) (kernelRun1_A.sl.HS0_32 c arg3 harg3 x0)) (h : Holds arg10.view arg11.view E (fun _ => True) (lev (E.p0 + 256 * 4) 11) (kernelRun1_A.sl.HS1_55 c i arg3 harg3 arg4 harg4 arg5 harg5 arg6 harg6 arg7 harg7 arg8 harg8 arg9 harg9 arg10 harg10 arg11 harg11 x0 x1 x2) (kernelRun1_A.sl.HS2_55 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 12) (kernelRun1_A.sl.HS1_56 c i arg3 harg3 arg4 harg4 arg5 harg5 arg6 harg6 arg7 harg7 arg8 harg8 arg9 harg9 arg10 harg10 arg11 harg11 x0 x1 x2) (kernelRun1_A.sl.HS2_56 c i arg3 harg3 arg4 harg4 arg5 harg5 arg6 harg6 arg7 harg7 arg8 harg8 arg9 harg9 arg10 harg10 arg11 harg11 x0 x1 x2) :=
  h.step 11 (by omega) (D.kt 4 (k1_off5_inb i 4)) (D.vt 4 (k1_off6_inb i 4)) (D.qz 11 (by decide)) (by show E.p0 + 256 * 4 + 255 ≤ _; omega) (inb10 := by decide) (inb11 := by decide)

theorem diag_57 (D : DiagIn E i arg4 arg5 arg9 (harg4.unread x1) (harg5.unread x2) (kernelRun1_A.sl.HS0_32 c arg3 harg3 x0)) (h : Holds arg10.view arg11.view E (fun _ => True) (lev (E.p0 + 256 * 4) 12) (kernelRun1_A.sl.HS1_56 c i arg3 harg3 arg4 harg4 arg5 harg5 arg6 harg6 arg7 harg7 arg8 harg8 arg9 harg9 arg10 harg10 arg11 harg11 x0 x1 x2) (kernelRun1_A.sl.HS2_56 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 13) (kernelRun1_A.sl.HS1_57 c i arg3 harg3 arg4 harg4 arg5 harg5 arg6 harg6 arg7 harg7 arg8 harg8 arg9 harg9 arg10 harg10 arg11 harg11 x0 x1 x2) (kernelRun1_A.sl.HS2_57 c i arg3 harg3 arg4 harg4 arg5 harg5 arg6 harg6 arg7 harg7 arg8 harg8 arg9 harg9 arg10 harg10 arg11 harg11 x0 x1 x2) :=
  h.step 12 (by omega) (D.kt 4 (k1_off5_inb i 4)) (D.vt 4 (k1_off6_inb i 4)) (D.qz 12 (by decide)) (by show E.p0 + 256 * 4 + 255 ≤ _; omega) (inb10 := by decide) (inb11 := by decide)

theorem diag_58 (D : DiagIn E i arg4 arg5 arg9 (harg4.unread x1) (harg5.unread x2) (kernelRun1_A.sl.HS0_32 c arg3 harg3 x0)) (h : Holds arg10.view arg11.view E (fun _ => True) (lev (E.p0 + 256 * 4) 13) (kernelRun1_A.sl.HS1_57 c i arg3 harg3 arg4 harg4 arg5 harg5 arg6 harg6 arg7 harg7 arg8 harg8 arg9 harg9 arg10 harg10 arg11 harg11 x0 x1 x2) (kernelRun1_A.sl.HS2_57 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 14) (kernelRun1_A.sl.HS1_58 c i arg3 harg3 arg4 harg4 arg5 harg5 arg6 harg6 arg7 harg7 arg8 harg8 arg9 harg9 arg10 harg10 arg11 harg11 x0 x1 x2) (kernelRun1_A.sl.HS2_58 c i arg3 harg3 arg4 harg4 arg5 harg5 arg6 harg6 arg7 harg7 arg8 harg8 arg9 harg9 arg10 harg10 arg11 harg11 x0 x1 x2) :=
  h.step 13 (by omega) (D.kt 4 (k1_off5_inb i 4)) (D.vt 4 (k1_off6_inb i 4)) (D.qz 13 (by decide)) (by show E.p0 + 256 * 4 + 255 ≤ _; omega) (inb10 := by decide) (inb11 := by decide)

theorem diag_59 (D : DiagIn E i arg4 arg5 arg9 (harg4.unread x1) (harg5.unread x2) (kernelRun1_A.sl.HS0_32 c arg3 harg3 x0)) (h : Holds arg10.view arg11.view E (fun _ => True) (lev (E.p0 + 256 * 4) 14) (kernelRun1_A.sl.HS1_58 c i arg3 harg3 arg4 harg4 arg5 harg5 arg6 harg6 arg7 harg7 arg8 harg8 arg9 harg9 arg10 harg10 arg11 harg11 x0 x1 x2) (kernelRun1_A.sl.HS2_58 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 15) (kernelRun1_A.sl.HS1_59 c i arg3 harg3 arg4 harg4 arg5 harg5 arg6 harg6 arg7 harg7 arg8 harg8 arg9 harg9 arg10 harg10 arg11 harg11 x0 x1 x2) (kernelRun1_A.sl.HS2_59 c i arg3 harg3 arg4 harg4 arg5 harg5 arg6 harg6 arg7 harg7 arg8 harg8 arg9 harg9 arg10 harg10 arg11 harg11 x0 x1 x2) :=
  h.step 14 (by omega) (D.kt 4 (k1_off5_inb i 4)) (D.vt 4 (k1_off6_inb i 4)) (D.qz 14 (by decide)) (by show E.p0 + 256 * 4 + 255 ≤ _; omega) (inb10 := by decide) (inb11 := by decide)

theorem diag_60 (D : DiagIn E i arg4 arg5 arg9 (harg4.unread x1) (harg5.unread x2) (kernelRun1_A.sl.HS0_32 c arg3 harg3 x0)) (h : Holds arg10.view arg11.view E (fun _ => True) (lev (E.p0 + 256 * 4) 15) (kernelRun1_A.sl.HS1_59 c i arg3 harg3 arg4 harg4 arg5 harg5 arg6 harg6 arg7 harg7 arg8 harg8 arg9 harg9 arg10 harg10 arg11 harg11 x0 x1 x2) (kernelRun1_A.sl.HS2_59 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 4) 16) (kernelRun1_A.sl.HS1_60 c i arg3 harg3 arg4 harg4 arg5 harg5 arg6 harg6 arg7 harg7 arg8 harg8 arg9 harg9 arg10 harg10 arg11 harg11 x0 x1 x2) (kernelRun1_A.sl.HS2_60 c i arg3 harg3 arg4 harg4 arg5 harg5 arg6 harg6 arg7 harg7 arg8 harg8 arg9 harg9 arg10 harg10 arg11 harg11 x0 x1 x2) :=
  h.step 15 (by omega) (D.kt 4 (k1_off5_inb i 4)) (D.vt 4 (k1_off6_inb i 4)) (D.qz 15 (by decide)) (by show E.p0 + 256 * 4 + 255 ≤ _; omega) (inb10 := by decide) (inb11 := by decide)

theorem diag_61 (D : DiagIn E i arg4 arg5 arg9 (harg4.unread x1) (harg5.unread x2) (kernelRun1_A.sl.HS0_32 c arg3 harg3 x0)) (h : Holds arg10.view arg11.view E (fun _ => True) (lev (E.p0 + 256 * 5) 10) (kernelRun1_A.sl.HS1_60 c i arg3 harg3 arg4 harg4 arg5 harg5 arg6 harg6 arg7 harg7 arg8 harg8 arg9 harg9 arg10 harg10 arg11 harg11 x0 x1 x2) (kernelRun1_A.sl.HS2_60 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 5) 11) (kernelRun1_A.sl.HS1_61 c i arg3 harg3 arg4 harg4 arg5 harg5 arg6 harg6 arg7 harg7 arg8 harg8 arg9 harg9 arg10 harg10 arg11 harg11 x0 x1 x2) (kernelRun1_A.sl.HS2_61 c i arg3 harg3 arg4 harg4 arg5 harg5 arg6 harg6 arg7 harg7 arg8 harg8 arg9 harg9 arg10 harg10 arg11 harg11 x0 x1 x2) :=
  h.stepMasked 10 (by omega) (D.kt 5 (k1_off5_inb i 5)) (D.vt 5 (k1_off6_inb i 5)) (D.qz 10 (by decide)) 1280#32 1280#32 rfl rfl (by decide) (inb10 := by decide) (inb11 := by decide)

theorem diag_62 (D : DiagIn E i arg4 arg5 arg9 (harg4.unread x1) (harg5.unread x2) (kernelRun1_A.sl.HS0_32 c arg3 harg3 x0)) (h : Holds arg10.view arg11.view E (fun _ => True) (lev (E.p0 + 256 * 5) 11) (kernelRun1_A.sl.HS1_61 c i arg3 harg3 arg4 harg4 arg5 harg5 arg6 harg6 arg7 harg7 arg8 harg8 arg9 harg9 arg10 harg10 arg11 harg11 x0 x1 x2) (kernelRun1_A.sl.HS2_61 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 5) 12) (kernelRun1_A.sl.HS1_62 c i arg3 harg3 arg4 harg4 arg5 harg5 arg6 harg6 arg7 harg7 arg8 harg8 arg9 harg9 arg10 harg10 arg11 harg11 x0 x1 x2) (kernelRun1_A.sl.HS2_62 c i arg3 harg3 arg4 harg4 arg5 harg5 arg6 harg6 arg7 harg7 arg8 harg8 arg9 harg9 arg10 harg10 arg11 harg11 x0 x1 x2) :=
  h.stepMasked 11 (by omega) (D.kt 5 (k1_off5_inb i 5)) (D.vt 5 (k1_off6_inb i 5)) (D.qz 11 (by decide)) 1280#32 1408#32 rfl rfl (by decide) (inb10 := by decide) (inb11 := by decide)

theorem diag_63 (D : DiagIn E i arg4 arg5 arg9 (harg4.unread x1) (harg5.unread x2) (kernelRun1_A.sl.HS0_32 c arg3 harg3 x0)) (h : Holds arg10.view arg11.view E (fun _ => True) (lev (E.p0 + 256 * 5) 12) (kernelRun1_A.sl.HS1_62 c i arg3 harg3 arg4 harg4 arg5 harg5 arg6 harg6 arg7 harg7 arg8 harg8 arg9 harg9 arg10 harg10 arg11 harg11 x0 x1 x2) (kernelRun1_A.sl.HS2_62 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 5) 13) (kernelRun1_A.sl.HS1_63 c i arg3 harg3 arg4 harg4 arg5 harg5 arg6 harg6 arg7 harg7 arg8 harg8 arg9 harg9 arg10 harg10 arg11 harg11 x0 x1 x2) (kernelRun1_A.sl.HS2_63 c i arg3 harg3 arg4 harg4 arg5 harg5 arg6 harg6 arg7 harg7 arg8 harg8 arg9 harg9 arg10 harg10 arg11 harg11 x0 x1 x2) :=
  h.step 12 (by omega) (D.kt 5 (k1_off5_inb i 5)) (D.vt 5 (k1_off6_inb i 5)) (D.qz 12 (by decide)) (by show E.p0 + 256 * 5 + 255 ≤ _; omega) (inb10 := by decide) (inb11 := by decide)

theorem diag_64 (D : DiagIn E i arg4 arg5 arg9 (harg4.unread x1) (harg5.unread x2) (kernelRun1_A.sl.HS0_32 c arg3 harg3 x0)) (h : Holds arg10.view arg11.view E (fun _ => True) (lev (E.p0 + 256 * 5) 13) (kernelRun1_A.sl.HS1_63 c i arg3 harg3 arg4 harg4 arg5 harg5 arg6 harg6 arg7 harg7 arg8 harg8 arg9 harg9 arg10 harg10 arg11 harg11 x0 x1 x2) (kernelRun1_A.sl.HS2_63 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 5) 14) (kernelRun1_A.sl.HS1_64 c i arg3 harg3 arg4 harg4 arg5 harg5 arg6 harg6 arg7 harg7 arg8 harg8 arg9 harg9 arg10 harg10 arg11 harg11 x0 x1 x2) (kernelRun1_A.sl.HS2_64 c i arg3 harg3 arg4 harg4 arg5 harg5 arg6 harg6 arg7 harg7 arg8 harg8 arg9 harg9 arg10 harg10 arg11 harg11 x0 x1 x2) :=
  h.step 13 (by omega) (D.kt 5 (k1_off5_inb i 5)) (D.vt 5 (k1_off6_inb i 5)) (D.qz 13 (by decide)) (by show E.p0 + 256 * 5 + 255 ≤ _; omega) (inb10 := by decide) (inb11 := by decide)

theorem diag_65 (D : DiagIn E i arg4 arg5 arg9 (harg4.unread x1) (harg5.unread x2) (kernelRun1_A.sl.HS0_32 c arg3 harg3 x0)) (h : Holds arg10.view arg11.view E (fun _ => True) (lev (E.p0 + 256 * 5) 14) (kernelRun1_A.sl.HS1_64 c i arg3 harg3 arg4 harg4 arg5 harg5 arg6 harg6 arg7 harg7 arg8 harg8 arg9 harg9 arg10 harg10 arg11 harg11 x0 x1 x2) (kernelRun1_A.sl.HS2_64 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 5) 15) (kernelRun1_A.sl.HS1_65 c i arg3 harg3 arg4 harg4 arg5 harg5 arg6 harg6 arg7 harg7 arg8 harg8 arg9 harg9 arg10 harg10 arg11 harg11 x0 x1 x2) (kernelRun1_A.sl.HS2_65 c i arg3 harg3 arg4 harg4 arg5 harg5 arg6 harg6 arg7 harg7 arg8 harg8 arg9 harg9 arg10 harg10 arg11 harg11 x0 x1 x2) :=
  h.step 14 (by omega) (D.kt 5 (k1_off5_inb i 5)) (D.vt 5 (k1_off6_inb i 5)) (D.qz 14 (by decide)) (by show E.p0 + 256 * 5 + 255 ≤ _; omega) (inb10 := by decide) (inb11 := by decide)

theorem diag_66 (D : DiagIn E i arg4 arg5 arg9 (harg4.unread x1) (harg5.unread x2) (kernelRun1_A.sl.HS0_32 c arg3 harg3 x0)) (h : Holds arg10.view arg11.view E (fun _ => True) (lev (E.p0 + 256 * 5) 15) (kernelRun1_A.sl.HS1_65 c i arg3 harg3 arg4 harg4 arg5 harg5 arg6 harg6 arg7 harg7 arg8 harg8 arg9 harg9 arg10 harg10 arg11 harg11 x0 x1 x2) (kernelRun1_A.sl.HS2_65 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 5) 16) (kernelRun1_A.sl.HS1_66 c i arg3 harg3 arg4 harg4 arg5 harg5 arg6 harg6 arg7 harg7 arg8 harg8 arg9 harg9 arg10 harg10 arg11 harg11 x0 x1 x2) (kernelRun1_A.sl.HS2_66 c i arg3 harg3 arg4 harg4 arg5 harg5 arg6 harg6 arg7 harg7 arg8 harg8 arg9 harg9 arg10 harg10 arg11 harg11 x0 x1 x2) :=
  h.step 15 (by omega) (D.kt 5 (k1_off5_inb i 5)) (D.vt 5 (k1_off6_inb i 5)) (D.qz 15 (by decide)) (by show E.p0 + 256 * 5 + 255 ≤ _; omega) (inb10 := by decide) (inb11 := by decide)

theorem diag_67 (D : DiagIn E i arg4 arg5 arg9 (harg4.unread x1) (harg5.unread x2) (kernelRun1_A.sl.HS0_32 c arg3 harg3 x0)) (h : Holds arg10.view arg11.view E (fun _ => True) (lev (E.p0 + 256 * 6) 12) (kernelRun1_A.sl.HS1_66 c i arg3 harg3 arg4 harg4 arg5 harg5 arg6 harg6 arg7 harg7 arg8 harg8 arg9 harg9 arg10 harg10 arg11 harg11 x0 x1 x2) (kernelRun1_A.sl.HS2_66 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 6) 13) (kernelRun1_A.sl.HS1_67 c i arg3 harg3 arg4 harg4 arg5 harg5 arg6 harg6 arg7 harg7 arg8 harg8 arg9 harg9 arg10 harg10 arg11 harg11 x0 x1 x2) (kernelRun1_A.sl.HS2_67 c i arg3 harg3 arg4 harg4 arg5 harg5 arg6 harg6 arg7 harg7 arg8 harg8 arg9 harg9 arg10 harg10 arg11 harg11 x0 x1 x2) :=
  h.stepMasked 12 (by omega) (D.kt 6 (k1_off5_inb i 6)) (D.vt 6 (k1_off6_inb i 6)) (D.qz 12 (by decide)) 1536#32 1536#32 rfl rfl (by decide) (inb10 := by decide) (inb11 := by decide)

theorem diag_68 (D : DiagIn E i arg4 arg5 arg9 (harg4.unread x1) (harg5.unread x2) (kernelRun1_A.sl.HS0_32 c arg3 harg3 x0)) (h : Holds arg10.view arg11.view E (fun _ => True) (lev (E.p0 + 256 * 6) 13) (kernelRun1_A.sl.HS1_67 c i arg3 harg3 arg4 harg4 arg5 harg5 arg6 harg6 arg7 harg7 arg8 harg8 arg9 harg9 arg10 harg10 arg11 harg11 x0 x1 x2) (kernelRun1_A.sl.HS2_67 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 6) 14) (kernelRun1_A.sl.HS1_68 c i arg3 harg3 arg4 harg4 arg5 harg5 arg6 harg6 arg7 harg7 arg8 harg8 arg9 harg9 arg10 harg10 arg11 harg11 x0 x1 x2) (kernelRun1_A.sl.HS2_68 c i arg3 harg3 arg4 harg4 arg5 harg5 arg6 harg6 arg7 harg7 arg8 harg8 arg9 harg9 arg10 harg10 arg11 harg11 x0 x1 x2) :=
  h.stepMasked 13 (by omega) (D.kt 6 (k1_off5_inb i 6)) (D.vt 6 (k1_off6_inb i 6)) (D.qz 13 (by decide)) 1536#32 1664#32 rfl rfl (by decide) (inb10 := by decide) (inb11 := by decide)

theorem diag_69 (D : DiagIn E i arg4 arg5 arg9 (harg4.unread x1) (harg5.unread x2) (kernelRun1_A.sl.HS0_32 c arg3 harg3 x0)) (h : Holds arg10.view arg11.view E (fun _ => True) (lev (E.p0 + 256 * 6) 14) (kernelRun1_A.sl.HS1_68 c i arg3 harg3 arg4 harg4 arg5 harg5 arg6 harg6 arg7 harg7 arg8 harg8 arg9 harg9 arg10 harg10 arg11 harg11 x0 x1 x2) (kernelRun1_A.sl.HS2_68 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 6) 15) (kernelRun1_A.sl.HS1_69 c i arg3 harg3 arg4 harg4 arg5 harg5 arg6 harg6 arg7 harg7 arg8 harg8 arg9 harg9 arg10 harg10 arg11 harg11 x0 x1 x2) (kernelRun1_A.sl.HS2_69 c i arg3 harg3 arg4 harg4 arg5 harg5 arg6 harg6 arg7 harg7 arg8 harg8 arg9 harg9 arg10 harg10 arg11 harg11 x0 x1 x2) :=
  h.step 14 (by omega) (D.kt 6 (k1_off5_inb i 6)) (D.vt 6 (k1_off6_inb i 6)) (D.qz 14 (by decide)) (by show E.p0 + 256 * 6 + 255 ≤ _; omega) (inb10 := by decide) (inb11 := by decide)

theorem diag_70 (D : DiagIn E i arg4 arg5 arg9 (harg4.unread x1) (harg5.unread x2) (kernelRun1_A.sl.HS0_32 c arg3 harg3 x0)) (h : Holds arg10.view arg11.view E (fun _ => True) (lev (E.p0 + 256 * 6) 15) (kernelRun1_A.sl.HS1_69 c i arg3 harg3 arg4 harg4 arg5 harg5 arg6 harg6 arg7 harg7 arg8 harg8 arg9 harg9 arg10 harg10 arg11 harg11 x0 x1 x2) (kernelRun1_A.sl.HS2_69 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 6) 16) (kernelRun1_A.sl.HS1_70 c i arg3 harg3 arg4 harg4 arg5 harg5 arg6 harg6 arg7 harg7 arg8 harg8 arg9 harg9 arg10 harg10 arg11 harg11 x0 x1 x2) (kernelRun1_A.sl.HS2_70 c i arg3 harg3 arg4 harg4 arg5 harg5 arg6 harg6 arg7 harg7 arg8 harg8 arg9 harg9 arg10 harg10 arg11 harg11 x0 x1 x2) :=
  h.step 15 (by omega) (D.kt 6 (k1_off5_inb i 6)) (D.vt 6 (k1_off6_inb i 6)) (D.qz 15 (by decide)) (by show E.p0 + 256 * 6 + 255 ≤ _; omega) (inb10 := by decide) (inb11 := by decide)

theorem diag_71 (D : DiagIn E i arg4 arg5 arg9 (harg4.unread x1) (harg5.unread x2) (kernelRun1_A.sl.HS0_32 c arg3 harg3 x0)) (h : Holds arg10.view arg11.view E (fun _ => True) (lev (E.p0 + 256 * 7) 14) (kernelRun1_A.sl.HS1_70 c i arg3 harg3 arg4 harg4 arg5 harg5 arg6 harg6 arg7 harg7 arg8 harg8 arg9 harg9 arg10 harg10 arg11 harg11 x0 x1 x2) (kernelRun1_A.sl.HS2_70 c i arg3 harg3 arg4 harg4 arg5 harg5 arg6 harg6 arg7 harg7 arg8 harg8 arg9 harg9 arg10 harg10 arg11 harg11 x0 x1 x2)) :
    Holds arg10.view arg11.view E (fun _ => True) (lev (E.p0 + 256 * 7) 15) (kernelRun1_A.sl.HS1_71 c i arg3 harg3 arg4 harg4 arg5 harg5 arg6 harg6 arg7 harg7 arg8 harg8 arg9 harg9 arg10 harg10 arg11 harg11 x0 x1 x2) (kernelRun1_A.sl.HS2_71 c i arg3 harg3 arg4 harg4 arg5 harg5 arg6 harg6 arg7 harg7 arg8 harg8 arg9 harg9 arg10 harg10 arg11 harg11 x0 x1 x2) :=
  h.stepMasked 14 (by omega) (D.kt 7 (k1_off5_inb i 7)) (D.vt 7 (k1_off6_inb i 7)) (D.qz 14 (by decide)) 1792#32 1792#32 rfl rfl (by decide) (inb10 := by decide) (inb11 := by decide)

theorem diag_72 (D : DiagIn E i arg4 arg5 arg9 (harg4.unread x1) (harg5.unread x2) (kernelRun1_A.sl.HS0_32 c arg3 harg3 x0)) (h : Holds arg10.view arg11.view E (fun _ => True) (lev (E.p0 + 256 * 7) 15) (kernelRun1_A.sl.HS1_71 c i arg3 harg3 arg4 harg4 arg5 harg5 arg6 harg6 arg7 harg7 arg8 harg8 arg9 harg9 arg10 harg10 arg11 harg11 x0 x1 x2) (kernelRun1_A.sl.HS2_71 c i arg3 harg3 arg4 harg4 arg5 harg5 arg6 harg6 arg7 harg7 arg8 harg8 arg9 harg9 arg10 harg10 arg11 harg11 x0 x1 x2)) :
    ∃ L : P10, Holds arg10.view arg11.view E (fun _ => True) (lev (E.p0 + 256 * 7) 16) L (kernelRun1_A.sl.HS2_72 c i arg3 harg3 arg4 harg4 arg5 harg5 arg6 harg6 arg7 harg7 arg8 harg8 arg9 harg9 arg10 harg10 arg11 harg11 x0 x1 x2) :=
  ⟨_, h.stepMasked 15 (by omega) (D.kt 7 (k1_off5_inb i 7)) (D.vt 7 (k1_off6_inb i 7)) (D.qz 15 (by decide)) 1792#32 1920#32 rfl rfl (by decide) (inb10 := by decide) (inb11 := by decide)⟩

/-- After the diagonal every row block accounts for all the keys up to the end of the point's queries. -/
theorem diag_all (D : DiagIn E i arg4 arg5 arg9 (harg4.unread x1) (harg5.unread x2) (kernelRun1_A.sl.HS0_32 c arg3 harg3 x0)) (h : Holds arg10.view arg11.view E (fun _ => True) (fun _ => E.p0) (L10_0 c i arg3 harg3 arg4 harg4 arg5 harg5 arg6 harg6 arg7 harg7 arg8 harg8 arg9 harg9 arg10 harg10 arg11 harg11 x0 x1 x2) (L11_0 c i arg3 harg3 arg4 harg4 arg5 harg5 arg6 harg6 arg7 harg7 arg8 harg8 arg9 harg9 arg10 harg10 arg11 harg11 x0 x1 x2)) :
    ∃ L : P10, Holds arg10.view arg11.view E (fun _ => True) (fun _ => E.p0 + 2048) L (kernelRun1_A.sl.HS2_72 c i arg3 harg3 arg4 harg4 arg5 harg5 arg6 harg6 arg7 harg7 arg8 harg8 arg9 harg9 arg10 harg10 arg11 harg11 x0 x1 x2) := by
  have n1 : Holds arg10.view arg11.view E (fun _ => True) (lev (E.p0 + 256 * 0) 0) (L10_0 c i arg3 harg3 arg4 harg4 arg5 harg5 arg6 harg6 arg7 harg7 arg8 harg8 arg9 harg9 arg10 harg10 arg11 harg11 x0 x1 x2) (L11_0 c i arg3 harg3 arg4 harg4 arg5 harg5 arg6 harg6 arg7 harg7 arg8 harg8 arg9 harg9 arg10 harg10 arg11 harg11 x0 x1 x2) := h
  have p1 := diag_1 D n1
  have p2 := diag_2 D p1
  have p3 := diag_3 D p2
  have p4 := diag_4 D p3
  have p5 := diag_5 D p4
  have p6 := diag_6 D p5
  have p7 := diag_7 D p6
  have p8 := diag_8 D p7
  have p9 := diag_9 D p8
  have p10 := diag_10 D p9
  have p11 := diag_11 D p10
  have p12 := diag_12 D p11
  have p13 := diag_13 D p12
  have p14 := diag_14 D p13
  have p15 := diag_15 D p14
  have p16 := diag_16 D p15
  have n17 : Holds arg10.view arg11.view E (fun _ => True) (lev (E.p0 + 256 * 1) 0) (kernelRun1_A.sl.HS1_16 c i arg3 harg3 arg4 harg4 arg5 harg5 arg6 harg6 arg7 harg7 arg8 harg8 arg9 harg9 arg10 harg10 arg11 harg11 x0 x1 x2) (kernelRun1_A.sl.HS2_16 c i arg3 harg3 arg4 harg4 arg5 harg5 arg6 harg6 arg7 harg7 arg8 harg8 arg9 harg9 arg10 harg10 arg11 harg11 x0 x1 x2) := p16.next
  have s17 := n17.skip 2 (fun r hr => by omega)
  have p17 := diag_17 D s17
  have p18 := diag_18 D p17
  have p19 := diag_19 D p18
  have p20 := diag_20 D p19
  have p21 := diag_21 D p20
  have p22 := diag_22 D p21
  have p23 := diag_23 D p22
  have p24 := diag_24 D p23
  have p25 := diag_25 D p24
  have p26 := diag_26 D p25
  have p27 := diag_27 D p26
  have p28 := diag_28 D p27
  have p29 := diag_29 D p28
  have p30 := diag_30 D p29
  have n31 : Holds arg10.view arg11.view E (fun _ => True) (lev (E.p0 + 256 * 2) 0) (kernelRun1_A.sl.HS1_30 c i arg3 harg3 arg4 harg4 arg5 harg5 arg6 harg6 arg7 harg7 arg8 harg8 arg9 harg9 arg10 harg10 arg11 harg11 x0 x1 x2) (kernelRun1_A.sl.HS2_30 c i arg3 harg3 arg4 harg4 arg5 harg5 arg6 harg6 arg7 harg7 arg8 harg8 arg9 harg9 arg10 harg10 arg11 harg11 x0 x1 x2) := p30.next
  have s31 := n31.skip 4 (fun r hr => by omega)
  have p31 := diag_31 D s31
  have p32 := diag_32 D p31
  have p33 := diag_33 D p32
  have p34 := diag_34 D p33
  have p35 := diag_35 D p34
  have p36 := diag_36 D p35
  have p37 := diag_37 D p36
  have p38 := diag_38 D p37
  have p39 := diag_39 D p38
  have p40 := diag_40 D p39
  have p41 := diag_41 D p40
  have p42 := diag_42 D p41
  have n43 : Holds arg10.view arg11.view E (fun _ => True) (lev (E.p0 + 256 * 3) 0) (kernelRun1_A.sl.HS1_42 c i arg3 harg3 arg4 harg4 arg5 harg5 arg6 harg6 arg7 harg7 arg8 harg8 arg9 harg9 arg10 harg10 arg11 harg11 x0 x1 x2) (kernelRun1_A.sl.HS2_42 c i arg3 harg3 arg4 harg4 arg5 harg5 arg6 harg6 arg7 harg7 arg8 harg8 arg9 harg9 arg10 harg10 arg11 harg11 x0 x1 x2) := p42.next
  have s43 := n43.skip 6 (fun r hr => by omega)
  have p43 := diag_43 D s43
  have p44 := diag_44 D p43
  have p45 := diag_45 D p44
  have p46 := diag_46 D p45
  have p47 := diag_47 D p46
  have p48 := diag_48 D p47
  have p49 := diag_49 D p48
  have p50 := diag_50 D p49
  have p51 := diag_51 D p50
  have p52 := diag_52 D p51
  have n53 : Holds arg10.view arg11.view E (fun _ => True) (lev (E.p0 + 256 * 4) 0) (kernelRun1_A.sl.HS1_52 c i arg3 harg3 arg4 harg4 arg5 harg5 arg6 harg6 arg7 harg7 arg8 harg8 arg9 harg9 arg10 harg10 arg11 harg11 x0 x1 x2) (kernelRun1_A.sl.HS2_52 c i arg3 harg3 arg4 harg4 arg5 harg5 arg6 harg6 arg7 harg7 arg8 harg8 arg9 harg9 arg10 harg10 arg11 harg11 x0 x1 x2) := p52.next
  have s53 := n53.skip 8 (fun r hr => by omega)
  have p53 := diag_53 D s53
  have p54 := diag_54 D p53
  have p55 := diag_55 D p54
  have p56 := diag_56 D p55
  have p57 := diag_57 D p56
  have p58 := diag_58 D p57
  have p59 := diag_59 D p58
  have p60 := diag_60 D p59
  have n61 : Holds arg10.view arg11.view E (fun _ => True) (lev (E.p0 + 256 * 5) 0) (kernelRun1_A.sl.HS1_60 c i arg3 harg3 arg4 harg4 arg5 harg5 arg6 harg6 arg7 harg7 arg8 harg8 arg9 harg9 arg10 harg10 arg11 harg11 x0 x1 x2) (kernelRun1_A.sl.HS2_60 c i arg3 harg3 arg4 harg4 arg5 harg5 arg6 harg6 arg7 harg7 arg8 harg8 arg9 harg9 arg10 harg10 arg11 harg11 x0 x1 x2) := p60.next
  have s61 := n61.skip 10 (fun r hr => by omega)
  have p61 := diag_61 D s61
  have p62 := diag_62 D p61
  have p63 := diag_63 D p62
  have p64 := diag_64 D p63
  have p65 := diag_65 D p64
  have p66 := diag_66 D p65
  have n67 : Holds arg10.view arg11.view E (fun _ => True) (lev (E.p0 + 256 * 6) 0) (kernelRun1_A.sl.HS1_66 c i arg3 harg3 arg4 harg4 arg5 harg5 arg6 harg6 arg7 harg7 arg8 harg8 arg9 harg9 arg10 harg10 arg11 harg11 x0 x1 x2) (kernelRun1_A.sl.HS2_66 c i arg3 harg3 arg4 harg4 arg5 harg5 arg6 harg6 arg7 harg7 arg8 harg8 arg9 harg9 arg10 harg10 arg11 harg11 x0 x1 x2) := p66.next
  have s67 := n67.skip 12 (fun r hr => by omega)
  have p67 := diag_67 D s67
  have p68 := diag_68 D p67
  have p69 := diag_69 D p68
  have p70 := diag_70 D p69
  have n71 : Holds arg10.view arg11.view E (fun _ => True) (lev (E.p0 + 256 * 7) 0) (kernelRun1_A.sl.HS1_70 c i arg3 harg3 arg4 harg4 arg5 harg5 arg6 harg6 arg7 harg7 arg8 harg8 arg9 harg9 arg10 harg10 arg11 harg11 x0 x1 x2) (kernelRun1_A.sl.HS2_70 c i arg3 harg3 arg4 harg4 arg5 harg5 arg6 harg6 arg7 harg7 arg8 harg8 arg9 harg9 arg10 harg10 arg11 harg11 x0 x1 x2) := p70.next
  have s71 := n71.skip 14 (fun r hr => by omega)
  have p71 := diag_71 D s71
  obtain ⟨L, hL⟩ := diag_72 D p71
  refine ⟨L, fun f g r hr => ?_⟩
  have e : lev (E.p0 + 256 * 7) 16 r = E.p0 + 2048 := if_pos r.isLt
  have := hL f g r hr
  rw [e] at this; exact this

/-- The whole of a point's work on its row blocks. -/
theorem point_holds (D : DiagIn E i arg4 arg5 arg9 (harg4.unread x1) (harg5.unread x2) (kernelRun1_A.sl.HS0_32 c arg3 harg3 x0))
    (hT : ∀ k : Fin (k1_t1_loop i).trips, TripIn E (1024 * k.val) i k arg4 arg5 arg9 (harg4.unread x1) (harg5.unread x2) (arg9.view.writes (Elt Ideal) arg9.view.junk (kernelRun1_A.sl.HS0_32 c arg3 harg3 x0)))
    (h0 : Holds arg10.view arg11.view E (fun _ => True) (fun _ => 0) kernelRun1_A.sl.HS1_1 kernelRun1_A.sl.HS2_1)
    (hp : 1024 * (k1_t1_loop i).trips = E.p0) (ht : (k1_t2_loop i).trips = 0) :
    ∃ L : P10, Holds arg10.view arg11.view E (fun _ => True) (fun _ => E.p0 + 2048) L (kernelRun1_A.sl.HS2_72 c i arg3 harg3 arg4 harg4 arg5 harg5 arg6 harg6 arg7 harg7 arg8 harg8 arg9 harg9 arg10 harg10 arg11 harg11 x0 x1 x2) := by
  refine diag_all D ?_
  have := loop_holds (c := c) (arg3 := arg3) (harg3 := harg3) (harg4 := harg4) (harg5 := harg5) (arg6 := arg6) (harg6 := harg6) (arg7 := arg7) (harg7 := harg7) (arg8 := arg8) (harg8 := harg8) (harg9 := harg9) (harg10 := harg10) (harg11 := harg11) (arg2 := BitVec.ofNat 32 (i 2).val) (c0 := 0#32) (v281 := kernelRun1_A.sl.v281 i) (c1 := 1#32) hT h0 (k1_t1_loop i).trips le_rfl
  rw [hp] at this
  unfold L10_0 L11_0
  rw [ht]
  exact this

end

end Cert.DiffIdeal.Step
-- ==== Proof.Diff.Fin.lean ====
module

public import proofs.«01_k».proof.Proof.Diff.Diag

/-! # The ends of a point of the attention kernel

Before the tiles: the queries are stored twice per row block, once with each map's lanes, and the running rows are
filled. After them: each row block is divided by its sum of weights, the two maps are subtracted, and the result is
normalised and stored. -/

@[expose] public section

set_option maxRecDepth 1000000

noncomputable section

namespace Cert.DiffIdeal.Step

open Cert.DiffIdeal Cert.DiffIdeal.Gen Cert.DiffIdeal.Run Idealize.ShloMosaic Idealize.ShloMosaic.TcCoe Idealize.SL.Sem

/-- The row blocks, the last first. -/
abbrev rows16 : List (Fin 16) := [15, 14, 13, 12, 11, 10, 9, 8, 7, 6, 5, 4, 3, 2, 1, 0]

theorem inbO (r : Fin 16) : ∀ a, (![0, 128 * r.val, 0] : Fin 3 → ℕ) a + S1x128x128.size a ≤ S1x2048x128.size a := by
  intro a; have := r.isLt
  fin_cases a
  · show 0 + 1 ≤ 1; omega
  · show 128 * r.val + 128 ≤ 2048; omega
  · show 0 + 128 ≤ 128; omega

theorem inbLo (r : Fin 16) : ∀ a, (![r.val, 0, 0] : Fin 3 → ℕ) a + S1x128x128.size a ≤ S16x256x128.size a := by
  intro a; have := r.isLt
  fin_cases a
  · show r.val + 1 ≤ 16; omega
  · show 0 + 128 ≤ 256; omega
  · show 0 + 128 ≤ 128; omega

theorem inbHi (r : Fin 16) : ∀ a, (![r.val, 128, 0] : Fin 3 → ℕ) a + S1x128x128.size a ≤ S16x256x128.size a := by
  intro a; have := r.isLt
  fin_cases a
  · show r.val + 1 ≤ 16; omega
  · show 128 + 128 ≤ 256; omega
  · show 0 + 128 ≤ 128; omega

theorem inbA (r : Fin 16) : ∀ a, (![r.val, 0, 0] : Fin 3 → ℕ) a + S1x144x256.size a ≤ S16x144x256.size a := by
  intro a; have := r.isLt
  fin_cases a
  · show r.val + 1 ≤ 16; omega
  · show 0 + 144 ≤ 144; omega
  · show 0 + 256 ≤ 256; omega

section

variable {c : Dev nD} {i : grid1.Coords}
  {arg3 : Memref sig .tc .vmem S1x2048x128 .bf16} {harg3 : arg3.IsWhole}
  {arg4 : Memref sig .tc .vmem S1x4096x128 .bf16} {harg4 : arg4.IsWhole} {arg5 : Memref sig .tc .vmem S144x4096 .bf16}
  {harg5 : arg5.IsWhole} {arg6 : Memref sig .tc .vmem S1x4x64 .f32} {harg6 : arg6.IsWhole}
  {arg7 : Memref sig .tc .vmem S1x1x128 .f32} {harg7 : arg7.IsWhole} {arg8 : Memref sig .tc .vmem S1x2048x128 .bf16}
  {harg8 : arg8.IsWhole} {arg9 : Memref sig .tc .vmem S16x256x128 .bf16} {harg9 : arg9.IsWhole}
  {arg10 : Memref sig .tc .vmem S16x1x256 .f32} {harg10 : arg10.IsWhole}
  {arg11 : Memref sig .tc .vmem S16x144x256 .f32} {harg11 : arg11.IsWhole}
  {x0 : Vec Ideal S1x2048x128 .bf16} {x1 : Vec Ideal S1x4096x128 .bf16} {x2 : Vec Ideal S144x4096 .bf16}
  {x3 : Vec Ideal S1x4x64 .f32} {x4 : Vec Ideal S1x1x128 .f32}

/-- The queries of row block `r`, as loaded. -/
def qrows (arg3 : Memref sig .tc .vmem S1x2048x128 .bf16) (harg3 : arg3.IsWhole) (x0 : Vec Ideal S1x2048x128 .bf16)
    (r : Fin 16) : Vec Ideal S1x128x128 .bf16 :=
  arg3.view.readAt (Elt Ideal) (Rect.unit (s := S1x2048x128) ![0, 128 * r.val, 0] S1x128x128.size (inbO r)).toLoadRect (harg3.unread x0)

theorem qz_pieces : kernelRun1_A.sl.HS0_32 c arg3 harg3 x0 = rows16.flatMap fun r =>
    [⟨Rect.unit ![r.val, 128, 0] S1x128x128.size (inbHi r), k1_pay736 (qrows arg3 harg3 x0 r)⟩,
     ⟨Rect.unit ![r.val, 0, 0] S1x128x128.size (inbLo r), k1_pay735 (qrows arg3 harg3 x0 r)⟩] := rfl

/-- The sums of row block `r` after the last tile. -/
def totR (r : Fin 16) (L : P11) (arg11 : Memref sig .tc .vmem S16x144x256 .f32) : Vec Ideal S1x144x256 .f32 :=
  arg11.view.readCov L (Rect.unit (s := S16x144x256) ![r.val, 0, 0] S1x144x256.size (inbA r)).toLoadRect

theorem out_pieces : (kernelRun1_A c i arg3 harg3 arg4 harg4 arg5 harg5 arg6 harg6 arg7 harg7 arg8 harg8 arg9 harg9 arg10 harg10 arg11 harg11 x0 x1 x2 x3 x4).1
    = rows16.map fun r => ⟨Rect.unit ![0, 128 * r.val, 0] S1x128x128.size (inbO r),
        k1_pay1288 (k1_pay1263 (arg6.view.readAt (Elt Ideal) (Rect.unit (s := S1x4x64) ![0, 0, 0] S1x4x64.size inb_S1x4x64_S1x4x64_0_0_0).toLoadRect (harg6.unread x3)))
          (totR r (kernelRun1_A.sl.HS2_72 c i arg3 harg3 arg4 harg4 arg5 harg5 arg6 harg6 arg7 harg7 arg8 harg8 arg9 harg9 arg10 harg10 arg11 harg11 x0 x1 x2) arg11)
          (arg7.view.readAt (Elt Ideal) (Rect.unit (s := S1x1x128) ![0, 0, 0] S1x1x128.size inb_S1x1x128_S1x1x128_0_0_0).toLoadRect (harg7.unread x4))⟩ := by
  rfl

end

end Cert.DiffIdeal.Step
-- ==== Proof.Diff.Pay.lean ====
module

public import proofs.«01_k».proof.Proof.Diff.Fin

/-! # The entries of the payloads at the ends of a point -/

@[expose] public section

set_option maxRecDepth 16384

noncomputable section

namespace Cert.DiffIdeal.Step

open Cert.DiffIdeal Cert.DiffIdeal.Gen Cert.DiffIdeal.Run Idealize.ShloMosaic Idealize.ShloMosaic.TcCoe Idealize.SL.Sem

theorem lane_lt (d : Fin 128) : IntOp.cmpi .slt (BitVec.ofNat 32 d.val) 64#32 = BitVec.ofBool (decide (d.val < 64)) := by
  revert d; decide +kernel

theorem lane_ge (d : Fin 128) : IntOp.cmpi .sge (BitVec.ofNat 32 d.val) 64#32 = BitVec.ofBool (decide (64 ≤ d.val)) := by
  revert d; decide +kernel

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

theorem pay735_at (v : Vec Ideal S1x128x128 .bf16) (p d : Fin 128) :
    k1_pay735 v (ix3 0 p d) = if d.val < 64 then v (ix3 0 p d) else 0 := by
  rw [← select_ofBool, ← lane_lt]
  pointwise [k1_pay735, k1_pay734]

theorem pay736_at (v : Vec Ideal S1x128x128 .bf16) (p d : Fin 128) :
    k1_pay736 v (ix3 0 p d) = if 64 ≤ d.val then v (ix3 0 p d) else 0 := by
  rw [← select_ofBool, ← lane_ge]
  pointwise [k1_pay736, k1_pay734]

/-- Lambda, from its four vectors. -/
def lamOf (lv : Fin 4 → Fin 64 → EReal) : EReal :=
  Ideal.exp (∑ d, lv 0 d * lv 1 d) - Ideal.exp (∑ d, lv 2 d * lv 3 d) + Ideal.ofBits .f32 0x3F0E59D5#32

theorem lam_at (v : Vec Ideal S1x4x64 .f32) :
    k1_pay1263 v (ix2 0 0) = lamOf (fun a d => v (ix3 0 a d)) := by
  pointwise [k1_pay1263]
  rfl

/-- The difference of the maps' averages, normalised over the head's lanes and scaled. -/
def finE (lam : EReal) (a b sub : Fin 128 → EReal) (c : Fin 128) : EReal :=
  (a c - lam * b c) * Ideal.rsqrt (Ideal.div (∑ e, (a e - lam * b e) * (a e - lam * b e)) (Ideal.ofBits .f32 0x43000000#32)
    + Ideal.ofBits .f32 0x358637BD#32) * sub c * Ideal.ofBits .f32 0x3EE34C57#32

theorem fin_at (lam : FVec Ideal S1x1 .f32) (tot : Vec Ideal S1x144x256 .f32) (sub : Vec Ideal S1x1x128 .f32) (p c : Fin 128) :
    k1_pay1288 lam tot sub (ix3 0 p c) = finE (lam (ix2 0 0))
      (fun e => Ideal.div (tot (ix3 0 ⟨e.val, by omega⟩ ⟨p.val, by omega⟩)) (tot (ix3 0 128 ⟨p.val, by omega⟩)))
      (fun e => Ideal.div (tot (ix3 0 ⟨e.val, by omega⟩ ⟨128 + p.val, by omega⟩)) (tot (ix3 0 128 ⟨128 + p.val, by omega⟩)))
      (fun e => sub (ix3 0 0 e)) c := by
  pointwise [k1_pay1288]
  rfl

theorem pay788_at (y : S16x1x256.Idx) : k1_pay788 (F := Ideal) y = ⊥ := by
  show Ideal.ofBits .f32 0xFF800000#32 = _
  exact ofBits_bot

theorem pay789_at (y : S16x144x256.Idx) : k1_pay789 (F := Ideal) y = 0 := by
  show Ideal.ofBits .f32 0x00000000#32 = _
  simp [Ideal.ofBits, Ideal.ieee]

end Cert.DiffIdeal.Step
-- ==== Proof.Diff.Point.lean ====
module

public import proofs.«01_k».proof.Proof.Diff.Pay

/-! # What a point of the attention kernel stores

The point's buffers hold real numbers: the queries of 2048 positions, the keys and values of the whole sequence. Each
row of the stored block is the difference of the two maps' averages, normalised. -/

@[expose] public section

set_option maxRecDepth 16384

noncomputable section

namespace Cert.DiffIdeal.Step

open Cert.DiffIdeal Cert.DiffIdeal.Gen Cert.DiffIdeal.Run Idealize.ShloMosaic Idealize.ShloMosaic.TcCoe Idealize.SL.Sem

/-! ## The loops and their offsets -/

theorem trips1 (i : grid1.Coords) : (k1_t1_loop i).trips = 2 * (i 2).val := by
  have h : ∀ n : Fin 2, (⟨0#32, Scalar.addi 0#32 (Scalar.muli (Scalar.divsi (Scalar.subi (Scalar.muli (BitVec.ofNat 32 n.val) 2#32) 0#32) 1#32) 1#32), 1#32⟩ : Scf.Loop 32).trips = 2 * n.val := by
    decide +kernel
  exact h (i 2)

theorem trips2 (i : grid1.Coords) : (k1_t2_loop i).trips = 0 := by
  have h : ∀ n : Fin 2, (⟨Scalar.addi 0#32 (Scalar.muli (Scalar.divsi (Scalar.subi (Scalar.muli (BitVec.ofNat 32 n.val) 2#32) 0#32) 1#32) 1#32), Scalar.addi 0#32 (Scalar.subi (Scalar.muli (BitVec.ofNat 32 n.val) 2#32) 0#32), 1#32⟩ : Scf.Loop 32).trips = 0 := by
    decide +kernel
  exact h (i 2)

theorem off1_eq (i : grid1.Coords) (k : Fin (k1_t1_loop i).trips) (t : Fin 4) :
    k1_off1 i k (BitVec.ofNat 32 (256 * t.val)) = ![0, 1024 * k.val + 256 * t.val, 0] := by
  have hk : k.val < 2 := by have := k.isLt; have := trips1 i; have := (i 2).isLt; change _ < 2 at this; omega
  have h : ∀ (n : Fin 2) (t : Fin 4), (Scalar.indexCast (Scalar.addi (Scalar.muli (Scf.iv 0#32 1#32 n.val) 1024#32) (BitVec.ofNat 32 (256 * t.val)))).toNat
      = 1024 * n.val + 256 * t.val := by decide +kernel
  show ![0, _, 0] = _
  rw [← h ⟨k.val, hk⟩ t]

theorem off2_eq (i : grid1.Coords) (k : Fin (k1_t1_loop i).trips) (t : Fin 4) :
    k1_off2 i k (BitVec.ofNat 32 (256 * t.val)) = ![0, 1024 * k.val + 256 * t.val] := by
  have h := congrFun (off1_eq i k t) 1
  show ![0, _] = _
  exact congrArg (fun z => ![0, z]) h

theorem off5_eq (i : grid1.Coords) (t : Fin 8) :
    k1_off5 i (BitVec.ofNat 32 (256 * t.val)) = ![0, 2048 * (i 2).val + 256 * t.val, 0] := by
  have h : ∀ (n : Fin 2) (t : Fin 8), (Scalar.indexCast (Scalar.addi (Scalar.muli (BitVec.ofNat 32 n.val) 2048#32) (BitVec.ofNat 32 (256 * t.val)))).toNat
      = 2048 * n.val + 256 * t.val := by decide +kernel
  exact congrArg (fun z => ![0, z, 0]) (h (i 2) t)

theorem off6_eq (i : grid1.Coords) (t : Fin 8) :
    k1_off6 i (BitVec.ofNat 32 (256 * t.val)) = ![0, 2048 * (i 2).val + 256 * t.val] := by
  have h := congrFun (off5_eq i t) 1
  exact congrArg (fun z => ![0, z]) h

/-! ## The point's numbers -/

/-- The numbers of a point: its queries `xq`, the sequence's keys `xk` and values `xv`. -/
def envOf (xq xk : ℕ → Fin 128 → ℝ) (xv : Fin 144 → ℕ → ℝ) (p0 : ℕ) : Env where
  K := xk
  Q r q d := if (q.val < 128 ↔ d.val < 64) then xq (128 * r.val + q.val % 128) d else 0
  V := xv
  p0 := p0

section

variable {c : Dev nD} {i : grid1.Coords}
  {arg3 : Memref sig .tc .vmem S1x2048x128 .bf16} {harg3 : arg3.IsWhole}
  {arg4 : Memref sig .tc .vmem S1x4096x128 .bf16} {harg4 : arg4.IsWhole} {arg5 : Memref sig .tc .vmem S144x4096 .bf16}
  {harg5 : arg5.IsWhole} {arg6 : Memref sig .tc .vmem S1x4x64 .f32} {harg6 : arg6.IsWhole}
  {arg7 : Memref sig .tc .vmem S1x1x128 .f32} {harg7 : arg7.IsWhole} {arg8 : Memref sig .tc .vmem S1x2048x128 .bf16}
  {harg8 : arg8.IsWhole} {arg9 : Memref sig .tc .vmem S16x256x128 .bf16} {harg9 : arg9.IsWhole}
  {arg10 : Memref sig .tc .vmem S16x1x256 .f32} {harg10 : arg10.IsWhole}
  {arg11 : Memref sig .tc .vmem S16x144x256 .f32} {harg11 : arg11.IsWhole}
  {x0 : Vec Ideal S1x2048x128 .bf16} {x1 : Vec Ideal S1x4096x128 .bf16} {x2 : Vec Ideal S144x4096 .bf16}
  {x3 : Vec Ideal S1x4x64 .f32} {x4 : Vec Ideal S1x1x128 .f32}
  {xq xk : ℕ → Fin 128 → ℝ} {xv : Fin 144 → ℕ → ℝ} {p0 : ℕ}

theorem qrows_at (r : Fin 16) (p d : Fin 128) :
    qrows arg3 harg3 x0 r (ix3 0 p d) = x0 (ix3 0 ⟨128 * r.val + p.val, by omega⟩ d) := by
  unfold qrows
  rw [View.readAt_apply, harg3.read_unread]
  congr 1
  funext a
  apply Fin.ext
  fin_cases a
  · rfl
  · show 128 * r.val + 1 * p.val = 128 * r.val + p.val; omega
  · show 0 + 1 * d.val = d.val; omega

theorem cast_kt (X : Vec Ideal S1x256x128 .bf16) (j : Fin 256) (d : Fin 128) :
    shapeCast S256x128 X shapeCasts_S1x256x128_S256x128 (ix2 j d) = X (ix3 0 j d) := by pointwise []

theorem cast_vt (X : Vec Ideal S144x256 .bf16) (e : Fin 144) (j : Fin 256) :
    shapeCast S144x256 X shapeCasts_S144x256_S144x256 (ix2 e j) = X (ix2 e j) := by pointwise []

theorem kt_of (hx1 : ∀ (k : Fin 4096) d, x1 (ix3 0 k d) = ((xk k.val d : ℝ) : EReal)) (o : Fin 3 → ℕ) (N : ℕ) (ho : o = ![0, N, 0]) (inb) :
    (envOf xq xk xv p0).KT N (shapeCast S256x128 (arg4.view.readAt (Elt Ideal)
      (Rect.unit (s := S1x4096x128) o S1x256x128.size inb).toLoadRect (harg4.unread x1)) shapeCasts_S1x256x128_S256x128) := by
  subst ho
  intro j d
  have hN : N + 256 ≤ 4096 := inb 1
  refine Eq.trans ?_ (hx1 ⟨N + j.val, by omega⟩ d)
  rw [cast_kt, View.readAt_apply, harg4.read_unread]
  congr 1
  funext a
  apply Fin.ext
  fin_cases a
  · rfl
  · show N + 1 * j.val = N + j.val; omega
  · show 0 + 1 * d.val = d.val; omega

theorem vt_of (hx2 : ∀ (e : Fin 144) (k : Fin 4096), x2 (ix2 e k) = ((xv e k.val : ℝ) : EReal)) (o : Fin 2 → ℕ) (N : ℕ) (ho : o = ![0, N]) (inb) :
    (envOf xq xk xv p0).VT N (shapeCast S144x256 (arg5.view.readAt (Elt Ideal)
      (Rect.unit (s := S144x4096) o S144x256.size inb).toLoadRect (harg5.unread x2)) shapeCasts_S144x256_S144x256) := by
  subst ho
  intro e j
  have hN : N + 256 ≤ 4096 := inb 1
  refine Eq.trans ?_ (hx2 e ⟨N + j.val, by omega⟩)
  rw [cast_vt, View.readAt_apply, harg5.read_unread]
  congr 1
  funext a
  apply Fin.ext
  fin_cases a
  · show 0 + 1 * e.val = e.val; omega
  · show N + 1 * j.val = N + j.val; omega

theorem ix3_zero {n1 n2 : ℕ} (x : (⟨3, ![1, n1, n2]⟩ : Shape).Idx) : x = ix3 (0 : Fin 1) (x 1) (x 2) := by
  have h := Subsingleton.elim (α := Fin 1) (x 0) 0
  exact (eq_ix3 x).trans (congrArg (fun z : Fin 1 => (ix3 z (x 1) (x 2) : (⟨3, ![1, n1, n2]⟩ : Shape).Idx)) h)

/-- The entry of the stored queries. -/
abbrev qG (xq xk : ℕ → Fin 128 → ℝ) (xv : Fin 144 → ℕ → ℝ) (p0 : ℕ) (y : S16x256x128.Idx) : EReal :=
  (((envOf xq xk xv p0).Q (y 0) (y 1) (y 2) : ℝ) : EReal)

theorem hi_piece (hx0 : ∀ (p : Fin 2048) d, x0 (ix3 0 p d) = ((xq p.val d : ℝ) : EReal)) (r : Fin 16) (x : S1x128x128.Idx) :
    k1_pay736 (qrows arg3 harg3 x0 r) x = qG xq xk xv p0 ((Rect.unit (s := S16x256x128) ![r.val, 128, 0] S1x128x128.size (inbHi r)).emb x) := by
  obtain ⟨p, d, rfl⟩ : ∃ (p : Fin 128) (d : Fin 128), x = ix3 0 p d := ⟨x 1, x 2, ix3_zero x⟩
  rw [pay736_at, qrows_at, hx0]
  have e : (Rect.unit (s := S16x256x128) ![r.val, 128, 0] S1x128x128.size (inbHi r)).emb (ix3 (0 : Fin 1) p d) = ix3 r ⟨128 + p.val, by omega⟩ d := by
    funext a
    apply Fin.ext
    fin_cases a
    · rfl
    · show 128 + 1 * p.val = 128 + p.val; omega
    · show 0 + 1 * d.val = d.val; omega
  rw [e]
  show _ = (((if (128 + p.val < 128 ↔ d.val < 64) then xq (128 * r.val + (128 + p.val) % 128) d else 0 : ℝ)) : EReal)
  have e2 : (128 + p.val) % 128 = p.val := by omega
  rw [e2]
  by_cases h : 64 ≤ d.val
  · rw [if_pos h, if_pos (by omega)]
  · rw [if_neg h, if_neg (by omega)]; rfl

theorem lo_piece (hx0 : ∀ (p : Fin 2048) d, x0 (ix3 0 p d) = ((xq p.val d : ℝ) : EReal)) (r : Fin 16) (x : S1x128x128.Idx) :
    k1_pay735 (qrows arg3 harg3 x0 r) x = qG xq xk xv p0 ((Rect.unit (s := S16x256x128) ![r.val, 0, 0] S1x128x128.size (inbLo r)).emb x) := by
  obtain ⟨p, d, rfl⟩ : ∃ (p : Fin 128) (d : Fin 128), x = ix3 0 p d := ⟨x 1, x 2, ix3_zero x⟩
  rw [pay735_at, qrows_at, hx0]
  have e : (Rect.unit (s := S16x256x128) ![r.val, 0, 0] S1x128x128.size (inbLo r)).emb (ix3 (0 : Fin 1) p d) = ix3 r ⟨p.val, by omega⟩ d := by
    funext a
    apply Fin.ext
    fin_cases a
    · rfl
    · show 0 + 1 * p.val = p.val; omega
    · show 0 + 1 * d.val = d.val; omega
  rw [e]
  show _ = (((if (p.val < 128 ↔ d.val < 64) then xq (128 * r.val + p.val % 128) d else 0 : ℝ)) : EReal)
  have e2 : p.val % 128 = p.val := by omega
  rw [e2]
  by_cases h : d.val < 64
  · rw [if_pos h, if_pos (by omega)]
  · rw [if_neg h, if_neg (by omega)]; rfl

theorem mem_rows16 (r : Fin 16) : r ∈ rows16 := by revert r; decide

/-- The stored queries, both maps of every row block. -/
theorem qz_canon (hx0 : ∀ (p : Fin 2048) d, x0 (ix3 0 p d) = ((xq p.val d : ℝ) : EReal)) (y : S16x256x128.Idx) :
    View.canon (kernelRun1_A.sl.HS0_32 c arg3 harg3 x0) y = qG xq xk xv p0 y := by
  rw [qz_pieces]
  refine View.canon_apply_of_pieces (Val := Elt Ideal) (S := S16x256x128) (e := .bf16) (qG xq xk xv p0) _ ?_ y ?_
  · intro pc hpc x
    obtain ⟨r, -, hr⟩ := List.mem_flatMap.1 hpc
    simp only [List.mem_cons, List.not_mem_nil, or_false] at hr
    rcases hr with rfl | rfl
    · exact hi_piece hx0 r x
    · exact lo_piece hx0 r x
  · have h1 : (y 1).val < 256 := (y 1).isLt
    have h2 : (y 2).val < 128 := (y 2).isLt
    have h0 : (y 0).val < 16 := (y 0).isLt
    by_cases h : (y 1).val < 128
    · refine ⟨_, List.mem_flatMap.2 ⟨y 0, mem_rows16 _, List.mem_cons_of_mem _ List.mem_cons_self⟩, ?_⟩
      rw [Rect.mem_set_unit]
      intro a
      match a with
      | ⟨0, _⟩ => exact ⟨le_refl (y 0).val, by show (y 0).val < (y 0).val + 1; omega⟩
      | ⟨1, _⟩ => exact ⟨Nat.zero_le _, by show (y 1).val < 0 + 128; omega⟩
      | ⟨2, _⟩ => exact ⟨Nat.zero_le _, by show (y 2).val < 0 + 128; omega⟩
    · refine ⟨_, List.mem_flatMap.2 ⟨y 0, mem_rows16 _, List.mem_cons_self⟩, ?_⟩
      rw [Rect.mem_set_unit]
      intro a
      match a with
      | ⟨0, _⟩ => exact ⟨le_refl (y 0).val, by show (y 0).val < (y 0).val + 1; omega⟩
      | ⟨1, _⟩ => exact ⟨by show 128 ≤ (y 1).val; omega, by show (y 1).val < 128 + 128; omega⟩
      | ⟨2, _⟩ => exact ⟨Nat.zero_le _, by show (y 2).val < 0 + 128; omega⟩

theorem qz_of (hx0 : ∀ (p : Fin 2048) d, x0 (ix3 0 p d) = ((xq p.val d : ℝ) : EReal)) (r : Fin 16) (inb) :
    (envOf xq xk xv p0).QZ r (shapeCast S256x128 (arg9.view.readCov (kernelRun1_A.sl.HS0_32 c arg3 harg3 x0)
      (Rect.unit (s := S16x256x128) ![r.val, 0, 0] S1x256x128.size inb).toLoadRect) shapeCasts_S1x256x128_S256x128) := by
  intro q d
  rw [cast_kt, View.readCov_eq_canon']
  refine (qz_canon (xk := xk) (xv := xv) (p0 := p0) hx0 _).trans ?_
  have e : (Rect.unit (s := S16x256x128) ![r.val, 0, 0] S1x256x128.size inb).toLoadRect.idx (ix3 (0 : Fin 1) q d) = ix3 r q d := by
    funext a
    apply Fin.ext
    fin_cases a
    · rfl
    · show 0 + 1 * q.val = q.val; omega
    · show 0 + 1 * d.val = d.val; omega
  rw [e]
  rfl

/-- Nothing is accounted for after the fills. -/
theorem start_holds {E : Env} : Holds arg10.view arg11.view E (fun _ => True) (fun _ => 0) kernelRun1_A.sl.HS1_1 kernelRun1_A.sl.HS2_1 := by
  intro f g r _ q
  refine Or.inl ⟨rfl, ?_, fun e => ?_⟩
  · unfold at10 kernelRun1_A.sl.HS1_1
    refine Eq.trans (b := k1_pay788 (F := Ideal) (ix3 r 0 q)) ?_ (pay788_at _)
    exact View.read_writes_cons_unit_of_mem (Val := Elt Ideal) arg10.view f inb_S16x1x256_S16x1x256_0_0_0 (k1_pay788 (F := Ideal)) [] (ix3 r 0 q) (ix3 r 0 q) rfl
      fun a => by fin_cases a <;> exact (Nat.zero_add _).symm
  · unfold at11 kernelRun1_A.sl.HS2_1
    refine Eq.trans (b := k1_pay789 (F := Ideal) (ix3 r e q)) ?_ (pay789_at _)
    exact View.read_writes_cons_unit_of_mem (Val := Elt Ideal) arg11.view g inb_S16x144x256_S16x144x256_0_0_0 (k1_pay789 (F := Ideal)) [] (ix3 r e q) (ix3 r e q) rfl
      fun a => by fin_cases a <;> exact (Nat.zero_add _).symm

/-- The running rows after all tiles. -/
theorem end_holds (hx0 : ∀ (p : Fin 2048) d, x0 (ix3 0 p d) = ((xq p.val d : ℝ) : EReal))
    (hx1 : ∀ (k : Fin 4096) d, x1 (ix3 0 k d) = ((xk k.val d : ℝ) : EReal))
    (hx2 : ∀ (e : Fin 144) (k : Fin 4096), x2 (ix2 e k) = ((xv e k.val : ℝ) : EReal)) :
    ∃ L : P10, Holds arg10.view arg11.view (envOf xq xk xv (2048 * (i 2).val)) (fun _ => True) (fun _ => 2048 * (i 2).val + 2048) L
      (kernelRun1_A.sl.HS2_72 c i arg3 harg3 arg4 harg4 arg5 harg5 arg6 harg6 arg7 harg7 arg8 harg8 arg9 harg9 arg10 harg10 arg11 harg11 x0 x1 x2) := by
  have hi : (i 2).val < 2 := (i 2).isLt
  refine point_holds (E := envOf xq xk xv (2048 * (i 2).val)) ⟨?_, ?_, ?_⟩ (fun k => ⟨?_, ?_, ?_, ?_⟩) start_holds ?_ (trips2 i)
  · exact fun t inb => kt_of hx1 _ _ (off5_eq i t) inb
  · exact fun t inb => vt_of hx2 _ _ (off6_eq i t) inb
  · exact fun r inb => qz_of hx0 r inb
  · have := k.isLt; have := trips1 i
    show 1024 * k.val + 1023 ≤ 2048 * (i 2).val
    omega
  · exact fun t inb => kt_of hx1 _ _ (off1_eq i k t) inb
  · exact fun t inb => vt_of hx2 _ _ (off2_eq i k t) inb
  · exact fun r inb => qz_of hx0 r inb
  · show _ = 2048 * (i 2).val
    have := trips1 i
    omega

/-- The average of `v` over the keys up to `p`, weighted by `2 ^ s`. -/
def avg (p : ℕ) (s v : ℕ → ℝ) : ℝ :=
  (∑ k ∈ Finset.range (p + 1), v k * Real.rpow 2 (s k)) / ∑ k ∈ Finset.range (p + 1), Real.rpow 2 (s k)

theorem sum_cut (N p : ℕ) (h : p < N) (f : ℕ → ℝ) :
    ∑ k ∈ Finset.range N, (if k ≤ p then f k else 0) = ∑ k ∈ Finset.range (p + 1), f k := by
  rw [← Finset.sum_filter]
  refine Finset.sum_congr ?_ fun _ _ => rfl
  ext k
  simp only [Finset.mem_filter, Finset.mem_range]
  omega

/-- The quotient of a finished column does not depend on its reference point. -/
theorem col_quot {N p : ℕ} {s : ℕ → ℝ} {V : Fin 144 → ℕ → ℝ} {m : EReal} {a : Fin 144 → EReal} (h : Col N p s V m a)
    (hp : p < N) (h1 : ∀ k, V 128 k = 1) (e : Fin 144) : Ideal.div (a e) (a 128) = ((avg p s (V e) : ℝ) : EReal) := by
  rcases h with ⟨h0, _, _⟩ | ⟨M, -, ha⟩
  · omega
  rw [ha e, ha 128, sum_cut N p hp, sum_cut N p hp]
  have hpos : ∀ k, 0 < Real.rpow 2 (s k) := fun k => Real.rpow_pos_of_pos (by norm_num) _
  have hsum : 0 < ∑ k ∈ Finset.range (p + 1), Real.rpow 2 (s k) :=
    Finset.sum_pos (fun k _ => hpos k) ⟨0, by simp⟩
  have hf : ∀ (v : ℕ → ℝ), ∑ k ∈ Finset.range (p + 1), v k * Real.rpow 2 (s k - M)
      = (∑ k ∈ Finset.range (p + 1), v k * Real.rpow 2 (s k)) * Real.rpow 2 (-M) := by
    intro v
    rw [Finset.sum_mul]
    refine Finset.sum_congr rfl fun k _ => ?_
    have : Real.rpow 2 (s k - M) = Real.rpow 2 (s k) * Real.rpow 2 (-M) := by
      show (2 : ℝ) ^ (s k - M) = 2 ^ s k * 2 ^ (-M)
      rw [← Real.rpow_add (by norm_num)]; congr 1
    rw [this]; ring
  have hM : 0 < Real.rpow 2 (-M) := Real.rpow_pos_of_pos (by norm_num) _
  rw [hf, hf]
  have hone : ∑ k ∈ Finset.range (p + 1), V 128 k * Real.rpow 2 (s k) = ∑ k ∈ Finset.range (p + 1), Real.rpow 2 (s k) :=
    Finset.sum_congr rfl fun k _ => by rw [h1, one_mul]
  rw [hone]
  unfold Ideal.div
  rw [if_neg (by
    intro h
    have := EReal.coe_eq_zero.1 h
    exact (mul_pos hsum hM).ne' this), ← EReal.coe_inv, ← EReal.coe_mul]
  refine congrArg _ ?_
  unfold avg
  rw [mul_inv, div_eq_mul_inv]
  field_simp

/-- The entry at row `p`, lane `e` of the block a point stores. -/
def ptE (xq xk : ℕ → Fin 128 → ℝ) (xv : Fin 144 → ℕ → ℝ) (p0 : ℕ) (x3 : Vec Ideal S1x4x64 .f32) (x4 : Vec Ideal S1x1x128 .f32)
    (p : ℕ) (e : Fin 128) : EReal :=
  finE (lamOf fun a d => x3 (ix3 0 a d))
    (fun e => ((avg (p0 + p) (fun k => ∑ d : Fin 128, xk k d * if d.val < 64 then xq p d else 0) (xv ⟨e.val, by omega⟩) : ℝ) : EReal))
    (fun e => ((avg (p0 + p) (fun k => ∑ d : Fin 128, xk k d * if 64 ≤ d.val then xq p d else 0) (xv ⟨e.val, by omega⟩) : ℝ) : EReal))
    (fun e => x4 (ix3 0 0 e)) e

theorem finE_congr {lam lam' : EReal} {a a' b b' u u' : Fin 128 → EReal} (h : lam = lam') (ha : ∀ e, a e = a' e) (hb : ∀ e, b e = b' e)
    (hu : ∀ e, u e = u' e) (c : Fin 128) : finE lam a b u c = finE lam' a' b' u' c := by
  rw [h, funext ha, funext hb, funext hu]

theorem tot_quot (h1 : ∀ k, xv 128 k = 1) {L10 : P10} {L11 : P11}
    (hL : Holds arg10.view arg11.view (envOf xq xk xv p0) (fun _ => True) (fun _ => p0 + 2048) L10 L11) (r : Fin 16) (q : Fin 256) (e : Fin 128) :
    Ideal.div (totR r L11 arg11 (ix3 0 ⟨e.val, by omega⟩ q)) (totR r L11 arg11 (ix3 0 128 q))
      = ((avg (p0 + 128 * r.val + q.val % 128) ((envOf xq xk xv p0).sc r q) (xv ⟨e.val, by omega⟩) : ℝ) : EReal) := by
  have hr := r.isLt
  have := hL.row r trivial (inb10 := by
    intro a; fin_cases a
    · show r.val + 1 ≤ 16; omega
    · show 0 + 1 ≤ 1; omega
    · show 0 + 256 ≤ 256; omega) (inb11 := inbA r) arg10.view.junk arg11.view.junk q
  exact col_quot this (by show p0 + 128 * r.val + q.val % 128 < p0 + 2048; omega) h1 ⟨e.val, by omega⟩

theorem out_piece (h1 : ∀ k, xv 128 k = 1) {L10 : P10} {L11 : P11}
    (hL : Holds arg10.view arg11.view (envOf xq xk xv p0) (fun _ => True) (fun _ => p0 + 2048) L10 L11) (r : Fin 16) (x : S1x128x128.Idx) :
    k1_pay1288 (k1_pay1263 (arg6.view.readAt (Elt Ideal) (Rect.unit (s := S1x4x64) ![0, 0, 0] S1x4x64.size inb_S1x4x64_S1x4x64_0_0_0).toLoadRect (harg6.unread x3)))
        (totR r L11 arg11)
        (arg7.view.readAt (Elt Ideal) (Rect.unit (s := S1x1x128) ![0, 0, 0] S1x1x128.size inb_S1x1x128_S1x1x128_0_0_0).toLoadRect (harg7.unread x4)) x
      = (fun y : S1x2048x128.Idx => ptE xq xk xv p0 x3 x4 (y 1).val (y 2)) ((Rect.unit (s := S1x2048x128) ![0, 128 * r.val, 0] S1x128x128.size (inbO r)).emb x) := by
  obtain ⟨p, d, rfl⟩ : ∃ (p : Fin 128) (d : Fin 128), x = ix3 0 p d := ⟨x 1, x 2, ix3_zero x⟩
  have e : (Rect.unit (s := S1x2048x128) ![0, 128 * r.val, 0] S1x128x128.size (inbO r)).emb (ix3 (0 : Fin 1) p d) = ix3 0 ⟨128 * r.val + p.val, by omega⟩ d := by
    funext a
    apply Fin.ext
    fin_cases a
    · rfl
    · show 128 * r.val + 1 * p.val = 128 * r.val + p.val; omega
    · show 0 + 1 * d.val = d.val; omega
  rw [e, fin_at, lam_at]
  have e1 : p.val % 128 = p.val := by omega
  have e2 : (128 + p.val) % 128 = p.val := by omega
  refine finE_congr ?_ (fun e => ?_) (fun e => ?_) (fun e => ?_) d
  · refine congrArg lamOf (funext fun a => funext fun z => ?_)
    rw [View.readAt_apply, harg6.read_unread]
    congr 1
    funext w
    apply Fin.ext
    fin_cases w
    · rfl
    · show 0 + 1 * a.val = a.val; omega
    · show 0 + 1 * z.val = z.val; omega
  · refine (tot_quot h1 hL r ⟨p.val, by omega⟩ e).trans (congrArg _ ?_)
    show avg (p0 + 128 * r.val + p.val % 128) (fun k => ∑ z : Fin 128, xk k z * if (p.val < 128 ↔ z.val < 64) then xq (128 * r.val + p.val % 128) z else 0) _ = _
    rw [e1, Nat.add_assoc]
    refine congrArg (fun s => avg _ s _) (funext fun k => Finset.sum_congr rfl fun z _ => congrArg _ (if_congr ?_ rfl rfl))
    omega
  · refine (tot_quot h1 hL r ⟨128 + p.val, by omega⟩ e).trans (congrArg _ ?_)
    show avg (p0 + 128 * r.val + (128 + p.val) % 128) (fun k => ∑ z : Fin 128, xk k z * if (128 + p.val < 128 ↔ z.val < 64) then xq (128 * r.val + (128 + p.val) % 128) z else 0) _ = _
    rw [e2, Nat.add_assoc]
    refine congrArg (fun s => avg _ s _) (funext fun k => Finset.sum_congr rfl fun z _ => congrArg _ (if_congr ?_ rfl rfl))
    omega
  · rw [View.readAt_apply, harg7.read_unread]
    congr 1
    funext w
    apply Fin.ext
    fin_cases w
    · rfl
    · rfl
    · show 0 + 1 * e.val = e.val; omega

/-- One entry of the block a point stores. -/
theorem out_at (hx0 : ∀ (p : Fin 2048) d, x0 (ix3 0 p d) = ((xq p.val d : ℝ) : EReal))
    (hx1 : ∀ (k : Fin 4096) d, x1 (ix3 0 k d) = ((xk k.val d : ℝ) : EReal))
    (hx2 : ∀ (e : Fin 144) (k : Fin 4096), x2 (ix2 e k) = ((xv e k.val : ℝ) : EReal))
    (h1 : ∀ k, xv 128 k = 1) (y : S1x2048x128.Idx) :
    out1_A_5 c i arg3 harg3 arg4 harg4 arg5 harg5 arg6 harg6 arg7 harg7 arg8 harg8 arg9 harg9 arg10 harg10 arg11 harg11 x0 x1 x2 x3 x4 y
      = ptE xq xk xv (2048 * (i 2).val) x3 x4 (y 1).val (y 2) := by
  obtain ⟨L, hL⟩ := end_holds (c := c) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) hx0 hx1 hx2
  unfold out1_A_5
  rw [View.read_writes_junk_apply_eq_canon, out_pieces]
  refine View.canon_apply_of_pieces (Val := Elt Ideal) (S := S1x2048x128) (e := .bf16) (fun y => ptE xq xk xv (2048 * (i 2).val) x3 x4 (y 1).val (y 2)) _ ?_ y ?_
  · intro pc hpc x
    obtain ⟨r, -, rfl⟩ := List.mem_map.1 hpc
    exact out_piece h1 hL r x
  · have h1 : (y 1).val < 2048 := (y 1).isLt
    have h2 : (y 2).val < 128 := (y 2).isLt
    have h0 : (y 0).val < 1 := (y 0).isLt
    refine ⟨_, List.mem_map.2 ⟨⟨(y 1).val / 128, by omega⟩, mem_rows16 _, rfl⟩, ?_⟩
    rw [Rect.mem_set_unit]
    intro a
    match a with
    | ⟨0, _⟩ => exact ⟨Nat.zero_le _, by show (y 0).val < 0 + 1; omega⟩
    | ⟨1, _⟩ => exact ⟨by show 128 * ((y 1).val / 128) ≤ (y 1).val; omega, by show (y 1).val < 128 * ((y 1).val / 128) + 128; omega⟩
    | ⟨2, _⟩ => exact ⟨Nat.zero_le _, by show (y 2).val < 0 + 128; omega⟩

end

end Cert.DiffIdeal.Step
-- ==== Proof.Diff.Proj.lean ====
module

public import proofs.«01_k».proof.Proof.Diff.Point
public import proofs.«01_k».proof.Proof.Diff.Spec

/-! # What a point of the projection kernel stores

A point takes 1024 positions: their rows are normalised and projected. The first 2048 columns are the queries and the
keys of eight heads, two maps of 64 lanes each, rotated by the position's angles; the last 1024 columns are the values,
stored with positions along the lanes and sixteen rows of ones after each head. -/

@[expose] public section

set_option maxRecDepth 1000000

noncomputable section

namespace Cert.DiffIdeal.Proj

open Cert.DiffIdeal Cert.DiffIdeal.Gen Cert.DiffIdeal.Run Idealize.ShloMosaic Idealize.ShloMosaic.TcCoe Idealize.SL.Sem
open Cert.DiffSpec (rms ang pr)

/-! ## The stored pieces -/

theorem slR : ∀ g : Fin 4, S1024x512.Slices ![0, 128 * g.val] S1024x128 := by decide
theorem slV : ∀ g : Fin 4, S512x1024.Slices ![128 * g.val, 0] S128x1024 := by decide
theorem inbQ (n : Fin 16) : ∀ a, (![0, 128 * n.val] : Fin 2 → Nat) a + S1024x128.size a ≤ S1024x2048.size a := by
  revert n; decide
theorem inbW (n : Fin 6) : ∀ a, (![0, 0, 512 * n.val] : Fin 3 → Nat) a + S1x1024x512.size a ≤ S1x1024x3072.size a := by
  revert n; decide
theorem inbT (n : Fin 2) : ∀ a, (![n.val, 0, 0] : Fin 3 → Nat) a + S1x1024x128.size a ≤ S2x1024x128.size a := by
  revert n; decide
theorem inbV (h : Fin 8) : ∀ a, (![144 * h.val, 0] : Fin 2 → Nat) a + S128x1024.size a ≤ S1152x1024.size a := by
  revert h; decide
theorem inbU (h : Fin 8) : ∀ a, (![144 * h.val + 128, 0] : Fin 2 → Nat) a + S16x1024.size a ≤ S1152x1024.size a := by
  revert h; decide

/-- A group of 128 columns, rotated. -/
def ropeG (g : Fin 4) (y : FVec Ideal S1024x512 .f32) (cs sn : FVec Ideal S1024x128 .f32) : FVec Ideal S1024x128 .bf16 :=
  truncf .bf16 (addf (mulf (extractStridedSlice S1024x128 ![0, 128 * g.val] y (slR g)) cs)
    (mulf (select k0_pay2 (dynamicRotate 1 96#32 none (extractStridedSlice S1024x128 ![0, 128 * g.val] y (slR g)) rotates_S1024x128_d1)
      (dynamicRotate 1 32#32 none (extractStridedSlice S1024x128 ![0, 128 * g.val] y (slR g)) rotates_S1024x128_d1)) sn)) bitsLt_bf16_f32

/-- A head's values, positions along the lanes. -/
def valG (g : Fin 4) (hn : Vec Ideal S1024x1024 .bf16) (w : Vec Ideal S1x1024x512 .bf16) : FVec Ideal S128x1024 .bf16 :=
  extractStridedSlice S128x1024 ![128 * g.val, 0] (k0_pay34 hn w) (slV g)

variable {c : Dev nD} {i : grid0.Coords}
  {arg1 : Memref sig .tc .vmem S1024x1024 .f32} {harg1 : arg1.IsWhole} {arg2 : Memref sig .tc .vmem S1x1x1024 .f32} {harg2 : arg2.IsWhole}
  {arg3 : Memref sig .tc .vmem S1x1024x3072 .bf16} {harg3 : arg3.IsWhole} {arg4 : Memref sig .tc .vmem S2x1024x128 .f32} {harg4 : arg4.IsWhole}
  {arg5 : Memref sig .tc .vmem S2x1024x128 .f32} {harg5 : arg5.IsWhole} {arg6 : Memref sig .tc .vmem S1024x2048 .bf16} {harg6 : arg6.IsWhole}
  {arg7 : Memref sig .tc .vmem S1152x1024 .bf16} {harg7 : arg7.IsWhole} {arg8 : Memref sig .tc .vmem S1024x1024 .bf16} {harg8 : arg8.IsWhole}
  {x0 : Vec Ideal S1024x1024 .f32} {x1 : Vec Ideal S1x1x1024 .f32} {x2 : Vec Ideal S1x1024x3072 .bf16}
  {x3 : Vec Ideal S2x1024x128 .f32} {x4 : Vec Ideal S2x1024x128 .f32}

/-- A chunk of 512 columns of the weight, as loaded. -/
def wAt (arg3 : Memref sig .tc .vmem S1x1024x3072 .bf16) (harg3 : arg3.IsWhole) (x2 : Vec Ideal S1x1024x3072 .bf16)
    (n : Fin 6) : Vec Ideal S1x1024x512 .bf16 :=
  arg3.view.readAt (Elt Ideal) (Rect.unit (s := S1x1024x3072) ![0, 0, 512 * n.val] S1x1024x512.size (inbW n)).toLoadRect (harg3.unread x2)

/-- One of the two tables of cosines or sines, as loaded. -/
def tAt (arg4 : Memref sig .tc .vmem S2x1024x128 .f32) (harg4 : arg4.IsWhole) (x3 : Vec Ideal S2x1024x128 .f32)
    (n : Fin 2) : Vec Ideal S1x1024x128 .f32 :=
  arg4.view.readAt (Elt Ideal) (Rect.unit (s := S2x1024x128) ![n.val, 0, 0] S1x1024x128.size (inbT n)).toLoadRect (harg4.unread x3)

/-- The heads, the last first. -/
def heads : List (Fin 8) := [7, 6, 5, 4, 3, 2, 1, 0]

/-- The chunk a head's query columns, key columns and value columns lie in, and the head's place there. -/
def ckQ (h : Fin 8) : Fin 6 := ⟨h.val / 4, by omega⟩
def ckK (h : Fin 8) : Fin 6 := ⟨2 + h.val / 4, by omega⟩
def ckV (h : Fin 8) : Fin 6 := ⟨4 + h.val / 4, by omega⟩
def plc (h : Fin 8) : Fin 4 := ⟨h.val % 4, by omega⟩

theorem qk_pieces : (kernelRun0_A c i arg1 harg1 arg2 harg2 arg3 harg3 arg4 harg4 arg5 harg5 arg6 harg6 arg7 harg7 arg8 harg8 x0 x1 x2 x3 x4).1
    = (heads.map fun h => ⟨Rect.unit ![0, 128 * (8 + h.val)] S1024x128.size (inbQ ⟨8 + h.val, by omega⟩),
        ropeG (plc h) (k0_pay3 (kernelRun0_A.sl.v39 c arg1 harg1 arg2 harg2 arg8 x0 x1) (wAt arg3 harg3 x2 (ckK h)))
          (k0_pay21 (tAt arg4 harg4 x3 1)) (k0_pay22 (tAt arg5 harg5 x4 1))⟩)
      ++ heads.map fun h => ⟨Rect.unit ![0, 128 * h.val] S1024x128.size (inbQ ⟨h.val, by omega⟩),
        ropeG (plc h) (k0_pay3 (kernelRun0_A.sl.v39 c arg1 harg1 arg2 harg2 arg8 x0 x1) (wAt arg3 harg3 x2 (ckQ h)))
          (k0_pay4 (tAt arg4 harg4 x3 0)) (k0_pay5 (tAt arg5 harg5 x4 0))⟩ := by
  rfl

theorem vt_pieces : (kernelRun0_A c i arg1 harg1 arg2 harg2 arg3 harg3 arg4 harg4 arg5 harg5 arg6 harg6 arg7 harg7 arg8 harg8 x0 x1 x2 x3 x4).2.1
    = heads.flatMap fun h => [⟨Rect.unit ![144 * h.val + 128, 0] S16x1024.size (inbU h), (k0_pay35 (F := Ideal))⟩,
        ⟨Rect.unit ![144 * h.val, 0] S128x1024.size (inbV h),
          valG (plc h) (kernelRun0_A.sl.v39 c arg1 harg1 arg2 harg2 arg8 x0 x1) (wAt arg3 harg3 x2 (ckV h))⟩] := by
  rfl

theorem hn_eq : kernelRun0_A.sl.v39 c arg1 harg1 arg2 harg2 arg8 x0 x1 = k0_pay1 x0 x1 := by
  refine (View.readCov_cons_toLoadRect (Val := Elt Ideal) arg8.view _ _ _).trans ?_
  show k0_pay1 (F := Ideal) (arg1.view.readAt (Elt Ideal) (Rect.unit (s := S1024x1024) ![0, 0] S1024x1024.size inb_S1024x1024_S1024x1024_0_0).toLoadRect (harg1.unread x0))
    (arg2.view.readAt (Elt Ideal) (Rect.unit (s := S1x1x1024) ![0, 0, 0] S1x1x1024.size inb_S1x1x1024_S1x1x1024_0_0_0).toLoadRect (harg2.unread x1)) = _
  have e1 : arg1.view.readAt (Elt Ideal) (Rect.unit (s := S1024x1024) ![0, 0] S1024x1024.size inb_S1024x1024_S1024x1024_0_0).toLoadRect (harg1.unread x0) = x0 := by
    funext y
    rw [View.readAt_apply, harg1.read_unread]
    refine congrArg x0 ?_
    funext a; apply Fin.ext; fin_cases a
    · show 0 + 1 * (y 0).val = (y 0).val; omega
    · show 0 + 1 * (y 1).val = (y 1).val; omega
  have e2 : arg2.view.readAt (Elt Ideal) (Rect.unit (s := S1x1x1024) ![0, 0, 0] S1x1x1024.size inb_S1x1x1024_S1x1x1024_0_0_0).toLoadRect (harg2.unread x1) = x1 := by
    funext y
    rw [View.readAt_apply, harg2.read_unread]
    refine congrArg x1 ?_
    funext a; apply Fin.ext; fin_cases a
    · show 0 + 1 * (y 0).val = (y 0).val; omega
    · show 0 + 1 * (y 1).val = (y 1).val; omega
    · show 0 + 1 * (y 2).val = (y 2).val; omega
  rw [e1, e2]

/-! ## The entries of the pieces -/

theorem hn_at (p k : Fin 1024) : k0_pay1 (F := Ideal) x0 x1 (ix2 p k) = rms (fun j => x0 (ix2 p j)) (fun j => x1 (ix3 0 0 j)) k := by
  pointwise [k0_pay1, rms]

theorem wAt_at (n : Fin 6) (k : Fin 1024) (j : Fin 512) : wAt arg3 harg3 x2 n (ix3 0 k j) = x2 (ix3 0 k ⟨512 * n.val + j.val, by omega⟩) := by
  unfold wAt
  rw [View.readAt_apply, harg3.read_unread]
  refine congrArg x2 ?_
  funext a; apply Fin.ext; fin_cases a
  · rfl
  · show 0 + 1 * k.val = k.val; omega
  · show 512 * n.val + 1 * j.val = 512 * n.val + j.val; omega

theorem tAt_at (n : Fin 2) (p : Fin 1024) (l : Fin 128) : tAt arg4 harg4 x3 n (ix3 0 p l) = x3 (ix3 n p l) := by
  unfold tAt
  rw [View.readAt_apply, harg4.read_unread]
  refine congrArg x3 ?_
  funext a; apply Fin.ext; fin_cases a
  · show n.val + 1 * 0 = n.val; omega
  · show 0 + 1 * p.val = p.val; omega
  · show 0 + 1 * l.val = l.val; omega

theorem proj_at (hn : Vec Ideal S1024x1024 .bf16) (w : Vec Ideal S1x1024x512 .bf16) (p : Fin 1024) (j : Fin 512) :
    k0_pay3 (F := Ideal) hn w (ix2 p j) = ∑ k : Fin 1024, hn (ix2 p k) * w (ix3 0 k j) := by
  pointwise [k0_pay3]

theorem val_at (g : Fin 4) (hn : Vec Ideal S1024x1024 .bf16) (w : Vec Ideal S1x1024x512 .bf16) (e : Fin 128) (p : Fin 1024) :
    valG g hn w (ix2 e p) = ∑ k : Fin 1024, hn (ix2 p k) * w (ix3 0 k ⟨128 * g.val + e.val, by omega⟩) := by
  pointwise [valG, k0_pay34]

theorem ones_at (e : Fin 16) (p : Fin 1024) : k0_pay35 (F := Ideal) (ix2 e p) = 1 := by
  pointwise [k0_pay35]

theorem low_at (p : Fin 1024) (l : Fin 128) : k0_pay2 (ix2 p l) = BitVec.ofBool (decide (l.val % 64 < 32)) := by
  pointwise [k0_pay2]
  revert l
  decide +kernel

/-- A lane's partner in the rotation. -/
def mate (l : Fin 128) : Fin 128 := if l.val % 64 < 32 then ⟨(l.val + 32) % 128, by omega⟩ else ⟨(l.val + 96) % 128, by omega⟩

theorem rope_at (g : Fin 4) (y : FVec Ideal S1024x512 .f32) (cs sn : FVec Ideal S1024x128 .f32) (p : Fin 1024) (l : Fin 128) :
    ropeG g y cs sn (ix2 p l) = y (ix2 p ⟨128 * g.val + l.val, by omega⟩) * cs (ix2 p l)
      + y (ix2 p ⟨128 * g.val + (mate l).val, by omega⟩) * sn (ix2 p l) := by
  pointwise [ropeG]
  rw [low_at, Step.select_ofBool]
  unfold mate
  by_cases h : l.val % 64 < 32
  · simp [h]
  · simp [h]

/-- The scale of the queries. -/
def qsc : EReal := (Named.named κ "q_scale" 0x3E38AA3B#32 : Ideal .f32)

theorem cs0_at (t : Vec Ideal S1x1024x128 .f32) (p : Fin 1024) (l : Fin 128) :
    k0_pay4 (F := Ideal) t (ix2 p l) = t (ix3 0 p l) * qsc := by
  pointwise [k0_pay4, qsc]
theorem sn0_at (t : Vec Ideal S1x1024x128 .f32) (p : Fin 1024) (l : Fin 128) :
    k0_pay5 (F := Ideal) t (ix2 p l) = t (ix3 0 p l) * qsc := by
  pointwise [k0_pay5, qsc]
theorem cs1_at (t : Vec Ideal S1x1024x128 .f32) (p : Fin 1024) (l : Fin 128) :
    k0_pay21 (F := Ideal) t (ix2 p l) = t (ix3 0 p l) := by
  pointwise [k0_pay21]
theorem sn1_at (t : Vec Ideal S1x1024x128 .f32) (p : Fin 1024) (l : Fin 128) :
    k0_pay22 (F := Ideal) t (ix2 p l) = t (ix3 0 p l) := by
  pointwise [k0_pay22]

/-! ## The stored blocks -/

/-- Row `p` of the block, normalised and projected to column `j`. -/
def pj (x0 : Vec Ideal S1024x1024 .f32) (x1 : Vec Ideal S1x1x1024 .f32) (x2 : Vec Ideal S1x1024x3072 .bf16) (p : Fin 1024) (j : Fin 3072) : EReal :=
  ∑ k : Fin 1024, rms (fun j => x0 (ix2 p j)) (fun j => x1 (ix3 0 0 j)) k * x2 (ix3 0 k j)

/-- The stored queries of head `h`: rotated, and scaled. -/
def qE (x0 : Vec Ideal S1024x1024 .f32) (x1 : Vec Ideal S1x1x1024 .f32) (x2 : Vec Ideal S1x1024x3072 .bf16)
    (x3 x4 : Vec Ideal S2x1024x128 .f32) (h : Fin 8) (p : Fin 1024) (l : Fin 128) : EReal :=
  pj x0 x1 x2 p ⟨128 * h.val + l.val, by omega⟩ * (x3 (ix3 0 p l) * qsc)
    + pj x0 x1 x2 p ⟨128 * h.val + (mate l).val, by omega⟩ * (x4 (ix3 0 p l) * qsc)

/-- The stored keys of head `h`: rotated. -/
def kE (x0 : Vec Ideal S1024x1024 .f32) (x1 : Vec Ideal S1x1x1024 .f32) (x2 : Vec Ideal S1x1024x3072 .bf16)
    (x3 x4 : Vec Ideal S2x1024x128 .f32) (h : Fin 8) (p : Fin 1024) (l : Fin 128) : EReal :=
  pj x0 x1 x2 p ⟨1024 + 128 * h.val + l.val, by omega⟩ * x3 (ix3 1 p l)
    + pj x0 x1 x2 p ⟨1024 + 128 * h.val + (mate l).val, by omega⟩ * x4 (ix3 1 p l)

/-- The stored block of queries and keys. -/
def qkB (x0 : Vec Ideal S1024x1024 .f32) (x1 : Vec Ideal S1x1x1024 .f32) (x2 : Vec Ideal S1x1024x3072 .bf16)
    (x3 x4 : Vec Ideal S2x1024x128 .f32) (y : S1024x2048.Idx) : EReal :=
  if (y 1).val < 1024 then qE x0 x1 x2 x3 x4 ⟨(y 1).val / 128 % 8, by omega⟩ (y 0) ⟨(y 1).val % 128, by omega⟩
  else kE x0 x1 x2 x3 x4 ⟨(y 1).val / 128 % 8, by omega⟩ (y 0) ⟨(y 1).val % 128, by omega⟩

/-- The stored block of values, each head followed by sixteen rows of ones. -/
def vtB (x0 : Vec Ideal S1024x1024 .f32) (x1 : Vec Ideal S1x1x1024 .f32) (x2 : Vec Ideal S1x1024x3072 .bf16) (y : S1152x1024.Idx) : EReal :=
  if h : (y 0).val % 144 < 128 then pj x0 x1 x2 (y 1) ⟨2048 + 128 * ((y 0).val / 144 % 8) + (y 0).val % 144, by omega⟩ else 1

theorem pay3_at (n : Fin 6) (p : Fin 1024) (j : Fin 512) : k0_pay3 (F := Ideal) (k0_pay1 x0 x1) (wAt arg3 harg3 x2 n) (ix2 p j)
    = pj x0 x1 x2 p ⟨512 * n.val + j.val, by omega⟩ := by
  rw [proj_at]
  exact Finset.sum_congr rfl fun k _ => by rw [hn_at, wAt_at]

theorem qk_of_head (x : S1024x2048.Idx) (h : Fin 8) (l : Fin 128) (hx : (x 1).val = 128 * h.val + l.val) :
    qkB x0 x1 x2 x3 x4 x = qE x0 x1 x2 x3 x4 h (x 0) l := by
  unfold qkB
  rw [if_pos (by omega)]
  congr 1 <;> apply Fin.ext <;> simp only [] <;> omega

theorem qk_of_head' (x : S1024x2048.Idx) (h : Fin 8) (l : Fin 128) (hx : (x 1).val = 1024 + 128 * h.val + l.val) :
    qkB x0 x1 x2 x3 x4 x = kE x0 x1 x2 x3 x4 h (x 0) l := by
  unfold qkB
  rw [if_neg (by omega)]
  congr 1 <;> apply Fin.ext <;> simp only [] <;> omega

theorem q_piece (h : Fin 8) (x : S1024x128.Idx) :
    ropeG (plc h) (k0_pay3 (k0_pay1 x0 x1) (wAt arg3 harg3 x2 (ckQ h))) (k0_pay4 (tAt arg4 harg4 x3 0)) (k0_pay5 (tAt arg5 harg5 x4 0)) x
      = qkB x0 x1 x2 x3 x4 ((Rect.unit (s := S1024x2048) ![0, 128 * h.val] S1024x128.size (inbQ ⟨h.val, by omega⟩)).emb x) := by
  obtain ⟨p, l, rfl⟩ : ∃ (p : Fin 1024) (l : Fin 128), x = ix2 p l := ⟨x 0, x 1, eq_ix2 x⟩
  rw [rope_at, pay3_at, pay3_at, cs0_at, sn0_at, tAt_at, tAt_at, qk_of_head _ h l (by show 128 * h.val + 1 * l.val = _; omega)]
  have e0 : (Rect.unit (s := S1024x2048) ![0, 128 * h.val] S1024x128.size (inbQ ⟨h.val, by omega⟩)).emb (ix2 p l) 0 = p :=
    Fin.ext (by show 0 + 1 * p.val = p.val; omega)
  rw [e0]
  have e1 : ∀ l : Fin 128, (⟨512 * (ckQ h).val + (128 * (plc h).val + l.val), by omega⟩ : Fin 3072) = ⟨128 * h.val + l.val, by omega⟩ := fun l =>
    Fin.ext (by show 512 * (h.val / 4) + (128 * (h.val % 4) + l.val) = 128 * h.val + l.val; omega)
  simp only [qE, e1]

theorem k_piece (h : Fin 8) (x : S1024x128.Idx) :
    ropeG (plc h) (k0_pay3 (k0_pay1 x0 x1) (wAt arg3 harg3 x2 (ckK h))) (k0_pay21 (tAt arg4 harg4 x3 1)) (k0_pay22 (tAt arg5 harg5 x4 1)) x
      = qkB x0 x1 x2 x3 x4 ((Rect.unit (s := S1024x2048) ![0, 128 * (8 + h.val)] S1024x128.size (inbQ ⟨8 + h.val, by omega⟩)).emb x) := by
  obtain ⟨p, l, rfl⟩ : ∃ (p : Fin 1024) (l : Fin 128), x = ix2 p l := ⟨x 0, x 1, eq_ix2 x⟩
  rw [rope_at, pay3_at, pay3_at, cs1_at, sn1_at, tAt_at, tAt_at, qk_of_head' _ h l (by show 128 * (8 + h.val) + 1 * l.val = _; omega)]
  have e0 : (Rect.unit (s := S1024x2048) ![0, 128 * (8 + h.val)] S1024x128.size (inbQ ⟨8 + h.val, by omega⟩)).emb (ix2 p l) 0 = p :=
    Fin.ext (by show 0 + 1 * p.val = p.val; omega)
  rw [e0]
  have e1 : ∀ l : Fin 128, (⟨512 * (ckK h).val + (128 * (plc h).val + l.val), by omega⟩ : Fin 3072) = ⟨1024 + 128 * h.val + l.val, by omega⟩ := fun l =>
    Fin.ext (by show 512 * (2 + h.val / 4) + (128 * (h.val % 4) + l.val) = 1024 + 128 * h.val + l.val; omega)
  simp only [kE, e1]

theorem v_piece (h : Fin 8) (x : S128x1024.Idx) :
    valG (plc h) (k0_pay1 x0 x1) (wAt arg3 harg3 x2 (ckV h)) x
      = vtB x0 x1 x2 ((Rect.unit (s := S1152x1024) ![144 * h.val, 0] S128x1024.size (inbV h)).emb x) := by
  obtain ⟨e, p, rfl⟩ : ∃ (e : Fin 128) (p : Fin 1024), x = ix2 e p := ⟨x 0, x 1, eq_ix2 x⟩
  have h0 : ((Rect.unit (s := S1152x1024) ![144 * h.val, 0] S128x1024.size (inbV h)).emb (ix2 e p) 0).val = 144 * h.val + e.val := by
    show 144 * h.val + 1 * e.val = _; omega
  have h1 : (Rect.unit (s := S1152x1024) ![144 * h.val, 0] S128x1024.size (inbV h)).emb (ix2 e p) 1 = p :=
    Fin.ext (by show 0 + 1 * p.val = p.val; omega)
  rw [val_at]
  unfold vtB
  rw [dif_pos (by rw [h0]; omega), h1]
  have e1 : (⟨512 * (ckV h).val + (128 * (plc h).val + e.val), by omega⟩ : Fin 3072)
      = ⟨2048 + 128 * (((Rect.unit (s := S1152x1024) ![144 * h.val, 0] S128x1024.size (inbV h)).emb (ix2 e p) 0).val / 144 % 8)
        + ((Rect.unit (s := S1152x1024) ![144 * h.val, 0] S128x1024.size (inbV h)).emb (ix2 e p) 0).val % 144, by omega⟩ :=
    Fin.ext (by show 512 * (4 + h.val / 4) + (128 * (h.val % 4) + e.val) = 2048 + 128 * (_ / 144 % 8) + _ % 144; rw [h0]; omega)
  rw [← e1]
  exact Finset.sum_congr rfl fun k _ => by rw [hn_at, wAt_at]

theorem one_piece (h : Fin 8) (x : S16x1024.Idx) :
    k0_pay35 (F := Ideal) x = vtB x0 x1 x2 ((Rect.unit (s := S1152x1024) ![144 * h.val + 128, 0] S16x1024.size (inbU h)).emb x) := by
  obtain ⟨e, p, rfl⟩ : ∃ (e : Fin 16) (p : Fin 1024), x = ix2 e p := ⟨x 0, x 1, eq_ix2 x⟩
  rw [ones_at]
  unfold vtB
  rw [dif_neg (by show ¬ (144 * h.val + 128 + 1 * e.val) % 144 < 128; omega)]

theorem mem_heads (h : Fin 8) : h ∈ heads := by revert h; decide

/-- The queries and keys the point stores. -/
theorem qk_at (y : S1024x2048.Idx) :
    out0_A_5 c i arg1 harg1 arg2 harg2 arg3 harg3 arg4 harg4 arg5 harg5 arg6 harg6 arg7 harg7 arg8 harg8 x0 x1 x2 x3 x4 y
      = qkB x0 x1 x2 x3 x4 y := by
  unfold out0_A_5
  rw [View.read_writes_junk_apply_eq_canon, qk_pieces, hn_eq]
  have hy : (y 1).val < 2048 := (y 1).isLt
  have hy0 : (y 0).val < 1024 := (y 0).isLt
  refine View.canon_apply_of_pieces (Val := Elt Ideal) (S := S1024x2048) (e := .bf16) (qkB x0 x1 x2 x3 x4) _ ?_ y ?_
  · intro pc hpc x
    rcases List.mem_append.1 hpc with hr | hr
    · obtain ⟨h, -, rfl⟩ := List.mem_map.1 hr
      exact k_piece h x
    · obtain ⟨h, -, rfl⟩ := List.mem_map.1 hr
      exact q_piece h x
  · by_cases h : (y 1).val < 1024
    · refine ⟨_, List.mem_append.2 (Or.inr (List.mem_map.2 ⟨⟨(y 1).val / 128, by omega⟩, mem_heads _, rfl⟩)), ?_⟩
      rw [Rect.mem_set_unit]
      intro a
      match a with
      | ⟨0, _⟩ => exact ⟨Nat.zero_le _, by show (y 0).val < 0 + 1024; omega⟩
      | ⟨1, _⟩ => exact ⟨by show 128 * ((y 1).val / 128) ≤ (y 1).val; omega, by show (y 1).val < 128 * ((y 1).val / 128) + 128; omega⟩
    · refine ⟨_, List.mem_append.2 (Or.inl (List.mem_map.2 ⟨⟨(y 1).val / 128 - 8, by omega⟩, mem_heads _, rfl⟩)), ?_⟩
      rw [Rect.mem_set_unit]
      intro a
      match a with
      | ⟨0, _⟩ => exact ⟨Nat.zero_le _, by show (y 0).val < 0 + 1024; omega⟩
      | ⟨1, _⟩ => exact ⟨by show 128 * (8 + ((y 1).val / 128 - 8)) ≤ (y 1).val; omega, by show (y 1).val < 128 * (8 + ((y 1).val / 128 - 8)) + 128; omega⟩

/-- The values the point stores. -/
theorem vt_at (y : S1152x1024.Idx) :
    out0_A_6 c i arg1 harg1 arg2 harg2 arg3 harg3 arg4 harg4 arg5 harg5 arg6 harg6 arg7 harg7 arg8 harg8 x0 x1 x2 x3 x4 y
      = vtB x0 x1 x2 y := by
  unfold out0_A_6
  rw [View.read_writes_junk_apply_eq_canon, vt_pieces, hn_eq]
  have hy : (y 1).val < 1024 := (y 1).isLt
  have hy0 : (y 0).val < 1152 := (y 0).isLt
  refine View.canon_apply_of_pieces (Val := Elt Ideal) (S := S1152x1024) (e := .bf16) (vtB x0 x1 x2) _ ?_ y ?_
  · intro pc hpc x
    obtain ⟨h, -, hr⟩ := List.mem_flatMap.1 hpc
    simp only [List.mem_cons, List.not_mem_nil, or_false] at hr
    rcases hr with rfl | rfl
    · exact one_piece h x
    · exact v_piece h x
  · by_cases h : (y 0).val % 144 < 128
    · refine ⟨_, List.mem_flatMap.2 ⟨⟨(y 0).val / 144, by omega⟩, mem_heads _, List.mem_cons_of_mem _ List.mem_cons_self⟩, ?_⟩
      rw [Rect.mem_set_unit]
      intro a
      match a with
      | ⟨0, _⟩ => exact ⟨by show 144 * ((y 0).val / 144) ≤ (y 0).val; omega, by show (y 0).val < 144 * ((y 0).val / 144) + 128; omega⟩
      | ⟨1, _⟩ => exact ⟨Nat.zero_le _, by show (y 1).val < 0 + 1024; omega⟩
    · refine ⟨_, List.mem_flatMap.2 ⟨⟨(y 0).val / 144, by omega⟩, mem_heads _, List.mem_cons_self⟩, ?_⟩
      rw [Rect.mem_set_unit]
      intro a
      match a with
      | ⟨0, _⟩ => exact ⟨by show 144 * ((y 0).val / 144) + 128 ≤ (y 0).val; omega, by show (y 0).val < 144 * ((y 0).val / 144) + 128 + 16; omega⟩
      | ⟨1, _⟩ => exact ⟨Nat.zero_le _, by show (y 1).val < 0 + 1024; omega⟩

end Cert.DiffIdeal.Proj

end
-- ==== Proof.Diff.Host.lean ====
module

public import proofs.«01_k».proof.Proof.Diff.Proj

/-! # What the host prepares for the two kernels

The tables of cosines and sines, and the reshaped arguments. -/

@[expose] public section

set_option maxRecDepth 16384

noncomputable section

namespace Cert.DiffIdeal.Proj

open Cert.DiffIdeal Cert.DiffIdeal.Gen Cert.DiffIdeal.Run Idealize.ShloMosaic Idealize.ShloMosaic.TcCoe Idealize.SL.Sem
open Cert.DiffSpec (rms ang pr)

section
variable (m : (ℓ : Loc nD τ sig) → Buf (Elt Ideal) ℓ) (ρ : Dev nD → PrngReg) (c : Dev nD)

/-- The arguments: the residual stream, the norm's weights, the projection, the four vectors of the layer's scalar,
and the norm after the attention. -/
abbrev ax : FVec Ideal S4x4096x1024 .f32 := m ((c : Thread nD τ).loc main_arg0)
abbrev anw : FVec Ideal S2x1024 .f32 := m ((c : Thread nD τ).loc main_arg1)
abbrev awi : FVec Ideal S2x1024x3072 .f32 := m ((c : Thread nD τ).loc main_arg2)
abbrev alm : FVec Ideal S2x4x64 .f32 := m ((c : Thread nD τ).loc main_arg3)
abbrev asl : FVec Ideal S2x128 .f32 := m ((c : Thread nD τ).loc main_arg4)

theorem v0_at (r : Fin 16384) (j : Fin 1024) : (show FVec Ideal S16384x1024 .f32 from V1 m ρ c main_v0) (ix2 r j)
    = ax m c (ix3 ⟨r.val / 4096, by omega⟩ ⟨r.val % 4096, by omega⟩ j) := by
  show (show FVec Ideal S16384x1024 .f32 from StableHlo.after hostOps0 (W0 m ρ c) (Proc.devRef .tc main_v0)) (ix2 r j) = _
  entry_read
  pointwise

theorem v33_at (l : Fin 2) (j : Fin 1024) : (show FVec Ideal S2x1x1024 .f32 from V1 m ρ c main_v33) (ix3 l 0 j) = anw m c (ix2 l j) := by
  show (show FVec Ideal S2x1x1024 .f32 from StableHlo.after hostOps0 (W0 m ρ c) (Proc.devRef .tc main_v33)) (ix3 l 0 j) = _
  entry_read
  pointwise

theorem v34_at : (show FVec Ideal S2x1024x3072 .bf16 from V1 m ρ c main_v34) = awi m c := by
  show (show FVec Ideal S2x1024x3072 .bf16 from StableHlo.after hostOps0 (W0 m ρ c) (Proc.devRef .tc main_v34)) = _
  entry_read
  rfl

/-- The tables' entries at position `s`, lane `l`: both tables are the same. -/
theorem v29_at (n : Fin 2) (s : Fin 4096) (l : Fin 128) : (show FVec Ideal S2x4096x128 .f32 from V1 m ρ c main_v29) (ix3 n s l)
    = Ideal.cos (ang s ⟨l.val % 32, by omega⟩) := by
  show (show FVec Ideal S2x4096x128 .f32 from StableHlo.after hostOps0 (W0 m ρ c) (Proc.devRef .tc main_v29)) (ix3 n s l) = _
  entry_read
  pointwise
  exact ite_self _

theorem v32_at (n : Fin 2) (s : Fin 4096) (l : Fin 128) : (show FVec Ideal S2x4096x128 .f32 from V1 m ρ c main_v32) (ix3 n s l)
    = if h : l.val % 64 < 32 then -Ideal.sin (ang s ⟨l.val % 64, h⟩) else Ideal.sin (ang s ⟨l.val % 64 - 32, by omega⟩) := by
  show (show FVec Ideal S2x4096x128 .f32 from StableHlo.after hostOps0 (W0 m ρ c) (Proc.devRef .tc main_v32)) (ix3 n s l) = _
  entry_read
  pointwise
  exact ite_self _

end

end Cert.DiffIdeal.Proj

end
-- ==== Proof.Diff.Array.lean ====
module

public import proofs.«01_k».proof.Proof.Diff.Host

/-! # The arrays the projection kernel leaves

Sixteen blocks of 1024 positions make up the array of queries and keys and the array of values. -/

@[expose] public section

set_option maxRecDepth 16384

noncomputable section

namespace Cert.DiffIdeal.Proj

open Cert.DiffIdeal Cert.DiffIdeal.Gen Cert.DiffIdeal.Run Idealize.ShloMosaic Idealize.ShloMosaic.TcCoe Idealize.SL.Sem
open Cert.DiffSpec (rms ang pr)

/-- Every window's block index at every point of the projection's grid. -/
theorem idx0 : ∀ t : Fin cfg0.N, win0_0.index t = ![t.val, 0] ∧ win0_1.index t = ![1, 0, 0] ∧ win0_2.index t = ![1, 0, 0]
    ∧ win0_3.index t = ![0, t.val % 4, 0] ∧ win0_4.index t = ![0, t.val % 4, 0] ∧ win0_5.index t = ![t.val, 0]
    ∧ win0_6.index t = ![0, t.val] :=
  (by decide +kernel : ∀ t : Fin grid0.N, _)

theorem lt16 (t : Fin cfg0.N) : t.val < 16 := lt_of_lt_of_eq t.isLt (by decide +kernel : grid0.N = 16)

/-- The sequence of grid point `t`, and the position of its row `p`. -/
def seqOf (t : Fin cfg0.N) : Fin 4 := ⟨t.val / 4, by have := lt16 t; omega⟩
def posOf (t : Fin cfg0.N) (p : Fin 1024) : Fin 4096 := ⟨1024 * (t.val % 4) + p.val, by omega⟩

/-- The cosine and the sine a lane is multiplied by; the sine carries the rotation's sign. -/
def cosT (s : Fin 4096) (l : Fin 128) : EReal := Ideal.cos (ang s ⟨l.val % 32, by omega⟩)
def sinT (s : Fin 4096) (l : Fin 128) : EReal :=
  if h : l.val % 64 < 32 then -Ideal.sin (ang s ⟨l.val % 64, h⟩) else Ideal.sin (ang s ⟨l.val % 64 - 32, by omega⟩)

section
variable (m : (ℓ : Loc nD τ sig) → Buf (Elt Ideal) ℓ) (ρ : Dev nD → PrngReg) (c : Dev nD)

/-- The arguments as functions of their coordinates: the stream, the second odd layer's norm and projection. -/
abbrev fX : Fin 4 → Fin 4096 → Fin 1024 → EReal := fun b s j => ax m c (ix3 b s j)
abbrev fN : Fin 1024 → EReal := fun j => anw m c (ix2 1 j)
abbrev fW : Fin 1024 → Fin 3072 → EReal := fun k j => awi m c (ix3 1 k j)

theorem rd0 (t : Fin cfg0.N) (p j : Fin 1024) : iblk0 (V1 m ρ) c 0 t (ix2 p j) = fX m c (seqOf t) (posOf t p) j := by
  have h := lt16 t
  refine Eq.trans ?_ ((v0_at m ρ c ⟨1024 * t.val + p.val, by omega⟩ j).trans ?_)
  · blk_ext [iblk0, idx0 t]
  · exact congrArg (ax m c) (congrArg₂ (fun a b => ix3 a b j) (Fin.ext (by simp only [seqOf]; omega)) (Fin.ext (by simp only [posOf]; omega)))

theorem rd1 (t : Fin cfg0.N) (j : Fin 1024) : iblk0 (V1 m ρ) c 1 t (ix3 0 0 j) = fN m c j := by
  refine Eq.trans ?_ (v33_at m ρ c 1 j)
  blk_ext [iblk0, idx0 t]

theorem rd2 (t : Fin cfg0.N) (k : Fin 1024) (j : Fin 3072) : iblk0 (V1 m ρ) c 2 t (ix3 0 k j) = fW m c k j := by
  refine Eq.trans ?_ (congrFun (v34_at m ρ c) (ix3 1 k j))
  blk_ext [iblk0, idx0 t]

theorem rd3 (t : Fin cfg0.N) (n : Fin 2) (p : Fin 1024) (l : Fin 128) : iblk0 (V1 m ρ) c 3 t (ix3 n p l) = cosT (posOf t p) l := by
  refine Eq.trans ?_ (v29_at m ρ c n (posOf t p) l)
  unfold posOf
  blk_ext [iblk0, idx0 t]

theorem rd4 (t : Fin cfg0.N) (n : Fin 2) (p : Fin 1024) (l : Fin 128) : iblk0 (V1 m ρ) c 4 t (ix3 n p l) = sinT (posOf t p) l := by
  refine Eq.trans ?_ (v32_at m ρ c n (posOf t p) l)
  unfold posOf
  blk_ext [iblk0, idx0 t]

theorem pj_eq (t : Fin cfg0.N) (p : Fin 1024) (j : Fin 3072) :
    pj (iblk0 (V1 m ρ) c 0 t) (iblk0 (V1 m ρ) c 1 t) (iblk0 (V1 m ρ) c 2 t) p j
      = pr (fX m c) (fN m c) (fW m c) (seqOf t) (posOf t p) j := by
  unfold pj pr
  have h0 : (fun j => iblk0 (V1 m ρ) c 0 t (ix2 p j)) = fX m c (seqOf t) (posOf t p) := funext fun j => rd0 m ρ c t p j
  have h1 : (fun j => iblk0 (V1 m ρ) c 1 t (ix3 0 0 j)) = fN m c := funext fun j => rd1 m ρ c t j
  rw [h0, h1]
  exact Finset.sum_congr rfl fun k _ => congrArg _ (rd2 m ρ c t k j)

/-- The queries: position `s` of sequence `b`, head `h`, lane `l`. -/
def qF (b : Fin 4) (s : Fin 4096) (h : Fin 8) (l : Fin 128) : EReal :=
  pr (fX m c) (fN m c) (fW m c) b s ⟨128 * h.val + l.val, by omega⟩ * (cosT s l * qsc)
    + pr (fX m c) (fN m c) (fW m c) b s ⟨128 * h.val + (mate l).val, by omega⟩ * (sinT s l * qsc)

/-- The keys. -/
def kF (b : Fin 4) (s : Fin 4096) (h : Fin 8) (l : Fin 128) : EReal :=
  pr (fX m c) (fN m c) (fW m c) b s ⟨1024 + 128 * h.val + l.val, by omega⟩ * cosT s l
    + pr (fX m c) (fN m c) (fW m c) b s ⟨1024 + 128 * h.val + (mate l).val, by omega⟩ * sinT s l

/-- The values, and ones. -/
def vF (b : Fin 4) (s : Fin 4096) (h : Fin 8) (e : Fin 144) : EReal :=
  if he : e.val < 128 then pr (fX m c) (fN m c) (fW m c) b s ⟨2048 + 128 * h.val + e.val, by omega⟩ else 1

theorem qE_eq (t : Fin cfg0.N) (h : Fin 8) (p : Fin 1024) (l : Fin 128) :
    qE (iblk0 (V1 m ρ) c 0 t) (iblk0 (V1 m ρ) c 1 t) (iblk0 (V1 m ρ) c 2 t) (iblk0 (V1 m ρ) c 3 t) (iblk0 (V1 m ρ) c 4 t) h p l
      = qF m c (seqOf t) (posOf t p) h l := by
  unfold qE qF
  rw [pj_eq, pj_eq]
  exact congrArg₂ (· + ·) (congrArg (fun z => _ * (z * qsc)) (rd3 m ρ c t 0 p l)) (congrArg (fun z => _ * (z * qsc)) (rd4 m ρ c t 0 p l))

theorem kE_eq (t : Fin cfg0.N) (h : Fin 8) (p : Fin 1024) (l : Fin 128) :
    kE (iblk0 (V1 m ρ) c 0 t) (iblk0 (V1 m ρ) c 1 t) (iblk0 (V1 m ρ) c 2 t) (iblk0 (V1 m ρ) c 3 t) (iblk0 (V1 m ρ) c 4 t) h p l
      = kF m c (seqOf t) (posOf t p) h l := by
  unfold kE kF
  rw [pj_eq, pj_eq]
  exact congrArg₂ (· + ·) (congrArg (fun z => _ * z) (rd3 m ρ c t 1 p l)) (congrArg (fun z => _ * z) (rd4 m ρ c t 1 p l))

/-- The array of queries and keys. -/
def qkG : FVec Ideal S16384x2048 .bf16 := fun y =>
  have h0 : (y 0).val < 16384 := (y 0).isLt
  if (y 1).val < 1024 then
    qF m c ⟨(y 0).val / 4096, by omega⟩ ⟨(y 0).val % 4096, by omega⟩ ⟨(y 1).val / 128 % 8, by omega⟩ ⟨(y 1).val % 128, by omega⟩
  else kF m c ⟨(y 0).val / 4096, by omega⟩ ⟨(y 0).val % 4096, by omega⟩ ⟨(y 1).val / 128 % 8, by omega⟩ ⟨(y 1).val % 128, by omega⟩

/-- The array of values, positions along the lanes. -/
def vtG : FVec Ideal S1152x16384 .bf16 := fun y =>
  have h1 : (y 1).val < 16384 := (y 1).isLt
  vF m c ⟨(y 1).val / 4096, by omega⟩ ⟨(y 1).val % 4096, by omega⟩ ⟨(y 0).val / 144 % 8, by omega⟩ ⟨(y 0).val % 144, by omega⟩

theorem outs_qk (t : Fin cfg0.N) (y : S1024x2048.Idx) : (outsAt0 (V1 m ρ) c t).1 y
    = qkB (iblk0 (V1 m ρ) c 0 t) (iblk0 (V1 m ρ) c 1 t) (iblk0 (V1 m ρ) c 2 t) (iblk0 (V1 m ρ) c 3 t) (iblk0 (V1 m ρ) c 4 t) y := by
  unfold outsAt0
  dsimp only
  rw [qk_at]

theorem outs_vt (t : Fin cfg0.N) (y : S1152x1024.Idx) : (outsAt0 (V1 m ρ) c t).2 y
    = vtB (iblk0 (V1 m ρ) c 0 t) (iblk0 (V1 m ρ) c 1 t) (iblk0 (V1 m ρ) c 2 t) y := by
  unfold outsAt0
  dsimp only
  rw [vt_at]

theorem blk_qk (t : Fin cfg0.N) (y : S1024x2048.Idx) : (outsAt0 (V1 m ρ) c t).1 y
    = if (y 1).val < 1024 then qF m c (seqOf t) (posOf t (y 0)) ⟨(y 1).val / 128 % 8, by omega⟩ ⟨(y 1).val % 128, by omega⟩
      else kF m c (seqOf t) (posOf t (y 0)) ⟨(y 1).val / 128 % 8, by omega⟩ ⟨(y 1).val % 128, by omega⟩ := by
  rw [outs_qk]
  unfold qkB
  by_cases h : (y 1).val < 1024
  · rw [if_pos h, if_pos h]; exact qE_eq m ρ c t _ _ _
  · rw [if_neg h, if_neg h]; exact kE_eq m ρ c t _ _ _

theorem blk_vt (t : Fin cfg0.N) (y : S1152x1024.Idx) : (outsAt0 (V1 m ρ) c t).2 y
    = vF m c (seqOf t) (posOf t (y 1)) ⟨(y 0).val / 144 % 8, by omega⟩ ⟨(y 0).val % 144, by omega⟩ := by
  rw [outs_vt]
  unfold vtB vF
  by_cases h : (y 0).val % 144 < 128
  · rw [dif_pos h, dif_pos h]; exact pj_eq m ρ c t _ _
  · rw [dif_neg h, dif_neg h]

theorem qkG_at (b : Fin 4) (s : Fin 4096) (j : Fin 2048) (y : S16384x2048.Idx) (h0 : (y 0).val = 4096 * b.val + s.val) (h1 : (y 1).val = j.val) :
    qkG m c y = if j.val < 1024 then qF m c b s ⟨j.val / 128 % 8, by omega⟩ ⟨j.val % 128, by omega⟩
      else kF m c b s ⟨j.val / 128 % 8, by omega⟩ ⟨j.val % 128, by omega⟩ := by
  have hy : (y 0).val < 16384 := (y 0).isLt
  have ea : (⟨(y 0).val / 4096, by omega⟩ : Fin 4) = b := Fin.ext (by simp only [h0]; omega)
  have eb : (⟨(y 0).val % 4096, by omega⟩ : Fin 4096) = s := Fin.ext (by simp only [h0]; omega)
  unfold qkG
  simp only [h1]
  rw [ea, eb]

theorem vtG_at (b : Fin 4) (s : Fin 4096) (h : Fin 8) (e : Fin 144) (y : S1152x16384.Idx) (h0 : (y 0).val = 144 * h.val + e.val)
    (h1 : (y 1).val = 4096 * b.val + s.val) : vtG m c y = vF m c b s h e := by
  have hy : (y 1).val < 16384 := (y 1).isLt
  have ea : (⟨(y 1).val / 4096, by omega⟩ : Fin 4) = b := Fin.ext (by simp only [h1]; omega)
  have eb : (⟨(y 1).val % 4096, by omega⟩ : Fin 4096) = s := Fin.ext (by simp only [h1]; omega)
  have ec : (⟨(y 0).val / 144 % 8, by omega⟩ : Fin 8) = h := Fin.ext (by simp only [h0]; omega)
  have ed : (⟨(y 0).val % 144, by omega⟩ : Fin 144) = e := Fin.ext (by simp only [h0]; omega)
  unfold vtG
  dsimp only
  rw [ea, eb, ec, ed]

theorem final5 : (dat0 (V1 m ρ) c).arrAt 5 cfg0.N = qkG m c := by
  refine (dat0 (V1 m ρ) c).arrAt_eq_of_covers 5 _ (by decide +kernel) fun t _ y => ?_
  blk_simp
  rw [after0_5]
  have h := lt16 t
  have hy : (y 0).val < 1024 := (y 0).isLt
  have hy1 : (y 1).val < 2048 := (y 1).isLt
  have e0 : ((win0_5.blk t).view.emb y 0 : ℕ) = 1024 * t.val + (y 0).val := by
    blk_simp [idx0 t]
    simp
    omega
  have e1 : ((win0_5.blk t).view.emb y 1 : ℕ) = (y 1).val := by
    blk_simp [idx0 t]
  refine (blk_qk m ρ c t y).trans (qkG_at m c (seqOf t) (posOf t (y 0)) ⟨(y 1).val, hy1⟩ _ ?_ e1).symm
  rw [e0]
  simp only [seqOf, posOf]
  omega

theorem final6 : (dat0 (V1 m ρ) c).arrAt 6 cfg0.N = vtG m c := by
  refine (dat0 (V1 m ρ) c).arrAt_eq_of_covers 6 _ (by decide +kernel) fun t _ y => ?_
  blk_simp
  rw [after0_6]
  have h := lt16 t
  have hy : (y 1).val < 1024 := (y 1).isLt
  have hy0 : (y 0).val < 1152 := (y 0).isLt
  have e1 : ((win0_6.blk t).view.emb y 1 : ℕ) = 1024 * t.val + (y 1).val := by
    blk_simp [idx0 t]
    simp
    omega
  have e0 : ((win0_6.blk t).view.emb y 0 : ℕ) = (y 0).val := by
    blk_simp [idx0 t]
  refine (blk_vt m ρ c t y).trans (vtG_at m c (seqOf t) (posOf t (y 1)) _ _ _ ?_ ?_).symm
  · rw [e0]
    show (y 0).val = 144 * ((y 0).val / 144 % 8) + (y 0).val % 144
    omega
  · rw [e1]
    simp only [seqOf, posOf]
    omega

end

end Cert.DiffIdeal.Proj

end
-- ==== Proof.Diff.Att.lean ====
module

public import proofs.«01_k».proof.Proof.Diff.Array

/-! # The array the attention kernel leaves

Each point of the attention's grid takes 2048 positions of one head of one sequence; its queries, keys and values are
blocks of the arrays the projection left. -/

@[expose] public section

set_option maxRecDepth 16384

noncomputable section

namespace Cert.DiffIdeal.Proj

open Cert.DiffIdeal Cert.DiffIdeal.Gen Cert.DiffIdeal.Run Idealize.ShloMosaic Idealize.ShloMosaic.TcCoe Idealize.SL.Sem
open Cert.DiffSpec (rms ang pr Fin' pr_real ang_real)
open Cert.DiffIdeal.Step (finE lamOf avg ptE)

/-- Every window's block index at every point of the attention's grid. -/
theorem idx1 : ∀ t : Fin cfg1.N, win1_0.index t = ![t.val / 16, t.val % 2, t.val / 2 % 8] ∧ win1_1.index t = ![t.val / 16, 0, 8 + t.val / 2 % 8]
    ∧ win1_2.index t = ![t.val / 2 % 8, t.val / 16] ∧ win1_3.index t = ![1, 0, 0] ∧ win1_4.index t = ![1, 0, 0]
    ∧ win1_5.index t = ![t.val / 16, t.val % 2, t.val / 2 % 8] :=
  (by decide +kernel : ∀ t : Fin grid1.N, _)

theorem coord2 : ∀ t : Fin cfg1.N, (grid1.coords t 2).val = t.val % 2 := (by decide +kernel : ∀ t : Fin grid1.N, _)

theorem lt64 (t : Fin cfg1.N) : t.val < 64 := lt_of_lt_of_eq t.isLt (by decide +kernel : grid1.N = 64)

/-- The sequence, the head and the position of row `p` of point `t`. -/
def sq (t : Fin cfg1.N) : Fin 4 := ⟨t.val / 16, by have := lt64 t; omega⟩
def hd (t : Fin cfg1.N) : Fin 8 := ⟨t.val / 2 % 8, by omega⟩
def ps (t : Fin cfg1.N) (p : Fin 2048) : Fin 4096 := ⟨2048 * (t.val % 2) + p.val, by omega⟩

section
variable (m : (ℓ : Loc nD τ sig) → Buf (Elt Ideal) ℓ) (ρ : Dev nD → PrngReg) (c : Dev nD)

theorem v37_at (b : Fin 4) (s : Fin 4096) (j : Fin 2048) : (show FVec Ideal S4x4096x2048 .bf16 from V3 m ρ c main_v37) (ix3 b s j)
    = qkG m c (ix2 ⟨4096 * b.val + s.val, by omega⟩ j) := by
  have h : (show FVec Ideal S16384x2048 .bf16 from W2 m ρ c (Proc.devRef .tc main_v35_0)) = qkG m c :=
    (hF0 m ρ c 5).symm.trans (final5 m ρ c)
  rw [← h]
  show (show FVec Ideal S4x4096x2048 .bf16 from StableHlo.after hostOps1 (W2 m ρ c) (Proc.devRef .tc main_v37)) (ix3 b s j) = _
  entry_read
  pointwise
  exact congrArg (fun r => (show FVec Ideal S16384x2048 .bf16 from W2 m ρ c (Proc.devRef .tc main_v35_0)) (ix2 r j)) (Fin.ext (by show b.val * 4096 + s.val = 4096 * b.val + s.val; omega))

theorem v35_eq : (show FVec Ideal S1152x16384 .bf16 from V3 m ρ c main_v35_1) = vtG m c :=
  (W3_of m ρ c main_v35_1 (by decide +kernel)).trans ((hF0 m ρ c 6).symm.trans (final6 m ρ c))

theorem v36_at (l : Fin 2) (e : Fin 128) : (show FVec Ideal S2x1x128 .f32 from V3 m ρ c main_v36) (ix3 l 0 e) = asl m c (ix2 l e) := by
  have h : (show FVec Ideal S2x128 .f32 from W2 m ρ c (Proc.devRef .tc main_arg4)) = asl m c := W2_args m ρ c main_arg4 (by decide +kernel)
  rw [← h]
  show (show FVec Ideal S2x1x128 .f32 from StableHlo.after hostOps1 (W2 m ρ c) (Proc.devRef .tc main_v36)) (ix3 l 0 e) = _
  entry_read
  pointwise

theorem arg3_eq : (show FVec Ideal S2x4x64 .f32 from V3 m ρ c main_arg3) = alm m c := W3_args m ρ c main_arg3 (by decide +kernel)

theorem rq (t : Fin cfg1.N) (p : Fin 2048) (l : Fin 128) : iblk1 (V3 m ρ) c 0 t (ix3 0 p l) = qF m c (sq t) (ps t p) (hd t) l := by
  have h := lt64 t
  refine Eq.trans ?_ ((v37_at m ρ c (sq t) (ps t p) ⟨128 * (t.val / 2 % 8) + l.val, by omega⟩).trans ?_)
  · unfold sq ps
    blk_ext [iblk1, idx1 t]
  · refine (qkG_at m c (sq t) (ps t p) _ _ rfl rfl).trans ?_
    rw [if_pos (by show 128 * (t.val / 2 % 8) + l.val < 1024; omega)]
    congr 1 <;> apply Fin.ext
    · show (128 * (t.val / 2 % 8) + l.val) / 128 % 8 = t.val / 2 % 8; omega
    · show (128 * (t.val / 2 % 8) + l.val) % 128 = l.val; omega

theorem rk (t : Fin cfg1.N) (s : Fin 4096) (l : Fin 128) : iblk1 (V3 m ρ) c 1 t (ix3 0 s l) = kF m c (sq t) s (hd t) l := by
  have h := lt64 t
  refine Eq.trans ?_ ((v37_at m ρ c (sq t) s ⟨1024 + 128 * (t.val / 2 % 8) + l.val, by omega⟩).trans ?_)
  · unfold sq
    blk_ext [iblk1, idx1 t]
  · refine (qkG_at m c (sq t) s _ _ rfl rfl).trans ?_
    rw [if_neg (by show ¬ 1024 + 128 * (t.val / 2 % 8) + l.val < 1024; omega)]
    congr 1 <;> apply Fin.ext
    · show (1024 + 128 * (t.val / 2 % 8) + l.val) / 128 % 8 = t.val / 2 % 8; omega
    · show (1024 + 128 * (t.val / 2 % 8) + l.val) % 128 = l.val; omega

theorem rv (t : Fin cfg1.N) (e : Fin 144) (s : Fin 4096) : iblk1 (V3 m ρ) c 2 t (ix2 e s) = vF m c (sq t) s (hd t) e := by
  have h := lt64 t
  refine Eq.trans ?_ ((congrFun (v35_eq m ρ c) (ix2 ⟨144 * (t.val / 2 % 8) + e.val, by omega⟩ ⟨4096 * (t.val / 16) + s.val, by omega⟩)).trans
    (vtG_at m c (sq t) s (hd t) e _ rfl rfl))
  blk_ext [iblk1, idx1 t]

/-- The layer's four vectors and the last norm's weights. -/
abbrev fL : Fin 4 → Fin 64 → EReal := fun a d => alm m c (ix3 1 a d)
abbrev fS : Fin 128 → EReal := fun e => asl m c (ix2 1 e)

theorem rl (t : Fin cfg1.N) (a : Fin 4) (d : Fin 64) : iblk1 (V3 m ρ) c 3 t (ix3 0 a d) = fL m c a d := by
  refine Eq.trans ?_ (congrFun (arg3_eq m ρ c) (ix3 1 a d))
  blk_ext [iblk1, idx1 t]

theorem rs (t : Fin cfg1.N) (e : Fin 128) : iblk1 (V3 m ρ) c 4 t (ix3 0 0 e) = fS m c e := by
  refine Eq.trans ?_ (v36_at m ρ c 1 e)
  blk_ext [iblk1, idx1 t]

/-! ## The numbers as reals -/

/-- Queries, keys and values of head `h` of sequence `b`, by position. -/
def qR (b : Fin 4) (h : Fin 8) (s : ℕ) (l : Fin 128) : ℝ := if hs : s < 4096 then (qF m c b ⟨s, hs⟩ h l).toReal else 0
def kR (b : Fin 4) (h : Fin 8) (s : ℕ) (l : Fin 128) : ℝ := if hs : s < 4096 then (kF m c b ⟨s, hs⟩ h l).toReal else 0
def vR (b : Fin 4) (h : Fin 8) (e : Fin 144) (s : ℕ) : ℝ :=
  if hs : s < 4096 then (vF m c b ⟨s, hs⟩ h e).toReal else if e.val = 128 then 1 else 0

theorem cosT_real (s : Fin 4096) (l : Fin 128) : Fin' (cosT s l) := by
  obtain ⟨r, hr⟩ := ang_real s ⟨l.val % 32, by omega⟩
  unfold cosT
  rw [hr]
  exact ⟨_, rfl⟩

theorem sinT_real (s : Fin 4096) (l : Fin 128) : Fin' (sinT s l) := by
  unfold sinT
  split
  · obtain ⟨r, hr⟩ := ang_real s ⟨l.val % 64, by assumption⟩
    rw [hr]
    exact ⟨-Real.sin r, (EReal.coe_neg _).symm⟩
  · obtain ⟨r, hr⟩ := ang_real s ⟨l.val % 64 - 32, by omega⟩
    rw [hr]
    exact ⟨_, rfl⟩

theorem qsc_eq : qsc = ((1 / 8 * (Real.log 2)⁻¹ : ℝ) : EReal) := rfl

variable {m c}
variable (hN : ∀ k, Fin' (fN m c k)) (hW : ∀ k j, Fin' (fW m c k j))
include hN hW

theorem qF_real (b : Fin 4) (s : Fin 4096) (h : Fin 8) (l : Fin 128) : Fin' (qF m c b s h l) :=
  ((pr_real hN hW b s _).mul ((cosT_real s l).mul ⟨_, qsc_eq⟩)).add ((pr_real hN hW b s _).mul ((sinT_real s l).mul ⟨_, qsc_eq⟩))

theorem kF_real (b : Fin 4) (s : Fin 4096) (h : Fin 8) (l : Fin 128) : Fin' (kF m c b s h l) :=
  ((pr_real hN hW b s _).mul (cosT_real s l)).add ((pr_real hN hW b s _).mul (sinT_real s l))

theorem vF_real (b : Fin 4) (s : Fin 4096) (h : Fin 8) (e : Fin 144) : Fin' (vF m c b s h e) := by
  unfold vF
  split
  · exact pr_real hN hW b s _
  · exact ⟨1, rfl⟩

omit hN hW in
theorem vR_one (b : Fin 4) (h : Fin 8) (s : ℕ) : vR m c b h 128 s = 1 := by
  unfold vR
  split
  · have : vF m c b ⟨s, by assumption⟩ h 128 = ((1 : ℝ) : EReal) := by
      unfold vF
      rw [dif_neg (by decide)]
      rfl
    rw [this, EReal.toReal_coe]
  · rfl

omit hN hW in
variable (m c) in
/-- The result at position `s` of sequence `b`, head `h`, column `e`. -/
def res (b : Fin 4) (s : ℕ) (h : Fin 8) (e : Fin 128) : EReal :=
  finE (lamOf (fL m c))
    (fun e => ((avg s (fun k => ∑ d : Fin 128, kR m c b h k d * if d.val < 64 then qR m c b h s d else 0) (vR m c b h ⟨e.val, by omega⟩) : ℝ) : EReal))
    (fun e => ((avg s (fun k => ∑ d : Fin 128, kR m c b h k d * if 64 ≤ d.val then qR m c b h s d else 0) (vR m c b h ⟨e.val, by omega⟩) : ℝ) : EReal))
    (fS m c) e

theorem outs1 (t : Fin cfg1.N) (y : S1x2048x128.Idx) : outsAt1 (V3 m ρ) c t y = res m c (sq t) (ps t (y 1)).val (hd t) (y 2) := by
  unfold outsAt1
  refine (Step.out_at (xq := fun p => qR m c (sq t) (hd t) (2048 * (t.val % 2) + p)) (xk := kR m c (sq t) (hd t)) (xv := vR m c (sq t) (hd t))
    ?_ ?_ ?_ (vR_one _ _) y).trans ?_
  · intro p d
    refine (rq m ρ c t p d).trans ?_
    beta_reduce
    unfold qR
    rw [dif_pos (show 2048 * (t.val % 2) + p.val < 4096 by omega)]
    exact (qF_real hN hW _ _ _ _).toReal
  · intro k d
    refine (rk m ρ c t k d).trans ?_
    unfold kR
    rw [dif_pos k.isLt]
    exact (kF_real hN hW _ _ _ _).toReal
  · intro e k
    refine (rv m ρ c t e k).trans ?_
    unfold vR
    rw [dif_pos k.isLt]
    exact (vF_real hN hW _ _ _ _).toReal
  · have e3 : (fun a d => iblk1 (V3 m ρ) c 3 t (ix3 0 a d)) = fL m c := funext fun a => funext fun d => rl m ρ c t a d
    have e4 : (fun e => iblk1 (V3 m ρ) c 4 t (ix3 0 0 e)) = fS m c := funext fun e => rs m ρ c t e
    unfold ptE res
    rw [e3, e4, coord2]
    rfl

/-- The result array. -/
def outG (m : (ℓ : Loc nD τ sig) → Buf (Elt Ideal) ℓ) (c : Dev nD) : FVec Ideal S4x4096x1024 .bf16 := fun y =>
  res m c (y 0) (y 1).val ⟨(y 2).val / 128 % 8, by omega⟩ ⟨(y 2).val % 128, by omega⟩

theorem final : (dat1 (V3 m ρ) c).arrAt 5 cfg1.N = outG m c := by
  refine (dat1 (V3 m ρ) c).arrAt_eq_of_covers 5 _ (by decide +kernel) fun t _ y => ?_
  blk_simp
  rw [after1_5]
  have h := lt64 t
  refine (outs1 ρ hN hW t y).trans ?_
  have hy0 : (y 0).val < 1 := (y 0).isLt
  have hy1 : (y 1).val < 2048 := (y 1).isLt
  have hy2 : (y 2).val < 128 := (y 2).isLt
  have e0 : ((win1_5.blk t).view.emb y 0 : ℕ) = t.val / 16 := by
    blk_simp [idx1 t]
  have e1 : ((win1_5.blk t).view.emb y 1 : ℕ) = 2048 * (t.val % 2) + (y 1).val := by
    blk_simp [idx1 t]
    simp
    omega
  have e2 : ((win1_5.blk t).view.emb y 2 : ℕ) = 128 * (t.val / 2 % 8) + (y 2).val := by
    blk_simp [idx1 t]
    simp
    omega
  unfold outG
  refine congr (congr (congrArg₂ (res m c) (Fin.ext e0.symm) e1.symm) (Fin.ext ?_)) (Fin.ext ?_)
  · show t.val / 2 % 8 = _ / 128 % 8
    rw [e2]; omega
  · show (y 2).val = _ % 128
    rw [e2]; omega

end

end Cert.DiffIdeal.Proj

end
-- ==== Proof.Diff.Ref.lean ====
module

public import proofs.«01_k».proof.Proof.Gen.DiffReferenceIdeal.Read
public import proofs.«01_k».proof.Proof.Diff.Spec

/-! # What the reference computes, entry by entry

Its projections, its rotated queries and keys, the causal scores, their softmax, and the normalised difference. -/

@[expose] public section

set_option maxRecDepth 16384

noncomputable section

namespace Cert.DiffReferenceIdeal.Spec

open Cert.DiffReferenceIdeal Cert.DiffReferenceIdeal.Gen Idealize.ShloMosaic Idealize.ShloMosaic.TcCoe Idealize.SL.Sem
open Cert.DiffReferenceIdeal.Read
open Cert.DiffSpec (rms ang pr)

variable (x0 : FVec Ideal S4x4096x1024 .f32) (x1 : FVec Ideal S2x1024 .f32) (x2 : FVec Ideal S2x1024x3072 .f32)
  (x3 : FVec Ideal S2x4x64 .f32) (x4 : FVec Ideal S2x128 .f32)

/-- The arguments as functions of their coordinates. -/
abbrev fX : Fin 4 → Fin 4096 → Fin 1024 → EReal := fun b s j => x0 (ix3 b s j)
abbrev fN : Fin 1024 → EReal := fun j => x1 (ix2 1 j)
abbrev fW : Fin 1024 → Fin 3072 → EReal := fun k j => x2 (ix3 1 k j)
abbrev fL : Fin 4 → Fin 64 → EReal := fun a d => x3 (ix3 1 a d)
abbrev fS : Fin 128 → EReal := fun e => x4 (ix2 1 e)

theorem v14_at (b : Fin 4) (s : Fin 4096) (j : Fin 1024) : val_main_v14 (F := Ideal) x0 x1 (ix3 b s j) = rms (fX x0 b s) (fN x1) j := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, rms]

theorem v21_at (b : Fin 4) (s : Fin 4096) (j : Fin 3072) : val_main_v21 (F := Ideal) x0 x1 x2 (ix3 b s j) = pr (fX x0) (fN x1) (fW x2) b s j := by
  pointwise [val_main_v21, val_main_v16, val_main_v15]
  simp only [v14_at]
  rfl

theorem v41_at (s : Fin 4096) (f : Fin 32) : val_main_v41 (F := Ideal) (ix2 s f) = ang s f := by
  pointwise [val_main_v41, val_main_v40, val_main_v39, val_main_v38, val_main_v37, val_main_v36, val_main_v35, val_main_v34, val_main_v33,
    val_main_v32, val_main_v31, val_main_v30, val_main_v29, val_main_v28, val_main_v27, val_main_cst_2, val_main_cst_3, val_main_cst_4, val_main_cst_5, ang]

theorem v77_at (s : Fin 4096) (f : Fin 32) : val_main_v77 (F := Ideal) (ix2 s f) = ang s f := by
  pointwise [val_main_v77, val_main_v76, val_main_v75, val_main_v74, val_main_v73, val_main_v72, val_main_v71, val_main_v70, val_main_v69,
    val_main_v68, val_main_v67, val_main_v66, val_main_v65, val_main_v64, val_main_v63, val_main_cst_6, val_main_cst_7, val_main_cst_8, val_main_cst_9, ang]

/-- The rotated vector at lane `d`: the two halves of the lanes are a point in the plane, turned by the angle. -/
def rotd (y : Fin 64 → EReal) (s : Fin 4096) (d : Fin 64) : EReal :=
  if h : d.val < 32 then y d * Ideal.cos (ang s ⟨d.val, h⟩) - y ⟨32 + d.val, by omega⟩ * Ideal.sin (ang s ⟨d.val, h⟩)
  else y ⟨d.val - 32, by omega⟩ * Ideal.sin (ang s ⟨d.val - 32, by omega⟩) + y ⟨32 + (d.val - 32), by omega⟩ * Ideal.cos (ang s ⟨d.val - 32, by omega⟩)

/-- Head `h`, map `a`: the queries, the keys. -/
def qv (b : Fin 4) (h : Fin 8) (a : Fin 2) (s : Fin 4096) (d : Fin 64) : EReal :=
  pr (fX x0) (fN x1) (fW x2) b s ⟨128 * h.val + 64 * a.val + d.val, by omega⟩
def kv (b : Fin 4) (h : Fin 8) (a : Fin 2) (s : Fin 4096) (d : Fin 64) : EReal :=
  pr (fX x0) (fN x1) (fW x2) b s ⟨1024 + 128 * h.val + 64 * a.val + d.val, by omega⟩

theorem v26_at (b : Fin 4) (h : Fin 8) (a : Fin 2) (s : Fin 4096) (d : Fin 64) :
    val_main_v26 (F := Ideal) x0 x1 x2 (ix5 b h a s d) = qv x0 x1 x2 b h a s d := by
  pointwise [val_main_v26, val_main_v25, val_main_v22]
  refine (v21_at x0 x1 x2 _ _ _).trans ?_
  unfold qv
  exact congrArg _ (Fin.ext (by show h.val * 128 + a.val * 64 + d.val = 128 * h.val + 64 * a.val + d.val; omega))

theorem v62_at (b : Fin 4) (h : Fin 8) (a : Fin 2) (s : Fin 4096) (d : Fin 64) :
    val_main_v62 (F := Ideal) x0 x1 x2 (ix5 b h a s d) = kv x0 x1 x2 b h a s d := by
  pointwise [val_main_v62, val_main_v61, val_main_v23]
  refine (v21_at x0 x1 x2 _ _ _).trans ?_
  unfold kv
  exact congrArg _ (Fin.ext (by show 1024 + (h.val * 128 + a.val * 64 + d.val) = 1024 + 128 * h.val + 64 * a.val + d.val; omega))

theorem v60_at (b : Fin 4) (h : Fin 8) (a : Fin 2) (s : Fin 4096) (d : Fin 64) :
    val_main_v60 (F := Ideal) x0 x1 x2 (ix5 b h a s d) = rotd (qv x0 x1 x2 b h a s) s d := by
  pointwise [val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42]
  simp only [v26_at, v41_at]
  rfl

theorem v96_at (b : Fin 4) (h : Fin 8) (a : Fin 2) (s : Fin 4096) (d : Fin 64) :
    val_main_v96 (F := Ideal) x0 x1 x2 (ix5 b h a s d) = rotd (kv x0 x1 x2 b h a s) s d := by
  pointwise [val_main_v96, val_main_v95, val_main_v94, val_main_v93, val_main_v92, val_main_v91, val_main_v90, val_main_v89, val_main_v88, val_main_v87,
    val_main_v86, val_main_v85, val_main_v84, val_main_v83, val_main_v82, val_main_v81, val_main_v80, val_main_v79, val_main_v78]
  simp only [v62_at, v77_at]
  rfl

theorem v98_at (b : Fin 4) (h : Fin 8) (s : Fin 4096) (e : Fin 128) :
    val_main_v98 (F := Ideal) x0 x1 x2 (ix4 b h s e) = pr (fX x0) (fN x1) (fW x2) b s ⟨2048 + 128 * h.val + e.val, by omega⟩ := by
  pointwise [val_main_v98, val_main_v97, val_main_v24]
  refine (v21_at x0 x1 x2 _ _ _).trans ?_
  exact congrArg _ (Fin.ext (by show 2048 + (h.val * 128 + e.val) = 2048 + 128 * h.val + e.val; omega))

/-- The layer's scalar. -/
def lam (L : Fin 4 → Fin 64 → EReal) : EReal :=
  Ideal.exp (∑ d, L 0 d * L 1 d) - Ideal.exp (∑ d, L 2 d * L 3 d) + Ideal.ofBits .f32 0x3F0E59D5#32

theorem v114_at (y : S_.Idx) : val_main_v114 (F := Ideal) x3 y = lam (fL x3) := by
  pointwise [val_main_v114, val_main_v113, val_main_v112, val_main_v111, val_main_v110, val_main_v109, val_main_v108, val_main_v107, val_main_v106,
    val_main_v105, val_main_v104, val_main_v103, val_main_v102, val_main_v101, val_main_v100, val_main_v99, val_main_v18, val_main_v17, val_main_cst_10, val_main_cst_11, val_main_cst_12, lam]

/-- The scores of query `p`. -/
def sco (b : Fin 4) (h : Fin 8) (a : Fin 2) (p k : Fin 4096) : EReal :=
  if k.val ≤ p.val then (∑ d : Fin 64, rotd (qv x0 x1 x2 b h a p) p d * rotd (kv x0 x1 x2 b h a k) k d) * Ideal.ofBits .f32 0x3E000000#32 else ⊥

theorem bits_bot : Ideal.ofBits .f32 0xFF800000#32 = ⊥ := by simp [Ideal.ofBits, Ideal.ieee]

theorem sel_le {k p : Nat} (hk : k < 4096) (hp : p < 4096) (u v : EReal) :
    Scalar.select (IntOp.cmpi .sle (BitVec.ofNat 32 k) (BitVec.ofNat 32 p)) u v = if k ≤ p then u else v := by
  have e : (BitVec.ofNat 32 k).sle (BitVec.ofNat 32 p) = decide (k ≤ p) := by
    rw [BitVec.sle_eq_decide, BitVec.toInt_eq_toNat_of_lt (by simp; omega), BitVec.toInt_eq_toNat_of_lt (by simp; omega)]
    simp only [BitVec.toNat_ofNat]
    congr 1
    rw [Nat.mod_eq_of_lt (by omega), Nat.mod_eq_of_lt (by omega)]
    simp
  simp only [IntOp.cmpi, e, Scalar.select]
  by_cases c : k ≤ p <;> simp [c]

theorem v124_at (b : Fin 4) (h : Fin 8) (a : Fin 2) (p k : Fin 4096) : val_main_v124 (F := Ideal) x0 x1 x2 (ix5 b h a p k) = sco x0 x1 x2 b h a p k := by
  pointwise [val_main_v124, val_main_call0_v1, val_main_call0_v2, val_main_call0_v0, val_main_cst_14, val_main_v123, val_main_v122, val_main_v121, val_main_v120, val_main_v119, val_main_v118, val_main_v117, val_main_v116, val_main_cst_13, val_main_v115]
  refine (sel_le k.isLt p.isLt _ _).trans ?_
  simp only [v60_at, v96_at]
  show (if _ then _ else Ideal.ofBits .f32 0xFF800000#32) = _
  rw [bits_bot]
  rfl

end Cert.DiffReferenceIdeal.Spec

end
-- ==== Proof.Diff.Soft.lean ====
module

public import proofs.«01_k».proof.Proof.Diff.Ref

/-! # What the reference makes of its scores: their softmax, and the normalised difference -/

@[expose] public section

set_option maxRecDepth 16384

noncomputable section

namespace Cert.DiffReferenceIdeal.Spec

open Cert.DiffReferenceIdeal Cert.DiffReferenceIdeal.Gen Idealize.ShloMosaic Idealize.ShloMosaic.TcCoe Idealize.SL.Sem
open Cert.DiffReferenceIdeal.Read
open Cert.DiffSpec (rms ang pr)

variable (x0 : FVec Ideal S4x4096x1024 .f32) (x1 : FVec Ideal S2x1024 .f32) (x2 : FVec Ideal S2x1024x3072 .f32)
  (x3 : FVec Ideal S2x4x64 .f32) (x4 : FVec Ideal S2x128 .f32)

theorem max_at (V : FVec Ideal S4x8x2x4096x4096 .f32) (b : Fin 4) (h : Fin 8) (a : Fin 2) (p : Fin 4096) :
    Host.reduce FloatOps.maximumf V (val_main_cst_15 (F := Ideal)) reducesTo_S4x8x2x4096x4096_S4x8x2x4096_d4 h_S_ (ix4 b h a p)
      = Finset.univ.fold max (Ideal.ofBits .f32 0xFF800000#32) (fun k => V (ix5 b h a p k)) := by
  pointwise [val_main_cst_15]

/-- One number per query, repeated along the keys. -/
theorem rep_at (V : FVec Ideal S4x8x2x4096 .f32) (b : Fin 4) (h : Fin 8) (a : Fin 2) (p k : Fin 4096) :
    broadcastInDim S4x8x2x4096x4096 ![0, 1, 2, 3, 4] bcast_S4x8x2x4096x1_S4x8x2x4096x4096_0_1_2_3_4
      (broadcastInDim S4x8x2x4096x1 ![0, 1, 2, 3] bcast_S4x8x2x4096_S4x8x2x4096x1_0_1_2_3 V) (ix5 b h a p k) = V (ix4 b h a p) := by
  pointwise []

theorem tot_at (V : FVec Ideal S4x8x2x4096x4096 .f32) (b : Fin 4) (h : Fin 8) (a : Fin 2) (p : Fin 4096) :
    Host.reduceAdd V (val_main_cst_17 (F := Ideal)) reducesTo_S4x8x2x4096x4096_S4x8x2x4096_d4 h_S_ (ix4 b h a p) = ∑ k, V (ix5 b h a p k) := by
  pointwise [val_main_cst_17]

theorem map0_at (V : FVec Ideal S4x8x2x4096x4096 .f32) (b : Fin 4) (h : Fin 8) (p k : Fin 4096) :
    shapeCast S4x8x4096x4096 (extractStridedSlice S4x8x1x4096x4096 ![0, 0, 0, 0, 0] V slices_S4x8x2x4096x4096_S4x8x1x4096x4096_0_0_0_0_0)
      shapeCasts_S4x8x1x4096x4096_S4x8x4096x4096 (ix4 b h p k) = V (ix5 b h 0 p k) := by
  pointwise []

theorem map1_at (V : FVec Ideal S4x8x2x4096x4096 .f32) (b : Fin 4) (h : Fin 8) (p k : Fin 4096) :
    shapeCast S4x8x4096x4096 (extractStridedSlice S4x8x1x4096x4096 ![0, 0, 1, 0, 0] V slices_S4x8x2x4096x4096_S4x8x1x4096x4096_0_0_1_0_0)
      shapeCasts_S4x8x1x4096x4096_S4x8x4096x4096 (ix4 b h p k) = V (ix5 b h 1 p k) := by
  pointwise []

theorem dot_at (V : FVec Ideal S4x8x4096x4096 .f32) (W : FVec Ideal S4x8x4096x128 .f32) (b : Fin 4) (h : Fin 8) (p : Fin 4096) (e : Fin 128) :
    Host.dotGeneral dot_S4x8x4096x4096_S4x8x4096x128_S4x8x4096x128_3_2_2_3_01_01 none V W (ix4 b h p e)
      = ∑ k, V (ix4 b h p k) * W (ix4 b h k e) := by
  pointwise []

/-- A head's entries divided by their root mean square, weighted, and scaled. -/
def nrm (y : Fin 128 → EReal) (S : Fin 128 → EReal) (e : Fin 128) : EReal :=
  y e * Ideal.rsqrt (Ideal.div (∑ j, y j * y j) (Ideal.ofBits .f32 0x43000000#32) + Ideal.ofBits .f32 0x358637BD#32) * S e * Ideal.ofBits .f32 0x3EE34C57#32

/-- The norm over a head's entries, of any array of heads. -/
def nrmV (V : FVec Ideal S4x8x4096x128 .f32) : FVec Ideal S4x8x4096x128 .f32 :=
  mulf (mulf (mulf V (broadcastInDim S4x8x4096x128 ![0, 1, 2, 3] bcast_S4x8x4096x1_S4x8x4096x128_0_1_2_3 (Host.rsqrt (addf (Host.divf
    (broadcastInDim S4x8x4096x1 ![0, 1, 2] bcast_S4x8x4096_S4x8x4096x1_0_1_2 (Host.reduceAdd (mulf V V) (val_main_cst_18 (F := Ideal)) reducesTo_S4x8x4096x128_S4x8x4096_d3 h_S_))
    (val_main_v147 (F := Ideal))) (val_main_v149 (F := Ideal)))))) (val_main_v155 (F := Ideal) x4)) (val_main_v157 (F := Ideal))

theorem nrmV_at (V : FVec Ideal S4x8x4096x128 .f32) (b : Fin 4) (h : Fin 8) (p : Fin 4096) (e : Fin 128) :
    nrmV x4 V (ix4 b h p e) = nrm (fun e => V (ix4 b h p e)) (fS x4) e := by
  pointwise [nrmV, val_main_v157, val_main_v155, val_main_v154, val_main_v149, val_main_v147, val_main_v20, val_main_v19,
    val_main_cst_18, val_main_cst_19, val_main_cst_20, val_main_cst_21, nrm]

/-- Heads side by side in a row. -/
theorem row_at (V : FVec Ideal S4x8x4096x128 .f32) (b : Fin 4) (s : Fin 4096) (j : Fin 1024) :
    truncf .bf16 (shapeCast S4x4096x1024 (transpose S4x4096x8x128 [0, 2, 1, 3] V transposes_S4x8x4096x128_S4x4096x8x128_0_2_1_3) shapeCasts_S4x4096x8x128_S4x4096x1024) bitsLt_bf16_f32 (ix3 b s j)
      = V (ix4 b ⟨j.val / 128, by omega⟩ s ⟨j.val % 128, by omega⟩) := by
  pointwise []

/-- The largest score of query `p`. -/
def smx (b : Fin 4) (h : Fin 8) (a : Fin 2) (p : Fin 4096) : EReal := max ⊥ (Finset.univ.fold max ⊥ (sco x0 x1 x2 b h a p))

theorem v127_at (b : Fin 4) (h : Fin 8) (a : Fin 2) (p : Fin 4096) : val_main_v127 (F := Ideal) x0 x1 x2 (ix4 b h a p) = smx x0 x1 x2 b h a p := by
  have e0 : val_main_v126 (F := Ideal) (ix4 b h a p) = ⊥ := bits_bot
  have e : val_main_v125 (F := Ideal) x0 x1 x2 (ix4 b h a p) = Finset.univ.fold max ⊥ (sco x0 x1 x2 b h a p) := by
    unfold val_main_v125
    rw [max_at, bits_bot]
    exact congrArg (fun f => Finset.fold max ⊥ f Finset.univ) (funext fun k => v124_at x0 x1 x2 b h a p k)
  rw [val_main_v127_apply, e0, e]
  rfl

/-- Softmax. -/
def sft (b : Fin 4) (h : Fin 8) (a : Fin 2) (p k : Fin 4096) : EReal :=
  Ideal.div (Ideal.exp (sco x0 x1 x2 b h a p k - smx x0 x1 x2 b h a p)) (∑ k', Ideal.exp (sco x0 x1 x2 b h a p k' - smx x0 x1 x2 b h a p))

theorem v131_at (b : Fin 4) (h : Fin 8) (a : Fin 2) (p k : Fin 4096) : val_main_v131 (F := Ideal) x0 x1 x2 (ix5 b h a p k)
    = Ideal.exp (sco x0 x1 x2 b h a p k - smx x0 x1 x2 b h a p) := by
  have e : val_main_v129 (F := Ideal) x0 x1 x2 (ix5 b h a p k) = smx x0 x1 x2 b h a p := by
    unfold val_main_v129 val_main_v128
    rw [rep_at, v127_at]
  rw [val_main_v131_apply, val_main_v130_apply, e, v124_at]
  rfl

theorem v135_at (b : Fin 4) (h : Fin 8) (a : Fin 2) (p k : Fin 4096) : val_main_v135 (F := Ideal) x0 x1 x2 (ix5 b h a p k) = sft x0 x1 x2 b h a p k := by
  have e : val_main_v134 (F := Ideal) x0 x1 x2 (ix5 b h a p k) = ∑ k', Ideal.exp (sco x0 x1 x2 b h a p k' - smx x0 x1 x2 b h a p) := by
    unfold val_main_v134 val_main_v133 val_main_v132
    rw [rep_at, tot_at]
    exact Finset.sum_congr rfl fun k' _ => v131_at x0 x1 x2 b h a p k'
  rw [val_main_v135_apply, e, v131_at]
  rfl

theorem v142_at (b : Fin 4) (h : Fin 8) (p k : Fin 4096) : val_main_v142 (F := Ideal) x0 x1 x2 x3 (ix4 b h p k)
    = sft x0 x1 x2 b h 0 p k - lam (fL x3) * sft x0 x1 x2 b h 1 p k := by
  have e0 : val_main_v137 (F := Ideal) x0 x1 x2 (ix4 b h p k) = sft x0 x1 x2 b h 0 p k := by
    unfold val_main_v137 val_main_v136
    rw [map0_at, v135_at]
  have e1 : val_main_v139 (F := Ideal) x0 x1 x2 (ix4 b h p k) = sft x0 x1 x2 b h 1 p k := by
    unfold val_main_v139 val_main_v138
    rw [map1_at, v135_at]
  have e2 : val_main_v140 (F := Ideal) x3 (ix4 b h p k) = lam (fL x3) := by
    rw [val_main_v140_apply, v114_at]
  rw [val_main_v142_apply, val_main_v141_apply, e0, e1, e2]
  rfl

/-- The weighted values. -/
def att (b : Fin 4) (h : Fin 8) (p : Fin 4096) (e : Fin 128) : EReal :=
  ∑ k, (sft x0 x1 x2 b h 0 p k - lam (fL x3) * sft x0 x1 x2 b h 1 p k) * pr (fX x0) (fN x1) (fW x2) b k ⟨2048 + 128 * h.val + e.val, by omega⟩

theorem v143_at (b : Fin 4) (h : Fin 8) (p : Fin 4096) (e : Fin 128) : val_main_v143 (F := Ideal) x0 x1 x2 x3 (ix4 b h p e) = att x0 x1 x2 x3 b h p e := by
  unfold val_main_v143
  rw [dot_at]
  unfold att
  exact Finset.sum_congr rfl fun k _ => by rw [v142_at, v98_at]

theorem v158_at (b : Fin 4) (h : Fin 8) (p : Fin 4096) (e : Fin 128) : val_main_v158 (F := Ideal) x0 x1 x2 x3 x4 (ix4 b h p e)
    = nrm (att x0 x1 x2 x3 b h p) (fS x4) e := by
  have h1 : val_main_v158 (F := Ideal) x0 x1 x2 x3 x4 = nrmV x4 (val_main_v143 (F := Ideal) x0 x1 x2 x3) := by
    unfold nrmV val_main_v158 val_main_v156 val_main_v153 val_main_v152 val_main_v151 val_main_v150 val_main_v148 val_main_v146 val_main_v145 val_main_v144
    rfl
  rw [h1, nrmV_at]
  exact congrArg (fun f => nrm f (fS x4) e) (funext fun e => v143_at x0 x1 x2 x3 b h p e)

theorem v161_at (b : Fin 4) (s : Fin 4096) (j : Fin 1024) : val_main_v161 (F := Ideal) x0 x1 x2 x3 x4 (ix3 b s j)
    = nrm (att x0 x1 x2 x3 b ⟨j.val / 128, by omega⟩ s) (fS x4) ⟨j.val % 128, by omega⟩ := by
  unfold val_main_v161 val_main_v160 val_main_v159
  rw [row_at, v158_at]

end Cert.DiffReferenceIdeal.Spec

end
-- ==== Proof.Diff.Join.lean ====
module

public import proofs.«01_k».proof.Proof.Diff.Att
public import proofs.«01_k».proof.Proof.Diff.Soft

/-! # The kernel's array is the reference's

The kernel's scores are base-two logarithms of the weights the reference takes exponentials of, and each head's two maps
lie in the two halves of its 128 lanes. -/

@[expose] public section

set_option maxRecDepth 16384

noncomputable section

namespace Cert.DiffIdeal.Proj

open Cert.DiffIdeal Cert.DiffIdeal.Gen Cert.DiffIdeal.Run Idealize.ShloMosaic Idealize.ShloMosaic.TcCoe Idealize.SL.Sem
open Cert.DiffSpec
open Cert.DiffIdeal.Step (finE lamOf avg)
open Cert.DiffReferenceIdeal.Spec (rotd qv kv sco smx sft att nrm)

variable (m : (ℓ : Loc nD τ sig) → Buf (Elt Ideal) ℓ) (c : Dev nD)

/-- Lane `d` of map `a`. -/
def ln (a : Fin 2) (d : Fin 64) : Fin 128 := ⟨64 * a.val + d.val, by omega⟩

/-- The kernel's rotation of a head's 128 lanes, on the lanes of one map. -/
theorem rot_lane (Y : Fin 128 → EReal) (s : Fin 4096) (a : Fin 2) (d : Fin 64) :
    Y (ln a d) * cosT s (ln a d) + Y (mate (ln a d)) * sinT s (ln a d) = rotd (fun d => Y (ln a d)) s d := by
  have ha := a.isLt
  have hd := d.isLt
  unfold rotd
  by_cases h : d.val < 32
  · have e1 : mate (ln a d) = ln a ⟨32 + d.val, by omega⟩ := by
      unfold mate
      rw [if_pos (by show (64 * a.val + d.val) % 64 < 32; omega)]
      exact Fin.ext (by show (64 * a.val + d.val + 32) % 128 = 64 * a.val + (32 + d.val); omega)
    have e2 : cosT s (ln a d) = Ideal.cos (ang s ⟨d.val, h⟩) :=
      congrArg (fun f => Ideal.cos (ang s f)) (Fin.ext (by show (64 * a.val + d.val) % 32 = d.val; omega))
    have e3 : sinT s (ln a d) = -Ideal.sin (ang s ⟨d.val, h⟩) := by
      unfold sinT
      rw [dif_pos (by show (64 * a.val + d.val) % 64 < 32; omega)]
      exact congrArg (fun f => -Ideal.sin (ang s f)) (Fin.ext (by show (64 * a.val + d.val) % 64 = d.val; omega))
    rw [e1, e2, e3, dif_pos h, mul_neg, ← sub_eq_add_neg]
  · have e1 : mate (ln a d) = ln a ⟨d.val - 32, by omega⟩ := by
      unfold mate
      rw [if_neg (by show ¬ (64 * a.val + d.val) % 64 < 32; omega)]
      exact Fin.ext (by show (64 * a.val + d.val + 96) % 128 = 64 * a.val + (d.val - 32); omega)
    have e2 : cosT s (ln a d) = Ideal.cos (ang s ⟨d.val - 32, by omega⟩) :=
      congrArg (fun f => Ideal.cos (ang s f)) (Fin.ext (by show (64 * a.val + d.val) % 32 = d.val - 32; omega))
    have e3 : sinT s (ln a d) = Ideal.sin (ang s ⟨d.val - 32, by omega⟩) := by
      unfold sinT
      rw [dif_neg (by show ¬ (64 * a.val + d.val) % 64 < 32; omega)]
      exact congrArg (fun f => Ideal.sin (ang s f)) (Fin.ext (by show (64 * a.val + d.val) % 64 - 32 = d.val - 32; omega))
    have e4 : (⟨32 + (d.val - 32), by omega⟩ : Fin 64) = d := Fin.ext (by show 32 + (d.val - 32) = d.val; omega)
    rw [e1, e2, e3, dif_neg h, e4, add_comm]

/-- The reference's queries and keys of the kernel's arguments. -/
abbrev rq' (b : Fin 4) (h : Fin 8) (a : Fin 2) (s : Fin 4096) (d : Fin 64) : EReal := rotd (qv (ax m c) (anw m c) (awi m c) b h a s) s d
abbrev rk' (b : Fin 4) (h : Fin 8) (a : Fin 2) (s : Fin 4096) (d : Fin 64) : EReal := rotd (kv (ax m c) (anw m c) (awi m c) b h a s) s d

theorem kF_rot (b : Fin 4) (s : Fin 4096) (h : Fin 8) (a : Fin 2) (d : Fin 64) : kF m c b s h (ln a d) = rk' m c b h a s d := by
  refine (rot_lane (fun l => pr (fX m c) (fN m c) (fW m c) b s ⟨1024 + 128 * h.val + l.val, by omega⟩) s a d).trans ?_
  refine congrArg (fun y => rotd y s d) (funext fun d => ?_)
  exact congrArg (pr (fX m c) (fN m c) (fW m c) b s) (Fin.ext (by show 1024 + 128 * h.val + (64 * a.val + d.val) = 1024 + 128 * h.val + 64 * a.val + d.val; omega))

theorem ln_of (l : Fin 128) : ∃ a d, l = ln a d := ⟨⟨l.val / 64, by omega⟩, ⟨l.val % 64, by omega⟩, Fin.ext (by show l.val = 64 * (l.val / 64) + l.val % 64; omega)⟩

variable {m c}
variable (hN : ∀ k, Fin' (fN m c k)) (hW : ∀ k j, Fin' (fW m c k j))
include hN hW

theorem rk_real (b : Fin 4) (h : Fin 8) (a : Fin 2) (s : Fin 4096) (d : Fin 64) : Fin' (rk' m c b h a s d) :=
  kF_rot m c b s h a d ▸ kF_real hN hW b s h (ln a d)

theorem qF_pair (b : Fin 4) (s : Fin 4096) (h : Fin 8) (a : Fin 2) (d : Fin 64) :
    Fin' (rq' m c b h a s d) ∧ qF m c b s h (ln a d) = rq' m c b h a s d * qsc := by
  have e : rq' m c b h a s d = pr (fX m c) (fN m c) (fW m c) b s ⟨128 * h.val + (ln a d).val, by omega⟩ * cosT s (ln a d)
      + pr (fX m c) (fN m c) (fW m c) b s ⟨128 * h.val + (mate (ln a d)).val, by omega⟩ * sinT s (ln a d) := by
    refine Eq.symm ((rot_lane (fun l => pr (fX m c) (fN m c) (fW m c) b s ⟨128 * h.val + l.val, by omega⟩) s a d).trans ?_)
    refine congrArg (fun y => rotd y s d) (funext fun d => ?_)
    exact congrArg (pr (fX m c) (fN m c) (fW m c) b s) (Fin.ext (by show 128 * h.val + (64 * a.val + d.val) = 128 * h.val + 64 * a.val + d.val; omega))
  rw [e]
  unfold qF
  obtain ⟨p, hp⟩ := pr_real (X := fX m c) hN hW b s ⟨128 * h.val + (ln a d).val, by omega⟩
  obtain ⟨p', hp'⟩ := pr_real (X := fX m c) hN hW b s ⟨128 * h.val + (mate (ln a d)).val, by omega⟩
  obtain ⟨x, hx⟩ := cosT_real s (ln a d)
  obtain ⟨x', hx'⟩ := sinT_real s (ln a d)
  rw [hp, hp', hx, hx', qsc_eq]
  refine ⟨⟨p * x + p' * x', by push_cast; rfl⟩, ?_⟩
  simp only [← EReal.coe_mul, ← EReal.coe_add]
  exact congrArg _ (by ring)

omit hN hW in
/-- The reference's score of key `k` for query `p`, a real number. -/
def lR (m : (ℓ : Loc nD τ sig) → Buf (Elt Ideal) ℓ) (c : Dev nD) (b : Fin 4) (h : Fin 8) (a : Fin 2) (p : Fin 4096) (k : ℕ) : ℝ :=
  if hk : k < 4096 then (∑ d : Fin 64, (rq' m c b h a p d).toReal * (rk' m c b h a ⟨k, hk⟩ d).toReal) * (1 / 8) else 0

theorem sco_eq (b : Fin 4) (h : Fin 8) (a : Fin 2) (p : Fin 4096) :
    sco (ax m c) (anw m c) (awi m c) b h a p = row (lR m c b h a p) p.val := by
  funext k
  unfold sco row
  refine if_congr Iff.rfl ?_ rfl
  have e : (∑ d : Fin 64, rq' m c b h a p d * rk' m c b h a k d)
      = ((∑ d : Fin 64, (rq' m c b h a p d).toReal * (rk' m c b h a k d).toReal : ℝ) : EReal) := by
    rw [← coe_sum']
    refine Finset.sum_congr rfl fun d _ => ?_
    rw [EReal.coe_mul, ← ((qF_pair hN hW b p h a d).1).toReal, ← (rk_real hN hW b h a k d).toReal]
  refine (congrArg (· * Ideal.ofBits .f32 0x3E000000#32) e).trans ?_
  rw [bits_eighth, ← EReal.coe_mul]
  unfold lR
  rw [dif_pos k.isLt]

/-- Each weight of the reference is a real number. -/
theorem sft_eq (b : Fin 4) (h : Fin 8) (a : Fin 2) (p k : Fin 4096) : sft (ax m c) (anw m c) (awi m c) b h a p k
    = ((if k.val ≤ p.val then Real.exp (lR m c b h a p k.val) / tot (lR m c b h a p) p.val else 0 : ℝ) : EReal) := by
  unfold sft smx
  rw [sco_eq hN hW]
  exact softmax_row _ p.val p.isLt _ rfl k

/-- The kernel's score is the reference's over the logarithm of two. -/
theorem score_eq (b : Fin 4) (h : Fin 8) (a : Fin 2) (p : Fin 4096) (k : ℕ) :
    ∑ d : Fin 64, kR m c b h k (ln a d) * qR m c b h p.val (ln a d) = lR m c b h a p k * (Real.log 2)⁻¹ := by
  unfold kR qR lR
  by_cases hk : k < 4096
  · rw [dif_pos hk, Finset.sum_mul, Finset.sum_mul]
    refine Finset.sum_congr rfl fun d _ => ?_
    rw [dif_pos hk, dif_pos p.isLt, kF_rot, (qF_pair hN hW b p h a d).2, qsc_eq, EReal.toReal_mul, EReal.toReal_coe]
    ring
  · rw [dif_neg hk, zero_mul]
    exact Finset.sum_eq_zero fun d _ => by rw [dif_neg hk, zero_mul]

theorem half0 (b : Fin 4) (h : Fin 8) (p : Fin 4096) (k : ℕ) :
    (∑ d : Fin 128, kR m c b h k d * if d.val < 64 then qR m c b h p.val d else 0) = lR m c b h 0 p k * (Real.log 2)⁻¹ := by
  rw [← score_eq hN hW, Fin.sum_univ_two_halves 64 64 rfl]
  refine (congrArg₂ (· + ·) (Finset.sum_congr rfl fun d _ => ?_) (Finset.sum_eq_zero fun d _ => ?_)).trans (add_zero _)
  · rw [if_pos (by show d.val < 64; exact d.isLt)]
    have e : (⟨d.val, by omega⟩ : Fin 128) = ln 0 d := Fin.ext (by show d.val = 64 * 0 + d.val; omega)
    rw [e]
  · rw [if_neg (by show ¬ 64 + d.val < 64; omega), mul_zero]

theorem half1 (b : Fin 4) (h : Fin 8) (p : Fin 4096) (k : ℕ) :
    (∑ d : Fin 128, kR m c b h k d * if 64 ≤ d.val then qR m c b h p.val d else 0) = lR m c b h 1 p k * (Real.log 2)⁻¹ := by
  rw [← score_eq hN hW, Fin.sum_univ_two_halves 64 64 rfl]
  refine (congrArg₂ (· + ·) (Finset.sum_eq_zero fun d _ => ?_) (Finset.sum_congr rfl fun d _ => ?_)).trans (zero_add _)
  · rw [if_neg (by show ¬ 64 ≤ d.val; omega), mul_zero]
  · rw [if_pos (by show 64 ≤ 64 + d.val; omega)]
    rfl

omit hN hW in
/-- Powers of two of scores over the logarithm of two are exponentials of the scores. -/
theorem avg_log (p : ℕ) (l v : ℕ → ℝ) : avg p (fun k => l k * (Real.log 2)⁻¹) v = wavg l v p := by
  have e : ∀ k, Real.rpow 2 (l k * (Real.log 2)⁻¹) = Real.exp (l k) := fun k => by
    have h2 : Real.log 2 ≠ 0 := (Real.log_pos (by norm_num)).ne'
    show (2 : ℝ) ^ (l k * (Real.log 2)⁻¹) = _
    rw [Real.rpow_def_of_pos (by norm_num)]
    congr 1
    field_simp
  unfold avg wavg tot
  simp only [e]
  exact congrArg (· / _) (Finset.sum_congr rfl fun k _ => mul_comm _ _)

variable (hL : ∀ a d, Fin' (fL m c a d))
include hL

omit hN hW in
theorem lam_real : Fin' (lamOf (fL m c)) := by
  obtain ⟨u, hu⟩ := Fin'.sum (s := Finset.univ) (f := fun d => fL m c 0 d * fL m c 1 d) fun d _ => (hL 0 d).mul (hL 1 d)
  obtain ⟨v, hv⟩ := Fin'.sum (s := Finset.univ) (f := fun d => fL m c 2 d * fL m c 3 d) fun d _ => (hL 2 d).mul (hL 3 d)
  unfold lamOf
  rw [hu, hv, exp_real, exp_real, ← EReal.coe_sub]
  exact Fin'.add ⟨_, rfl⟩ bits_lam

theorem att_eq (b : Fin 4) (h : Fin 8) (p : Fin 4096) (e : Fin 128) :
    att (ax m c) (anw m c) (awi m c) (alm m c) b h p e
      = ((avg p.val (fun k => ∑ d : Fin 128, kR m c b h k d * if d.val < 64 then qR m c b h p.val d else 0) (vR m c b h ⟨e.val, by omega⟩) : ℝ) : EReal)
        - lamOf (fL m c) * ((avg p.val (fun k => ∑ d : Fin 128, kR m c b h k d * if 64 ≤ d.val then qR m c b h p.val d else 0) (vR m c b h ⟨e.val, by omega⟩) : ℝ) : EReal) := by
  simp only [half0 hN hW, half1 hN hW, avg_log]
  obtain ⟨lam, hlam⟩ := lam_real hL
  rw [hlam, ← diff_avg _ _ _ _ p.isLt]
  unfold att
  refine Finset.sum_congr rfl fun k _ => ?_
  rw [sft_eq hN hW, sft_eq hN hW]
  refine congrArg₂ (· * ·) (congrArg₂ (· - ·) rfl (congrArg (· * _) hlam)) ?_
  unfold vR vF
  rw [dif_pos k.isLt, dif_pos (by show e.val < 128; exact e.isLt)]
  exact (pr_real (X := fX m c) hN hW b k _).toReal

/-- The reference's result is what the kernel leaves. -/
theorem ref_eq : Cert.DiffReferenceIdeal.Read.val_main_v161 (F := Ideal) (ax m c) (anw m c) (awi m c) (alm m c) (asl m c) = outG m c := by
  funext y
  obtain ⟨b, s, j, rfl⟩ : ∃ (b : Fin 4) (s : Fin 4096) (j : Fin 1024), y = ix3 b s j := ⟨y 0, y 1, y 2, eq_ix3 y⟩
  rw [Cert.DiffReferenceIdeal.Spec.v161_at]
  have e : (⟨j.val / 128 % 8, by omega⟩ : Fin 8) = ⟨j.val / 128, by omega⟩ := Fin.ext (by show j.val / 128 % 8 = j.val / 128; omega)
  show _ = res m c b s.val ⟨j.val / 128 % 8, by omega⟩ ⟨j.val % 128, by omega⟩
  rw [e]
  refine (congrArg (fun f => nrm f (fS m c) ⟨j.val % 128, by omega⟩) (funext fun e => att_eq hN hW hL b ⟨j.val / 128, by omega⟩ s e)).trans ?_
  rfl

end Cert.DiffIdeal.Proj

end
-- ==== Proof.Diff.Claims.lean ====
module

public import proofs.«01_k».proof.Defs
public import proofs.«01_k».proof.Proof.Diff.Pre
public import proofs.«01_k».proof.Proof.Diff.Join
public import proofs.«01_k».proof.Proof.Gen.DiffReferenceIdeal.Run
public import Idealize.ShloMosaic.Lib.Claim

/-! # The claims about the attention layer -/

@[expose] public section

set_option maxRecDepth 16384

noncomputable section

namespace Cert.DiffClaims

open Idealize.ShloMosaic Idealize.ShloMosaic.TcCoe Idealize.SL.Sem

/-- The query scale's name stands for one eighth over the logarithm of two. -/
theorem preserves : Cert.preserves_Diff_DiffIdeal :=
  IdealRules.named_const.statement Cert.DiffIdeal.κ "q_scale" .f32 0x3E38AA3B#32 (((1 / 8) * (Real.log 2)⁻¹ : ℝ) : EReal) rfl

theorem algebraic : Cert.algebraic_DiffIdeal_DiffReferenceIdeal_pre_weights_finite := by
  intro m g m' g' hpre hagree
  refine ⟨fun c => Cert.DiffIdeal.Proj.outG m c, ?_, ?_⟩
  · refine (θ_run Cert.DiffIdeal.defs _ _).mono (fun r h c => ?_) (Cert.DiffIdeal.Run.run_arrays (F := Ideal) m g)
    obtain ⟨p0, p1, p2⟩ := hpre c
    obtain ⟨a0, a1, a2, a3, a4, hv⟩ := h.1 c
    exact ⟨hv.trans (Cert.DiffIdeal.Proj.final g (fun k => Cert.Pre_weights_finite.norm_real _ _ _ _ _ p0 k)
      (fun k j => Cert.Pre_weights_finite.proj_real _ _ _ _ _ p1 k j)), a0, a1, a2, a3, a4⟩
  · refine (θ_run Cert.DiffReferenceIdeal.defs _ _).mono (fun r h c => ?_) (Cert.DiffReferenceIdeal.Value.run (F := Ideal) m' g')
    obtain ⟨p0, p1, p2⟩ := hpre c
    refine ⟨(h c).1.trans ?_, (h c).2⟩
    rw [Cert.DiffReferenceIdeal.Read.val_main_v161_eq]
    obtain ⟨h0, h1, h2, h3, h4⟩ := hagree c
    refine Eq.trans ?_ (Cert.DiffIdeal.Proj.ref_eq (fun k => Cert.Pre_weights_finite.norm_real _ _ _ _ _ p0 k)
      (fun k j => Cert.Pre_weights_finite.proj_real _ _ _ _ _ p1 k j) (fun a d => Cert.Pre_weights_finite.lam_real _ _ _ _ _ p2 a d))
    show Cert.DiffReferenceIdeal.Read.val_main_v161 (F := Ideal) (m' ((c.tc : Thread Cert.DiffReferenceIdeal.nD Cert.DiffReferenceIdeal.τ).loc Cert.DiffReferenceIdeal.main_arg0)) (m' ((c.tc : Thread Cert.DiffReferenceIdeal.nD Cert.DiffReferenceIdeal.τ).loc Cert.DiffReferenceIdeal.main_arg1)) (m' ((c.tc : Thread Cert.DiffReferenceIdeal.nD Cert.DiffReferenceIdeal.τ).loc Cert.DiffReferenceIdeal.main_arg2)) (m' ((c.tc : Thread Cert.DiffReferenceIdeal.nD Cert.DiffReferenceIdeal.τ).loc Cert.DiffReferenceIdeal.main_arg3)) (m' ((c.tc : Thread Cert.DiffReferenceIdeal.nD Cert.DiffReferenceIdeal.τ).loc Cert.DiffReferenceIdeal.main_arg4)) = _
    rw [h0, h1, h2, h3, h4]

theorem frame_ideal : Cert.quiescent_DiffIdeal := fun m g _ => Cert.DiffIdeal.Run.frame m g

theorem frame_ideal_pre : Cert.quiescent_DiffIdeal_pre_weights_finite := fun m g _ => Cert.DiffIdeal.Run.frame m g

theorem frame_reference : Cert.quiescent_DiffReferenceIdeal := by
  intro m g _
  exact (θ_run Cert.DiffReferenceIdeal.defs _ _).mono (fun r h => ⟨fun c => (h c).2, sem_eq_zero_of_no_sems (by decide) r.2⟩)
    (Cert.DiffReferenceIdeal.Value.run (F := Ideal) m g)

theorem frame_reference_pre : Cert.quiescent_DiffReferenceIdeal_pre_weights_finite := fun m g _ => frame_reference m g trivial

end Cert.DiffClaims

end
-- ==== Proof.EvenFfn.Block.lean ====
module
public import proofs.«01_k».proof.Proof.Gen.EvenFfnIdeal.Value
public import proofs.«01_k».proof.Proof.Ffn.Block
@[expose] public section
set_option maxRecDepth 16384
noncomputable section
namespace Cert.EvenFfnIdeal.Value
open Cert.EvenFfnIdeal Cert.EvenFfnIdeal.Gen Idealize.ShloMosaic Idealize.ShloMosaic.TcCoe Idealize.SL.Sem
open Idealize.ShloMosaic.Pipeline (Dat)
open Cert.FfnSpec (rms)
open Cert.FfnIdeal.Value (gated hn_canon tile_at)

/-- Row `p` of the block after the output projection of the two mixers, 512 columns each, and the residual addition. -/
def xmid (X : FVec Ideal S1024x1024 .f32) (A B : FVec Ideal S1024x512 .bf16) (WO : FVec Ideal S1x1024x1024 .bf16)
    (p j : Fin 1024) : EReal :=
  X (ix2 p j) + ∑ k : Fin 512, A (ix2 p k) * WO (ix3 0 ⟨k.val, by omega⟩ j)
    + ∑ k : Fin 512, B (ix2 p k) * WO (ix3 0 ⟨512 + k.val, by omega⟩ j)

/-- The same of the sixteen rows before the block. -/
def xhalo (XP : FVec Ideal S16x1024 .f32) (AP BP : FVec Ideal S16x512 .bf16) (WO : FVec Ideal S1x1024x1024 .bf16)
    (e : Fin 16) (j : Fin 1024) : EReal :=
  XP (ix2 e j) + ∑ k : Fin 512, AP (ix2 e k) * WO (ix3 0 ⟨k.val, by omega⟩ j)
    + ∑ k : Fin 512, BP (ix2 e k) * WO (ix3 0 ⟨512 + k.val, by omega⟩ j)

/-- The normed rows the block works on: sixteen rows of the block before (zero at a sequence's start), then its own. -/
def hnbuf (X : FVec Ideal S1024x1024 .f32) (XP : FVec Ideal S16x1024 .f32) (A B : FVec Ideal S1024x512 .bf16)
    (AP BP : FVec Ideal S16x512 .bf16) (WO : FVec Ideal S1x1024x1024 .bf16) (NW : FVec Ideal S1x1x1024 .f32) (z : BitVec 1)
    (e : Fin 1040) (k : Fin 1024) : EReal :=
  if h : e.val < 16 then Scalar.select z (0 : EReal) (rms (xhalo XP AP BP WO ⟨e.val, h⟩) (fun j => NW (ix3 0 0 j)) k)
  else rms (xmid X A B WO ⟨e.val - 16, by omega⟩) (fun j => NW (ix3 0 0 j)) k

/-- What the block's body leaves at row `p`, column `j`. -/
def blockOut (X : FVec Ideal S1024x1024 .f32) (XP : FVec Ideal S16x1024 .f32) (A B : FVec Ideal S1024x512 .bf16)
    (AP BP : FVec Ideal S16x512 .bf16) (WO : FVec Ideal S1x1024x1024 .bf16) (NW : FVec Ideal S1x1x1024 .f32)
    (WU : FVec Ideal S1x1024x5632 .bf16) (CW : FVec Ideal S1x3x2816 .f32) (CB : FVec Ideal S1x1x2816 .f32)
    (WD : FVec Ideal S1x2816x1024 .bf16) (z : BitVec 1) (p j : Fin 1024) : EReal :=
  xmid X A B WO p j + ∑ f : Fin 2816, gated (hnbuf X XP A B AP BP WO NW z) WU CW CB p f * WD (ix3 0 f j)

/-- The block's number within its sequence, as the body computes it. -/
def seqPos (t : Fin cfg0.N) : BitVec 32 :=
  (Scalar.select
                            (Scalar.andi
                              (Scalar.xori
                                (Scalar.cmpi CmpIPredicate.slt (Scalar.remsi (BitVec.ofNat 32 ↑(grid0.coords t 0)) 4#32)
                                  0#32)
                                0#1)
                              (Scalar.cmpi CmpIPredicate.ne (Scalar.remsi (BitVec.ofNat 32 ↑(grid0.coords t 0)) 4#32)
                                0#32))
                            (Scalar.addi (Scalar.remsi (BitVec.ofNat 32 ↑(grid0.coords t 0)) 4#32) 4#32)
                            (Scalar.remsi (BitVec.ofNat 32 ↑(grid0.coords t 0)) 4#32))

/-- Is point `t` the first block of a sequence? -/
def seqStart (t : Fin cfg0.N) : BitVec 1 := Scalar.cmpi CmpIPredicate.eq (seqPos t) 0#32

section
variable (X : FVec Ideal S1024x1024 .f32) (XP : FVec Ideal S16x1024 .f32) (A B : FVec Ideal S1024x512 .bf16)
    (AP BP : FVec Ideal S16x512 .bf16) (WO : FVec Ideal S1x1024x1024 .bf16) (NW : FVec Ideal S1x1x1024 .f32) (u : BitVec 32)

theorem pay5_at (p j : Fin 1024) : k0_pay5 (F := Ideal) X (View.ld (Val := Elt Ideal) (S := S1x1024x1024) (e' := .bf16) WO
      (Rect.unit (s := S1x1024x1024) ![0, 0, 0] ![1, 512, 1024] inb_S1x1024x1024_S1x512x1024_0_0_0)) A (View.ld (Val := Elt Ideal) (S := S1x1024x1024) (e' := .bf16) WO
      (Rect.unit (s := S1x1024x1024) ![0, 512, 0] ![1, 512, 1024] inb_S1x1024x1024_S1x512x1024_0_512_0)) B (ix2 p j) = xmid X A B WO p j := by
  pointwise [k0_pay5, k0_pay4, k0_pay3, xmid]

theorem pay6_at (e : Fin 16) (j : Fin 1024) : k0_pay6 (F := Ideal) XP (View.ld (Val := Elt Ideal) (S := S1x1024x1024) (e' := .bf16) WO
      (Rect.unit (s := S1x1024x1024) ![0, 0, 0] ![1, 512, 1024] inb_S1x1024x1024_S1x512x1024_0_0_0)) AP (View.ld (Val := Elt Ideal) (S := S1x1024x1024) (e' := .bf16) WO
      (Rect.unit (s := S1x1024x1024) ![0, 512, 0] ![1, 512, 1024] inb_S1x1024x1024_S1x512x1024_0_512_0)) BP (ix2 e j) = xhalo XP AP BP WO e j := by
  pointwise [k0_pay6, k0_pay4, k0_pay3, xhalo]

theorem own_at (p k : Fin 1024) : k0_pay8 (F := Ideal) (k0_pay5 X (View.ld (Val := Elt Ideal) (S := S1x1024x1024) (e' := .bf16) WO
      (Rect.unit (s := S1x1024x1024) ![0, 0, 0] ![1, 512, 1024] inb_S1x1024x1024_S1x512x1024_0_0_0)) A (View.ld (Val := Elt Ideal) (S := S1x1024x1024) (e' := .bf16) WO
      (Rect.unit (s := S1x1024x1024) ![0, 512, 0] ![1, 512, 1024] inb_S1x1024x1024_S1x512x1024_0_512_0)) B) NW (ix2 p k)
    = hnbuf X XP A B AP BP WO NW (Scalar.cmpi .eq u 0#32) ⟨16 + p.val, by omega⟩ k := by
  have h : (⟨16 + p.val - 16, by omega⟩ : Fin 1024) = p := Fin.ext (by simp)
  unfold hnbuf
  rw [dif_neg (by simp)]
  simp only [h]
  have hx : xmid X A B WO p = fun j => (k0_pay5 (F := Ideal) X (View.ld (Val := Elt Ideal) (S := S1x1024x1024) (e' := .bf16) WO
      (Rect.unit (s := S1x1024x1024) ![0, 0, 0] ![1, 512, 1024] inb_S1x1024x1024_S1x512x1024_0_0_0)) A (View.ld (Val := Elt Ideal) (S := S1x1024x1024) (e' := .bf16) WO
      (Rect.unit (s := S1x1024x1024) ![0, 512, 0] ![1, 512, 1024] inb_S1x1024x1024_S1x512x1024_0_512_0)) B) (ix2 p j) :=
    funext fun j => (pay5_at X A B WO p j).symm
  rw [hx]
  generalize k0_pay5 (F := Ideal) X (View.ld (Val := Elt Ideal) (S := S1x1024x1024) (e' := .bf16) WO
      (Rect.unit (s := S1x1024x1024) ![0, 0, 0] ![1, 512, 1024] inb_S1x1024x1024_S1x512x1024_0_0_0)) A (View.ld (Val := Elt Ideal) (S := S1x1024x1024) (e' := .bf16) WO
      (Rect.unit (s := S1x1024x1024) ![0, 512, 0] ![1, 512, 1024] inb_S1x1024x1024_S1x512x1024_0_512_0)) B = Y
  pointwise [k0_pay8, rms]

theorem halo_at (e : Fin 16) (k : Fin 1024) : k0_pay7 (F := Ideal) (k0_pay6 XP (View.ld (Val := Elt Ideal) (S := S1x1024x1024) (e' := .bf16) WO
      (Rect.unit (s := S1x1024x1024) ![0, 0, 0] ![1, 512, 1024] inb_S1x1024x1024_S1x512x1024_0_0_0)) AP (View.ld (Val := Elt Ideal) (S := S1x1024x1024) (e' := .bf16) WO
      (Rect.unit (s := S1x1024x1024) ![0, 512, 0] ![1, 512, 1024] inb_S1x1024x1024_S1x512x1024_0_512_0)) BP) u 0#32 NW (ix2 e k)
    = hnbuf X XP A B AP BP WO NW (Scalar.cmpi .eq u 0#32) ⟨e.val, by omega⟩ k := by
  unfold hnbuf
  rw [dif_pos (show (⟨e.val, _⟩ : Fin 1040).val < 16 from e.isLt)]
  have hx : xhalo XP AP BP WO ⟨e.val, e.isLt⟩ = fun j => k0_pay6 (F := Ideal) XP (View.ld (Val := Elt Ideal) (S := S1x1024x1024) (e' := .bf16) WO
      (Rect.unit (s := S1x1024x1024) ![0, 0, 0] ![1, 512, 1024] inb_S1x1024x1024_S1x512x1024_0_0_0)) AP (View.ld (Val := Elt Ideal) (S := S1x1024x1024) (e' := .bf16) WO
      (Rect.unit (s := S1x1024x1024) ![0, 512, 0] ![1, 512, 1024] inb_S1x1024x1024_S1x512x1024_0_512_0)) BP (ix2 e j) :=
    funext fun j => (pay6_at XP AP BP WO e j).symm
  rw [hx]
  generalize k0_pay6 (F := Ideal) XP (View.ld (Val := Elt Ideal) (S := S1x1024x1024) (e' := .bf16) WO
      (Rect.unit (s := S1x1024x1024) ![0, 0, 0] ![1, 512, 1024] inb_S1x1024x1024_S1x512x1024_0_0_0)) AP (View.ld (Val := Elt Ideal) (S := S1x1024x1024) (e' := .bf16) WO
      (Rect.unit (s := S1x1024x1024) ![0, 512, 0] ![1, 512, 1024] inb_S1x1024x1024_S1x512x1024_0_512_0)) BP = Y
  pointwise [k0_pay7, rms]
end

/-- A load of the whole normed-row buffer after its two stores, -/
theorem rows_all (w1 : FVec Ideal S1024x1024 .bf16) (w2 : FVec Ideal S16x1024 .bf16) (H : Fin 1040 → Fin 1024 → EReal)
    (h1 : ∀ p k, w1 (ix2 p k) = H ⟨16 + p.val, by omega⟩ k) (h2 : ∀ e k, w2 (ix2 e k) = H ⟨e.val, by omega⟩ k) :
    (View.whole cc0_scratch0).readCov (Val := Elt Ideal)
      [⟨Rect.unit ![16, 0] ![1024, 1024] inb_S1040x1024_S1024x1024_16_0, w1⟩,
       ⟨Rect.unit ![0, 0] ![16, 1024] inb_S1040x1024_S16x1024_0_0, w2⟩]
      (Rect.unit (s := S1040x1024) ![0, 0] ![1040, 1024] inb_S1040x1024_S1040x1024_0_0).toLoadRect
      = fun j : S1040x1024.Idx => H (j 0) (j 1) := by
  rw [View.readCov_eq_canon', hn_canon w1 w2 H h1 h2]
  funext j
  refine congrArg₂ H (Fin.ext ?_) (Fin.ext ?_) <;> simp [Rect.unit, LoadRect.idx, Rect.toLoadRect]

/-- and of the block's own rows. -/
theorem rows_own (w1 : FVec Ideal S1024x1024 .bf16) (w2 : FVec Ideal S16x1024 .bf16) (H : Fin 1040 → Fin 1024 → EReal)
    (h1 : ∀ p k, w1 (ix2 p k) = H ⟨16 + p.val, by omega⟩ k) (h2 : ∀ e k, w2 (ix2 e k) = H ⟨e.val, by omega⟩ k) :
    (View.whole cc0_scratch0).readCov (Val := Elt Ideal)
      [⟨Rect.unit ![16, 0] ![1024, 1024] inb_S1040x1024_S1024x1024_16_0, w1⟩,
       ⟨Rect.unit ![0, 0] ![16, 1024] inb_S1040x1024_S16x1024_0_0, w2⟩]
      (Rect.unit (s := S1040x1024) ![16, 0] ![1024, 1024] inb_S1040x1024_S1024x1024_16_0).toLoadRect
      = fun j : S1024x1024.Idx => H ⟨16 + (j 0).val, by have : (j 0).val < 1024 := (j 0).isLt; omega⟩ (j 1) := by
  rw [View.readCov_eq_canon', hn_canon w1 w2 H h1 h2]
  funext j
  refine congrArg₂ H (Fin.ext ?_) (Fin.ext ?_) <;> simp [Rect.unit, LoadRect.idx, Rect.toLoadRect]

/-- The last payload read at equal gated values. -/
theorem pay2_congr {v8 : FVec Ideal S1024x1024 .f32} {v v' : Vec Ideal S1024x2816 .bf16} {w : Vec Ideal S1x2816x1024 .bf16}
    (h : v = v') (y : S1024x1024.Idx) : k0_pay2 (F := Ideal) v8 v w y = k0_pay2 v8 v' w y := by rw [h]

variable (m : (ℓ : Loc nD τ sig) → Buf (Elt Ideal) ℓ)

theorem out_at (c : Dev nD) (t : Fin cfg0.N) (p j : Fin 1024) :
    outsAt0 m c t (ix2 p j) = blockOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (seqStart t) p j := by
  unfold outsAt0
  frame_out
  rw [show (Scalar.select
                            (Scalar.andi
                              (Scalar.xori
                                (Scalar.cmpi CmpIPredicate.slt (Scalar.remsi (BitVec.ofNat 32 ↑(grid0.coords t 0)) 4#32)
                                  0#32)
                                0#1)
                              (Scalar.cmpi CmpIPredicate.ne (Scalar.remsi (BitVec.ofNat 32 ↑(grid0.coords t 0)) 4#32)
                                0#32))
                            (Scalar.addi (Scalar.remsi (BitVec.ofNat 32 ↑(grid0.coords t 0)) 4#32) 4#32)
                            (Scalar.remsi (BitVec.ofNat 32 ↑(grid0.coords t 0)) 4#32)) = seqPos t from rfl]
  unfold seqStart
  generalize seqPos t = u
  generalize iblk m c 0 t = X
  generalize iblk m c 1 t = XP
  generalize iblk m c 2 t = A
  generalize iblk m c 3 t = B
  generalize iblk m c 4 t = AP
  generalize iblk m c 5 t = BP
  generalize iblk m c 6 t = WO
  generalize iblk m c 7 t = NW
  generalize iblk m c 8 t = WU
  generalize iblk m c 9 t = CW
  generalize iblk m c 10 t = CB
  generalize iblk m c 11 t = WD
  refine (pay2_congr (v' := fun y => gated (hnbuf X XP A B AP BP WO NW (Scalar.cmpi .eq u 0#32)) WU CW CB (y 0) (y 1)) ?_ _).trans ?_
  · simp only [rows_all _ _ (hnbuf X XP A B AP BP WO NW (Scalar.cmpi .eq u 0#32)) (own_at X XP A B AP BP WO NW u) (halo_at X XP A B AP BP WO NW u),
      rows_own _ _ (hnbuf X XP A B AP BP WO NW (Scalar.cmpi .eq u 0#32)) (own_at X XP A B AP BP WO NW u) (halo_at X XP A B AP BP WO NW u), View.readCov_eq_canon']
    generalize hnbuf X XP A B AP BP WO NW (Scalar.cmpi .eq u 0#32) = H
    funext y
    refine (View.canon_apply_of_pieces (Val := Elt Ideal) (S := S1024x2816) (e := .bf16) (fun y => gated H WU CW CB (y 0) (y 1)) _ ?_ _
      (View.cover_of_tiledL _ ![1024, 256] (by sl_kernel_rfl) _)).trans ?_
    swap
    · refine congrArg₂ (gated H WU CW CB) (Fin.ext ?_) (Fin.ext ?_) <;> simp [Rect.unit, LoadRect.idx, Rect.toLoadRect]
    intro pc hpc x
    simp only [List.mem_cons, List.not_mem_nil, or_false] at hpc
    rcases hpc with rfl | rfl | rfl | rfl | rfl | rfl | rfl | rfl | rfl | rfl | rfl
    all_goals
      dsimp only at x ⊢
      rw [tile_at (gated H WU CW CB) _ _ x (by decide)]
      pointwise [k0_pay1, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, gated]
      try simp only [← Nat.add_assoc, Nat.reduceAdd]
  · unfold blockOut
    rw [← pay5_at]
    generalize k0_pay5 (F := Ideal) X (View.ld (Val := Elt Ideal) (S := S1x1024x1024) (e' := .bf16) WO
      (Rect.unit (s := S1x1024x1024) ![0, 0, 0] ![1, 512, 1024] inb_S1x1024x1024_S1x512x1024_0_0_0)) A (View.ld (Val := Elt Ideal) (S := S1x1024x1024) (e' := .bf16) WO
      (Rect.unit (s := S1x1024x1024) ![0, 512, 0] ![1, 512, 1024] inb_S1x1024x1024_S1x512x1024_0_512_0)) B = Y
    pointwise [k0_pay2]

end Cert.EvenFfnIdeal.Value
end
-- ==== Proof.EvenFfn.Array.lean ====
module
public import proofs.«01_k».proof.Proof.EvenFfn.Block
@[expose] public section
set_option maxRecDepth 16384
noncomputable section
namespace Cert.EvenFfnIdeal.Value
open Cert.EvenFfnIdeal Cert.EvenFfnIdeal.Gen Idealize.ShloMosaic Idealize.ShloMosaic.TcCoe Idealize.SL.Sem
open Idealize.ShloMosaic.Pipeline (Dat)
open Cert.FfnSpec
open Cert.FfnIdeal.Value (gated)

/-- Every window's block index at every grid point. -/
theorem idx : ∀ t : Fin cfg0.N, win0_0.index t = ![t.val, 0] ∧ win0_1.index t = ![64 * t.val - 1, 0]
    ∧ win0_2.index t = ![t.val, 0] ∧ win0_3.index t = ![t.val, 0] ∧ win0_4.index t = ![64 * t.val - 1, 0]
    ∧ win0_5.index t = ![64 * t.val - 1, 0] ∧ win0_6.index t = ![1, 0, 0] ∧ win0_7.index t = ![2, 0, 0]
    ∧ win0_8.index t = ![2, 0, 0] ∧ win0_9.index t = ![2, 0, 0] ∧ win0_10.index t = ![2, 0, 0]
    ∧ win0_11.index t = ![2, 0, 0] ∧ win0_13.index t = ![t.val, 0] :=
  (by decide +kernel : ∀ t : Fin grid0.N, _)

/-- The first block of a sequence is every fourth point. -/
theorem start_iff : ∀ t : Fin cfg0.N, seqStart t = if t.val % 4 = 0 then 1#1 else 0#1 :=
  (by unfold seqStart seqPos; decide +kernel : ∀ t : Fin grid0.N, _)

theorem lt16 (t : Fin cfg0.N) : t.val < 16 := lt_of_lt_of_eq t.isLt N_0

section
variable (m : (ℓ : Loc nD τ sig) → Buf (Elt Ideal) ℓ) (c : Dev nD)

/-- The residual stream's argument, the two mixers' outputs, and the weights of layer 2. -/
abbrev ax : FVec Ideal S4x4096x1024 .f32 := m ((c : Thread nD τ).loc main_arg0)
abbrev ao : FVec Ideal S16384x512 .bf16 := m ((c : Thread nD τ).loc main_arg1)
abbrev ap : FVec Ideal S16384x512 .bf16 := m ((c : Thread nD τ).loc main_arg2)
abbrev awo : FVec Ideal S2x1024x1024 .f32 := m ((c : Thread nD τ).loc main_arg3)
abbrev anw : FVec Ideal S4x1024 .f32 := m ((c : Thread nD τ).loc main_arg4)
abbrev awu : FVec Ideal S4x1024x5632 .f32 := m ((c : Thread nD τ).loc main_arg5)
abbrev acw : FVec Ideal S4x3x2816 .f32 := m ((c : Thread nD τ).loc main_arg6)
abbrev acb : FVec Ideal S4x2816 .f32 := m ((c : Thread nD τ).loc main_arg7)
abbrev awd : FVec Ideal S4x2816x1024 .f32 := m ((c : Thread nD τ).loc main_arg8)
abbrev afw : FVec Ideal S1024 .f32 := m ((c : Thread nD τ).loc main_arg9)

theorem v0_at (r : Fin 16384) (j : Fin 1024) : (show FVec Ideal S16384x1024 .f32 from V m c main_v0) (ix2 r j)
    = ax m c (ix3 ⟨r.val / 4096, by omega⟩ ⟨r.val % 4096, by omega⟩ j) := by
  entry_read
  pointwise

theorem v1_at : (show FVec Ideal S2x1024x1024 .bf16 from V m c main_v1) = awo m c := by
  entry_read
  rfl

theorem v2_at (l : Fin 4) (j : Fin 1024) : (show FVec Ideal S4x1x1024 .f32 from V m c main_v2) (ix3 l 0 j) = anw m c (ix2 l j) := by
  entry_read
  pointwise

theorem v3_at : (show FVec Ideal S4x1024x5632 .bf16 from V m c main_v3) = awu m c := by
  entry_read
  rfl

theorem v4_at (l : Fin 4) (j : Fin 2816) : (show FVec Ideal S4x1x2816 .f32 from V m c main_v4) (ix3 l 0 j) = acb m c (ix2 l j) := by
  entry_read
  pointwise

theorem v5_at : (show FVec Ideal S4x2816x1024 .bf16 from V m c main_v5) = awd m c := by
  entry_read
  rfl

theorem rd0 (t : Fin cfg0.N) (p j : Fin 1024) : iblk m c 0 t (ix2 p j)
    = ax m c (ix3 ⟨t.val / 4, by have := lt16 t; omega⟩ ⟨1024 * (t.val % 4) + p.val, by omega⟩ j) := by
  have h := lt16 t
  refine Eq.trans ?_ ((v0_at m c ⟨1024 * t.val + p.val, by omega⟩ j).trans ?_)
  · blk_ext [iblk, idx t]
  · blk_ext [idx t]

theorem rd1 (t : Fin cfg0.N) (ht : t.val % 4 ≠ 0) (e : Fin 16) (j : Fin 1024) : iblk m c 1 t (ix2 e j)
    = ax m c (ix3 ⟨t.val / 4, by have := lt16 t; omega⟩ ⟨1024 * (t.val % 4) - 16 + e.val, by omega⟩ j) := by
  have h := lt16 t
  refine Eq.trans ?_ ((v0_at m c ⟨1024 * t.val - 16 + e.val, by omega⟩ j).trans ?_)
  · blk_ext [iblk, idx t]
  · blk_ext [idx t]

theorem rd2 (t : Fin cfg0.N) (p : Fin 1024) (k : Fin 512) : iblk m c 2 t (ix2 p k)
    = ao m c (ix2 ⟨1024 * t.val + p.val, by have := lt16 t; omega⟩ k) := by
  have h := lt16 t
  blk_ext [iblk, V, idx t]

theorem rd3 (t : Fin cfg0.N) (p : Fin 1024) (k : Fin 512) : iblk m c 3 t (ix2 p k)
    = ap m c (ix2 ⟨1024 * t.val + p.val, by have := lt16 t; omega⟩ k) := by
  have h := lt16 t
  blk_ext [iblk, V, idx t]

theorem rd4 (t : Fin cfg0.N) (ht : t.val % 4 ≠ 0) (e : Fin 16) (k : Fin 512) : iblk m c 4 t (ix2 e k)
    = ao m c (ix2 ⟨1024 * t.val - 16 + e.val, by have := lt16 t; omega⟩ k) := by
  have h := lt16 t
  blk_ext [iblk, V, idx t]

theorem rd5 (t : Fin cfg0.N) (ht : t.val % 4 ≠ 0) (e : Fin 16) (k : Fin 512) : iblk m c 5 t (ix2 e k)
    = ap m c (ix2 ⟨1024 * t.val - 16 + e.val, by have := lt16 t; omega⟩ k) := by
  have h := lt16 t
  blk_ext [iblk, V, idx t]

theorem rd6 (t : Fin cfg0.N) (k j : Fin 1024) : iblk m c 6 t (ix3 0 k j) = awo m c (ix3 1 k j) := by
  refine Eq.trans ?_ (congrFun (v1_at m c) (ix3 1 k j))
  blk_ext [iblk, idx t]

theorem rd7 (t : Fin cfg0.N) (j : Fin 1024) : iblk m c 7 t (ix3 0 0 j) = anw m c (ix2 2 j) := by
  refine Eq.trans ?_ (v2_at m c 2 j)
  blk_ext [iblk, idx t]

theorem rd8 (t : Fin cfg0.N) (k : Fin 1024) (f : Fin 5632) : iblk m c 8 t (ix3 0 k f) = awu m c (ix3 2 k f) := by
  refine Eq.trans ?_ (congrFun (v3_at m c) (ix3 2 k f))
  blk_ext [iblk, idx t]

theorem rd9 (t : Fin cfg0.N) (d : Fin 3) (f : Fin 2816) : iblk m c 9 t (ix3 0 d f) = acw m c (ix3 2 d f) := by
  blk_ext [iblk, V, idx t]

theorem rd10 (t : Fin cfg0.N) (f : Fin 2816) : iblk m c 10 t (ix3 0 0 f) = acb m c (ix2 2 f) := by
  refine Eq.trans ?_ (v4_at m c 2 f)
  blk_ext [iblk, idx t]

theorem rd11 (t : Fin cfg0.N) (f : Fin 2816) (j : Fin 1024) : iblk m c 11 t (ix3 0 f j) = awd m c (ix3 2 f j) := by
  refine Eq.trans ?_ (congrFun (v5_at m c) (ix3 2 f j))
  blk_ext [iblk, idx t]

/-- The rows the network works on: the residual stream plus the two mixers' outputs through their halves of the projection. -/
def xm : Rows := fun b s j => ax m c (ix3 b s j)
  + ∑ k : Fin 512, ao m c (ix2 ⟨4096 * b.val + s.val, by omega⟩ k) * awo m c (ix3 1 ⟨k.val, by omega⟩ j)
  + ∑ k : Fin 512, ap m c (ix2 ⟨4096 * b.val + s.val, by omega⟩ k) * awo m c (ix3 1 ⟨512 + k.val, by omega⟩ j)

/-- The sequence of grid point `t`, and the position of its row `p`. -/
def seqOf (t : Fin cfg0.N) : Fin 4 := ⟨t.val / 4, by have := lt16 t; omega⟩
def posOf (t : Fin cfg0.N) (p : Fin 1024) : Fin 4096 := ⟨1024 * (t.val % 4) + p.val, by omega⟩

theorem xmid_eq (t : Fin cfg0.N) (p j : Fin 1024) :
    xmid (iblk m c 0 t) (iblk m c 2 t) (iblk m c 3 t) (iblk m c 6 t) p j = xm m c (seqOf t) (posOf t p) j := by
  unfold xmid xm
  refine congrArg₂ (· + ·) (congrArg₂ (· + ·) (rd0 m c t p j) (Finset.sum_congr rfl fun k _ => ?_))
    (Finset.sum_congr rfl fun k _ => ?_)
  · refine congrArg₂ (· * ·) ((rd2 m c t p k).trans ?_) (rd6 m c t _ j)
    exact congrArg (ao m c) (congrArg₂ ix2 (Fin.ext (by simp only [seqOf, posOf]; omega)) rfl)
  · refine congrArg₂ (· * ·) ((rd3 m c t p k).trans ?_) (rd6 m c t _ j)
    exact congrArg (ap m c) (congrArg₂ ix2 (Fin.ext (by simp only [seqOf, posOf]; omega)) rfl)

theorem xhalo_eq (t : Fin cfg0.N) (ht : t.val % 4 ≠ 0) (e : Fin 16) (j : Fin 1024) :
    xhalo (iblk m c 1 t) (iblk m c 4 t) (iblk m c 5 t) (iblk m c 6 t) e j
      = xm m c (seqOf t) ⟨1024 * (t.val % 4) - 16 + e.val, by omega⟩ j := by
  unfold xhalo xm
  refine congrArg₂ (· + ·) (congrArg₂ (· + ·) (rd1 m c t ht e j) (Finset.sum_congr rfl fun k _ => ?_))
    (Finset.sum_congr rfl fun k _ => ?_)
  · refine congrArg₂ (· * ·) ((rd4 m c t ht e k).trans ?_) (rd6 m c t _ j)
    exact congrArg (ao m c) (congrArg₂ ix2 (Fin.ext (by simp only [seqOf]; omega)) rfl)
  · refine congrArg₂ (· * ·) ((rd5 m c t ht e k).trans ?_) (rd6 m c t _ j)
    exact congrArg (ap m c) (congrArg₂ ix2 (Fin.ext (by simp only [seqOf]; omega)) rfl)

/-- The normed rows of the block are the normed rows of the sequence, zero before its start. -/
theorem hn_eq (t : Fin cfg0.N) (p : Fin 1024) (d : ℕ) (hd : d ≤ 16) (k : Fin 1024) :
    hnbuf (iblk m c 0 t) (iblk m c 1 t) (iblk m c 2 t) (iblk m c 3 t) (iblk m c 4 t) (iblk m c 5 t) (iblk m c 6 t) (iblk m c 7 t) (seqStart t)
      ⟨16 - d + p.val, by omega⟩ k
    = normed (xm m c) (fun k => anw m c (ix2 2 k)) (seqOf t) (posOf t p) d k := by
  have hw : (fun j => iblk m c 7 t (ix3 0 0 j)) = fun k => anw m c (ix2 2 k) := funext fun j => rd7 m c t j
  unfold hnbuf normed
  by_cases h : 16 - d + p.val < 16
  · rw [dif_pos h, start_iff t]
    by_cases ht : t.val % 4 = 0
    · rw [if_pos ht, if_neg (by simp only [posOf]; omega)]
      rfl
    · rw [if_neg ht, if_pos (by simp only [posOf]; omega)]
      refine Eq.trans (b := rms (xhalo (iblk m c 1 t) (iblk m c 4 t) (iblk m c 5 t) (iblk m c 6 t) ⟨16 - d + p.val, h⟩)
        (fun j => iblk m c 7 t (ix3 0 0 j)) k) rfl ?_
      rw [hw]
      refine congrArg (fun v => rms v _ k) (funext fun j => (xhalo_eq m c t ht _ j).trans ?_)
      exact congrArg (fun s => xm m c (seqOf t) s j) (Fin.ext (by simp only [posOf]; omega))
  · rw [dif_neg h, if_pos (by simp only [posOf]; omega)]
    rw [hw]
    refine congrArg (fun v => rms v _ k) (funext fun j => (xmid_eq m c t _ j).trans ?_)
    exact congrArg (fun s => xm m c (seqOf t) s j) (Fin.ext (by simp only [posOf]; omega))

/-- The weights of layer 2, as the network's functions of their coordinates. -/
abbrev wNorm : Fin 1024 → EReal := fun k => anw m c (ix2 2 k)
abbrev wUp : Fin 1024 → Fin 5632 → EReal := fun k f => awu m c (ix3 2 k f)
abbrev wConv : Fin 3 → Fin 2816 → EReal := fun d f => acw m c (ix3 2 d f)
abbrev bConv : Fin 2816 → EReal := fun f => acb m c (ix2 2 f)
abbrev wDown : Fin 2816 → Fin 1024 → EReal := fun f j => awd m c (ix3 2 f j)

theorem ge_eq (t : Fin cfg0.N) (p : Fin 1024) (d : ℕ) (hd : d ≤ 16) (e : Fin 1040) (he : e.val = 16 - d + p.val) (f : Fin 5632) :
    (∑ k : Fin 1024, hnbuf (iblk m c 0 t) (iblk m c 1 t) (iblk m c 2 t) (iblk m c 3 t) (iblk m c 4 t) (iblk m c 5 t) (iblk m c 6 t) (iblk m c 7 t) (seqStart t) e k
        * iblk m c 8 t (ix3 0 k f))
    = ∑ k : Fin 1024, normed (xm m c) (wNorm m c) (seqOf t) (posOf t p) d k * wUp m c k f := by
  exact Finset.sum_congr rfl fun k _ => congrArg₂ (· * ·)
    ((congrArg (fun e => hnbuf _ _ _ _ _ _ _ _ _ e k) (Fin.ext he)).trans (hn_eq m c t p d hd k)) (rd8 m c t k f)

theorem gated_eq (t : Fin cfg0.N) (p : Fin 1024) (f : Fin 2816) :
    gated (hnbuf (iblk m c 0 t) (iblk m c 1 t) (iblk m c 2 t) (iblk m c 3 t) (iblk m c 4 t) (iblk m c 5 t) (iblk m c 6 t) (iblk m c 7 t) (seqStart t))
      (iblk m c 8 t) (iblk m c 9 t) (iblk m c 10 t) p f
    = gatedVal (xm m c) (wNorm m c) (wUp m c) (wConv m c) (bConv m c) (seqOf t) (posOf t p) f := by
  unfold gated gatedVal gate proj
  simp only []
  rw [ge_eq m c t p 0 (by omega) ⟨16 + p.val, by omega⟩ (by simp), ge_eq m c t p 2 (by omega) ⟨14 + p.val, by omega⟩ (by simp),
    ge_eq m c t p 1 (by omega) ⟨15 + p.val, by omega⟩ (by simp), ge_eq m c t p 0 (by omega) ⟨16 + p.val, by omega⟩ (by simp),
    rd10, rd9, rd9, rd9]

/-- The layer's result: the network's row added to its input. -/
def result (b : Fin 4) (s : Fin 4096) (j : Fin 1024) : EReal :=
  ffnRow (xm m c) (wNorm m c) (wUp m c) (wConv m c) (bConv m c) (wDown m c) b s j

theorem block_eq (t : Fin cfg0.N) (p j : Fin 1024) :
    outsAt0 m c t (ix2 p j) = result m c (seqOf t) (posOf t p) j := by
  refine (out_at m c t p j).trans ?_
  unfold blockOut result ffnRow
  exact congrArg₂ (· + ·) (xmid_eq m c t p j)
    (Finset.sum_congr rfl fun f _ => congrArg₂ (· * ·) (gated_eq m c t p f) (rd11 m c t f j))

/-- The result array: row `r` is position `r mod 4096` of sequence `r div 4096`. -/
def G : FVec Ideal S16384x1024 .f32 := fun y => result m c ⟨(y 0).val / 4096, by have : (y 0).val < 16384 := (y 0).isLt; omega⟩
  ⟨(y 0).val % 4096, by omega⟩ (y 1)

theorem final : (dats m 0 c).arrAt 13 (cfgs 0).N = G m c := by
  refine (dats m 0 c).arrAt_eq_of_covers 13 _ (by decide +kernel) fun t _ y => ?_
  blk_simp
  rw [after0_13]
  have h := lt16 t
  refine (congrArg (outsAt0 m c t) (eq_ix2 y)).trans ((block_eq m c t (y 0) (y 1)).trans ?_)
  have hy : (y 0).val < 1024 := (y 0).isLt
  have e0 : ((win0_13.blk t).view.emb y 0 : ℕ) = 1024 * t.val + (y 0).val := by
    blk_simp [idx t]
    simp
    omega
  have e1 : ((win0_13.blk t).view.emb y 1 : ℕ) = (y 1).val := by
    blk_simp [idx t]
  unfold G
  refine congr (congrArg₂ (result m c) (Fin.ext ?_) (Fin.ext ?_)) (Fin.ext e1.symm)
  · simp only [seqOf, e0]; omega
  · simp only [posOf, e0]; omega
end

end Cert.EvenFfnIdeal.Value

end
-- ==== Proof.EvenFfn.Ref.lean ====
module
public import proofs.«01_k».proof.Proof.Gen.EvenFfnReferenceIdeal.Read
public import proofs.«01_k».proof.Proof.Ffn.Spec
@[expose] public section
set_option maxRecDepth 16384
noncomputable section
namespace Cert.EvenFfnReferenceIdeal.Spec
open Cert.EvenFfnReferenceIdeal Cert.EvenFfnReferenceIdeal.Gen Cert.EvenFfnReferenceIdeal.Read Idealize.ShloMosaic Idealize.ShloMosaic.TcCoe
open Cert.FfnSpec

variable (x0 : FVec Ideal S4x4096x1024 .f32) (x1 x2 : FVec Ideal S16384x512 .bf16) (x3 : FVec Ideal S2x1024x1024 .f32)
  (x4 : FVec Ideal S4x1024 .f32) (x5 : FVec Ideal S4x1024x5632 .f32) (x6 : FVec Ideal S4x3x2816 .f32)
  (x7 : FVec Ideal S4x2816 .f32) (x8 : FVec Ideal S4x2816x1024 .f32)

/-- The rows the network works on, read from the reference's arguments. -/
def xm : Rows := fun b s j => x0 (ix3 b s j)
  + ∑ k : Fin 512, x1 (ix2 ⟨4096 * b.val + s.val, by omega⟩ k) * x3 (ix3 1 ⟨k.val, by omega⟩ j)
  + ∑ k : Fin 512, x2 (ix2 ⟨4096 * b.val + s.val, by omega⟩ k) * x3 (ix3 1 ⟨512 + k.val, by omega⟩ j)

theorem v8_at (b : Fin 4) (s : Fin 4096) (j : Fin 1024) : val_main_v8 (F := Ideal) x0 x1 x2 x3 (ix3 b s j) = xm x0 x1 x2 x3 b s j := by
  pointwise [val_main_v8, val_main_v7, val_main_v6, val_main_v5, val_main_v4, val_main_v3, val_main_v2, val_main_v1, val_main_v0, xm]
  simp only [Nat.mul_comm b.val 4096, add_assoc]

theorem v23_at (b : Fin 4) (s : Fin 4096) (j : Fin 1024) : val_main_v23 (F := Ideal) x0 x1 x2 x3 x4 (ix3 b s j)
    = rms (xm x0 x1 x2 x3 b s) (fun k => x4 (ix2 2 k)) j := by
  pointwise [val_main_v23, val_main_v22, val_main_v21, val_main_v20, val_main_v19, val_main_v18, val_main_v17, val_main_v16,
    val_main_v15, val_main_v14, val_main_v13, val_main_v12, val_main_v11, val_main_v10, val_main_v9, val_main_cst, val_main_cst_0,
    val_main_cst_1]
  simp only [v8_at]
  rfl

/-- The weights of layer 2, as the network's functions of their coordinates. -/
abbrev wNorm : Fin 1024 → EReal := fun k => x4 (ix2 2 k)
abbrev wUp : Fin 1024 → Fin 5632 → EReal := fun k f => x5 (ix3 2 k f)
abbrev wConv : Fin 3 → Fin 2816 → EReal := fun d f => x6 (ix3 2 d f)
abbrev bConv : Fin 2816 → EReal := fun f => x7 (ix2 2 f)
abbrev wDown : Fin 2816 → Fin 1024 → EReal := fun f j => x8 (ix3 2 f j)

theorem normed_zero (w : Fin 1024 → EReal) (b : Fin 4) (s : Fin 4096) (k : Fin 1024) :
    normed (xm x0 x1 x2 x3) w b s 0 k = rms (xm x0 x1 x2 x3 b s) w k := by
  unfold normed
  rw [if_pos (Nat.zero_le _)]
  rfl

theorem v32_at (b : Fin 4) (s : Fin 4096) (f : Fin 5632) : val_main_v32 (F := Ideal) x0 x1 x2 x3 x4 x5 (ix3 b s f)
    = ∑ k : Fin 1024, rms (xm x0 x1 x2 x3 b s) (wNorm x4) k * wUp x5 k f := by
  pointwise [val_main_v32, val_main_v25, val_main_v24]
  simp only [v23_at]

/-- The padded gate at the row that `d` before position `s` has: the gate's projection there, zero before the start. -/
theorem v35_at (b : Fin 4) (s : Fin 4096) (d : ℕ) (r : Fin 4098) (hd : d ≤ 2) (hr : r.val = s.val + 2 - d) (f : Fin 2816) :
    val_main_v35 (F := Ideal) x0 x1 x2 x3 x4 x5 (ix3 b r f) = proj (xm x0 x1 x2 x3) (wNorm x4) (wUp x5) b s d f := by
  pointwise [val_main_v35, val_main_v33, val_main_call0_v0, val_main_c]
  unfold proj normed
  by_cases h : d ≤ s.val
  · rw [dif_pos (by omega)]
    simp only [if_pos h]
    refine Eq.trans ?_ (v32_at x0 x1 x2 x3 x4 x5 b ⟨s.val - d, by omega⟩ ⟨f.val, by omega⟩)
    exact congrArg (val_main_v32 (F := Ideal) x0 x1 x2 x3 x4 x5)
      (congrArg (fun r => ix3 b r _) (Fin.ext (by simp only [hr]; omega)))
  · rw [dif_neg (by omega)]
    simp only [if_neg h, zero_mul, Finset.sum_const_zero]
    exact (by simp [FloatOps.sitofp] : (FloatOps.sitofp (F := Ideal) .f32 (0#32) : EReal) = 0)

theorem v58_at (b : Fin 4) (s : Fin 4096) (f : Fin 2816) : val_main_v58 (F := Ideal) x0 x1 x2 x3 x4 x5 x6 x7 (ix3 b s f)
    = gate (xm x0 x1 x2 x3) (wNorm x4) (wUp x5) (wConv x6) (bConv x7) b s f := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v29, val_main_v28, val_main_v27, val_main_v26]
  have h0 := v35_at x0 x1 x2 x3 x4 x5 b s 0 ⟨2 + s.val, by omega⟩ (by omega) (by simp only []; omega) f
  have h1 := v35_at x0 x1 x2 x3 x4 x5 b s 1 ⟨1 + s.val, by omega⟩ (by omega) (by simp only []; omega) f
  have h2 := v35_at x0 x1 x2 x3 x4 x5 b s 2 ⟨s.val, by omega⟩ (by omega) (by simp only []; omega) f
  refine (congrArg (· + x7 (ix2 2 f)) (congrArg₂ (· + ·) (congrArg₂ (· + ·) (congrArg (· * x6 (ix3 2 0 f)) h2)
    (congrArg (· * x6 (ix3 2 1 f)) h1)) (congrArg (· * x6 (ix3 2 2 f)) h0))).trans ?_
  unfold gate
  simp only [mul_comm (proj _ _ _ _ _ _ _)]
  ac_rfl

theorem v60_at (b : Fin 4) (s : Fin 4096) (f : Fin 2816) : val_main_v60 (F := Ideal) x0 x1 x2 x3 x4 x5 x6 x7 (ix3 b s f)
    = gatedVal (xm x0 x1 x2 x3) (wNorm x4) (wUp x5) (wConv x6) (bConv x7) b s f := by
  pointwise [val_main_v60, val_main_v59, val_main_v34, val_main_call1_v5, val_main_call1_v4, val_main_call1_v3,
    val_main_call1_v2, val_main_call1_v1, val_main_call1_v0, val_main_call1_cst, val_main_call1_cst_0]
  simp only [v58_at, v32_at]
  unfold gatedVal
  simp only [normed_zero, zero_sub]

theorem v62_at (b : Fin 4) (s : Fin 4096) (j : Fin 1024) : val_main_v62 (F := Ideal) x0 x1 x2 x3 x4 x5 x6 x7 x8 (ix3 b s j)
    = ffnRow (xm x0 x1 x2 x3) (wNorm x4) (wUp x5) (wConv x6) (bConv x7) (wDown x8) b s j := by
  pointwise [val_main_v62, val_main_v61, val_main_v31, val_main_v30]
  simp only [v60_at, v8_at]
  rfl

theorem v63_at (r : Fin 16384) (j : Fin 1024) : val_main_v63 (F := Ideal) x0 x1 x2 x3 x4 x5 x6 x7 x8 (ix2 r j)
    = ffnRow (xm x0 x1 x2 x3) (wNorm x4) (wUp x5) (wConv x6) (bConv x7) (wDown x8) ⟨r.val / 4096, by omega⟩
        ⟨r.val % 4096, by omega⟩ j := by
  pointwise [val_main_v63]
  simp only [v62_at]

end Cert.EvenFfnReferenceIdeal.Spec

end
-- ==== Proof.EvenFfn.Claims.lean ====
module
public import proofs.«01_k».proof.Defs
public import proofs.«01_k».proof.Proof.EvenFfn.Array
public import proofs.«01_k».proof.Proof.EvenFfn.Ref
public import proofs.«01_k».proof.Proof.Gen.EvenFfnReferenceIdeal.Run
public import Idealize.ShloMosaic.Lib.Claim
@[expose] public section
set_option maxRecDepth 16384
noncomputable section
namespace Cert.EvenFfnClaims
open Idealize.ShloMosaic Idealize.ShloMosaic.TcCoe Idealize.SL.Sem

/-- The reference's result, over the kernel's argument arrays, is the array the kernel leaves. -/
theorem ref_eq (m : (ℓ : Loc Cert.EvenFfnIdeal.nD Cert.EvenFfnIdeal.τ Cert.EvenFfnIdeal.sig) → Buf (Elt Ideal) ℓ) (c : Dev Cert.EvenFfnIdeal.nD) :
    Cert.EvenFfnReferenceIdeal.Read.val_main_v63 (F := Ideal) (Cert.EvenFfnIdeal.Value.ax m c) (Cert.EvenFfnIdeal.Value.ao m c) (Cert.EvenFfnIdeal.Value.ap m c)
      (Cert.EvenFfnIdeal.Value.awo m c) (Cert.EvenFfnIdeal.Value.anw m c) (Cert.EvenFfnIdeal.Value.awu m c) (Cert.EvenFfnIdeal.Value.acw m c)
      (Cert.EvenFfnIdeal.Value.acb m c) (Cert.EvenFfnIdeal.Value.awd m c)
    = Cert.EvenFfnIdeal.Value.G m c :=
  funext fun y => (congrArg _ (eq_ix2 y)).trans
    (Cert.EvenFfnReferenceIdeal.Spec.v63_at _ _ _ _ _ _ _ _ _ (y 0) (y 1))

theorem algebraic : Cert.algebraic_EvenFfnIdeal_EvenFfnReferenceIdeal := by
  pair_intro
  · run_from Cert.EvenFfnIdeal.Value.run_blocks m g
  · run_from Cert.EvenFfnReferenceIdeal.Value.run m' g'
    rw [Cert.EvenFfnReferenceIdeal.Read.val_main_v63_eq]
    obtain ⟨h0, h1, h2, h3, h4, h5, h6, h7, h8, -⟩ := hagree c
    rw [h0, h1, h2, h3, h4, h5, h6, h7, h8]
    exact (ref_eq m c).trans (Cert.EvenFfnIdeal.Value.final m c).symm

theorem frame_reference : Cert.quiescent_EvenFfnReferenceIdeal := by
  intro m g _
  exact (θ_run Cert.EvenFfnReferenceIdeal.defs _ _).mono (fun r h => ⟨fun c => (h c).2, sem_eq_zero_of_no_sems (by decide) r.2⟩)
    (Cert.EvenFfnReferenceIdeal.Value.run (F := Ideal) m g)

end Cert.EvenFfnClaims

end
-- ==== Proof.MidFfn.Block.lean ====
module
public import proofs.«01_k».proof.Proof.Gen.MidFfnIdeal.Value
public import proofs.«01_k».proof.Proof.Ffn.Block
@[expose] public section
set_option maxRecDepth 16384
noncomputable section
namespace Cert.MidFfnIdeal.Value
open Cert.MidFfnIdeal Cert.MidFfnIdeal.Gen Idealize.ShloMosaic Idealize.ShloMosaic.TcCoe Idealize.SL.Sem
open Idealize.ShloMosaic.Pipeline (Dat)
open Cert.FfnSpec (rms)
open Cert.FfnIdeal.Value (xmid xhalo hnbuf gated hn_canon tile_at)

/-- What the block's body leaves at row `p`, column `j`. -/
def blockOut (X : FVec Ideal S1024x1024 .f32) (XP : FVec Ideal S16x1024 .f32) (A : FVec Ideal S1024x1024 .bf16)
    (AP : FVec Ideal S16x1024 .bf16) (WO : FVec Ideal S1x1024x1024 .bf16) (NW : FVec Ideal S1x1x1024 .f32)
    (WU : FVec Ideal S1x1024x5632 .bf16) (CW : FVec Ideal S1x3x2816 .f32) (CB : FVec Ideal S1x1x2816 .f32)
    (WD : FVec Ideal S1x2816x1024 .bf16) (z : BitVec 1) (p j : Fin 1024) : EReal :=
  xmid X A WO p j + ∑ f : Fin 2816, gated (hnbuf X XP A AP WO NW z) WU CW CB p f * WD (ix3 0 f j)

/-- Is point `t` the first block of a sequence? As the body computes it. -/
def seqStart (t : Fin cfg0.N) : BitVec 1 :=
  (Scalar.cmpi CmpIPredicate.eq
                          (Scalar.select
                            (Scalar.andi
                              (Scalar.xori
                                (Scalar.cmpi CmpIPredicate.slt (Scalar.remsi (BitVec.ofNat 32 ↑(grid0.coords t 0)) 4#32)
                                  0#32)
                                0#1)
                              (Scalar.cmpi CmpIPredicate.ne (Scalar.remsi (BitVec.ofNat 32 ↑(grid0.coords t 0)) 4#32)
                                0#32))
                            (Scalar.addi (Scalar.remsi (BitVec.ofNat 32 ↑(grid0.coords t 0)) 4#32) 4#32)
                            (Scalar.remsi (BitVec.ofNat 32 ↑(grid0.coords t 0)) 4#32))
                          0#32)

section
variable (X : FVec Ideal S1024x1024 .f32) (XP : FVec Ideal S16x1024 .f32) (A : FVec Ideal S1024x1024 .bf16)
    (AP : FVec Ideal S16x1024 .bf16) (WO : FVec Ideal S1x1024x1024 .bf16) (NW : FVec Ideal S1x1x1024 .f32) (z : BitVec 1)

theorem own_at (p k : Fin 1024) : k0_pay8 (F := Ideal) (k0_pay3 X WO A) NW (ix2 p k)
    = hnbuf X XP A AP WO NW z ⟨16 + p.val, by omega⟩ k := by
  have h : (⟨16 + p.val - 16, by omega⟩ : Fin 1024) = p := Fin.ext (by simp)
  unfold hnbuf
  rw [dif_neg (by simp)]
  simp only [h]
  pointwise [k0_pay8, k0_pay3, k0_pay2, rms, xmid]

theorem halo_at (e : Fin 16) (k : Fin 1024) : k0_pay7 (F := Ideal) (k0_pay4 XP WO AP) z (k0_pay5 NW) (k0_pay6 XP WO AP) (ix2 e k)
    = hnbuf X XP A AP WO NW z ⟨e.val, by omega⟩ k := by
  unfold hnbuf
  rw [dif_pos (show (⟨e.val, _⟩ : Fin 1040).val < 16 from e.isLt)]
  pointwise [k0_pay7, k0_pay6, k0_pay5, k0_pay4, k0_pay2, rms, xhalo]
end

/-- A load of the whole normed-row buffer after its two stores, -/
theorem rows_all (w1 : FVec Ideal S1024x1024 .bf16) (w2 : FVec Ideal S16x1024 .bf16) (H : Fin 1040 → Fin 1024 → EReal)
    (h1 : ∀ p k, w1 (ix2 p k) = H ⟨16 + p.val, by omega⟩ k) (h2 : ∀ e k, w2 (ix2 e k) = H ⟨e.val, by omega⟩ k) :
    (View.whole cc0_scratch0).readCov (Val := Elt Ideal)
      [⟨Rect.unit ![16, 0] ![1024, 1024] inb_S1040x1024_S1024x1024_16_0, w1⟩,
       ⟨Rect.unit ![0, 0] ![16, 1024] inb_S1040x1024_S16x1024_0_0, w2⟩]
      (Rect.unit (s := S1040x1024) ![0, 0] ![1040, 1024] inb_S1040x1024_S1040x1024_0_0).toLoadRect
      = fun j : S1040x1024.Idx => H (j 0) (j 1) := by
  rw [View.readCov_eq_canon', hn_canon w1 w2 H h1 h2]
  funext j
  refine congrArg₂ H (Fin.ext ?_) (Fin.ext ?_) <;> simp [Rect.unit, LoadRect.idx, Rect.toLoadRect]

/-- and of the block's own rows. -/
theorem rows_own (w1 : FVec Ideal S1024x1024 .bf16) (w2 : FVec Ideal S16x1024 .bf16) (H : Fin 1040 → Fin 1024 → EReal)
    (h1 : ∀ p k, w1 (ix2 p k) = H ⟨16 + p.val, by omega⟩ k) (h2 : ∀ e k, w2 (ix2 e k) = H ⟨e.val, by omega⟩ k) :
    (View.whole cc0_scratch0).readCov (Val := Elt Ideal)
      [⟨Rect.unit ![16, 0] ![1024, 1024] inb_S1040x1024_S1024x1024_16_0, w1⟩,
       ⟨Rect.unit ![0, 0] ![16, 1024] inb_S1040x1024_S16x1024_0_0, w2⟩]
      (Rect.unit (s := S1040x1024) ![16, 0] ![1024, 1024] inb_S1040x1024_S1024x1024_16_0).toLoadRect
      = fun j : S1024x1024.Idx => H ⟨16 + (j 0).val, by have : (j 0).val < 1024 := (j 0).isLt; omega⟩ (j 1) := by
  rw [View.readCov_eq_canon', hn_canon w1 w2 H h1 h2]
  funext j
  refine congrArg₂ H (Fin.ext ?_) (Fin.ext ?_) <;> simp [Rect.unit, LoadRect.idx, Rect.toLoadRect]

/-- The last payload read at equal gated values. -/
theorem pay1_congr {v8 : FVec Ideal S1024x1024 .f32} {v v' : Vec Ideal S1024x2816 .bf16} {w : Vec Ideal S1x2816x1024 .bf16}
    (h : v = v') (y : S1024x1024.Idx) : k0_pay1 (F := Ideal) v8 v w y = k0_pay1 v8 v' w y := by rw [h]

variable (m : (ℓ : Loc nD τ sig) → Buf (Elt Ideal) ℓ)

theorem out_at (c : Dev nD) (t : Fin cfg0.N) (p j : Fin 1024) :
    outsAt0 m c t (ix2 p j) = blockOut (iblk m c 0 t) (iblk m c 1 t) (iblk m c 2 t) (iblk m c 3 t) (iblk m c 4 t) (iblk m c 5 t)
      (iblk m c 6 t) (iblk m c 7 t) (iblk m c 8 t) (iblk m c 9 t) (seqStart t) p j := by
  unfold outsAt0
  frame_out
  rw [show (Scalar.cmpi CmpIPredicate.eq
                          (Scalar.select
                            (Scalar.andi
                              (Scalar.xori
                                (Scalar.cmpi CmpIPredicate.slt (Scalar.remsi (BitVec.ofNat 32 ↑(grid0.coords t 0)) 4#32)
                                  0#32)
                                0#1)
                              (Scalar.cmpi CmpIPredicate.ne (Scalar.remsi (BitVec.ofNat 32 ↑(grid0.coords t 0)) 4#32)
                                0#32))
                            (Scalar.addi (Scalar.remsi (BitVec.ofNat 32 ↑(grid0.coords t 0)) 4#32) 4#32)
                            (Scalar.remsi (BitVec.ofNat 32 ↑(grid0.coords t 0)) 4#32))
                          0#32) = seqStart t from rfl]
  generalize seqStart t = z
  generalize iblk m c 0 t = X
  generalize iblk m c 1 t = XP
  generalize iblk m c 2 t = A
  generalize iblk m c 3 t = AP
  generalize iblk m c 4 t = WO
  generalize iblk m c 5 t = NW
  generalize iblk m c 6 t = WU
  generalize iblk m c 7 t = CW
  generalize iblk m c 8 t = CB
  generalize iblk m c 9 t = WD
  refine (pay1_congr (v' := fun y => gated (hnbuf X XP A AP WO NW z) WU CW CB (y 0) (y 1)) ?_ _).trans ?_
  · simp only [rows_all _ _ (hnbuf X XP A AP WO NW z) (own_at X XP A AP WO NW z) (halo_at X XP A AP WO NW z),
      rows_own _ _ (hnbuf X XP A AP WO NW z) (own_at X XP A AP WO NW z) (halo_at X XP A AP WO NW z), View.readCov_eq_canon']
    generalize hnbuf X XP A AP WO NW z = H
    funext y
    refine (View.canon_apply_of_pieces (Val := Elt Ideal) (S := S1024x2816) (e := .bf16) (fun y => gated H WU CW CB (y 0) (y 1)) _ ?_ _
      (View.cover_of_tiledL _ ![1024, 256] (by sl_kernel_rfl) _)).trans ?_
    swap
    · refine congrArg₂ (gated H WU CW CB) (Fin.ext ?_) (Fin.ext ?_) <;> simp [Rect.unit, LoadRect.idx, Rect.toLoadRect]
    intro pc hpc x
    simp only [List.mem_cons, List.not_mem_nil, or_false] at hpc
    rcases hpc with rfl | rfl | rfl | rfl | rfl | rfl | rfl | rfl | rfl | rfl | rfl
    all_goals
      dsimp only at x ⊢
      rw [tile_at (gated H WU CW CB) _ _ x (by decide)]
      pointwise [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, gated]
      try simp only [← Nat.add_assoc, Nat.reduceAdd]
  · pointwise [k0_pay1, k0_pay3, k0_pay2]
    rfl

end Cert.MidFfnIdeal.Value
end
-- ==== Proof.MidFfn.Array.lean ====
module
public import proofs.«01_k».proof.Proof.MidFfn.Block
@[expose] public section
set_option maxRecDepth 16384
noncomputable section
namespace Cert.MidFfnIdeal.Value
open Cert.MidFfnIdeal Cert.MidFfnIdeal.Gen Idealize.ShloMosaic Idealize.ShloMosaic.TcCoe Idealize.SL.Sem
open Idealize.ShloMosaic.Pipeline (Dat)
open Cert.FfnSpec
open Cert.FfnIdeal.Value (xmid xhalo hnbuf gated)

/-- Every window's block index at every grid point. -/
theorem idx : ∀ t : Fin cfg0.N, win0_0.index t = ![t.val, 0] ∧ win0_1.index t = ![64 * t.val - 1, 0]
    ∧ win0_2.index t = ![t.val, 0] ∧ win0_3.index t = ![64 * t.val - 1, 0] ∧ win0_4.index t = ![0, 0, 0]
    ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![0, 0] ∧ win0_11.index t = ![t.val, 0] :=
  (by decide +kernel : ∀ t : Fin grid0.N, _)

/-- The first block of a sequence is every fourth point. -/
theorem start_iff : ∀ t : Fin cfg0.N, seqStart t = if t.val % 4 = 0 then 1#1 else 0#1 :=
  (by unfold seqStart; decide +kernel : ∀ t : Fin grid0.N, _)

theorem lt16 (t : Fin cfg0.N) : t.val < 16 := lt_of_lt_of_eq t.isLt N_0

section
variable (m : (ℓ : Loc nD τ sig) → Buf (Elt Ideal) ℓ) (c : Dev nD)

/-- The residual stream's argument, the mixer's output, and the weights of layer 1. -/
abbrev ax : FVec Ideal S4x4096x1024 .f32 := m ((c : Thread nD τ).loc main_arg0)
abbrev ao : FVec Ideal S16384x1024 .bf16 := m ((c : Thread nD τ).loc main_arg1)
abbrev awo : FVec Ideal S2x1024x1024 .f32 := m ((c : Thread nD τ).loc main_arg2)
abbrev anw : FVec Ideal S4x1024 .f32 := m ((c : Thread nD τ).loc main_arg3)
abbrev awu : FVec Ideal S4x1024x5632 .f32 := m ((c : Thread nD τ).loc main_arg4)
abbrev acw : FVec Ideal S4x3x2816 .f32 := m ((c : Thread nD τ).loc main_arg5)
abbrev acb : FVec Ideal S4x2816 .f32 := m ((c : Thread nD τ).loc main_arg6)
abbrev awd : FVec Ideal S4x2816x1024 .f32 := m ((c : Thread nD τ).loc main_arg7)
abbrev afw : FVec Ideal S1024 .f32 := m ((c : Thread nD τ).loc main_arg8)

theorem v0_at (r : Fin 16384) (j : Fin 1024) : (show FVec Ideal S16384x1024 .f32 from V m c main_v0) (ix2 r j)
    = ax m c (ix3 ⟨r.val / 4096, by omega⟩ ⟨r.val % 4096, by omega⟩ j) := by
  entry_read
  pointwise

theorem v1_at : (show FVec Ideal S2x1024x1024 .bf16 from V m c main_v1) = awo m c := by
  entry_read
  rfl

theorem v2_at (l : Fin 4) (j : Fin 1024) : (show FVec Ideal S4x1x1024 .f32 from V m c main_v2) (ix3 l 0 j) = anw m c (ix2 l j) := by
  entry_read
  pointwise

theorem v3_at : (show FVec Ideal S4x1024x5632 .bf16 from V m c main_v3) = awu m c := by
  entry_read
  rfl

theorem v4_at (l : Fin 4) (j : Fin 2816) : (show FVec Ideal S4x1x2816 .f32 from V m c main_v4) (ix3 l 0 j) = acb m c (ix2 l j) := by
  entry_read
  pointwise

theorem v5_at : (show FVec Ideal S4x2816x1024 .bf16 from V m c main_v5) = awd m c := by
  entry_read
  rfl

theorem rd0 (t : Fin cfg0.N) (p j : Fin 1024) : iblk m c 0 t (ix2 p j)
    = ax m c (ix3 ⟨t.val / 4, by have := lt16 t; omega⟩ ⟨1024 * (t.val % 4) + p.val, by omega⟩ j) := by
  have h := lt16 t
  refine Eq.trans ?_ ((v0_at m c ⟨1024 * t.val + p.val, by omega⟩ j).trans ?_)
  · blk_ext [iblk, idx t]
  · blk_ext [idx t]

theorem rd1 (t : Fin cfg0.N) (ht : t.val % 4 ≠ 0) (e : Fin 16) (j : Fin 1024) : iblk m c 1 t (ix2 e j)
    = ax m c (ix3 ⟨t.val / 4, by have := lt16 t; omega⟩ ⟨1024 * (t.val % 4) - 16 + e.val, by omega⟩ j) := by
  have h := lt16 t
  refine Eq.trans ?_ ((v0_at m c ⟨1024 * t.val - 16 + e.val, by omega⟩ j).trans ?_)
  · blk_ext [iblk, idx t]
  · blk_ext [idx t]

theorem rd2 (t : Fin cfg0.N) (p j : Fin 1024) : iblk m c 2 t (ix2 p j)
    = ao m c (ix2 ⟨1024 * t.val + p.val, by have := lt16 t; omega⟩ j) := by
  have h := lt16 t
  blk_ext [iblk, V, idx t]

theorem rd3 (t : Fin cfg0.N) (ht : t.val % 4 ≠ 0) (e : Fin 16) (j : Fin 1024) : iblk m c 3 t (ix2 e j)
    = ao m c (ix2 ⟨1024 * t.val - 16 + e.val, by have := lt16 t; omega⟩ j) := by
  have h := lt16 t
  blk_ext [iblk, V, idx t]

theorem rd4 (t : Fin cfg0.N) (k j : Fin 1024) : iblk m c 4 t (ix3 0 k j) = awo m c (ix3 0 k j) := by
  refine Eq.trans ?_ (congrFun (v1_at m c) (ix3 0 k j))
  blk_ext [iblk, idx t]

theorem rd5 (t : Fin cfg0.N) (j : Fin 1024) : iblk m c 5 t (ix3 0 0 j) = anw m c (ix2 1 j) := by
  refine Eq.trans ?_ (v2_at m c 1 j)
  blk_ext [iblk, idx t]

theorem rd6 (t : Fin cfg0.N) (k : Fin 1024) (f : Fin 5632) : iblk m c 6 t (ix3 0 k f) = awu m c (ix3 1 k f) := by
  refine Eq.trans ?_ (congrFun (v3_at m c) (ix3 1 k f))
  blk_ext [iblk, idx t]

theorem rd7 (t : Fin cfg0.N) (d : Fin 3) (f : Fin 2816) : iblk m c 7 t (ix3 0 d f) = acw m c (ix3 1 d f) := by
  blk_ext [iblk, V, idx t]

theorem rd8 (t : Fin cfg0.N) (f : Fin 2816) : iblk m c 8 t (ix3 0 0 f) = acb m c (ix2 1 f) := by
  refine Eq.trans ?_ (v4_at m c 1 f)
  blk_ext [iblk, idx t]

theorem rd9 (t : Fin cfg0.N) (f : Fin 2816) (j : Fin 1024) : iblk m c 9 t (ix3 0 f j) = awd m c (ix3 1 f j) := by
  refine Eq.trans ?_ (congrFun (v5_at m c) (ix3 1 f j))
  blk_ext [iblk, idx t]

/-- The rows the network works on: the residual stream plus the mixer's output through its projection. -/
def xm : Rows := fun b s j => ax m c (ix3 b s j)
  + ∑ k : Fin 1024, ao m c (ix2 ⟨4096 * b.val + s.val, by omega⟩ k) * awo m c (ix3 0 k j)

/-- The sequence of grid point `t`, and the position of its row `p`. -/
def seqOf (t : Fin cfg0.N) : Fin 4 := ⟨t.val / 4, by have := lt16 t; omega⟩
def posOf (t : Fin cfg0.N) (p : Fin 1024) : Fin 4096 := ⟨1024 * (t.val % 4) + p.val, by omega⟩

theorem xmid_eq (t : Fin cfg0.N) (p j : Fin 1024) :
    xmid (iblk m c 0 t) (iblk m c 2 t) (iblk m c 4 t) p j = xm m c (seqOf t) (posOf t p) j := by
  unfold xmid xm
  refine congrArg₂ (· + ·) (rd0 m c t p j) (Finset.sum_congr rfl fun k _ => ?_)
  refine congrArg₂ (· * ·) ((rd2 m c t p k).trans ?_) (rd4 m c t k j)
  exact congrArg (ao m c) (congrArg₂ ix2 (Fin.ext (by simp only [seqOf, posOf]; omega)) rfl)

theorem xhalo_eq (t : Fin cfg0.N) (ht : t.val % 4 ≠ 0) (e : Fin 16) (j : Fin 1024) :
    xhalo (iblk m c 1 t) (iblk m c 3 t) (iblk m c 4 t) e j
      = xm m c (seqOf t) ⟨1024 * (t.val % 4) - 16 + e.val, by omega⟩ j := by
  unfold xhalo xm
  refine congrArg₂ (· + ·) (rd1 m c t ht e j) (Finset.sum_congr rfl fun k _ => ?_)
  refine congrArg₂ (· * ·) ((rd3 m c t ht e k).trans ?_) (rd4 m c t k j)
  exact congrArg (ao m c) (congrArg₂ ix2 (Fin.ext (by simp only [seqOf]; omega)) rfl)

/-- The normed rows of the block are the normed rows of the sequence, zero before its start. -/
theorem hn_eq (t : Fin cfg0.N) (p : Fin 1024) (d : ℕ) (hd : d ≤ 16) (k : Fin 1024) :
    hnbuf (iblk m c 0 t) (iblk m c 1 t) (iblk m c 2 t) (iblk m c 3 t) (iblk m c 4 t) (iblk m c 5 t) (seqStart t)
      ⟨16 - d + p.val, by omega⟩ k
    = normed (xm m c) (fun k => anw m c (ix2 1 k)) (seqOf t) (posOf t p) d k := by
  have hw : (fun j => iblk m c 5 t (ix3 0 0 j)) = fun k => anw m c (ix2 1 k) := funext fun j => rd5 m c t j
  unfold hnbuf normed
  by_cases h : 16 - d + p.val < 16
  · rw [dif_pos h, start_iff t]
    by_cases ht : t.val % 4 = 0
    · rw [if_pos ht, if_neg (by simp only [posOf]; omega)]
      rfl
    · rw [if_neg ht, if_pos (by simp only [posOf]; omega)]
      refine Eq.trans (b := rms (xhalo (iblk m c 1 t) (iblk m c 3 t) (iblk m c 4 t) ⟨16 - d + p.val, h⟩)
        (fun j => iblk m c 5 t (ix3 0 0 j)) k) rfl ?_
      rw [hw]
      refine congrArg (fun v => rms v _ k) (funext fun j => (xhalo_eq m c t ht _ j).trans ?_)
      exact congrArg (fun s => xm m c (seqOf t) s j) (Fin.ext (by simp only [posOf]; omega))
  · rw [dif_neg h, if_pos (by simp only [posOf]; omega)]
    rw [hw]
    refine congrArg (fun v => rms v _ k) (funext fun j => (xmid_eq m c t _ j).trans ?_)
    exact congrArg (fun s => xm m c (seqOf t) s j) (Fin.ext (by simp only [posOf]; omega))

/-- The weights of layer 1, as the network's functions of their coordinates. -/
abbrev wNorm : Fin 1024 → EReal := fun k => anw m c (ix2 1 k)
abbrev wUp : Fin 1024 → Fin 5632 → EReal := fun k f => awu m c (ix3 1 k f)
abbrev wConv : Fin 3 → Fin 2816 → EReal := fun d f => acw m c (ix3 1 d f)
abbrev bConv : Fin 2816 → EReal := fun f => acb m c (ix2 1 f)
abbrev wDown : Fin 2816 → Fin 1024 → EReal := fun f j => awd m c (ix3 1 f j)

theorem ge_eq (t : Fin cfg0.N) (p : Fin 1024) (d : ℕ) (hd : d ≤ 16) (e : Fin 1040) (he : e.val = 16 - d + p.val) (f : Fin 5632) :
    (∑ k : Fin 1024, hnbuf (iblk m c 0 t) (iblk m c 1 t) (iblk m c 2 t) (iblk m c 3 t) (iblk m c 4 t) (iblk m c 5 t) (seqStart t) e k
        * iblk m c 6 t (ix3 0 k f))
    = ∑ k : Fin 1024, normed (xm m c) (wNorm m c) (seqOf t) (posOf t p) d k * wUp m c k f := by
  exact Finset.sum_congr rfl fun k _ => congrArg₂ (· * ·)
    ((congrArg (fun e => hnbuf _ _ _ _ _ _ _ e k) (Fin.ext he)).trans (hn_eq m c t p d hd k)) (rd6 m c t k f)

theorem gated_eq (t : Fin cfg0.N) (p : Fin 1024) (f : Fin 2816) :
    gated (hnbuf (iblk m c 0 t) (iblk m c 1 t) (iblk m c 2 t) (iblk m c 3 t) (iblk m c 4 t) (iblk m c 5 t) (seqStart t))
      (iblk m c 6 t) (iblk m c 7 t) (iblk m c 8 t) p f
    = gatedVal (xm m c) (wNorm m c) (wUp m c) (wConv m c) (bConv m c) (seqOf t) (posOf t p) f := by
  unfold gated gatedVal gate proj
  simp only []
  rw [ge_eq m c t p 0 (by omega) ⟨16 + p.val, by omega⟩ (by simp), ge_eq m c t p 2 (by omega) ⟨14 + p.val, by omega⟩ (by simp),
    ge_eq m c t p 1 (by omega) ⟨15 + p.val, by omega⟩ (by simp), ge_eq m c t p 0 (by omega) ⟨16 + p.val, by omega⟩ (by simp),
    rd8, rd7, rd7, rd7]

/-- The layer's result: the network's row added to its input. -/
def result (b : Fin 4) (s : Fin 4096) (j : Fin 1024) : EReal :=
  ffnRow (xm m c) (wNorm m c) (wUp m c) (wConv m c) (bConv m c) (wDown m c) b s j

theorem block_eq (t : Fin cfg0.N) (p j : Fin 1024) :
    outsAt0 m c t (ix2 p j) = result m c (seqOf t) (posOf t p) j := by
  refine (out_at m c t p j).trans ?_
  unfold blockOut result ffnRow
  exact congrArg₂ (· + ·) (xmid_eq m c t p j)
    (Finset.sum_congr rfl fun f _ => congrArg₂ (· * ·) (gated_eq m c t p f) (rd9 m c t f j))

/-- The result array: row `r` is position `r mod 4096` of sequence `r div 4096`. -/
def G : FVec Ideal S16384x1024 .f32 := fun y => result m c ⟨(y 0).val / 4096, by have : (y 0).val < 16384 := (y 0).isLt; omega⟩
  ⟨(y 0).val % 4096, by omega⟩ (y 1)

theorem final : (dats m 0 c).arrAt 11 (cfgs 0).N = G m c := by
  refine (dats m 0 c).arrAt_eq_of_covers 11 _ (by decide +kernel) fun t _ y => ?_
  blk_simp
  rw [after0_11]
  have h := lt16 t
  refine (congrArg (outsAt0 m c t) (eq_ix2 y)).trans ((block_eq m c t (y 0) (y 1)).trans ?_)
  have hy : (y 0).val < 1024 := (y 0).isLt
  have e0 : ((win0_11.blk t).view.emb y 0 : ℕ) = 1024 * t.val + (y 0).val := by
    blk_simp [idx t]
    simp
    omega
  have e1 : ((win0_11.blk t).view.emb y 1 : ℕ) = (y 1).val := by
    blk_simp [idx t]
  unfold G
  refine congr (congrArg₂ (result m c) (Fin.ext ?_) (Fin.ext ?_)) (Fin.ext e1.symm)
  · simp only [seqOf, e0]; omega
  · simp only [posOf, e0]; omega
end

end Cert.MidFfnIdeal.Value

end
-- ==== Proof.MidFfn.Ref.lean ====
module
public import proofs.«01_k».proof.Proof.Gen.MidFfnReferenceIdeal.Read
public import proofs.«01_k».proof.Proof.Ffn.Spec
@[expose] public section
set_option maxRecDepth 16384
noncomputable section
namespace Cert.MidFfnReferenceIdeal.Spec
open Cert.MidFfnReferenceIdeal Cert.MidFfnReferenceIdeal.Gen Cert.MidFfnReferenceIdeal.Read Idealize.ShloMosaic Idealize.ShloMosaic.TcCoe
open Cert.FfnSpec

variable (x0 : FVec Ideal S4x4096x1024 .f32) (x1 : FVec Ideal S16384x1024 .bf16) (x2 : FVec Ideal S2x1024x1024 .f32)
  (x3 : FVec Ideal S4x1024 .f32) (x4 : FVec Ideal S4x1024x5632 .f32) (x5 : FVec Ideal S4x3x2816 .f32)
  (x6 : FVec Ideal S4x2816 .f32) (x7 : FVec Ideal S4x2816x1024 .f32)

/-- The rows the network works on, read from the reference's arguments. -/
def xm : Rows := fun b s j => x0 (ix3 b s j)
  + ∑ k : Fin 1024, x1 (ix2 ⟨4096 * b.val + s.val, by omega⟩ k) * x2 (ix3 0 k j)

theorem v5_at (b : Fin 4) (s : Fin 4096) (j : Fin 1024) : val_main_v5 (F := Ideal) x0 x1 x2 (ix3 b s j) = xm x0 x1 x2 b s j := by
  pointwise [val_main_v5, val_main_v4, val_main_v3, val_main_v2, val_main_v1, val_main_v0, xm]
  simp only [Nat.mul_comm b.val 4096]

theorem v20_at (b : Fin 4) (s : Fin 4096) (j : Fin 1024) : val_main_v20 (F := Ideal) x0 x1 x2 x3 (ix3 b s j)
    = rms (xm x0 x1 x2 b s) (fun k => x3 (ix2 1 k)) j := by
  pointwise [val_main_v20, val_main_v19, val_main_v18, val_main_v17, val_main_v16, val_main_v15, val_main_v14, val_main_v13,
    val_main_v12, val_main_v11, val_main_v10, val_main_v9, val_main_v8, val_main_v7, val_main_v6, val_main_cst, val_main_cst_0,
    val_main_cst_1]
  simp only [v5_at]
  rfl

/-- The weights of layer 1, as the network's functions of their coordinates. -/
abbrev wNorm : Fin 1024 → EReal := fun k => x3 (ix2 1 k)
abbrev wUp : Fin 1024 → Fin 5632 → EReal := fun k f => x4 (ix3 1 k f)
abbrev wConv : Fin 3 → Fin 2816 → EReal := fun d f => x5 (ix3 1 d f)
abbrev bConv : Fin 2816 → EReal := fun f => x6 (ix2 1 f)
abbrev wDown : Fin 2816 → Fin 1024 → EReal := fun f j => x7 (ix3 1 f j)

theorem normed_zero (w : Fin 1024 → EReal) (b : Fin 4) (s : Fin 4096) (k : Fin 1024) :
    normed (xm x0 x1 x2) w b s 0 k = rms (xm x0 x1 x2 b s) w k := by
  unfold normed
  rw [if_pos (Nat.zero_le _)]
  rfl

theorem v29_at (b : Fin 4) (s : Fin 4096) (f : Fin 5632) : val_main_v29 (F := Ideal) x0 x1 x2 x3 x4 (ix3 b s f)
    = ∑ k : Fin 1024, rms (xm x0 x1 x2 b s) (wNorm x3) k * wUp x4 k f := by
  pointwise [val_main_v29, val_main_v22, val_main_v21]
  simp only [v20_at]

/-- The padded gate at the row that `d` before position `s` has: the gate's projection there, zero before the start. -/
theorem v32_at (b : Fin 4) (s : Fin 4096) (d : ℕ) (r : Fin 4098) (hd : d ≤ 2) (hr : r.val = s.val + 2 - d) (f : Fin 2816) :
    val_main_v32 (F := Ideal) x0 x1 x2 x3 x4 (ix3 b r f) = proj (xm x0 x1 x2) (wNorm x3) (wUp x4) b s d f := by
  pointwise [val_main_v32, val_main_v30, val_main_call0_v0, val_main_c]
  unfold proj normed
  by_cases h : d ≤ s.val
  · rw [dif_pos (by omega)]
    simp only [if_pos h]
    refine Eq.trans ?_ (v29_at x0 x1 x2 x3 x4 b ⟨s.val - d, by omega⟩ ⟨f.val, by omega⟩)
    exact congrArg (val_main_v29 (F := Ideal) x0 x1 x2 x3 x4)
      (congrArg (fun r => ix3 b r _) (Fin.ext (by simp only [hr]; omega)))
  · rw [dif_neg (by omega)]
    simp only [if_neg h, zero_mul, Finset.sum_const_zero]
    exact (by simp [FloatOps.sitofp] : (FloatOps.sitofp (F := Ideal) .f32 (0#32) : EReal) = 0)

theorem v55_at (b : Fin 4) (s : Fin 4096) (f : Fin 2816) : val_main_v55 (F := Ideal) x0 x1 x2 x3 x4 x5 x6 (ix3 b s f)
    = gate (xm x0 x1 x2) (wNorm x3) (wUp x4) (wConv x5) (bConv x6) b s f := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v26, val_main_v25, val_main_v24, val_main_v23]
  have h0 := v32_at x0 x1 x2 x3 x4 b s 0 ⟨2 + s.val, by omega⟩ (by omega) (by simp only []; omega) f
  have h1 := v32_at x0 x1 x2 x3 x4 b s 1 ⟨1 + s.val, by omega⟩ (by omega) (by simp only []; omega) f
  have h2 := v32_at x0 x1 x2 x3 x4 b s 2 ⟨s.val, by omega⟩ (by omega) (by simp only []; omega) f
  refine (congrArg (· + x6 (ix2 1 f)) (congrArg₂ (· + ·) (congrArg₂ (· + ·) (congrArg (· * x5 (ix3 1 0 f)) h2)
    (congrArg (· * x5 (ix3 1 1 f)) h1)) (congrArg (· * x5 (ix3 1 2 f)) h0))).trans ?_
  unfold gate
  simp only [mul_comm (proj _ _ _ _ _ _ _)]
  ac_rfl

theorem v57_at (b : Fin 4) (s : Fin 4096) (f : Fin 2816) : val_main_v57 (F := Ideal) x0 x1 x2 x3 x4 x5 x6 (ix3 b s f)
    = gatedVal (xm x0 x1 x2) (wNorm x3) (wUp x4) (wConv x5) (bConv x6) b s f := by
  pointwise [val_main_v57, val_main_v56, val_main_v31, val_main_call1_v5, val_main_call1_v4, val_main_call1_v3,
    val_main_call1_v2, val_main_call1_v1, val_main_call1_v0, val_main_call1_cst, val_main_call1_cst_0]
  simp only [v55_at, v29_at]
  unfold gatedVal
  simp only [normed_zero, zero_sub]

theorem v59_at (b : Fin 4) (s : Fin 4096) (j : Fin 1024) : val_main_v59 (F := Ideal) x0 x1 x2 x3 x4 x5 x6 x7 (ix3 b s j)
    = ffnRow (xm x0 x1 x2) (wNorm x3) (wUp x4) (wConv x5) (bConv x6) (wDown x7) b s j := by
  pointwise [val_main_v59, val_main_v58, val_main_v28, val_main_v27]
  simp only [v57_at, v5_at]
  rfl

theorem v60_at (r : Fin 16384) (j : Fin 1024) : val_main_v60 (F := Ideal) x0 x1 x2 x3 x4 x5 x6 x7 (ix2 r j)
    = ffnRow (xm x0 x1 x2) (wNorm x3) (wUp x4) (wConv x5) (bConv x6) (wDown x7) ⟨r.val / 4096, by omega⟩
        ⟨r.val % 4096, by omega⟩ j := by
  pointwise [val_main_v60]
  simp only [v59_at]

end Cert.MidFfnReferenceIdeal.Spec

end
-- ==== Proof.MidFfn.Claims.lean ====
module
public import proofs.«01_k».proof.Defs
public import proofs.«01_k».proof.Proof.MidFfn.Array
public import proofs.«01_k».proof.Proof.MidFfn.Ref
public import proofs.«01_k».proof.Proof.Gen.MidFfnReferenceIdeal.Run
public import Idealize.ShloMosaic.Lib.Claim
@[expose] public section
set_option maxRecDepth 16384
noncomputable section
namespace Cert.MidFfnClaims
open Idealize.ShloMosaic Idealize.ShloMosaic.TcCoe Idealize.SL.Sem

/-- The reference's result, over the kernel's argument arrays, is the array the kernel leaves. -/
theorem ref_eq (m : (ℓ : Loc Cert.MidFfnIdeal.nD Cert.MidFfnIdeal.τ Cert.MidFfnIdeal.sig) → Buf (Elt Ideal) ℓ) (c : Dev Cert.MidFfnIdeal.nD) :
    Cert.MidFfnReferenceIdeal.Read.val_main_v60 (F := Ideal) (Cert.MidFfnIdeal.Value.ax m c) (Cert.MidFfnIdeal.Value.ao m c)
      (Cert.MidFfnIdeal.Value.awo m c) (Cert.MidFfnIdeal.Value.anw m c) (Cert.MidFfnIdeal.Value.awu m c) (Cert.MidFfnIdeal.Value.acw m c)
      (Cert.MidFfnIdeal.Value.acb m c) (Cert.MidFfnIdeal.Value.awd m c)
    = Cert.MidFfnIdeal.Value.G m c :=
  funext fun y => (congrArg _ (eq_ix2 y)).trans
    (Cert.MidFfnReferenceIdeal.Spec.v60_at _ _ _ _ _ _ _ _ (y 0) (y 1))

theorem algebraic : Cert.algebraic_MidFfnIdeal_MidFfnReferenceIdeal := by
  pair_intro
  · run_from Cert.MidFfnIdeal.Value.run_blocks m g
  · run_from Cert.MidFfnReferenceIdeal.Value.run m' g'
    rw [Cert.MidFfnReferenceIdeal.Read.val_main_v60_eq]
    obtain ⟨h0, h1, h2, h3, h4, h5, h6, h7, -⟩ := hagree c
    rw [h0, h1, h2, h3, h4, h5, h6, h7]
    exact (ref_eq m c).trans (Cert.MidFfnIdeal.Value.final m c).symm

theorem frame_reference : Cert.quiescent_MidFfnReferenceIdeal := by
  intro m g _
  exact (θ_run Cert.MidFfnReferenceIdeal.defs _ _).mono (fun r h => ⟨fun c => (h c).2, sem_eq_zero_of_no_sems (by decide) r.2⟩)
    (Cert.MidFfnReferenceIdeal.Value.run (F := Ideal) m g)

end Cert.MidFfnClaims

end
-- ==== Proof.EvenProj.Block.lean ====
module
public import proofs.«01_k».proof.Proof.Gen.EvenProjIdeal.Value
public import proofs.«01_k».proof.Proof.Ffn.Block
@[expose] public section
set_option maxRecDepth 16384
noncomputable section
namespace Cert.EvenProjIdeal.Value
open Cert.EvenProjIdeal Cert.EvenProjIdeal.Gen Idealize.ShloMosaic Idealize.ShloMosaic.TcCoe Idealize.SL.Sem
open Idealize.ShloMosaic.Pipeline (Dat)
open Cert.FfnSpec (rms)

/-- Row `p` of the normed rows `Y` against row `q` of a block of weight rows. -/
def rowDot {n : ℕ} (Y : FVec Ideal S1024x1024 .bf16) (W : FVec Ideal ⟨2, ![n, 1024]⟩ .bf16) (p : Fin 1024) (q : Fin n) : EReal :=
  ∑ k : Fin 1024, Y (ix2 p k) * W (ix2 q k)

/-- The wide block's row `p`, column `j`: the delta rule's columns, the scaled queries, then the keys. -/
def bigBlock (Y : FVec Ideal S1024x1024 .bf16) (WA : FVec Ideal S2048x1024 .bf16) (WF : FVec Ideal S1536x1024 .bf16)
    (p : Fin 1024) (j : Fin 3072) : EReal :=
  if h : j.val < 2048 then rowDot Y WA p ⟨j.val, h⟩
  else if j.val < 2560 then rowDot Y WF p ⟨j.val - 2048, by omega⟩ * Ideal.ofBits .f32 0x3E0293EE#32
  else rowDot Y WF p ⟨j.val - 2048, by omega⟩

/-- The transposed value block's row `r`, column `p`: 128 value rows and sixteen rows of ones for each head. -/
def vtBlock (Y : FVec Ideal S1024x1024 .bf16) (WF : FVec Ideal S1536x1024 .bf16) (r : Fin 576) (p : Fin 1024) : EReal :=
  if h : r.val % 144 < 128 then rowDot Y WF p ⟨1024 + 128 * (r.val / 144) + r.val % 144, by omega⟩
  else Ideal.ofBits .bf16 0x3F80#16

/-- The normed rows. -/
theorem hn_at (X : FVec Ideal S1024x1024 .f32) (NW : FVec Ideal S1x1x1024 .f32) (p k : Fin 1024) :
    k0_pay1 (F := Ideal) X NW (ix2 p k) = rms (fun j => X (ix2 p j)) (fun j => NW (ix3 0 0 j)) k := by
  pointwise [k0_pay1, rms]

theorem small_at (Y : FVec Ideal S1024x1024 .bf16) (WS : FVec Ideal S128x1024 .bf16) (p : Fin 1024) (j : Fin 128) :
    k0_pay2 (F := Ideal) Y WS (ix2 p j) = rowDot (n := 128) Y WS p j := by
  pointwise [k0_pay2, rowDot]

/-- The index of a column tile's element in the wide block, -/
theorem col_at (G : Fin 1024 → Fin 3072 → EReal) (o : ℕ) (inb : ∀ a, (![0, o] : Fin 2 → ℕ) a + (![1024, 512] : Fin 2 → ℕ) a ≤ S1024x3072.size a)
    (x : (⟨2, ![1024, 512]⟩ : Shape).Idx) (ho : o + 512 ≤ 3072) :
    G ((Rect.unit (s := S1024x3072) ![0, o] ![1024, 512] inb).emb x 0) ((Rect.unit (s := S1024x3072) ![0, o] ![1024, 512] inb).emb x 1)
      = G (x 0) ⟨o + (x 1).val, by have : (x 1).val < 512 := (x 1).isLt; omega⟩ := by
  refine congrArg₂ G (Fin.ext ?_) (Fin.ext ?_) <;> simp [Rect.unit, Rect.emb, LoadRect.idx]

/-- and of a row tile's element in the transposed block. -/
theorem row_at (G : Fin 576 → Fin 1024 → EReal) (o n : ℕ) (inb : ∀ a, (![o, 0] : Fin 2 → ℕ) a + (![n, 1024] : Fin 2 → ℕ) a ≤ S576x1024.size a)
    (x : (⟨2, ![n, 1024]⟩ : Shape).Idx) (ho : o + n ≤ 576) :
    G ((Rect.unit (s := S576x1024) ![o, 0] ![n, 1024] inb).emb x 0) ((Rect.unit (s := S576x1024) ![o, 0] ![n, 1024] inb).emb x 1)
      = G ⟨o + (x 0).val, by have : (x 0).val < n := (x 0).isLt; omega⟩ (x 1) := by
  refine congrArg₂ G (Fin.ext ?_) (Fin.ext ?_) <;> simp [Rect.unit, Rect.emb, LoadRect.idx]

variable (m : (ℓ : Loc nD τ sig) → Buf (Elt Ideal) ℓ)

theorem big_at (c : Dev nD) (t : Fin cfg0.N) (p : Fin 1024) (j : Fin 3072) :
    (outsAt0 m c t).1 (ix2 p j) = bigBlock (k0_pay1 (F := Ideal) (iblk m c 0 t) (iblk m c 1 t)) (iblk m c 2 t) (iblk m c 3 t) p j := by
  unfold outsAt0
  dsimp only
  frame_out
  generalize k0_pay1 (iblk m c 0 t) (iblk m c 1 t) = Y
  generalize iblk m c 2 t = WA
  generalize iblk m c 3 t = WF
  refine (View.canon_apply_of_pieces (Val := Elt Ideal) (S := S1024x3072) (e := .bf16) (fun y => bigBlock Y WA WF (y 0) (y 1)) _ ?_ _
      (View.cover_of_tiledL _ ![1024, 512] (by sl_kernel_rfl) _)).trans rfl
  intro pc hpc x
  simp only [List.mem_cons, List.not_mem_nil, or_false] at hpc
  rcases hpc with rfl | rfl | rfl | rfl | rfl | rfl
  all_goals
    dsimp only at x ⊢
    have hx : (x 1).val < 512 := (x 1).isLt
    rw [col_at (bigBlock Y WA WF) _ _ x (by decide)]
    unfold bigBlock
  · rw [dif_neg (by dsimp only; omega), if_neg (by dsimp only; omega)]
    pointwise [k0_pay8, rowDot]
    exact Finset.sum_congr rfl fun k _ => congrArg (fun q : Fin 1536 => Y (ix2 (x 0) k) * WF (ix2 q k)) (Fin.ext (by dsimp only; omega))
  · rw [dif_neg (by dsimp only; omega), if_pos (by dsimp only; omega)]
    pointwise [k0_pay7, rowDot]
  · rw [dif_pos (by dsimp only; omega)]
    pointwise [k0_pay6, rowDot]
  · rw [dif_pos (by dsimp only; omega)]
    pointwise [k0_pay5, rowDot]
  · rw [dif_pos (by dsimp only; omega)]
    pointwise [k0_pay4, rowDot]
  · rw [dif_pos (by dsimp only; omega)]
    pointwise [k0_pay3, rowDot]

theorem vt_at (c : Dev nD) (t : Fin cfg0.N) (r : Fin 576) (p : Fin 1024) :
    (outsAt0 m c t).2.1 (ix2 r p) = vtBlock (k0_pay1 (F := Ideal) (iblk m c 0 t) (iblk m c 1 t)) (iblk m c 3 t) r p := by
  unfold outsAt0
  dsimp only
  frame_out
  generalize k0_pay1 (iblk m c 0 t) (iblk m c 1 t) = Y
  generalize iblk m c 3 t = WF
  refine (View.canon_apply_of_pieces (Val := Elt Ideal) (S := S576x1024) (e := .bf16) (fun y => vtBlock Y WF (y 0) (y 1)) _ ?_ _
      (View.cover_of_tiledBy _ ![16, 1024] (by sl_kernel_rfl) _)).trans rfl
  intro pc hpc x
  simp only [List.mem_cons, List.not_mem_nil, or_false] at hpc
  rcases hpc with rfl | rfl | rfl | rfl | rfl | rfl | rfl | rfl
  all_goals
    dsimp only at x ⊢
    rw [row_at (vtBlock Y WF) _ _ _ x (by decide)]
    unfold vtBlock
  · have hx : (x 0).val < 16 := (x 0).isLt
    rw [dif_neg (by dsimp only; omega)]
    rfl
  · have hx : (x 0).val < 128 := (x 0).isLt
    rw [dif_pos (by dsimp only; omega)]
    pointwise [k0_pay14, k0_pay9, rowDot]
    exact Finset.sum_congr rfl fun k _ => (mul_comm _ _).trans
      (congrArg (fun q : Fin 1536 => Y (ix2 (x 1) k) * WF (ix2 q k)) (Fin.ext (by dsimp only; omega)))
  · have hx : (x 0).val < 16 := (x 0).isLt
    rw [dif_neg (by dsimp only; omega)]
    rfl
  · have hx : (x 0).val < 128 := (x 0).isLt
    rw [dif_pos (by dsimp only; omega)]
    pointwise [k0_pay13, k0_pay9, rowDot]
    exact Finset.sum_congr rfl fun k _ => (mul_comm _ _).trans
      (congrArg (fun q : Fin 1536 => Y (ix2 (x 1) k) * WF (ix2 q k)) (Fin.ext (by dsimp only; omega)))
  · have hx : (x 0).val < 16 := (x 0).isLt
    rw [dif_neg (by dsimp only; omega)]
    rfl
  · have hx : (x 0).val < 128 := (x 0).isLt
    rw [dif_pos (by dsimp only; omega)]
    pointwise [k0_pay12, k0_pay9, rowDot]
    exact Finset.sum_congr rfl fun k _ => (mul_comm _ _).trans
      (congrArg (fun q : Fin 1536 => Y (ix2 (x 1) k) * WF (ix2 q k)) (Fin.ext (by dsimp only; omega)))
  · have hx : (x 0).val < 16 := (x 0).isLt
    rw [dif_neg (by dsimp only; omega)]
    rfl
  · have hx : (x 0).val < 128 := (x 0).isLt
    rw [dif_pos (by dsimp only; omega)]
    pointwise [k0_pay11, k0_pay9, rowDot]
    exact Finset.sum_congr rfl fun k _ => (mul_comm _ _).trans
      (congrArg (fun q : Fin 1536 => Y (ix2 (x 1) k) * WF (ix2 q k)) (Fin.ext (by dsimp only; omega)))

theorem gates_at (c : Dev nD) (t : Fin cfg0.N) (p : Fin 1024) (j : Fin 128) :
    (outsAt0 m c t).2.2 (ix2 p j) = rowDot (n := 128) (k0_pay1 (F := Ideal) (iblk m c 0 t) (iblk m c 1 t)) (iblk m c 4 t) p j := by
  unfold outsAt0
  dsimp only
  frame_out
  exact small_at _ _ p j

end Cert.EvenProjIdeal.Value
end
-- ==== Proof.EvenProj.Spec.lean ====
module
public import proofs.«01_k».proof.Proof.Ffn.Spec
@[expose] public section
noncomputable section
namespace Cert.EvenProjSpec
open Idealize.ShloMosaic
open Cert.FfnSpec (Rows rms)

variable (X : Rows) (nw : Fin 1024 → EReal) (w : Fin 1024 → Fin 3596 → EReal)

/-- The input projection's column `n` of the normed row at position `s` of sequence `b`. -/
def col (b : Fin 4) (s : Fin 4096) (n : Fin 3596) : EReal := ∑ k : Fin 1024, rms (X b s) nw k * w k n

/-- The wide result: the delta rule's 2048 columns, the attention's 512 query columns scaled, its 512 key columns. -/
def bigVal (b : Fin 4) (s : Fin 4096) (j : Fin 3072) : EReal :=
  if j.val < 2048 then col X nw w b s ⟨j.val, by omega⟩
  else if j.val < 2560 then col X nw w b s ⟨8 + j.val, by omega⟩ * Ideal.ofBits .f32 0x3E0293EE#32
  else col X nw w b s ⟨8 + j.val, by omega⟩

/-- The values, transposed: for each of four heads its 128 columns as rows, then sixteen rows of ones. -/
def vtVal (r : Fin 576) (b : Fin 4) (s : Fin 4096) : EReal :=
  if h : r.val % 144 < 128 then col X nw w b s ⟨3080 + 128 * (r.val / 144) + r.val % 144, by omega⟩ else 1

/-- The gates: the delta rule's eight columns, the attention's four, then zeros. -/
def gateVal (b : Fin 4) (s : Fin 4096) (j : Fin 128) : EReal :=
  if j.val < 8 then col X nw w b s ⟨2048 + j.val, by omega⟩
  else if h : j.val < 12 then col X nw w b s ⟨3584 + j.val, by omega⟩
  else 0

end Cert.EvenProjSpec
end
-- ==== Proof.EvenProj.Array.lean ====
module
public import proofs.«01_k».proof.Proof.EvenProj.Block
public import proofs.«01_k».proof.Proof.EvenProj.Spec
@[expose] public section
set_option maxRecDepth 16384
noncomputable section
namespace Cert.EvenProjIdeal.Value
open Cert.EvenProjIdeal Cert.EvenProjIdeal.Gen Idealize.ShloMosaic Idealize.ShloMosaic.TcCoe Idealize.SL.Sem
open Idealize.ShloMosaic.Pipeline (Dat)
open Cert.FfnSpec Cert.EvenProjSpec

/-- Every window's block index at every grid point. -/
theorem idx : ∀ t : Fin cfg0.N, win0_0.index t = ![t.val, 0] ∧ win0_1.index t = ![1, 0, 0]
    ∧ win0_2.index t = ![0, 1] ∧ win0_3.index t = ![0, 1] ∧ win0_4.index t = ![0, 1]
    ∧ win0_5.index t = ![t.val, 0] ∧ win0_6.index t = ![0, t.val] ∧ win0_7.index t = ![t.val, 0] :=
  (by decide +kernel : ∀ t : Fin grid0.N, _)

theorem lt16 (t : Fin cfg0.N) : t.val < 16 := lt_of_lt_of_eq t.isLt N_0

section
variable (m : (ℓ : Loc nD τ sig) → Buf (Elt Ideal) ℓ) (c : Dev nD)

/-- The residual stream, the norms' weights and the projections' weights as launched. -/
abbrev ax : FVec Ideal S4x4096x1024 .f32 := m ((c : Thread nD τ).loc main_arg0)
abbrev anw : FVec Ideal S2x1024 .f32 := m ((c : Thread nD τ).loc main_arg1)
abbrev aw : FVec Ideal S2x1024x3596 .f32 := m ((c : Thread nD τ).loc main_arg2)

/-- The same as the projection's functions of their coordinates, at layer 2. -/
abbrev rows : Rows := fun b s j => ax m c (ix3 b s j)
abbrev wNorm : Fin 1024 → EReal := fun k => anw m c (ix2 1 k)
abbrev wIn : Fin 1024 → Fin 3596 → EReal := fun k n => aw m c (ix3 1 k n)

theorem v0_at (r : Fin 16384) (j : Fin 1024) : (show FVec Ideal S16384x1024 .f32 from V m c main_v0) (ix2 r j)
    = ax m c (ix3 ⟨r.val / 4096, by omega⟩ ⟨r.val % 4096, by omega⟩ j) := by
  entry_read
  pointwise

theorem v12_at (l : Fin 2) (j : Fin 1024) : (show FVec Ideal S2x1x1024 .f32 from V m c main_v12) (ix3 l 0 j) = anw m c (ix2 l j) := by
  entry_read
  pointwise

/-- The transposed weight matrices, the second layer's columns: the delta rule's rows, -/
theorem v4_at (q : Fin 2048) (k : Fin 1024) : (show FVec Ideal S2048x2048 .bf16 from V m c main_v4) (ix2 q ⟨1024 + k.val, by omega⟩)
    = wIn m c k ⟨q.val, by omega⟩ := by
  entry_read
  pointwise
  exact congrArg₂ (fun (l : Fin 2) (r : Fin 1024) => aw m c (ix3 l r _)) (Fin.ext (by show (1024 + k.val) / 1024 = 1; omega))
    (Fin.ext (by show (1024 + k.val) % 1024 = k.val; omega))

/-- the attention's rows, -/
theorem v6_at (q : Fin 1536) (k : Fin 1024) : (show FVec Ideal S1536x2048 .bf16 from V m c main_v6) (ix2 q ⟨1024 + k.val, by omega⟩)
    = wIn m c k ⟨2056 + q.val, by omega⟩ := by
  entry_read
  pointwise
  exact congrArg₂ (fun (l : Fin 2) (r : Fin 1024) => aw m c (ix3 l r _)) (Fin.ext (by show (1024 + k.val) / 1024 = 1; omega))
    (Fin.ext (by show (1024 + k.val) % 1024 = k.val; omega))

/-- The whole transposed weight matrix, both layers' columns side by side, -/
def wT : FVec Ideal S3596x2048 .f32 :=
  shapeCast S3596x2048 (transpose S3596x2x1024 [2, 0, 1] (aw m c) transposes_S2x1024x3596_S3596x2x1024_2_0_1) shapeCasts_S3596x2x1024_S3596x2048

theorem wT_at (n : Fin 3596) (k : Fin 1024) : wT m c (ix2 n ⟨1024 + k.val, by omega⟩) = wIn m c k n := by
  unfold wT
  pointwise
  exact congrArg₂ (fun (l : Fin 2) (r : Fin 1024) => aw m c (ix3 l r _)) (Fin.ext (by show (1024 + k.val) / 1024 = 1; omega)) rfl

/-- and the gates' rows of it, with zeros after them. -/
def gateRows (Y : FVec Ideal S3596x2048 .f32) : FVec Ideal S128x2048 .bf16 :=
  truncf .bf16 (concatenate S128x2048 0
    [⟨S8x2048, extractStridedSlice S8x2048 ![2048, 0] Y slices_S3596x2048_S8x2048_2048_0⟩,
     ⟨S4x2048, extractStridedSlice S4x2048 ![3592, 0] Y slices_S3596x2048_S4x2048_3592_0⟩,
     ⟨S116x2048, broadcastInDim S116x2048 ![] bcast_S_S116x2048 (constant (F := Ideal) S_ .f32 0x00000000#32)⟩]
    concatenates_S8x2048_S4x2048_S116x2048_S128x2048_d0) bitsLt_bf16_f32

theorem gateRows_at (Y : FVec Ideal S3596x2048 .f32) (q : Fin 128) (k : Fin 2048) : gateRows Y (ix2 q k)
    = if q.val < 8 then Y (ix2 ⟨2048 + q.val, by omega⟩ k)
      else if h : q.val < 12 then Y (ix2 ⟨3584 + q.val, by omega⟩ k) else 0 := by
  unfold gateRows
  pointwise
  by_cases h : q.val < 8
  · rw [dif_pos h, if_pos h]
  · rw [dif_neg h, if_neg h]
    by_cases h' : q.val < 12
    · rw [dif_pos (show q.val - 8 < 4 by omega), dif_pos h']
      exact congrArg (fun n : Fin 3596 => Y (ix2 n k)) (Fin.ext (by dsimp only; omega))
    · rw [dif_neg (show ¬ q.val - 8 < 4 by omega), dif_neg h']

theorem v11_eq : (show FVec Ideal S128x2048 .bf16 from V m c main_v11) = gateRows (wT m c) := by
  show StableHlo.after hostOps0 (fun b => m (c, b)) (Proc.devRef .tc main_v11) = _
  after_results_simp <;> (try dsimp only [Matrix.cons_val]) <;> (try after_results_simp) <;> rfl

theorem v11_at (q : Fin 128) (k : Fin 1024) : (show FVec Ideal S128x2048 .bf16 from V m c main_v11) (ix2 q ⟨1024 + k.val, by omega⟩)
    = if q.val < 8 then wIn m c k ⟨2048 + q.val, by omega⟩
      else if h : q.val < 12 then wIn m c k ⟨3584 + q.val, by omega⟩ else 0 := by
  rw [v11_eq, gateRows_at]
  simp only [wT_at]

theorem rd0 (t : Fin cfg0.N) (p j : Fin 1024) : iblk m c 0 t (ix2 p j)
    = ax m c (ix3 ⟨t.val / 4, by have := lt16 t; omega⟩ ⟨1024 * (t.val % 4) + p.val, by omega⟩ j) := by
  have h := lt16 t
  refine Eq.trans ?_ ((v0_at m c ⟨1024 * t.val + p.val, by omega⟩ j).trans ?_)
  · blk_ext [iblk, idx t]
  · blk_ext [idx t]

theorem rd1 (t : Fin cfg0.N) (j : Fin 1024) : iblk m c 1 t (ix3 0 0 j) = anw m c (ix2 1 j) := by
  refine Eq.trans ?_ (v12_at m c 1 j)
  blk_ext [iblk, idx t]

theorem rd2 (t : Fin cfg0.N) (q : Fin 2048) (k : Fin 1024) : iblk m c 2 t (ix2 q k) = wIn m c k ⟨q.val, by omega⟩ := by
  refine Eq.trans ?_ (v4_at m c q k)
  blk_ext [iblk, idx t]

theorem rd3 (t : Fin cfg0.N) (q : Fin 1536) (k : Fin 1024) : iblk m c 3 t (ix2 q k) = wIn m c k ⟨2056 + q.val, by omega⟩ := by
  refine Eq.trans ?_ (v6_at m c q k)
  blk_ext [iblk, idx t]

theorem rd4 (t : Fin cfg0.N) (q : Fin 128) (k : Fin 1024) : iblk m c 4 t (ix2 q k)
    = if q.val < 8 then wIn m c k ⟨2048 + q.val, by omega⟩
      else if h : q.val < 12 then wIn m c k ⟨3584 + q.val, by omega⟩ else 0 := by
  refine Eq.trans ?_ (v11_at m c q k)
  blk_ext [iblk, idx t]

/-- The sequence of grid point `t`, and the position of its row `p`. -/
def seqOf (t : Fin cfg0.N) : Fin 4 := ⟨t.val / 4, by have := lt16 t; omega⟩
def posOf (t : Fin cfg0.N) (p : Fin 1024) : Fin 4096 := ⟨1024 * (t.val % 4) + p.val, by omega⟩

/-- The block's normed rows are the sequence's. -/
theorem hn_eq (t : Fin cfg0.N) (p k : Fin 1024) : k0_pay1 (F := Ideal) (iblk m c 0 t) (iblk m c 1 t) (ix2 p k)
    = rms (rows m c (seqOf t) (posOf t p)) (wNorm m c) k :=
  (hn_at _ _ p k).trans (congrArg₂ (fun v w => rms v w k) (funext fun j => rd0 m c t p j) (funext fun j => rd1 m c t j))

/-- A row of the block against a weight row that is column `n` of the projection. -/
theorem dot_eq {a : ℕ} (W : FVec Ideal ⟨2, ![a, 1024]⟩ .bf16) (t : Fin cfg0.N) (p : Fin 1024) (q : Fin a) (n : Fin 3596)
    (h : ∀ k, W (ix2 q k) = wIn m c k n) :
    rowDot (k0_pay1 (F := Ideal) (iblk m c 0 t) (iblk m c 1 t)) W p q = col (rows m c) (wNorm m c) (wIn m c) (seqOf t) (posOf t p) n :=
  Finset.sum_congr rfl fun k _ => congrArg₂ (· * ·) (hn_eq m c t p k) (h k)

theorem big_eq (t : Fin cfg0.N) (p : Fin 1024) (j : Fin 3072) :
    (outsAt0 m c t).1 (ix2 p j) = bigVal (rows m c) (wNorm m c) (wIn m c) (seqOf t) (posOf t p) j := by
  refine (big_at m c t p j).trans ?_
  unfold bigBlock bigVal
  by_cases h : j.val < 2048
  · rw [dif_pos h, if_pos h]
    exact dot_eq m c (a := 2048) (iblk m c 2 t) t p _ _ fun k => rd2 m c t _ k
  · rw [dif_neg h, if_neg h]
    have e : rowDot (n := 1536) (k0_pay1 (F := Ideal) (iblk m c 0 t) (iblk m c 1 t)) (iblk m c 3 t) p ⟨j.val - 2048, by omega⟩
        = col (rows m c) (wNorm m c) (wIn m c) (seqOf t) (posOf t p) ⟨8 + j.val, by omega⟩ :=
      dot_eq m c (a := 1536) (iblk m c 3 t) t p _ _ fun k => (rd3 m c t _ k).trans
        (congrArg (wIn m c k) (Fin.ext (by dsimp only; omega)))
    by_cases h' : j.val < 2560
    · rw [if_pos h', if_pos h']
      exact congrArg (· * _) e
    · rw [if_neg h', if_neg h']
      exact e

theorem vt_eq (t : Fin cfg0.N) (r : Fin 576) (p : Fin 1024) :
    (outsAt0 m c t).2.1 (ix2 r p) = vtVal (rows m c) (wNorm m c) (wIn m c) r (seqOf t) (posOf t p) := by
  refine (vt_at m c t r p).trans ?_
  unfold vtBlock vtVal
  by_cases h : r.val % 144 < 128
  · rw [dif_pos h, dif_pos h]
    exact dot_eq m c (a := 1536) (iblk m c 3 t) t p _ _ fun k => (rd3 m c t _ k).trans
        (congrArg (wIn m c k) (Fin.ext (by dsimp only; omega)))
  · rw [dif_neg h, dif_neg h]
    exact Ideal.ofBits_one_bf16

theorem gates_eq (t : Fin cfg0.N) (p : Fin 1024) (j : Fin 128) :
    (outsAt0 m c t).2.2 (ix2 p j) = gateVal (rows m c) (wNorm m c) (wIn m c) (seqOf t) (posOf t p) j := by
  refine (gates_at m c t p j).trans ?_
  unfold gateVal
  by_cases h : j.val < 8
  · rw [if_pos h]
    exact dot_eq m c (a := 128) (iblk m c 4 t) t p _ _ fun k => (rd4 m c t _ k).trans (if_pos h)
  · rw [if_neg h]
    by_cases h' : j.val < 12
    · rw [dif_pos h']
      exact dot_eq m c (a := 128) (iblk m c 4 t) t p _ _ fun k => ((rd4 m c t _ k).trans (if_neg h)).trans (dif_pos h')
    · rw [dif_neg h']
      exact Finset.sum_eq_zero fun k _ =>
        (congrArg (_ * ·) (((rd4 m c t _ k).trans (if_neg h)).trans (dif_neg h'))).trans (mul_zero _)

/-- The three result arrays: row (or column) `r` is position `r mod 4096` of sequence `r div 4096`. -/
def seqR (r : ℕ) (h : r < 16384) : Fin 4 := ⟨r / 4096, by omega⟩
def posR (r : ℕ) : Fin 4096 := ⟨r % 4096, by omega⟩
def GBig : FVec Ideal S16384x3072 .bf16 := fun y => bigVal (rows m c) (wNorm m c) (wIn m c) (seqR (y 0).val (y 0).isLt) (posR (y 0).val) (y 1)
def GVt : FVec Ideal S576x16384 .bf16 := fun y => vtVal (rows m c) (wNorm m c) (wIn m c) (y 0) (seqR (y 1).val (y 1).isLt) (posR (y 1).val)
def GGates : FVec Ideal S16384x128 .f32 := fun y => gateVal (rows m c) (wNorm m c) (wIn m c) (seqR (y 0).val (y 0).isLt) (posR (y 0).val) (y 1)

theorem final_big : (dats m 0 c).arrAt 5 (cfgs 0).N = GBig m c := by
  refine (dats m 0 c).arrAt_eq_of_covers 5 _ (by decide +kernel) fun t _ y => ?_
  blk_simp
  rw [after0_5]
  have h := lt16 t
  refine (congrArg (outsAt0 m c t).1 (eq_ix2 y)).trans ((big_eq m c t (y 0) (y 1)).trans ?_)
  have hy : (y 0).val < 1024 := (y 0).isLt
  have e0 : ((win0_5.blk t).view.emb y 0 : ℕ) = 1024 * t.val + (y 0).val := by
    blk_simp [idx t]
    simp
    omega
  have e1 : ((win0_5.blk t).view.emb y 1 : ℕ) = (y 1).val := by
    blk_simp [idx t]
  unfold GBig
  refine congr (congrArg₂ (bigVal (rows m c) (wNorm m c) (wIn m c)) (Fin.ext ?_) (Fin.ext ?_)) (Fin.ext e1.symm)
  · simp only [seqOf, seqR, e0]; omega
  · simp only [posOf, posR, e0]; omega

theorem final_gates : (dats m 0 c).arrAt 7 (cfgs 0).N = GGates m c := by
  refine (dats m 0 c).arrAt_eq_of_covers 7 _ (by decide +kernel) fun t _ y => ?_
  blk_simp
  rw [after0_7]
  have h := lt16 t
  refine (congrArg (outsAt0 m c t).2.2 (eq_ix2 y)).trans ((gates_eq m c t (y 0) (y 1)).trans ?_)
  have hy : (y 0).val < 1024 := (y 0).isLt
  have e0 : ((win0_7.blk t).view.emb y 0 : ℕ) = 1024 * t.val + (y 0).val := by
    blk_simp [idx t]
    simp
    omega
  have e1 : ((win0_7.blk t).view.emb y 1 : ℕ) = (y 1).val := by
    blk_simp [idx t]
  unfold GGates
  refine congr (congrArg₂ (gateVal (rows m c) (wNorm m c) (wIn m c)) (Fin.ext ?_) (Fin.ext ?_)) (Fin.ext e1.symm)
  · simp only [seqOf, seqR, e0]; omega
  · simp only [posOf, posR, e0]; omega

theorem final_vt : (dats m 0 c).arrAt 6 (cfgs 0).N = GVt m c := by
  refine (dats m 0 c).arrAt_eq_of_covers 6 _ (by decide +kernel) fun t _ y => ?_
  blk_simp
  rw [after0_6]
  have h := lt16 t
  refine (congrArg (outsAt0 m c t).2.1 (eq_ix2 y)).trans ((vt_eq m c t (y 0) (y 1)).trans ?_)
  have hy : (y 1).val < 1024 := (y 1).isLt
  have e0 : ((win0_6.blk t).view.emb y 0 : ℕ) = (y 0).val := by
    blk_simp [idx t]
  have e1 : ((win0_6.blk t).view.emb y 1 : ℕ) = 1024 * t.val + (y 1).val := by
    blk_simp [idx t]
    simp
    omega
  unfold GVt
  refine congr (congrArg₂ (vtVal (rows m c) (wNorm m c) (wIn m c)) (Fin.ext e0.symm) (Fin.ext ?_)) (Fin.ext ?_)
  · simp only [seqOf, seqR, e1]; omega
  · simp only [posOf, posR, e1]; omega
end

end Cert.EvenProjIdeal.Value
end
-- ==== Proof.EvenProj.Ref.lean ====
module
public import proofs.«01_k».proof.Proof.Gen.EvenProjReferenceIdeal.Read
public import proofs.«01_k».proof.Proof.EvenProj.Spec
@[expose] public section
set_option maxRecDepth 16384
noncomputable section
namespace Cert.EvenProjReferenceIdeal.Spec
open Cert.EvenProjReferenceIdeal Cert.EvenProjReferenceIdeal.Gen Cert.EvenProjReferenceIdeal.Read Idealize.ShloMosaic Idealize.ShloMosaic.TcCoe
open Cert.FfnSpec Cert.EvenProjSpec

variable (x0 : FVec Ideal S4x4096x1024 .f32) (x1 : FVec Ideal S2x1024 .f32) (x2 : FVec Ideal S2x1024x3596 .f32)

/-- The arguments as the projection's functions of their coordinates: the rows, and the weights of layer 2. -/
abbrev rows : Rows := fun b s j => x0 (ix3 b s j)
abbrev wNorm : Fin 1024 → EReal := fun k => x1 (ix2 1 k)
abbrev wIn : Fin 1024 → Fin 3596 → EReal := fun k n => x2 (ix3 1 k n)

theorem v14_at (b : Fin 4) (s : Fin 4096) (k : Fin 1024) : val_main_v14 (F := Ideal) x0 x1 (ix3 b s k)
    = rms (rows x0 b s) (wNorm x1) k := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, rms]

theorem v17_at (b : Fin 4) (s : Fin 4096) (n : Fin 3596) : val_main_v17 (F := Ideal) x0 x1 x2 (ix3 b s n)
    = col (rows x0) (wNorm x1) (wIn x2) b s n := by
  pointwise [val_main_v17, val_main_v16, val_main_v15]
  simp only [v14_at]
  rfl

/-- The sequence and the position of row `r`. -/
abbrev seqOf (r : Fin 16384) : Fin 4 := ⟨r.val / 4096, by omega⟩
abbrev posOf (r : Fin 16384) : Fin 4096 := ⟨r.val % 4096, by omega⟩

theorem v18_at (r : Fin 16384) (n : Fin 3596) : val_main_v18 (F := Ideal) x0 x1 x2 (ix2 r n)
    = col (rows x0) (wNorm x1) (wIn x2) (seqOf r) (posOf r) n := by
  refine Eq.trans ?_ (v17_at x0 x1 x2 (seqOf r) (posOf r) n)
  unfold val_main_v18
  generalize val_main_v17 (F := Ideal) x0 x1 x2 = Y
  pointwise

theorem big_at (r : Fin 16384) (j : Fin 3072) : val_main_v29 (F := Ideal) x0 x1 x2 (ix2 r j)
    = bigVal (rows x0) (wNorm x1) (wIn x2) (seqOf r) (posOf r) j := by
  unfold bigVal
  simp only [← v18_at]
  unfold val_main_v29 val_main_v28 val_main_v27 val_main_v23 val_main_v22 val_main_v19
  generalize val_main_v18 (F := Ideal) x0 x1 x2 = Y
  pointwise [val_main_v26, val_main_cst_2]
  by_cases h : j.val < 2048
  · rw [dif_pos h, if_pos h]
  · rw [dif_neg h, if_neg h]
    by_cases h' : j.val < 2560
    · rw [dif_pos (by omega), if_pos h']
      exact congrArg (fun n : Fin 3596 => Y (ix2 r n) * _) (Fin.ext (by dsimp only; omega))
    · rw [dif_neg (by omega), if_neg h']
      exact congrArg (fun n : Fin 3596 => Y (ix2 r n)) (Fin.ext (by dsimp only; omega))

theorem gates_at (r : Fin 16384) (j : Fin 128) : val_main_v35 (F := Ideal) x0 x1 x2 (ix2 r j)
    = gateVal (rows x0) (wNorm x1) (wIn x2) (seqOf r) (posOf r) j := by
  unfold gateVal
  simp only [← v18_at]
  unfold val_main_v35 val_main_v25 val_main_v21 val_main_v20
  generalize val_main_v18 (F := Ideal) x0 x1 x2 = Y
  pointwise [val_main_v34, val_main_cst_4]
  by_cases h : j.val < 4
  · rw [dif_pos h, if_pos (show j.val < 8 by omega)]
  · rw [dif_neg h]
    by_cases h1 : j.val < 8
    · rw [dif_pos (show j.val - 4 < 4 by omega), if_pos h1]
      exact congrArg (fun n : Fin 3596 => Y (ix2 r n)) (Fin.ext (by dsimp only; omega))
    · rw [dif_neg (show ¬ j.val - 4 < 4 by omega), if_neg h1]
      by_cases h2 : j.val < 12
      · rw [dif_pos (show j.val - 4 - 4 < 4 by omega), dif_pos h2]
        exact congrArg (fun n : Fin 3596 => Y (ix2 r n)) (Fin.ext (by dsimp only; omega))
      · rw [dif_neg (show ¬ j.val - 4 - 4 < 4 by omega), dif_neg h2]

theorem vt_at (q : Fin 576) (r : Fin 16384) : val_main_v37 (F := Ideal) x0 x1 x2 (ix2 q r)
    = vtVal (rows x0) (wNorm x1) (wIn x2) q (seqOf r) (posOf r) := by
  unfold vtVal
  simp only [← v18_at]
  unfold val_main_v37 val_main_v36 val_main_v33 val_main_v31 val_main_v30 val_main_v24
  generalize val_main_v18 (F := Ideal) x0 x1 x2 = Y
  pointwise [val_main_v32, val_main_cst_3]
  by_cases h : q.val % 144 < 128
  · rw [dif_pos h, dif_pos h]
    exact congrArg (fun n : Fin 3596 => Y (ix2 r n)) (Fin.ext (by dsimp only; omega))
  · rw [dif_neg h, dif_neg h]

end Cert.EvenProjReferenceIdeal.Spec
end
-- ==== Proof.EvenProj.Claims.lean ====
module
public import proofs.«01_k».proof.Defs
public import proofs.«01_k».proof.Proof.EvenProj.Array
public import proofs.«01_k».proof.Proof.EvenProj.Ref
public import proofs.«01_k».proof.Proof.Gen.EvenProjReferenceIdeal.Run
public import Idealize.ShloMosaic.Lib.Claim
@[expose] public section
set_option maxRecDepth 16384
noncomputable section
namespace Cert.EvenProjClaims
open Idealize.ShloMosaic Idealize.ShloMosaic.TcCoe Idealize.SL.Sem

section
variable (m : (ℓ : Loc Cert.EvenProjIdeal.nD Cert.EvenProjIdeal.τ Cert.EvenProjIdeal.sig) → Buf (Elt Ideal) ℓ) (c : Dev Cert.EvenProjIdeal.nD)

/-- The reference's three results, over the kernel's argument arrays, are the arrays the kernel leaves. -/
theorem big_eq : Cert.EvenProjReferenceIdeal.Read.val_main_v29 (F := Ideal) (Cert.EvenProjIdeal.Value.ax m c) (Cert.EvenProjIdeal.Value.anw m c)
      (Cert.EvenProjIdeal.Value.aw m c) = Cert.EvenProjIdeal.Value.GBig m c :=
  funext fun y => (congrArg _ (eq_ix2 y)).trans (Cert.EvenProjReferenceIdeal.Spec.big_at _ _ _ (y 0) (y 1))

theorem vt_eq : Cert.EvenProjReferenceIdeal.Read.val_main_v37 (F := Ideal) (Cert.EvenProjIdeal.Value.ax m c) (Cert.EvenProjIdeal.Value.anw m c)
      (Cert.EvenProjIdeal.Value.aw m c) = Cert.EvenProjIdeal.Value.GVt m c :=
  funext fun y => (congrArg _ (eq_ix2 y)).trans (Cert.EvenProjReferenceIdeal.Spec.vt_at _ _ _ (y 0) (y 1))

theorem gates_eq : Cert.EvenProjReferenceIdeal.Read.val_main_v35 (F := Ideal) (Cert.EvenProjIdeal.Value.ax m c) (Cert.EvenProjIdeal.Value.anw m c)
      (Cert.EvenProjIdeal.Value.aw m c) = Cert.EvenProjIdeal.Value.GGates m c :=
  funext fun y => (congrArg _ (eq_ix2 y)).trans (Cert.EvenProjReferenceIdeal.Spec.gates_at _ _ _ (y 0) (y 1))
end

theorem algebraic : Cert.algebraic_EvenProjIdeal_EvenProjReferenceIdeal := by
  pair_intro
  · run_from Cert.EvenProjIdeal.Value.run_blocks m g
  · run_from Cert.EvenProjReferenceIdeal.Value.run m' g'
    all_goals obtain ⟨h0, h1, h2⟩ := hagree c
    · rw [Cert.EvenProjReferenceIdeal.Read.val_main_v29_eq, h0, h1, h2]
      exact (big_eq m c).trans (Cert.EvenProjIdeal.Value.final_big m c).symm
    · rw [Cert.EvenProjReferenceIdeal.Read.val_main_v37_eq, h2]
      exact (vt_eq m c).trans (Cert.EvenProjIdeal.Value.final_vt m c).symm
    · rw [Cert.EvenProjReferenceIdeal.Read.val_main_v35_eq, h0, h1, h2]
      exact (gates_eq m c).trans (Cert.EvenProjIdeal.Value.final_gates m c).symm

theorem frame_reference : Cert.quiescent_EvenProjReferenceIdeal := by
  intro m g _
  exact (θ_run Cert.EvenProjReferenceIdeal.defs _ _).mono (fun r h => ⟨fun c => (h c).2.2.2, sem_eq_zero_of_no_sems (by decide) r.2⟩)
    (Cert.EvenProjReferenceIdeal.Value.run (F := Ideal) m g)

end Cert.EvenProjClaims

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.DiffIdeal.Loops
public import proofs.«01_k».proof.Proof.Gen.DiffIdeal.Points
public import proofs.«01_k».proof.Proof.Gen.DiffIdeal.Launch
public import proofs.«01_k».proof.Proof.Gen.DiffIdeal.Skeleton
public import proofs.«01_k».proof.Proof.Gen.Diff.Frame
public import proofs.«01_k».proof.Proof.Gen.Diff.Loops
public import proofs.«01_k».proof.Proof.Gen.Diff.Points
public import proofs.«01_k».proof.Proof.Gen.Diff.Launch
public import proofs.«01_k».proof.Proof.Gen.Diff.Skeleton
public import proofs.«01_k».proof.Proof.Gen.Diff
public import proofs.«01_k».proof.Proof.Gen.DiffIdeal
public import proofs.«01_k».proof.Proof.Gen.DiffReferenceIdeal
public import proofs.«01_k».proof.Proof.Gen.DiffReferenceIdeal.Run
public import proofs.«01_k».proof.Proof.Gen.DiffReferenceIdeal.Read
public import proofs.«01_k».proof.Proof.Gen.EvenFfn
public import proofs.«01_k».proof.Proof.Gen.EvenFfn.Skeleton
public import proofs.«01_k».proof.Proof.Gen.EvenFfn.Launch
public import proofs.«01_k».proof.Proof.Gen.EvenFfn.Points
public import proofs.«01_k».proof.Proof.Gen.EvenFfn.Frame
public import proofs.«01_k».proof.Proof.Gen.EvenFfnIdeal
public import proofs.«01_k».proof.Proof.Gen.EvenFfnIdeal.Skeleton
public import proofs.«01_k».proof.Proof.Gen.EvenFfnIdeal.Launch
public import proofs.«01_k».proof.Proof.Gen.EvenFfnIdeal.Points
public import proofs.«01_k».proof.Proof.Gen.EvenFfnIdeal.Frame
public import proofs.«01_k».proof.Proof.Gen.EvenFfnIdeal.Value
public import proofs.«01_k».proof.Proof.Gen.EvenFfnReferenceIdeal
public import proofs.«01_k».proof.Proof.Gen.EvenFfnReferenceIdeal.Run
public import proofs.«01_k».proof.Proof.Gen.EvenFfnReferenceIdeal.Read
public import proofs.«01_k».proof.Proof.Gen.MidFfn
public import proofs.«01_k».proof.Proof.Gen.MidFfn.Skeleton
public import proofs.«01_k».proof.Proof.Gen.MidFfn.Launch
public import proofs.«01_k».proof.Proof.Gen.MidFfn.Points
public import proofs.«01_k».proof.Proof.Gen.MidFfn.Frame
public import proofs.«01_k».proof.Proof.Gen.MidFfnIdeal
public import proofs.«01_k».proof.Proof.Gen.MidFfnIdeal.Skeleton
public import proofs.«01_k».proof.Proof.Gen.MidFfnIdeal.Launch
public import proofs.«01_k».proof.Proof.Gen.MidFfnIdeal.Points
public import proofs.«01_k».proof.Proof.Gen.MidFfnIdeal.Frame
public import proofs.«01_k».proof.Proof.Gen.MidFfnIdeal.Value
public import proofs.«01_k».proof.Proof.Gen.MidFfnReferenceIdeal
public import proofs.«01_k».proof.Proof.Gen.MidFfnReferenceIdeal.Run
public import proofs.«01_k».proof.Proof.Gen.MidFfnReferenceIdeal.Read
public import proofs.«01_k».proof.Proof.Gen.EvenProj
public import proofs.«01_k».proof.Proof.Gen.EvenProj.Skeleton
public import proofs.«01_k».proof.Proof.Gen.EvenProj.Launch
public import proofs.«01_k».proof.Proof.Gen.EvenProj.Points
public import proofs.«01_k».proof.Proof.Gen.EvenProj.Frame
public import proofs.«01_k».proof.Proof.Gen.EvenProjIdeal
public import proofs.«01_k».proof.Proof.Gen.EvenProjIdeal.Skeleton
public import proofs.«01_k».proof.Proof.Gen.EvenProjIdeal.Launch
public import proofs.«01_k».proof.Proof.Gen.EvenProjIdeal.Points
public import proofs.«01_k».proof.Proof.Gen.EvenProjIdeal.Frame
public import proofs.«01_k».proof.Proof.Gen.EvenProjIdeal.Value
public import proofs.«01_k».proof.Proof.Gen.EvenProjReferenceIdeal
public import proofs.«01_k».proof.Proof.Gen.EvenProjReferenceIdeal.Run
public import proofs.«01_k».proof.Proof.Gen.EvenProjReferenceIdeal.Read
public import proofs.«01_k».proof.Proof.Ffn.Claims
public import proofs.«01_k».proof.Proof.Diff.Claims
public import proofs.«01_k».proof.Proof.EvenFfn.Claims
public import proofs.«01_k».proof.Proof.MidFfn.Claims
public import proofs.«01_k».proof.Proof.EvenProj.Claims
public import Idealize.ShloMosaic.Adequacy
public import Idealize.ShloMosaic.Init

@[expose] public section

noncomputable section

namespace Cert.Proof

open Idealize.ShloMosaic Idealize.SL.Sem Cert.Ffn

theorem claim : Cert.Claim := ⟨Cert.Ffn.Gen.facts, Cert.FfnIdeal.Gen.facts, Cert.FfnReferenceIdeal.Gen.facts,
  Cert.Diff.Gen.facts, Cert.DiffIdeal.Gen.facts, Cert.DiffReferenceIdeal.Gen.facts,
  Cert.EvenFfn.Gen.facts, Cert.EvenFfnIdeal.Gen.facts, Cert.EvenFfnReferenceIdeal.Gen.facts,
  Cert.MidFfn.Gen.facts, Cert.MidFfnIdeal.Gen.facts, Cert.MidFfnReferenceIdeal.Gen.facts,
  Cert.EvenProj.Gen.facts, Cert.EvenProjIdeal.Gen.facts, Cert.EvenProjReferenceIdeal.Gen.facts, Cert.Pre_weights_finite.facts,
  fun m ρ _ => Cert.Ffn.Gen.frame m ρ, fun m ρ _ => Cert.FfnIdeal.Gen.frame m ρ, Cert.FfnClaims.frame_reference,
  fun m ρ _ => Cert.Diff.Gen.frame m ρ, Cert.DiffClaims.frame_ideal, Cert.DiffClaims.frame_ideal_pre,
  Cert.DiffClaims.frame_reference, Cert.DiffClaims.frame_reference_pre,
  fun m ρ _ => Cert.EvenFfn.Gen.frame m ρ, fun m ρ _ => Cert.EvenFfnIdeal.Gen.frame m ρ, Cert.EvenFfnClaims.frame_reference,
  fun m ρ _ => Cert.MidFfn.Gen.frame m ρ, fun m ρ _ => Cert.MidFfnIdeal.Gen.frame m ρ, Cert.MidFfnClaims.frame_reference,
  fun m ρ _ => Cert.EvenProj.Gen.frame m ρ, fun m ρ _ => Cert.EvenProjIdeal.Gen.frame m ρ, Cert.EvenProjClaims.frame_reference,
  trivial, Cert.FfnClaims.algebraic, Cert.DiffClaims.preserves, Cert.DiffClaims.algebraic,
  trivial, Cert.EvenFfnClaims.algebraic, trivial, Cert.MidFfnClaims.algebraic,
  trivial, Cert.EvenProjClaims.algebraic⟩

end Cert.Proof

end
